-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  IdealRules.named_const.Statement Cert.Kernel2Ideal.κ "mask" .f32 0xF149F2CA#32 ⊥

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S1x1000000 : Shape := ⟨2, ![1, 1000000]⟩
abbrev S1 : Shape := ⟨1, ![1]⟩
abbrev S_ : Shape := ⟨0, ![]⟩
abbrev S1x1048576 : Shape := ⟨2, ![1, 1048576]⟩
abbrev S8192x128 : Shape := ⟨2, ![8192, 128]⟩
abbrev S1024x128 : Shape := ⟨2, ![1024, 128]⟩
abbrev S2 : Shape := ⟨1, ![2]⟩
abbrev S1x1024x128 : Shape := ⟨3, ![1, 1024, 128]⟩
abbrev S1x1x1 : Shape := ⟨3, ![1, 1, 1]⟩
abbrev S1048576 : Shape := ⟨1, ![1048576]⟩
abbrev S1x1 : Shape := ⟨2, ![1, 1]⟩
abbrev S8 : Shape := ⟨1, ![8]⟩
abbrev S128x128 : Shape := ⟨2, ![128, 128]⟩
abbrev S1024x1 : Shape := ⟨2, ![1024, 1]⟩
abbrev S1023x1 : Shape := ⟨2, ![1023, 1]⟩
abbrev S2x1 : Shape := ⟨2, ![2, 1]⟩
abbrev S1022x1 : Shape := ⟨2, ![1022, 1]⟩
abbrev S4x1 : Shape := ⟨2, ![4, 1]⟩
abbrev S1020x1 : Shape := ⟨2, ![1020, 1]⟩
abbrev S8x1 : Shape := ⟨2, ![8, 1]⟩
abbrev S1016x1 : Shape := ⟨2, ![1016, 1]⟩
abbrev S16x1 : Shape := ⟨2, ![16, 1]⟩
abbrev S1008x1 : Shape := ⟨2, ![1008, 1]⟩
abbrev S32x1 : Shape := ⟨2, ![32, 1]⟩
abbrev S992x1 : Shape := ⟨2, ![992, 1]⟩
abbrev S64x1 : Shape := ⟨2, ![64, 1]⟩
abbrev S960x1 : Shape := ⟨2, ![960, 1]⟩
abbrev S128x1 : Shape := ⟨2, ![128, 1]⟩
abbrev S896x1 : Shape := ⟨2, ![896, 1]⟩
abbrev S256x1 : Shape := ⟨2, ![256, 1]⟩
abbrev S768x1 : Shape := ⟨2, ![768, 1]⟩
abbrev S512x1 : Shape := ⟨2, ![512, 1]⟩
abbrev S1x1024x1 : Shape := ⟨3, ![1, 1024, 1]⟩

abbrev nBuf : Space → Nat
  | .hbm => 292
  | .vmem => 10
  | .smem => 5
  | _ => 0

abbrev hbmTy0_0 (i : Nat) : BufTy := match i % 128 with
  | 0 => ⟨S1x1000000, .f32⟩
  | 1 => ⟨S1, .f32⟩
  | 2 => ⟨S_, .f32⟩
  | 3 => ⟨S1x1048576, .f32⟩
  | 4 => ⟨S8192x128, .f32⟩
  | 5 => ⟨S8192x128, .f32⟩
  | 6 => ⟨S1048576, .f32⟩
  | 7 => ⟨S1048576, .f32⟩
  | 8 => ⟨S1048576, .f32⟩
  | 9 => ⟨S1048576, .f32⟩
  | 10 => ⟨S8192x128, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S_, .f32⟩
  | 22 => ⟨S_, .f32⟩
  | 23 => ⟨S_, .f32⟩
  | 24 => ⟨S1x1, .f32⟩
  | 25 => ⟨S1x1, .f32⟩
  | 26 => ⟨S1, .i32⟩
  | 27 => ⟨S_, .i32⟩
  | 28 => ⟨S1, .i32⟩
  | 29 => ⟨S_, .i32⟩
  | 30 => ⟨S1x1000000, .i64⟩
  | 31 => ⟨S1x1000000, .i64⟩
  | 32 => ⟨S_, .i64⟩
  | 33 => ⟨S1x1000000, .i64⟩
  | 34 => ⟨S1x1000000, .i64⟩
  | 35 => ⟨S_, .i64⟩
  | 36 => ⟨S1x1000000, .i64⟩
  | 37 => ⟨S1x1000000, .i64⟩
  | 38 => ⟨S1x1000000, .i64⟩
  | 39 => ⟨S_, .i64⟩
  | 40 => ⟨S1x1000000, .i64⟩
  | 41 => ⟨S1x1000000, .i64⟩
  | 42 => ⟨S1x1000000, .i32⟩
  | 43 => ⟨S1x1000000, .i32⟩
  | 44 => ⟨S_, .i32⟩
  | 45 => ⟨S_, .i32⟩
  | 46 => ⟨S_, .i32⟩
  | 47 => ⟨S1x1000000, .i32⟩
  | 48 => ⟨S1x1000000, .i32⟩
  | 49 => ⟨S1x1000000, .i32⟩
  | 50 => ⟨S1x1000000, .i32⟩
  | 51 => ⟨S1x1000000, .i32⟩
  | 52 => ⟨S_, .i32⟩
  | 53 => ⟨S1x1000000, .i32⟩
  | 54 => ⟨S1x1000000, .i32⟩
  | 55 => ⟨S_, .i32⟩
  | 56 => ⟨S1x1000000, .i32⟩
  | 57 => ⟨S1x1000000, .i32⟩
  | 58 => ⟨S1x1000000, .i32⟩
  | 59 => ⟨S1x1000000, .i32⟩
  | 60 => ⟨S1x1000000, .i32⟩
  | 61 => ⟨S_, .i32⟩
  | 62 => ⟨S1x1000000, .i32⟩
  | 63 => ⟨S1x1000000, .i32⟩
  | 64 => ⟨S_, .i32⟩
  | 65 => ⟨S1x1000000, .i32⟩
  | 66 => ⟨S1x1000000, .i32⟩
  | 67 => ⟨S1x1000000, .i32⟩
  | 68 => ⟨S1x1000000, .i32⟩
  | 69 => ⟨S1x1000000, .i32⟩
  | 70 => ⟨S_, .i32⟩
  | 71 => ⟨S1x1000000, .i32⟩
  | 72 => ⟨S1x1000000, .i32⟩
  | 73 => ⟨S_, .i32⟩
  | 74 => ⟨S1x1000000, .i32⟩
  | 75 => ⟨S1x1000000, .i32⟩
  | 76 => ⟨S1x1000000, .i32⟩
  | 77 => ⟨S1x1000000, .i32⟩
  | 78 => ⟨S1x1000000, .i32⟩
  | 79 => ⟨S_, .i32⟩
  | 80 => ⟨S1x1000000, .i32⟩
  | 81 => ⟨S1x1000000, .i32⟩
  | 82 => ⟨S_, .i32⟩
  | 83 => ⟨S1x1000000, .i32⟩
  | 84 => ⟨S1x1000000, .i32⟩
  | 85 => ⟨S1x1000000, .i32⟩
  | 86 => ⟨S1x1000000, .i32⟩
  | 87 => ⟨S1x1000000, .i32⟩
  | 88 => ⟨S1x1000000, .i32⟩
  | 89 => ⟨S1x1000000, .i32⟩
  | 90 => ⟨S1x1000000, .i32⟩
  | 91 => ⟨S_, .i32⟩
  | 92 => ⟨S1x1000000, .i32⟩
  | 93 => ⟨S1x1000000, .i32⟩
  | 94 => ⟨S1x1000000, .i32⟩
  | 95 => ⟨S_, .i32⟩
  | 96 => ⟨S1x1000000, .i32⟩
  | 97 => ⟨S1x1000000, .i32⟩
  | 98 => ⟨S_, .i32⟩
  | 99 => ⟨S1x1000000, .i32⟩
  | 100 => ⟨S1x1000000, .i32⟩
  | 101 => ⟨S1x1000000, .i32⟩
  | 102 => ⟨S1x1000000, .i32⟩
  | 103 => ⟨S1x1000000, .i32⟩
  | 104 => ⟨S_, .i32⟩
  | 105 => ⟨S1x1000000, .i32⟩
  | 106 => ⟨S1x1000000, .i32⟩
  | 107 => ⟨S_, .i32⟩
  | 108 => ⟨S1x1000000, .i32⟩
  | 109 => ⟨S1x1000000, .i32⟩
  | 110 => ⟨S1x1000000, .i32⟩
  | 111 => ⟨S1x1000000, .i32⟩
  | 112 => ⟨S1x1000000, .i32⟩
  | 113 => ⟨S_, .i32⟩
  | 114 => ⟨S1x1000000, .i32⟩
  | 115 => ⟨S1x1000000, .i32⟩
  | 116 => ⟨S_, .i32⟩
  | 117 => ⟨S1x1000000, .i32⟩
  | 118 => ⟨S1x1000000, .i32⟩
  | 119 => ⟨S1x1000000, .i32⟩
  | 120 => ⟨S1x1000000, .i32⟩
  | 121 => ⟨S1x1000000, .i32⟩
  | 122 => ⟨S_, .i32⟩
  | 123 => ⟨S1x1000000, .i32⟩
  | 124 => ⟨S1x1000000, .i32⟩
  | 125 => ⟨S_, .i32⟩
  | 126 => ⟨S1x1000000, .i32⟩
  | 127 => ⟨S1x1000000, .i32⟩
  | _ => ⟨S1x1000000, .f32⟩

abbrev hbmTy0_1 (i : Nat) : BufTy := match i % 128 with
  | 0 => ⟨S1x1000000, .i32⟩
  | 1 => ⟨S1x1000000, .i32⟩
  | 2 => ⟨S1x1000000, .i32⟩
  | 3 => ⟨S1x1000000, .i32⟩
  | 4 => ⟨S1x1000000, .i32⟩
  | 5 => ⟨S1x1000000, .i32⟩
  | 6 => ⟨S_, .i32⟩
  | 7 => ⟨S1x1000000, .i32⟩
  | 8 => ⟨S1x1000000, .i32⟩
  | 9 => ⟨S1x1000000, .i32⟩
  | 10 => ⟨S_, .i32⟩
  | 11 => ⟨S1x1000000, .i32⟩
  | 12 => ⟨S1x1000000, .i32⟩
  | 13 => ⟨S_, .i32⟩
  | 14 => ⟨S1x1000000, .i32⟩
  | 15 => ⟨S1x1000000, .i32⟩
  | 16 => ⟨S1x1000000, .i32⟩
  | 17 => ⟨S1x1000000, .i32⟩
  | 18 => ⟨S1x1000000, .i32⟩
  | 19 => ⟨S_, .i32⟩
  | 20 => ⟨S1x1000000, .i32⟩
  | 21 => ⟨S1x1000000, .i32⟩
  | 22 => ⟨S_, .i32⟩
  | 23 => ⟨S1x1000000, .i32⟩
  | 24 => ⟨S1x1000000, .i32⟩
  | 25 => ⟨S1x1000000, .i32⟩
  | 26 => ⟨S1x1000000, .i32⟩
  | 27 => ⟨S1x1000000, .i32⟩
  | 28 => ⟨S_, .i32⟩
  | 29 => ⟨S1x1000000, .i32⟩
  | 30 => ⟨S1x1000000, .i32⟩
  | 31 => ⟨S_, .i32⟩
  | 32 => ⟨S1x1000000, .i32⟩
  | 33 => ⟨S1x1000000, .i32⟩
  | 34 => ⟨S1x1000000, .i32⟩
  | 35 => ⟨S1x1000000, .i32⟩
  | 36 => ⟨S1x1000000, .i32⟩
  | 37 => ⟨S_, .i32⟩
  | 38 => ⟨S1x1000000, .i32⟩
  | 39 => ⟨S1x1000000, .i32⟩
  | 40 => ⟨S_, .i32⟩
  | 41 => ⟨S1x1000000, .i32⟩
  | 42 => ⟨S1x1000000, .i32⟩
  | 43 => ⟨S1x1000000, .i32⟩
  | 44 => ⟨S1x1000000, .i32⟩
  | 45 => ⟨S1x1000000, .i32⟩
  | 46 => ⟨S1x1000000, .i32⟩
  | 47 => ⟨S1x1000000, .i32⟩
  | 48 => ⟨S1x1000000, .i32⟩
  | 49 => ⟨S_, .i32⟩
  | 50 => ⟨S1x1000000, .i32⟩
  | 51 => ⟨S1x1000000, .i32⟩
  | 52 => ⟨S1x1000000, .i32⟩
  | 53 => ⟨S_, .i32⟩
  | 54 => ⟨S1x1000000, .i32⟩
  | 55 => ⟨S1x1000000, .i32⟩
  | 56 => ⟨S_, .i32⟩
  | 57 => ⟨S1x1000000, .i32⟩
  | 58 => ⟨S1x1000000, .i32⟩
  | 59 => ⟨S1x1000000, .i32⟩
  | 60 => ⟨S1x1000000, .i32⟩
  | 61 => ⟨S1x1000000, .i32⟩
  | 62 => ⟨S_, .i32⟩
  | 63 => ⟨S1x1000000, .i32⟩
  | 64 => ⟨S1x1000000, .i32⟩
  | 65 => ⟨S_, .i32⟩
  | 66 => ⟨S1x1000000, .i32⟩
  | 67 => ⟨S1x1000000, .i32⟩
  | 68 => ⟨S1x1000000, .i32⟩
  | 69 => ⟨S1x1000000, .i32⟩
  | 70 => ⟨S1x1000000, .i32⟩
  | 71 => ⟨S_, .i32⟩
  | 72 => ⟨S1x1000000, .i32⟩
  | 73 => ⟨S1x1000000, .i32⟩
  | 74 => ⟨S_, .i32⟩
  | 75 => ⟨S1x1000000, .i32⟩
  | 76 => ⟨S1x1000000, .i32⟩
  | 77 => ⟨S1x1000000, .i32⟩
  | 78 => ⟨S1x1000000, .i32⟩
  | 79 => ⟨S1x1000000, .i32⟩
  | 80 => ⟨S_, .i32⟩
  | 81 => ⟨S1x1000000, .i32⟩
  | 82 => ⟨S1x1000000, .i32⟩
  | 83 => ⟨S_, .i32⟩
  | 84 => ⟨S1x1000000, .i32⟩
  | 85 => ⟨S1x1000000, .i32⟩
  | 86 => ⟨S1x1000000, .i32⟩
  | 87 => ⟨S1x1000000, .i32⟩
  | 88 => ⟨S1x1000000, .i32⟩
  | 89 => ⟨S1x1000000, .i32⟩
  | 90 => ⟨S1x1000000, .i32⟩
  | 91 => ⟨S1x1000000, .i32⟩
  | 92 => ⟨S_, .i32⟩
  | 93 => ⟨S1x1000000, .i32⟩
  | 94 => ⟨S1x1000000, .i32⟩
  | 95 => ⟨S1x1000000, .i32⟩
  | 96 => ⟨S_, .i32⟩
  | 97 => ⟨S1x1000000, .i32⟩
  | 98 => ⟨S1x1000000, .i32⟩
  | 99 => ⟨S_, .i32⟩
  | 100 => ⟨S1x1000000, .i32⟩
  | 101 => ⟨S1x1000000, .i32⟩
  | 102 => ⟨S1x1000000, .i32⟩
  | 103 => ⟨S1x1000000, .i32⟩
  | 104 => ⟨S1x1000000, .i32⟩
  | 105 => ⟨S_, .i32⟩
  | 106 => ⟨S1x1000000, .i32⟩
  | 107 => ⟨S1x1000000, .i32⟩
  | 108 => ⟨S_, .i32⟩
  | 109 => ⟨S1x1000000, .i32⟩
  | 110 => ⟨S1x1000000, .i32⟩
  | 111 => ⟨S1x1000000, .i32⟩
  | 112 => ⟨S1x1000000, .i32⟩
  | 113 => ⟨S1x1000000, .i32⟩
  | 114 => ⟨S_, .i32⟩
  | 115 => ⟨S1x1000000, .i32⟩
  | 116 => ⟨S1x1000000, .i32⟩
  | 117 => ⟨S_, .i32⟩
  | 118 => ⟨S1x1000000, .i32⟩
  | 119 => ⟨S1x1000000, .i32⟩
  | 120 => ⟨S1x1000000, .i32⟩
  | 121 => ⟨S1x1000000, .i32⟩
  | 122 => ⟨S1x1000000, .i32⟩
  | 123 => ⟨S_, .i32⟩
  | 124 => ⟨S1x1000000, .i32⟩
  | 125 => ⟨S1x1000000, .i32⟩
  | 126 => ⟨S_, .i32⟩
  | 127 => ⟨S1x1000000, .i32⟩
  | _ => ⟨S1x1000000, .f32⟩

abbrev hbmTy0_2 (i : Nat) : BufTy := match i % 128 with
  | 0 => ⟨S1x1000000, .i32⟩
  | 1 => ⟨S1x1000000, .i32⟩
  | 2 => ⟨S1x1000000, .i32⟩
  | 3 => ⟨S1x1000000, .i32⟩
  | 4 => ⟨S1x1000000, .i32⟩
  | 5 => ⟨S1x1000000, .i32⟩
  | 6 => ⟨S1x1000000, .i32⟩
  | 7 => ⟨S_, .i32⟩
  | 8 => ⟨S1x1000000, .i32⟩
  | 9 => ⟨S1x1000000, .i32⟩
  | 10 => ⟨S1x1000000, .i32⟩
  | 11 => ⟨S_, .i32⟩
  | 12 => ⟨S1x1000000, .i32⟩
  | 13 => ⟨S1x1000000, .i32⟩
  | 14 => ⟨S_, .i32⟩
  | 15 => ⟨S1x1000000, .i32⟩
  | 16 => ⟨S1x1000000, .i32⟩
  | 17 => ⟨S1x1000000, .f32⟩
  | 18 => ⟨S_, .f32⟩
  | 19 => ⟨S1x1000000, .f32⟩
  | 20 => ⟨S1x1000000, .f32⟩
  | 21 => ⟨S1x1, .f32⟩
  | 22 => ⟨S1x1000000, .f32⟩
  | 23 => ⟨S1x1000000, .f32⟩
  | 24 => ⟨S1x1000000, .f32⟩
  | 25 => ⟨S1x1000000, .f32⟩
  | 26 => ⟨S1x1000000, .f32⟩
  | 27 => ⟨S1x1000000, .f32⟩
  | 28 => ⟨S1x1000000, .f32⟩
  | 29 => ⟨S1x1000000, .f32⟩
  | 30 => ⟨S1x1000000, .f32⟩
  | 31 => ⟨S1x1000000, .f32⟩
  | 32 => ⟨S_, .f32⟩
  | 33 => ⟨S1x1048576, .f32⟩
  | 34 => ⟨S8192x128, .f32⟩
  | 35 => ⟨S1, .i32⟩
  | _ => ⟨S1x1000000, .f32⟩

abbrev hbmTy (i : Nat) : BufTy := match i / 128 with
  | 0 => hbmTy0_0 i
  | 1 => hbmTy0_1 i
  | 2 => hbmTy0_2 i
  | _ => ⟨S1x1000000, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .smem, ⟨0, _⟩ => ⟨S1, .f32⟩
  | .local _ .smem, ⟨1, _⟩ => ⟨S2, .f32⟩
  | .local _ .smem, ⟨2, _⟩ => ⟨S1, .i32⟩
  | .local _ .smem, ⟨3, _⟩ => ⟨S8, .f32⟩
  | .local _ .smem, ⟨4, _⟩ => ⟨S8, .i32⟩
  | _, _ => ⟨S1x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call1_cst : Ref sig .tc := ⟨.hbm, 21, rfl⟩
abbrev main_call1_cst_0 : Ref sig .tc := ⟨.hbm, 22, rfl⟩
abbrev main_call1_call0_v0 : Ref sig .tc := ⟨.hbm, 23, rfl⟩
abbrev main_call1_call0_v1 : Ref sig .tc := ⟨.hbm, 24, rfl⟩
abbrev main_call1_call0_v2 : Ref sig .tc := ⟨.hbm, 25, rfl⟩
abbrev main_call1_call0_v3 : Ref sig .tc := ⟨.hbm, 26, rfl⟩
abbrev main_call1_call0_v4 : Ref sig .tc := ⟨.hbm, 27, rfl⟩
abbrev main_call1_call0_v5 : Ref sig .tc := ⟨.hbm, 28, rfl⟩
abbrev main_call1_call0_v6 : Ref sig .tc := ⟨.hbm, 29, rfl⟩
abbrev main_call1_call0_v7 : Ref sig .tc := ⟨.hbm, 30, rfl⟩
abbrev main_call1_call0_v8 : Ref sig .tc := ⟨.hbm, 31, rfl⟩
abbrev main_call1_call0_c : Ref sig .tc := ⟨.hbm, 32, rfl⟩
abbrev main_call1_call0_v9 : Ref sig .tc := ⟨.hbm, 33, rfl⟩
abbrev main_call1_call0_v10 : Ref sig .tc := ⟨.hbm, 34, rfl⟩
abbrev main_call1_call0_c_0 : Ref sig .tc := ⟨.hbm, 35, rfl⟩
abbrev main_call1_call0_v11 : Ref sig .tc := ⟨.hbm, 36, rfl⟩
abbrev main_call1_call0_v12 : Ref sig .tc := ⟨.hbm, 37, rfl⟩
abbrev main_call1_call0_v13 : Ref sig .tc := ⟨.hbm, 38, rfl⟩
abbrev main_call1_call0_c_1 : Ref sig .tc := ⟨.hbm, 39, rfl⟩
abbrev main_call1_call0_v14 : Ref sig .tc := ⟨.hbm, 40, rfl⟩
abbrev main_call1_call0_v15 : Ref sig .tc := ⟨.hbm, 41, rfl⟩
abbrev main_call1_call0_v16 : Ref sig .tc := ⟨.hbm, 42, rfl⟩
abbrev main_call1_call0_v17 : Ref sig .tc := ⟨.hbm, 43, rfl⟩
abbrev main_call1_call0_call0_v0 : Ref sig .tc := ⟨.hbm, 44, rfl⟩
abbrev main_call1_call0_call0_c : Ref sig .tc := ⟨.hbm, 45, rfl⟩
abbrev main_call1_call0_call0_v1 : Ref sig .tc := ⟨.hbm, 46, rfl⟩
abbrev main_call1_call0_call0_v2 : Ref sig .tc := ⟨.hbm, 47, rfl⟩
abbrev main_call1_call0_call0_v3 : Ref sig .tc := ⟨.hbm, 48, rfl⟩
abbrev main_call1_call0_call0_v4 : Ref sig .tc := ⟨.hbm, 49, rfl⟩
abbrev main_call1_call0_call0_v5 : Ref sig .tc := ⟨.hbm, 50, rfl⟩
abbrev main_call1_call0_call0_v6 : Ref sig .tc := ⟨.hbm, 51, rfl⟩
abbrev main_call1_call0_call0_c_0 : Ref sig .tc := ⟨.hbm, 52, rfl⟩
abbrev main_call1_call0_call0_v7 : Ref sig .tc := ⟨.hbm, 53, rfl⟩
abbrev main_call1_call0_call0_v8 : Ref sig .tc := ⟨.hbm, 54, rfl⟩
abbrev main_call1_call0_call0_c_1 : Ref sig .tc := ⟨.hbm, 55, rfl⟩
abbrev main_call1_call0_call0_v9 : Ref sig .tc := ⟨.hbm, 56, rfl⟩
abbrev main_call1_call0_call0_v10 : Ref sig .tc := ⟨.hbm, 57, rfl⟩
abbrev main_call1_call0_call0_v11 : Ref sig .tc := ⟨.hbm, 58, rfl⟩
abbrev main_call1_call0_call0_v12 : Ref sig .tc := ⟨.hbm, 59, rfl⟩
abbrev main_call1_call0_call0_v13 : Ref sig .tc := ⟨.hbm, 60, rfl⟩
abbrev main_call1_call0_call0_c_2 : Ref sig .tc := ⟨.hbm, 61, rfl⟩
abbrev main_call1_call0_call0_v14 : Ref sig .tc := ⟨.hbm, 62, rfl⟩
abbrev main_call1_call0_call0_v15 : Ref sig .tc := ⟨.hbm, 63, rfl⟩
abbrev main_call1_call0_call0_c_3 : Ref sig .tc := ⟨.hbm, 64, rfl⟩
abbrev main_call1_call0_call0_v16 : Ref sig .tc := ⟨.hbm, 65, rfl⟩
abbrev main_call1_call0_call0_v17 : Ref sig .tc := ⟨.hbm, 66, rfl⟩
abbrev main_call1_call0_call0_v18 : Ref sig .tc := ⟨.hbm, 67, rfl⟩
abbrev main_call1_call0_call0_v19 : Ref sig .tc := ⟨.hbm, 68, rfl⟩
abbrev main_call1_call0_call0_v20 : Ref sig .tc := ⟨.hbm, 69, rfl⟩
abbrev main_call1_call0_call0_c_4 : Ref sig .tc := ⟨.hbm, 70, rfl⟩
abbrev main_call1_call0_call0_v21 : Ref sig .tc := ⟨.hbm, 71, rfl⟩
abbrev main_call1_call0_call0_v22 : Ref sig .tc := ⟨.hbm, 72, rfl⟩
abbrev main_call1_call0_call0_c_5 : Ref sig .tc := ⟨.hbm, 73, rfl⟩
abbrev main_call1_call0_call0_v23 : Ref sig .tc := ⟨.hbm, 74, rfl⟩
abbrev main_call1_call0_call0_v24 : Ref sig .tc := ⟨.hbm, 75, rfl⟩
abbrev main_call1_call0_call0_v25 : Ref sig .tc := ⟨.hbm, 76, rfl⟩
abbrev main_call1_call0_call0_v26 : Ref sig .tc := ⟨.hbm, 77, rfl⟩
abbrev main_call1_call0_call0_v27 : Ref sig .tc := ⟨.hbm, 78, rfl⟩
abbrev main_call1_call0_call0_c_6 : Ref sig .tc := ⟨.hbm, 79, rfl⟩
abbrev main_call1_call0_call0_v28 : Ref sig .tc := ⟨.hbm, 80, rfl⟩
abbrev main_call1_call0_call0_v29 : Ref sig .tc := ⟨.hbm, 81, rfl⟩
abbrev main_call1_call0_call0_c_7 : Ref sig .tc := ⟨.hbm, 82, rfl⟩
abbrev main_call1_call0_call0_v30 : Ref sig .tc := ⟨.hbm, 83, rfl⟩
abbrev main_call1_call0_call0_v31 : Ref sig .tc := ⟨.hbm, 84, rfl⟩
abbrev main_call1_call0_call0_v32 : Ref sig .tc := ⟨.hbm, 85, rfl⟩
abbrev main_call1_call0_call0_v33 : Ref sig .tc := ⟨.hbm, 86, rfl⟩
abbrev main_call1_call0_call0_v34 : Ref sig .tc := ⟨.hbm, 87, rfl⟩
abbrev main_call1_call0_call0_v35 : Ref sig .tc := ⟨.hbm, 88, rfl⟩
abbrev main_call1_call0_call0_v36 : Ref sig .tc := ⟨.hbm, 89, rfl⟩
abbrev main_call1_call0_call0_v37 : Ref sig .tc := ⟨.hbm, 90, rfl⟩
abbrev main_call1_call0_call0_c_8 : Ref sig .tc := ⟨.hbm, 91, rfl⟩
abbrev main_call1_call0_call0_v38 : Ref sig .tc := ⟨.hbm, 92, rfl⟩
abbrev main_call1_call0_call0_v39 : Ref sig .tc := ⟨.hbm, 93, rfl⟩
abbrev main_call1_call0_call0_v40 : Ref sig .tc := ⟨.hbm, 94, rfl⟩
abbrev main_call1_call0_call0_c_9 : Ref sig .tc := ⟨.hbm, 95, rfl⟩
abbrev main_call1_call0_call0_v41 : Ref sig .tc := ⟨.hbm, 96, rfl⟩
abbrev main_call1_call0_call0_v42 : Ref sig .tc := ⟨.hbm, 97, rfl⟩
abbrev main_call1_call0_call0_c_10 : Ref sig .tc := ⟨.hbm, 98, rfl⟩
abbrev main_call1_call0_call0_v43 : Ref sig .tc := ⟨.hbm, 99, rfl⟩
abbrev main_call1_call0_call0_v44 : Ref sig .tc := ⟨.hbm, 100, rfl⟩
abbrev main_call1_call0_call0_v45 : Ref sig .tc := ⟨.hbm, 101, rfl⟩
abbrev main_call1_call0_call0_v46 : Ref sig .tc := ⟨.hbm, 102, rfl⟩
abbrev main_call1_call0_call0_v47 : Ref sig .tc := ⟨.hbm, 103, rfl⟩
abbrev main_call1_call0_call0_c_11 : Ref sig .tc := ⟨.hbm, 104, rfl⟩
abbrev main_call1_call0_call0_v48 : Ref sig .tc := ⟨.hbm, 105, rfl⟩
abbrev main_call1_call0_call0_v49 : Ref sig .tc := ⟨.hbm, 106, rfl⟩
abbrev main_call1_call0_call0_c_12 : Ref sig .tc := ⟨.hbm, 107, rfl⟩
abbrev main_call1_call0_call0_v50 : Ref sig .tc := ⟨.hbm, 108, rfl⟩
abbrev main_call1_call0_call0_v51 : Ref sig .tc := ⟨.hbm, 109, rfl⟩
abbrev main_call1_call0_call0_v52 : Ref sig .tc := ⟨.hbm, 110, rfl⟩
abbrev main_call1_call0_call0_v53 : Ref sig .tc := ⟨.hbm, 111, rfl⟩
abbrev main_call1_call0_call0_v54 : Ref sig .tc := ⟨.hbm, 112, rfl⟩
abbrev main_call1_call0_call0_c_13 : Ref sig .tc := ⟨.hbm, 113, rfl⟩
abbrev main_call1_call0_call0_v55 : Ref sig .tc := ⟨.hbm, 114, rfl⟩
abbrev main_call1_call0_call0_v56 : Ref sig .tc := ⟨.hbm, 115, rfl⟩
abbrev main_call1_call0_call0_c_14 : Ref sig .tc := ⟨.hbm, 116, rfl⟩
abbrev main_call1_call0_call0_v57 : Ref sig .tc := ⟨.hbm, 117, rfl⟩
abbrev main_call1_call0_call0_v58 : Ref sig .tc := ⟨.hbm, 118, rfl⟩
abbrev main_call1_call0_call0_v59 : Ref sig .tc := ⟨.hbm, 119, rfl⟩
abbrev main_call1_call0_call0_v60 : Ref sig .tc := ⟨.hbm, 120, rfl⟩
abbrev main_call1_call0_call0_v61 : Ref sig .tc := ⟨.hbm, 121, rfl⟩
abbrev main_call1_call0_call0_c_15 : Ref sig .tc := ⟨.hbm, 122, rfl⟩
abbrev main_call1_call0_call0_v62 : Ref sig .tc := ⟨.hbm, 123, rfl⟩
abbrev main_call1_call0_call0_v63 : Ref sig .tc := ⟨.hbm, 124, rfl⟩
abbrev main_call1_call0_call0_c_16 : Ref sig .tc := ⟨.hbm, 125, rfl⟩
abbrev main_call1_call0_call0_v64 : Ref sig .tc := ⟨.hbm, 126, rfl⟩
abbrev main_call1_call0_call0_v65 : Ref sig .tc := ⟨.hbm, 127, rfl⟩
abbrev main_call1_call0_call0_v66 : Ref sig .tc := ⟨.hbm, 128, rfl⟩
abbrev main_call1_call0_call0_v67 : Ref sig .tc := ⟨.hbm, 129, rfl⟩
abbrev main_call1_call0_call0_v68 : Ref sig .tc := ⟨.hbm, 130, rfl⟩
abbrev main_call1_call0_call0_v69 : Ref sig .tc := ⟨.hbm, 131, rfl⟩
abbrev main_call1_call0_call0_v70 : Ref sig .tc := ⟨.hbm, 132, rfl⟩
abbrev main_call1_call0_call0_v71 : Ref sig .tc := ⟨.hbm, 133, rfl⟩
abbrev main_call1_call0_call0_c_17 : Ref sig .tc := ⟨.hbm, 134, rfl⟩
abbrev main_call1_call0_call0_v72 : Ref sig .tc := ⟨.hbm, 135, rfl⟩
abbrev main_call1_call0_call0_v73 : Ref sig .tc := ⟨.hbm, 136, rfl⟩
abbrev main_call1_call0_call0_v74 : Ref sig .tc := ⟨.hbm, 137, rfl⟩
abbrev main_call1_call0_call0_c_18 : Ref sig .tc := ⟨.hbm, 138, rfl⟩
abbrev main_call1_call0_call0_v75 : Ref sig .tc := ⟨.hbm, 139, rfl⟩
abbrev main_call1_call0_call0_v76 : Ref sig .tc := ⟨.hbm, 140, rfl⟩
abbrev main_call1_call0_call0_c_19 : Ref sig .tc := ⟨.hbm, 141, rfl⟩
abbrev main_call1_call0_call0_v77 : Ref sig .tc := ⟨.hbm, 142, rfl⟩
abbrev main_call1_call0_call0_v78 : Ref sig .tc := ⟨.hbm, 143, rfl⟩
abbrev main_call1_call0_call0_v79 : Ref sig .tc := ⟨.hbm, 144, rfl⟩
abbrev main_call1_call0_call0_v80 : Ref sig .tc := ⟨.hbm, 145, rfl⟩
abbrev main_call1_call0_call0_v81 : Ref sig .tc := ⟨.hbm, 146, rfl⟩
abbrev main_call1_call0_call0_c_20 : Ref sig .tc := ⟨.hbm, 147, rfl⟩
abbrev main_call1_call0_call0_v82 : Ref sig .tc := ⟨.hbm, 148, rfl⟩
abbrev main_call1_call0_call0_v83 : Ref sig .tc := ⟨.hbm, 149, rfl⟩
abbrev main_call1_call0_call0_c_21 : Ref sig .tc := ⟨.hbm, 150, rfl⟩
abbrev main_call1_call0_call0_v84 : Ref sig .tc := ⟨.hbm, 151, rfl⟩
abbrev main_call1_call0_call0_v85 : Ref sig .tc := ⟨.hbm, 152, rfl⟩
abbrev main_call1_call0_call0_v86 : Ref sig .tc := ⟨.hbm, 153, rfl⟩
abbrev main_call1_call0_call0_v87 : Ref sig .tc := ⟨.hbm, 154, rfl⟩
abbrev main_call1_call0_call0_v88 : Ref sig .tc := ⟨.hbm, 155, rfl⟩
abbrev main_call1_call0_call0_c_22 : Ref sig .tc := ⟨.hbm, 156, rfl⟩
abbrev main_call1_call0_call0_v89 : Ref sig .tc := ⟨.hbm, 157, rfl⟩
abbrev main_call1_call0_call0_v90 : Ref sig .tc := ⟨.hbm, 158, rfl⟩
abbrev main_call1_call0_call0_c_23 : Ref sig .tc := ⟨.hbm, 159, rfl⟩
abbrev main_call1_call0_call0_v91 : Ref sig .tc := ⟨.hbm, 160, rfl⟩
abbrev main_call1_call0_call0_v92 : Ref sig .tc := ⟨.hbm, 161, rfl⟩
abbrev main_call1_call0_call0_v93 : Ref sig .tc := ⟨.hbm, 162, rfl⟩
abbrev main_call1_call0_call0_v94 : Ref sig .tc := ⟨.hbm, 163, rfl⟩
abbrev main_call1_call0_call0_v95 : Ref sig .tc := ⟨.hbm, 164, rfl⟩
abbrev main_call1_call0_call0_c_24 : Ref sig .tc := ⟨.hbm, 165, rfl⟩
abbrev main_call1_call0_call0_v96 : Ref sig .tc := ⟨.hbm, 166, rfl⟩
abbrev main_call1_call0_call0_v97 : Ref sig .tc := ⟨.hbm, 167, rfl⟩
abbrev main_call1_call0_call0_c_25 : Ref sig .tc := ⟨.hbm, 168, rfl⟩
abbrev main_call1_call0_call0_v98 : Ref sig .tc := ⟨.hbm, 169, rfl⟩
abbrev main_call1_call0_call0_v99 : Ref sig .tc := ⟨.hbm, 170, rfl⟩
abbrev main_call1_call0_call0_v100 : Ref sig .tc := ⟨.hbm, 171, rfl⟩
abbrev main_call1_call0_call0_v101 : Ref sig .tc := ⟨.hbm, 172, rfl⟩
abbrev main_call1_call0_call0_v102 : Ref sig .tc := ⟨.hbm, 173, rfl⟩
abbrev main_call1_call0_call0_v103 : Ref sig .tc := ⟨.hbm, 174, rfl⟩
abbrev main_call1_call0_call0_v104 : Ref sig .tc := ⟨.hbm, 175, rfl⟩
abbrev main_call1_call0_call0_v105 : Ref sig .tc := ⟨.hbm, 176, rfl⟩
abbrev main_call1_call0_call0_c_26 : Ref sig .tc := ⟨.hbm, 177, rfl⟩
abbrev main_call1_call0_call0_v106 : Ref sig .tc := ⟨.hbm, 178, rfl⟩
abbrev main_call1_call0_call0_v107 : Ref sig .tc := ⟨.hbm, 179, rfl⟩
abbrev main_call1_call0_call0_v108 : Ref sig .tc := ⟨.hbm, 180, rfl⟩
abbrev main_call1_call0_call0_c_27 : Ref sig .tc := ⟨.hbm, 181, rfl⟩
abbrev main_call1_call0_call0_v109 : Ref sig .tc := ⟨.hbm, 182, rfl⟩
abbrev main_call1_call0_call0_v110 : Ref sig .tc := ⟨.hbm, 183, rfl⟩
abbrev main_call1_call0_call0_c_28 : Ref sig .tc := ⟨.hbm, 184, rfl⟩
abbrev main_call1_call0_call0_v111 : Ref sig .tc := ⟨.hbm, 185, rfl⟩
abbrev main_call1_call0_call0_v112 : Ref sig .tc := ⟨.hbm, 186, rfl⟩
abbrev main_call1_call0_call0_v113 : Ref sig .tc := ⟨.hbm, 187, rfl⟩
abbrev main_call1_call0_call0_v114 : Ref sig .tc := ⟨.hbm, 188, rfl⟩
abbrev main_call1_call0_call0_v115 : Ref sig .tc := ⟨.hbm, 189, rfl⟩
abbrev main_call1_call0_call0_c_29 : Ref sig .tc := ⟨.hbm, 190, rfl⟩
abbrev main_call1_call0_call0_v116 : Ref sig .tc := ⟨.hbm, 191, rfl⟩
abbrev main_call1_call0_call0_v117 : Ref sig .tc := ⟨.hbm, 192, rfl⟩
abbrev main_call1_call0_call0_c_30 : Ref sig .tc := ⟨.hbm, 193, rfl⟩
abbrev main_call1_call0_call0_v118 : Ref sig .tc := ⟨.hbm, 194, rfl⟩
abbrev main_call1_call0_call0_v119 : Ref sig .tc := ⟨.hbm, 195, rfl⟩
abbrev main_call1_call0_call0_v120 : Ref sig .tc := ⟨.hbm, 196, rfl⟩
abbrev main_call1_call0_call0_v121 : Ref sig .tc := ⟨.hbm, 197, rfl⟩
abbrev main_call1_call0_call0_v122 : Ref sig .tc := ⟨.hbm, 198, rfl⟩
abbrev main_call1_call0_call0_c_31 : Ref sig .tc := ⟨.hbm, 199, rfl⟩
abbrev main_call1_call0_call0_v123 : Ref sig .tc := ⟨.hbm, 200, rfl⟩
abbrev main_call1_call0_call0_v124 : Ref sig .tc := ⟨.hbm, 201, rfl⟩
abbrev main_call1_call0_call0_c_32 : Ref sig .tc := ⟨.hbm, 202, rfl⟩
abbrev main_call1_call0_call0_v125 : Ref sig .tc := ⟨.hbm, 203, rfl⟩
abbrev main_call1_call0_call0_v126 : Ref sig .tc := ⟨.hbm, 204, rfl⟩
abbrev main_call1_call0_call0_v127 : Ref sig .tc := ⟨.hbm, 205, rfl⟩
abbrev main_call1_call0_call0_v128 : Ref sig .tc := ⟨.hbm, 206, rfl⟩
abbrev main_call1_call0_call0_v129 : Ref sig .tc := ⟨.hbm, 207, rfl⟩
abbrev main_call1_call0_call0_c_33 : Ref sig .tc := ⟨.hbm, 208, rfl⟩
abbrev main_call1_call0_call0_v130 : Ref sig .tc := ⟨.hbm, 209, rfl⟩
abbrev main_call1_call0_call0_v131 : Ref sig .tc := ⟨.hbm, 210, rfl⟩
abbrev main_call1_call0_call0_c_34 : Ref sig .tc := ⟨.hbm, 211, rfl⟩
abbrev main_call1_call0_call0_v132 : Ref sig .tc := ⟨.hbm, 212, rfl⟩
abbrev main_call1_call0_call0_v133 : Ref sig .tc := ⟨.hbm, 213, rfl⟩
abbrev main_call1_call0_call0_v134 : Ref sig .tc := ⟨.hbm, 214, rfl⟩
abbrev main_call1_call0_call0_v135 : Ref sig .tc := ⟨.hbm, 215, rfl⟩
abbrev main_call1_call0_call0_v136 : Ref sig .tc := ⟨.hbm, 216, rfl⟩
abbrev main_call1_call0_call0_v137 : Ref sig .tc := ⟨.hbm, 217, rfl⟩
abbrev main_call1_call0_call0_v138 : Ref sig .tc := ⟨.hbm, 218, rfl⟩
abbrev main_call1_call0_call0_v139 : Ref sig .tc := ⟨.hbm, 219, rfl⟩
abbrev main_call1_call0_call0_c_35 : Ref sig .tc := ⟨.hbm, 220, rfl⟩
abbrev main_call1_call0_call0_v140 : Ref sig .tc := ⟨.hbm, 221, rfl⟩
abbrev main_call1_call0_call0_v141 : Ref sig .tc := ⟨.hbm, 222, rfl⟩
abbrev main_call1_call0_call0_v142 : Ref sig .tc := ⟨.hbm, 223, rfl⟩
abbrev main_call1_call0_call0_c_36 : Ref sig .tc := ⟨.hbm, 224, rfl⟩
abbrev main_call1_call0_call0_v143 : Ref sig .tc := ⟨.hbm, 225, rfl⟩
abbrev main_call1_call0_call0_v144 : Ref sig .tc := ⟨.hbm, 226, rfl⟩
abbrev main_call1_call0_call0_c_37 : Ref sig .tc := ⟨.hbm, 227, rfl⟩
abbrev main_call1_call0_call0_v145 : Ref sig .tc := ⟨.hbm, 228, rfl⟩
abbrev main_call1_call0_call0_v146 : Ref sig .tc := ⟨.hbm, 229, rfl⟩
abbrev main_call1_call0_call0_v147 : Ref sig .tc := ⟨.hbm, 230, rfl⟩
abbrev main_call1_call0_call0_v148 : Ref sig .tc := ⟨.hbm, 231, rfl⟩
abbrev main_call1_call0_call0_v149 : Ref sig .tc := ⟨.hbm, 232, rfl⟩
abbrev main_call1_call0_call0_c_38 : Ref sig .tc := ⟨.hbm, 233, rfl⟩
abbrev main_call1_call0_call0_v150 : Ref sig .tc := ⟨.hbm, 234, rfl⟩
abbrev main_call1_call0_call0_v151 : Ref sig .tc := ⟨.hbm, 235, rfl⟩
abbrev main_call1_call0_call0_c_39 : Ref sig .tc := ⟨.hbm, 236, rfl⟩
abbrev main_call1_call0_call0_v152 : Ref sig .tc := ⟨.hbm, 237, rfl⟩
abbrev main_call1_call0_call0_v153 : Ref sig .tc := ⟨.hbm, 238, rfl⟩
abbrev main_call1_call0_call0_v154 : Ref sig .tc := ⟨.hbm, 239, rfl⟩
abbrev main_call1_call0_call0_v155 : Ref sig .tc := ⟨.hbm, 240, rfl⟩
abbrev main_call1_call0_call0_v156 : Ref sig .tc := ⟨.hbm, 241, rfl⟩
abbrev main_call1_call0_call0_c_40 : Ref sig .tc := ⟨.hbm, 242, rfl⟩
abbrev main_call1_call0_call0_v157 : Ref sig .tc := ⟨.hbm, 243, rfl⟩
abbrev main_call1_call0_call0_v158 : Ref sig .tc := ⟨.hbm, 244, rfl⟩
abbrev main_call1_call0_call0_c_41 : Ref sig .tc := ⟨.hbm, 245, rfl⟩
abbrev main_call1_call0_call0_v159 : Ref sig .tc := ⟨.hbm, 246, rfl⟩
abbrev main_call1_call0_call0_v160 : Ref sig .tc := ⟨.hbm, 247, rfl⟩
abbrev main_call1_call0_call0_v161 : Ref sig .tc := ⟨.hbm, 248, rfl⟩
abbrev main_call1_call0_call0_v162 : Ref sig .tc := ⟨.hbm, 249, rfl⟩
abbrev main_call1_call0_call0_v163 : Ref sig .tc := ⟨.hbm, 250, rfl⟩
abbrev main_call1_call0_call0_c_42 : Ref sig .tc := ⟨.hbm, 251, rfl⟩
abbrev main_call1_call0_call0_v164 : Ref sig .tc := ⟨.hbm, 252, rfl⟩
abbrev main_call1_call0_call0_v165 : Ref sig .tc := ⟨.hbm, 253, rfl⟩
abbrev main_call1_call0_call0_c_43 : Ref sig .tc := ⟨.hbm, 254, rfl⟩
abbrev main_call1_call0_call0_v166 : Ref sig .tc := ⟨.hbm, 255, rfl⟩
abbrev main_call1_call0_call0_v167 : Ref sig .tc := ⟨.hbm, 256, rfl⟩
abbrev main_call1_call0_call0_v168 : Ref sig .tc := ⟨.hbm, 257, rfl⟩
abbrev main_call1_call0_call0_v169 : Ref sig .tc := ⟨.hbm, 258, rfl⟩
abbrev main_call1_call0_call0_v170 : Ref sig .tc := ⟨.hbm, 259, rfl⟩
abbrev main_call1_call0_v18_0 : Ref sig .tc := ⟨.hbm, 260, rfl⟩
abbrev main_call1_call0_call0_v172 : Ref sig .tc := ⟨.hbm, 261, rfl⟩
abbrev main_call1_call0_call0_v173 : Ref sig .tc := ⟨.hbm, 262, rfl⟩
abbrev main_call1_call0_call0_c_44 : Ref sig .tc := ⟨.hbm, 263, rfl⟩
abbrev main_call1_call0_call0_v174 : Ref sig .tc := ⟨.hbm, 264, rfl⟩
abbrev main_call1_call0_v18_1 : Ref sig .tc := ⟨.hbm, 265, rfl⟩
abbrev main_call1_call0_v19 : Ref sig .tc := ⟨.hbm, 266, rfl⟩
abbrev main_call1_call0_c_2 : Ref sig .tc := ⟨.hbm, 267, rfl⟩
abbrev main_call1_call0_v20 : Ref sig .tc := ⟨.hbm, 268, rfl⟩
abbrev main_call1_call0_v21 : Ref sig .tc := ⟨.hbm, 269, rfl⟩
abbrev main_call1_call0_c_3 : Ref sig .tc := ⟨.hbm, 270, rfl⟩
abbrev main_call1_call0_v22 : Ref sig .tc := ⟨.hbm, 271, rfl⟩
abbrev main_call1_call0_v23 : Ref sig .tc := ⟨.hbm, 272, rfl⟩
abbrev main_call1_call0_v24 : Ref sig .tc := ⟨.hbm, 273, rfl⟩
abbrev main_call1_call0_cst : Ref sig .tc := ⟨.hbm, 274, rfl⟩
abbrev main_call1_call0_v25 : Ref sig .tc := ⟨.hbm, 275, rfl⟩
abbrev main_call1_call0_v26 : Ref sig .tc := ⟨.hbm, 276, rfl⟩
abbrev main_call1_call0_v27 : Ref sig .tc := ⟨.hbm, 277, rfl⟩
abbrev main_call1_call0_v28 : Ref sig .tc := ⟨.hbm, 278, rfl⟩
abbrev main_call1_call0_v29 : Ref sig .tc := ⟨.hbm, 279, rfl⟩
abbrev main_call1_call0_v30 : Ref sig .tc := ⟨.hbm, 280, rfl⟩
abbrev main_call1_call0_v31 : Ref sig .tc := ⟨.hbm, 281, rfl⟩
abbrev main_call1_call0_v32 : Ref sig .tc := ⟨.hbm, 282, rfl⟩
abbrev main_call1_v0 : Ref sig .tc := ⟨.hbm, 283, rfl⟩
abbrev main_call1_v1 : Ref sig .tc := ⟨.hbm, 284, rfl⟩
abbrev main_call1_v2 : Ref sig .tc := ⟨.hbm, 285, rfl⟩
abbrev main_call1_v3 : Ref sig .tc := ⟨.hbm, 286, rfl⟩
abbrev main_v17 : Ref sig .tc := ⟨.hbm, 287, rfl⟩
abbrev main_cst : Ref sig .tc := ⟨.hbm, 288, rfl⟩
abbrev main_v18 : Ref sig .tc := ⟨.hbm, 289, rfl⟩
abbrev main_v19 : Ref sig .tc := ⟨.hbm, 290, rfl⟩
abbrev main_v20 : Ref sig .tc := ⟨.hbm, 291, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc0_stg0_0 : Ref sig .tc := ⟨.smem, 0, rfl⟩
abbrev cc1_scratch0 : Ref sig .tc := ⟨.smem, 1, rfl⟩
abbrev cc2_stg3_0 : Ref sig .tc := ⟨.smem, 2, rfl⟩
abbrev cc2_scratch0 : Ref sig .tc := ⟨.smem, 3, rfl⟩
abbrev cc2_scratch1 : Ref sig .tc := ⟨.smem, 4, rfl⟩
abbrev cc0_sem0_0 : DmaSem sig := 0
abbrev cc1_sem0_0 : DmaSem sig := 1
abbrev cc1_sem0_1 : DmaSem sig := 2
abbrev cc1_sem1_0 : DmaSem sig := 3
abbrev cc1_sem1_1 : DmaSem sig := 4
abbrev cc2_sem0_0 : DmaSem sig := 5
abbrev cc2_sem0_1 : DmaSem sig := 6
abbrev cc2_sem1_0 : DmaSem sig := 7
abbrev cc2_sem1_1 : DmaSem sig := 8
abbrev cc2_sem2_0 : DmaSem sig := 9
abbrev cc2_sem2_1 : DmaSem sig := 10
abbrev cc2_sem3_0 : DmaSem sig := 11

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨1, ![24], ![false]⟩

def k1_cond4 (i : grid1.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c2_i32 : BitVec 32 := 2#32
  let v28 : BitVec 1 := Scalar.cmpi .eq v16 c2_i32
  let v29 : BitVec 32 := Scalar.extui v28
  let c0_i32_11 : BitVec 32 := 0#32
  let v30 : BitVec 1 := Scalar.cmpi .ne v29 c0_i32_11
  v30

def cc1_transform_0 (i : grid1.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_1 (i : grid1.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 1 := Scalar.cmpi .slt v16 c2_i32
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let v28 : BitVec 32 := Scalar.select v17 c0_i32_10 v27
  let c0_i32_11 : BitVec 32 := 0#32
  let c0_i32_12 : BitVec 32 := 0#32
  ![v28.toNat, c0_i32_11.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![32], ![false]⟩

def k2_cond7 (i : grid2.Coords) : BitVec 1 :=
  let arg0 : BitVec 32 := BitVec.ofNat 32 (i 0).val
  let c31_i32 : BitVec 32 := 31#32
  let v50 : BitVec 1 := Scalar.cmpi .eq arg0 c31_i32
  let v51 : BitVec 32 := Scalar.extui v50
  let c0_i32_18 : BitVec 32 := 0#32
  let v52 : BitVec 1 := Scalar.cmpi .ne v51 c0_i32_18
  v52

def cc2_transform_0 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_1 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_2 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .smem S1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== KernelIdeal.lean ====
variable {F : FTy → Type} [FloatOps F] [Named F]
def κ : String → Option EReal := fun
  | "mask" => some ⊥
  | _ => none
-- ==== ReferenceIdeal.lean ====
abbrev S1x1000000 : Shape := ⟨2, ![1, 1000000]⟩
abbrev S_ : Shape := ⟨0, ![]⟩
abbrev S1 : Shape := ⟨1, ![1]⟩
abbrev S1x1 : Shape := ⟨2, ![1, 1]⟩
abbrev S1000000x1 : Shape := ⟨2, ![1000000, 1]⟩
abbrev S1000000 : Shape := ⟨1, ![1000000]⟩
abbrev S2 : Shape := ⟨1, ![2]⟩

abbrev nBuf : Space → Nat
  | .hbm => 374
  | .vmem => 0
  | .smem => 0
  | _ => 0

abbrev hbmTy0_0 (i : Nat) : BufTy := match i % 128 with
  | 0 => ⟨S1x1000000, .f32⟩
  | 1 => ⟨S_, .f32⟩
  | 2 => ⟨S1x1000000, .f32⟩
  | 3 => ⟨S1x1000000, .f32⟩
  | 4 => ⟨S_, .f32⟩
  | 5 => ⟨S1, .f32⟩
  | 6 => ⟨S_, .f32⟩
  | 7 => ⟨S1, .f32⟩
  | 8 => ⟨S1, .f32⟩
  | 9 => ⟨S1x1, .f32⟩
  | 10 => ⟨S1x1000000, .f32⟩
  | 11 => ⟨S1x1000000, .f32⟩
  | 12 => ⟨S1x1000000, .f32⟩
  | 13 => ⟨S_, .f32⟩
  | 14 => ⟨S1, .f32⟩
  | 15 => ⟨S1x1, .f32⟩
  | 16 => ⟨S1x1000000, .f32⟩
  | 17 => ⟨S1x1000000, .f32⟩
  | 18 => ⟨S1x1000000, .f32⟩
  | 19 => ⟨S1x1000000, .i32⟩
  | 20 => ⟨S1x1000000, .f32⟩
  | 21 => ⟨S1x1000000, .i32⟩
  | 22 => ⟨S_, .i32⟩
  | 23 => ⟨S1x1000000, .i32⟩
  | 24 => ⟨S1x1000000, .i1⟩
  | 25 => ⟨S_, .i32⟩
  | 26 => ⟨S1x1000000, .i32⟩
  | 27 => ⟨S1x1000000, .i32⟩
  | 28 => ⟨S1x1000000, .i32⟩
  | 29 => ⟨S1000000x1, .i32⟩
  | 30 => ⟨S1, .i32⟩
  | 31 => ⟨S_, .i32⟩
  | 32 => ⟨S1000000x1, .i32⟩
  | 33 => ⟨S1000000x1, .i1⟩
  | 34 => ⟨S1x1, .i32⟩
  | 35 => ⟨S1000000x1, .i32⟩
  | 36 => ⟨S1000000x1, .i1⟩
  | 37 => ⟨S1000000x1, .i1⟩
  | 38 => ⟨S_, .i1⟩
  | 39 => ⟨S1000000, .i1⟩
  | 40 => ⟨S1x1000000, .f32⟩
  | 41 => ⟨S1x1000000, .i1⟩
  | 42 => ⟨S_, .f32⟩
  | 43 => ⟨S1x1000000, .f32⟩
  | 44 => ⟨S1x1000000, .f32⟩
  | 45 => ⟨S_, .f32⟩
  | 46 => ⟨S_, .f32⟩
  | 47 => ⟨S1x1000000, .f32⟩
  | 48 => ⟨S_, .f32⟩
  | 49 => ⟨S1x1000000, .f32⟩
  | 50 => ⟨S1x1000000, .i1⟩
  | 51 => ⟨S_, .f32⟩
  | 52 => ⟨S_, .f32⟩
  | 53 => ⟨S1x1000000, .f32⟩
  | 54 => ⟨S1x1000000, .f32⟩
  | 55 => ⟨S_, .f32⟩
  | 56 => ⟨S1, .f32⟩
  | 57 => ⟨S1x1, .f32⟩
  | 58 => ⟨S_, .f32⟩
  | 59 => ⟨S_, .f32⟩
  | 60 => ⟨S1x1, .f32⟩
  | 61 => ⟨S1x1, .f32⟩
  | 62 => ⟨S1x1000000, .f32⟩
  | 63 => ⟨S1x1000000, .f32⟩
  | 64 => ⟨S_, .i32⟩
  | 65 => ⟨S_, .i32⟩
  | 66 => ⟨S_, .i32⟩
  | 67 => ⟨S_, .i32⟩
  | 68 => ⟨S1, .i32⟩
  | 69 => ⟨S_, .i32⟩
  | 70 => ⟨S_, .i32⟩
  | 71 => ⟨S_, .i32⟩
  | 72 => ⟨S1, .i32⟩
  | 73 => ⟨S2, .i32⟩
  | 74 => ⟨S_, .f32⟩
  | 75 => ⟨S1x1000000, .f32⟩
  | 76 => ⟨S1x1000000, .f32⟩
  | 77 => ⟨S1x1000000, .f32⟩
  | 78 => ⟨S_, .f32⟩
  | 79 => ⟨S_, .f32⟩
  | 80 => ⟨S_, .f32⟩
  | 81 => ⟨S1x1, .f32⟩
  | 82 => ⟨S1x1, .f32⟩
  | 83 => ⟨S1, .i32⟩
  | 84 => ⟨S_, .i32⟩
  | 85 => ⟨S1, .i32⟩
  | 86 => ⟨S_, .i32⟩
  | 87 => ⟨S1x1000000, .i64⟩
  | 88 => ⟨S1x1000000, .i64⟩
  | 89 => ⟨S_, .i64⟩
  | 90 => ⟨S1x1000000, .i64⟩
  | 91 => ⟨S1x1000000, .i64⟩
  | 92 => ⟨S_, .i64⟩
  | 93 => ⟨S1x1000000, .i64⟩
  | 94 => ⟨S1x1000000, .i64⟩
  | 95 => ⟨S1x1000000, .i64⟩
  | 96 => ⟨S_, .i64⟩
  | 97 => ⟨S1x1000000, .i64⟩
  | 98 => ⟨S1x1000000, .i64⟩
  | 99 => ⟨S1x1000000, .i32⟩
  | 100 => ⟨S1x1000000, .i32⟩
  | 101 => ⟨S_, .i32⟩
  | 102 => ⟨S_, .i32⟩
  | 103 => ⟨S_, .i32⟩
  | 104 => ⟨S1x1000000, .i32⟩
  | 105 => ⟨S1x1000000, .i32⟩
  | 106 => ⟨S1x1000000, .i32⟩
  | 107 => ⟨S1x1000000, .i32⟩
  | 108 => ⟨S1x1000000, .i32⟩
  | 109 => ⟨S_, .i32⟩
  | 110 => ⟨S1x1000000, .i32⟩
  | 111 => ⟨S1x1000000, .i32⟩
  | 112 => ⟨S_, .i32⟩
  | 113 => ⟨S1x1000000, .i32⟩
  | 114 => ⟨S1x1000000, .i32⟩
  | 115 => ⟨S1x1000000, .i32⟩
  | 116 => ⟨S1x1000000, .i32⟩
  | 117 => ⟨S1x1000000, .i32⟩
  | 118 => ⟨S_, .i32⟩
  | 119 => ⟨S1x1000000, .i32⟩
  | 120 => ⟨S1x1000000, .i32⟩
  | 121 => ⟨S_, .i32⟩
  | 122 => ⟨S1x1000000, .i32⟩
  | 123 => ⟨S1x1000000, .i32⟩
  | 124 => ⟨S1x1000000, .i32⟩
  | 125 => ⟨S1x1000000, .i32⟩
  | 126 => ⟨S1x1000000, .i32⟩
  | 127 => ⟨S_, .i32⟩
  | _ => ⟨S1x1000000, .f32⟩

abbrev hbmTy0_1 (i : Nat) : BufTy := match i % 128 with
  | 0 => ⟨S1x1000000, .i32⟩
  | 1 => ⟨S1x1000000, .i32⟩
  | 2 => ⟨S_, .i32⟩
  | 3 => ⟨S1x1000000, .i32⟩
  | 4 => ⟨S1x1000000, .i32⟩
  | 5 => ⟨S1x1000000, .i32⟩
  | 6 => ⟨S1x1000000, .i32⟩
  | 7 => ⟨S1x1000000, .i32⟩
  | 8 => ⟨S_, .i32⟩
  | 9 => ⟨S1x1000000, .i32⟩
  | 10 => ⟨S1x1000000, .i32⟩
  | 11 => ⟨S_, .i32⟩
  | 12 => ⟨S1x1000000, .i32⟩
  | 13 => ⟨S1x1000000, .i32⟩
  | 14 => ⟨S1x1000000, .i32⟩
  | 15 => ⟨S1x1000000, .i32⟩
  | 16 => ⟨S1x1000000, .i32⟩
  | 17 => ⟨S1x1000000, .i32⟩
  | 18 => ⟨S1x1000000, .i32⟩
  | 19 => ⟨S1x1000000, .i32⟩
  | 20 => ⟨S_, .i32⟩
  | 21 => ⟨S1x1000000, .i32⟩
  | 22 => ⟨S1x1000000, .i32⟩
  | 23 => ⟨S1x1000000, .i32⟩
  | 24 => ⟨S_, .i32⟩
  | 25 => ⟨S1x1000000, .i32⟩
  | 26 => ⟨S1x1000000, .i32⟩
  | 27 => ⟨S_, .i32⟩
  | 28 => ⟨S1x1000000, .i32⟩
  | 29 => ⟨S1x1000000, .i32⟩
  | 30 => ⟨S1x1000000, .i32⟩
  | 31 => ⟨S1x1000000, .i32⟩
  | 32 => ⟨S1x1000000, .i32⟩
  | 33 => ⟨S_, .i32⟩
  | 34 => ⟨S1x1000000, .i32⟩
  | 35 => ⟨S1x1000000, .i32⟩
  | 36 => ⟨S_, .i32⟩
  | 37 => ⟨S1x1000000, .i32⟩
  | 38 => ⟨S1x1000000, .i32⟩
  | 39 => ⟨S1x1000000, .i32⟩
  | 40 => ⟨S1x1000000, .i32⟩
  | 41 => ⟨S1x1000000, .i32⟩
  | 42 => ⟨S_, .i32⟩
  | 43 => ⟨S1x1000000, .i32⟩
  | 44 => ⟨S1x1000000, .i32⟩
  | 45 => ⟨S_, .i32⟩
  | 46 => ⟨S1x1000000, .i32⟩
  | 47 => ⟨S1x1000000, .i32⟩
  | 48 => ⟨S1x1000000, .i32⟩
  | 49 => ⟨S1x1000000, .i32⟩
  | 50 => ⟨S1x1000000, .i32⟩
  | 51 => ⟨S_, .i32⟩
  | 52 => ⟨S1x1000000, .i32⟩
  | 53 => ⟨S1x1000000, .i32⟩
  | 54 => ⟨S_, .i32⟩
  | 55 => ⟨S1x1000000, .i32⟩
  | 56 => ⟨S1x1000000, .i32⟩
  | 57 => ⟨S1x1000000, .i32⟩
  | 58 => ⟨S1x1000000, .i32⟩
  | 59 => ⟨S1x1000000, .i32⟩
  | 60 => ⟨S1x1000000, .i32⟩
  | 61 => ⟨S1x1000000, .i32⟩
  | 62 => ⟨S1x1000000, .i32⟩
  | 63 => ⟨S_, .i32⟩
  | 64 => ⟨S1x1000000, .i32⟩
  | 65 => ⟨S1x1000000, .i32⟩
  | 66 => ⟨S1x1000000, .i32⟩
  | 67 => ⟨S_, .i32⟩
  | 68 => ⟨S1x1000000, .i32⟩
  | 69 => ⟨S1x1000000, .i32⟩
  | 70 => ⟨S_, .i32⟩
  | 71 => ⟨S1x1000000, .i32⟩
  | 72 => ⟨S1x1000000, .i32⟩
  | 73 => ⟨S1x1000000, .i32⟩
  | 74 => ⟨S1x1000000, .i32⟩
  | 75 => ⟨S1x1000000, .i32⟩
  | 76 => ⟨S_, .i32⟩
  | 77 => ⟨S1x1000000, .i32⟩
  | 78 => ⟨S1x1000000, .i32⟩
  | 79 => ⟨S_, .i32⟩
  | 80 => ⟨S1x1000000, .i32⟩
  | 81 => ⟨S1x1000000, .i32⟩
  | 82 => ⟨S1x1000000, .i32⟩
  | 83 => ⟨S1x1000000, .i32⟩
  | 84 => ⟨S1x1000000, .i32⟩
  | 85 => ⟨S_, .i32⟩
  | 86 => ⟨S1x1000000, .i32⟩
  | 87 => ⟨S1x1000000, .i32⟩
  | 88 => ⟨S_, .i32⟩
  | 89 => ⟨S1x1000000, .i32⟩
  | 90 => ⟨S1x1000000, .i32⟩
  | 91 => ⟨S1x1000000, .i32⟩
  | 92 => ⟨S1x1000000, .i32⟩
  | 93 => ⟨S1x1000000, .i32⟩
  | 94 => ⟨S_, .i32⟩
  | 95 => ⟨S1x1000000, .i32⟩
  | 96 => ⟨S1x1000000, .i32⟩
  | 97 => ⟨S_, .i32⟩
  | 98 => ⟨S1x1000000, .i32⟩
  | 99 => ⟨S1x1000000, .i32⟩
  | 100 => ⟨S1x1000000, .i32⟩
  | 101 => ⟨S1x1000000, .i32⟩
  | 102 => ⟨S1x1000000, .i32⟩
  | 103 => ⟨S1x1000000, .i32⟩
  | 104 => ⟨S1x1000000, .i32⟩
  | 105 => ⟨S1x1000000, .i32⟩
  | 106 => ⟨S_, .i32⟩
  | 107 => ⟨S1x1000000, .i32⟩
  | 108 => ⟨S1x1000000, .i32⟩
  | 109 => ⟨S1x1000000, .i32⟩
  | 110 => ⟨S_, .i32⟩
  | 111 => ⟨S1x1000000, .i32⟩
  | 112 => ⟨S1x1000000, .i32⟩
  | 113 => ⟨S_, .i32⟩
  | 114 => ⟨S1x1000000, .i32⟩
  | 115 => ⟨S1x1000000, .i32⟩
  | 116 => ⟨S1x1000000, .i32⟩
  | 117 => ⟨S1x1000000, .i32⟩
  | 118 => ⟨S1x1000000, .i32⟩
  | 119 => ⟨S_, .i32⟩
  | 120 => ⟨S1x1000000, .i32⟩
  | 121 => ⟨S1x1000000, .i32⟩
  | 122 => ⟨S_, .i32⟩
  | 123 => ⟨S1x1000000, .i32⟩
  | 124 => ⟨S1x1000000, .i32⟩
  | 125 => ⟨S1x1000000, .i32⟩
  | 126 => ⟨S1x1000000, .i32⟩
  | 127 => ⟨S1x1000000, .i32⟩
  | _ => ⟨S1x1000000, .f32⟩

abbrev hbmTy0_2 (i : Nat) : BufTy := match i % 128 with
  | 0 => ⟨S_, .i32⟩
  | 1 => ⟨S1x1000000, .i32⟩
  | 2 => ⟨S1x1000000, .i32⟩
  | 3 => ⟨S_, .i32⟩
  | 4 => ⟨S1x1000000, .i32⟩
  | 5 => ⟨S1x1000000, .i32⟩
  | 6 => ⟨S1x1000000, .i32⟩
  | 7 => ⟨S1x1000000, .i32⟩
  | 8 => ⟨S1x1000000, .i32⟩
  | 9 => ⟨S_, .i32⟩
  | 10 => ⟨S1x1000000, .i32⟩
  | 11 => ⟨S1x1000000, .i32⟩
  | 12 => ⟨S_, .i32⟩
  | 13 => ⟨S1x1000000, .i32⟩
  | 14 => ⟨S1x1000000, .i32⟩
  | 15 => ⟨S1x1000000, .i32⟩
  | 16 => ⟨S1x1000000, .i32⟩
  | 17 => ⟨S1x1000000, .i32⟩
  | 18 => ⟨S1x1000000, .i32⟩
  | 19 => ⟨S1x1000000, .i32⟩
  | 20 => ⟨S1x1000000, .i32⟩
  | 21 => ⟨S_, .i32⟩
  | 22 => ⟨S1x1000000, .i32⟩
  | 23 => ⟨S1x1000000, .i32⟩
  | 24 => ⟨S1x1000000, .i32⟩
  | 25 => ⟨S_, .i32⟩
  | 26 => ⟨S1x1000000, .i32⟩
  | 27 => ⟨S1x1000000, .i32⟩
  | 28 => ⟨S_, .i32⟩
  | 29 => ⟨S1x1000000, .i32⟩
  | 30 => ⟨S1x1000000, .i32⟩
  | 31 => ⟨S1x1000000, .i32⟩
  | 32 => ⟨S1x1000000, .i32⟩
  | 33 => ⟨S1x1000000, .i32⟩
  | 34 => ⟨S_, .i32⟩
  | 35 => ⟨S1x1000000, .i32⟩
  | 36 => ⟨S1x1000000, .i32⟩
  | 37 => ⟨S_, .i32⟩
  | 38 => ⟨S1x1000000, .i32⟩
  | 39 => ⟨S1x1000000, .i32⟩
  | 40 => ⟨S1x1000000, .i32⟩
  | 41 => ⟨S1x1000000, .i32⟩
  | 42 => ⟨S1x1000000, .i32⟩
  | 43 => ⟨S_, .i32⟩
  | 44 => ⟨S1x1000000, .i32⟩
  | 45 => ⟨S1x1000000, .i32⟩
  | 46 => ⟨S_, .i32⟩
  | 47 => ⟨S1x1000000, .i32⟩
  | 48 => ⟨S1x1000000, .i32⟩
  | 49 => ⟨S1x1000000, .i32⟩
  | 50 => ⟨S1x1000000, .i32⟩
  | 51 => ⟨S1x1000000, .i32⟩
  | 52 => ⟨S_, .i32⟩
  | 53 => ⟨S1x1000000, .i32⟩
  | 54 => ⟨S1x1000000, .i32⟩
  | 55 => ⟨S_, .i32⟩
  | 56 => ⟨S1x1000000, .i32⟩
  | 57 => ⟨S1x1000000, .i32⟩
  | 58 => ⟨S1x1000000, .i32⟩
  | 59 => ⟨S1x1000000, .i32⟩
  | 60 => ⟨S1x1000000, .i32⟩
  | 61 => ⟨S1x1000000, .i32⟩
  | 62 => ⟨S1x1000000, .i32⟩
  | 63 => ⟨S1x1000000, .i32⟩
  | 64 => ⟨S_, .i32⟩
  | 65 => ⟨S1x1000000, .i32⟩
  | 66 => ⟨S1x1000000, .i32⟩
  | 67 => ⟨S1x1000000, .i32⟩
  | 68 => ⟨S_, .i32⟩
  | 69 => ⟨S1x1000000, .i32⟩
  | 70 => ⟨S1x1000000, .i32⟩
  | 71 => ⟨S_, .i32⟩
  | 72 => ⟨S1x1000000, .i32⟩
  | 73 => ⟨S1x1000000, .i32⟩
  | 74 => ⟨S1x1000000, .f32⟩
  | 75 => ⟨S_, .f32⟩
  | 76 => ⟨S1x1000000, .f32⟩
  | 77 => ⟨S1x1000000, .f32⟩
  | 78 => ⟨S1x1, .f32⟩
  | 79 => ⟨S1x1000000, .f32⟩
  | 80 => ⟨S1x1000000, .f32⟩
  | 81 => ⟨S1x1000000, .f32⟩
  | 82 => ⟨S1x1000000, .f32⟩
  | 83 => ⟨S1x1000000, .f32⟩
  | 84 => ⟨S1x1000000, .f32⟩
  | 85 => ⟨S1x1000000, .f32⟩
  | 86 => ⟨S1x1000000, .f32⟩
  | 87 => ⟨S1x1000000, .f32⟩
  | 88 => ⟨S1x1000000, .f32⟩
  | 89 => ⟨S1x1000000, .f32⟩
  | 90 => ⟨S1x1000000, .i32⟩
  | 91 => ⟨S_, .f32⟩
  | 92 => ⟨S_, .i32⟩
  | 93 => ⟨S1, .f32⟩
  | 94 => ⟨S1, .i32⟩
  | 95 => ⟨S1x1, .i32⟩
  | 96 => ⟨S_, .i32⟩
  | 97 => ⟨S1x1, .i32⟩
  | 98 => ⟨S1x1, .i1⟩
  | 99 => ⟨S_, .i32⟩
  | 100 => ⟨S1x1, .i32⟩
  | 101 => ⟨S1x1, .i32⟩
  | 102 => ⟨S1x1, .i32⟩
  | 103 => ⟨S1, .i32⟩
  | 104 => ⟨S_, .i32⟩
  | 105 => ⟨S1x1, .i32⟩
  | 106 => ⟨S1x1, .i1⟩
  | 107 => ⟨S1x1, .i32⟩
  | 108 => ⟨S1x1, .i1⟩
  | 109 => ⟨S1x1, .i1⟩
  | 110 => ⟨S_, .i1⟩
  | 111 => ⟨S1, .i1⟩
  | 112 => ⟨S1x1, .i32⟩
  | 113 => ⟨S1x1, .i1⟩
  | 114 => ⟨S_, .i32⟩
  | 115 => ⟨S1x1, .i32⟩
  | 116 => ⟨S1x1, .i32⟩
  | 117 => ⟨S1, .i32⟩
  | _ => ⟨S1x1000000, .f32⟩

abbrev hbmTy (i : Nat) : BufTy := match i / 128 with
  | 0 => hbmTy0_0 i
  | 1 => hbmTy0_1 i
  | 2 => hbmTy0_2 i
  | _ => ⟨S1x1000000, .f32⟩

abbrev bufTy : (tb : Table) → Fin (tcTables nBuf tb) → BufTy
  | .hbm, ⟨i, _⟩ => hbmTy i
  | _, _ => ⟨S1x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1_0 : Ref sig .tc := ⟨.hbm, 20, rfl⟩
abbrev main_v14 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_call1_cst : Ref sig .tc := ⟨.hbm, 42, rfl⟩
abbrev main_call1_v15 : Ref sig .tc := ⟨.hbm, 43, rfl⟩
abbrev main_v15 : Ref sig .tc := ⟨.hbm, 44, rfl⟩
abbrev main_call2_call0_cst : Ref sig .tc := ⟨.hbm, 45, rfl⟩
abbrev main_call2_call0_v0 : Ref sig .tc := ⟨.hbm, 46, rfl⟩
abbrev main_v16 : Ref sig .tc := ⟨.hbm, 47, rfl⟩
abbrev main_cst_3 : Ref sig .tc := ⟨.hbm, 48, rfl⟩
abbrev main_v17 : Ref sig .tc := ⟨.hbm, 49, rfl⟩
abbrev main_v18 : Ref sig .tc := ⟨.hbm, 50, rfl⟩
abbrev main_cst_4 : Ref sig .tc := ⟨.hbm, 51, rfl⟩
abbrev main_call3_v0 : Ref sig .tc := ⟨.hbm, 52, rfl⟩
abbrev main_call3_v1 : Ref sig .tc := ⟨.hbm, 53, rfl⟩
abbrev main_v19 : Ref sig .tc := ⟨.hbm, 54, rfl⟩
abbrev main_cst_5 : Ref sig .tc := ⟨.hbm, 55, rfl⟩
abbrev main_v20 : Ref sig .tc := ⟨.hbm, 56, rfl⟩
abbrev main_v21 : Ref sig .tc := ⟨.hbm, 57, rfl⟩
abbrev main_cst_6 : Ref sig .tc := ⟨.hbm, 58, rfl⟩
abbrev main_call4_v0 : Ref sig .tc := ⟨.hbm, 59, rfl⟩
abbrev main_call4_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c : Ref sig .tc := ⟨.hbm, 64, rfl⟩
abbrev main_c_7 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_8 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_9 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_call5_cst : Ref sig .tc := ⟨.hbm, 78, rfl⟩
abbrev main_call5_cst_0 : Ref sig .tc := ⟨.hbm, 79, rfl⟩
abbrev main_call5_call0_v0 : Ref sig .tc := ⟨.hbm, 80, rfl⟩
abbrev main_call5_call0_v1 : Ref sig .tc := ⟨.hbm, 81, rfl⟩
abbrev main_call5_call0_v2 : Ref sig .tc := ⟨.hbm, 82, rfl⟩
abbrev main_call5_call0_v3 : Ref sig .tc := ⟨.hbm, 83, rfl⟩
abbrev main_call5_call0_v4 : Ref sig .tc := ⟨.hbm, 84, rfl⟩
abbrev main_call5_call0_v5 : Ref sig .tc := ⟨.hbm, 85, rfl⟩
abbrev main_call5_call0_v6 : Ref sig .tc := ⟨.hbm, 86, rfl⟩
abbrev main_call5_call0_v7 : Ref sig .tc := ⟨.hbm, 87, rfl⟩
abbrev main_call5_call0_v8 : Ref sig .tc := ⟨.hbm, 88, rfl⟩
abbrev main_call5_call0_c : Ref sig .tc := ⟨.hbm, 89, rfl⟩
abbrev main_call5_call0_v9 : Ref sig .tc := ⟨.hbm, 90, rfl⟩
abbrev main_call5_call0_v10 : Ref sig .tc := ⟨.hbm, 91, rfl⟩
abbrev main_call5_call0_c_0 : Ref sig .tc := ⟨.hbm, 92, rfl⟩
abbrev main_call5_call0_v11 : Ref sig .tc := ⟨.hbm, 93, rfl⟩
abbrev main_call5_call0_v12 : Ref sig .tc := ⟨.hbm, 94, rfl⟩
abbrev main_call5_call0_v13 : Ref sig .tc := ⟨.hbm, 95, rfl⟩
abbrev main_call5_call0_c_1 : Ref sig .tc := ⟨.hbm, 96, rfl⟩
abbrev main_call5_call0_v14 : Ref sig .tc := ⟨.hbm, 97, rfl⟩
abbrev main_call5_call0_v15 : Ref sig .tc := ⟨.hbm, 98, rfl⟩
abbrev main_call5_call0_v16 : Ref sig .tc := ⟨.hbm, 99, rfl⟩
abbrev main_call5_call0_v17 : Ref sig .tc := ⟨.hbm, 100, rfl⟩
abbrev main_call5_call0_call0_v0 : Ref sig .tc := ⟨.hbm, 101, rfl⟩
abbrev main_call5_call0_call0_c : Ref sig .tc := ⟨.hbm, 102, rfl⟩
abbrev main_call5_call0_call0_v1 : Ref sig .tc := ⟨.hbm, 103, rfl⟩
abbrev main_call5_call0_call0_v2 : Ref sig .tc := ⟨.hbm, 104, rfl⟩
abbrev main_call5_call0_call0_v3 : Ref sig .tc := ⟨.hbm, 105, rfl⟩
abbrev main_call5_call0_call0_v4 : Ref sig .tc := ⟨.hbm, 106, rfl⟩
abbrev main_call5_call0_call0_v5 : Ref sig .tc := ⟨.hbm, 107, rfl⟩
abbrev main_call5_call0_call0_v6 : Ref sig .tc := ⟨.hbm, 108, rfl⟩
abbrev main_call5_call0_call0_c_0 : Ref sig .tc := ⟨.hbm, 109, rfl⟩
abbrev main_call5_call0_call0_v7 : Ref sig .tc := ⟨.hbm, 110, rfl⟩
abbrev main_call5_call0_call0_v8 : Ref sig .tc := ⟨.hbm, 111, rfl⟩
abbrev main_call5_call0_call0_c_1 : Ref sig .tc := ⟨.hbm, 112, rfl⟩
abbrev main_call5_call0_call0_v9 : Ref sig .tc := ⟨.hbm, 113, rfl⟩
abbrev main_call5_call0_call0_v10 : Ref sig .tc := ⟨.hbm, 114, rfl⟩
abbrev main_call5_call0_call0_v11 : Ref sig .tc := ⟨.hbm, 115, rfl⟩
abbrev main_call5_call0_call0_v12 : Ref sig .tc := ⟨.hbm, 116, rfl⟩
abbrev main_call5_call0_call0_v13 : Ref sig .tc := ⟨.hbm, 117, rfl⟩
abbrev main_call5_call0_call0_c_2 : Ref sig .tc := ⟨.hbm, 118, rfl⟩
abbrev main_call5_call0_call0_v14 : Ref sig .tc := ⟨.hbm, 119, rfl⟩
abbrev main_call5_call0_call0_v15 : Ref sig .tc := ⟨.hbm, 120, rfl⟩
abbrev main_call5_call0_call0_c_3 : Ref sig .tc := ⟨.hbm, 121, rfl⟩
abbrev main_call5_call0_call0_v16 : Ref sig .tc := ⟨.hbm, 122, rfl⟩
abbrev main_call5_call0_call0_v17 : Ref sig .tc := ⟨.hbm, 123, rfl⟩
abbrev main_call5_call0_call0_v18 : Ref sig .tc := ⟨.hbm, 124, rfl⟩
abbrev main_call5_call0_call0_v19 : Ref sig .tc := ⟨.hbm, 125, rfl⟩
abbrev main_call5_call0_call0_v20 : Ref sig .tc := ⟨.hbm, 126, rfl⟩
abbrev main_call5_call0_call0_c_4 : Ref sig .tc := ⟨.hbm, 127, rfl⟩
abbrev main_call5_call0_call0_v21 : Ref sig .tc := ⟨.hbm, 128, rfl⟩
abbrev main_call5_call0_call0_v22 : Ref sig .tc := ⟨.hbm, 129, rfl⟩
abbrev main_call5_call0_call0_c_5 : Ref sig .tc := ⟨.hbm, 130, rfl⟩
abbrev main_call5_call0_call0_v23 : Ref sig .tc := ⟨.hbm, 131, rfl⟩
abbrev main_call5_call0_call0_v24 : Ref sig .tc := ⟨.hbm, 132, rfl⟩
abbrev main_call5_call0_call0_v25 : Ref sig .tc := ⟨.hbm, 133, rfl⟩
abbrev main_call5_call0_call0_v26 : Ref sig .tc := ⟨.hbm, 134, rfl⟩
abbrev main_call5_call0_call0_v27 : Ref sig .tc := ⟨.hbm, 135, rfl⟩
abbrev main_call5_call0_call0_c_6 : Ref sig .tc := ⟨.hbm, 136, rfl⟩
abbrev main_call5_call0_call0_v28 : Ref sig .tc := ⟨.hbm, 137, rfl⟩
abbrev main_call5_call0_call0_v29 : Ref sig .tc := ⟨.hbm, 138, rfl⟩
abbrev main_call5_call0_call0_c_7 : Ref sig .tc := ⟨.hbm, 139, rfl⟩
abbrev main_call5_call0_call0_v30 : Ref sig .tc := ⟨.hbm, 140, rfl⟩
abbrev main_call5_call0_call0_v31 : Ref sig .tc := ⟨.hbm, 141, rfl⟩
abbrev main_call5_call0_call0_v32 : Ref sig .tc := ⟨.hbm, 142, rfl⟩
abbrev main_call5_call0_call0_v33 : Ref sig .tc := ⟨.hbm, 143, rfl⟩
abbrev main_call5_call0_call0_v34 : Ref sig .tc := ⟨.hbm, 144, rfl⟩
abbrev main_call5_call0_call0_v35 : Ref sig .tc := ⟨.hbm, 145, rfl⟩
abbrev main_call5_call0_call0_v36 : Ref sig .tc := ⟨.hbm, 146, rfl⟩
abbrev main_call5_call0_call0_v37 : Ref sig .tc := ⟨.hbm, 147, rfl⟩
abbrev main_call5_call0_call0_c_8 : Ref sig .tc := ⟨.hbm, 148, rfl⟩
abbrev main_call5_call0_call0_v38 : Ref sig .tc := ⟨.hbm, 149, rfl⟩
abbrev main_call5_call0_call0_v39 : Ref sig .tc := ⟨.hbm, 150, rfl⟩
abbrev main_call5_call0_call0_v40 : Ref sig .tc := ⟨.hbm, 151, rfl⟩
abbrev main_call5_call0_call0_c_9 : Ref sig .tc := ⟨.hbm, 152, rfl⟩
abbrev main_call5_call0_call0_v41 : Ref sig .tc := ⟨.hbm, 153, rfl⟩
abbrev main_call5_call0_call0_v42 : Ref sig .tc := ⟨.hbm, 154, rfl⟩
abbrev main_call5_call0_call0_c_10 : Ref sig .tc := ⟨.hbm, 155, rfl⟩
abbrev main_call5_call0_call0_v43 : Ref sig .tc := ⟨.hbm, 156, rfl⟩
abbrev main_call5_call0_call0_v44 : Ref sig .tc := ⟨.hbm, 157, rfl⟩
abbrev main_call5_call0_call0_v45 : Ref sig .tc := ⟨.hbm, 158, rfl⟩
abbrev main_call5_call0_call0_v46 : Ref sig .tc := ⟨.hbm, 159, rfl⟩
abbrev main_call5_call0_call0_v47 : Ref sig .tc := ⟨.hbm, 160, rfl⟩
abbrev main_call5_call0_call0_c_11 : Ref sig .tc := ⟨.hbm, 161, rfl⟩
abbrev main_call5_call0_call0_v48 : Ref sig .tc := ⟨.hbm, 162, rfl⟩
abbrev main_call5_call0_call0_v49 : Ref sig .tc := ⟨.hbm, 163, rfl⟩
abbrev main_call5_call0_call0_c_12 : Ref sig .tc := ⟨.hbm, 164, rfl⟩
abbrev main_call5_call0_call0_v50 : Ref sig .tc := ⟨.hbm, 165, rfl⟩
abbrev main_call5_call0_call0_v51 : Ref sig .tc := ⟨.hbm, 166, rfl⟩
abbrev main_call5_call0_call0_v52 : Ref sig .tc := ⟨.hbm, 167, rfl⟩
abbrev main_call5_call0_call0_v53 : Ref sig .tc := ⟨.hbm, 168, rfl⟩
abbrev main_call5_call0_call0_v54 : Ref sig .tc := ⟨.hbm, 169, rfl⟩
abbrev main_call5_call0_call0_c_13 : Ref sig .tc := ⟨.hbm, 170, rfl⟩
abbrev main_call5_call0_call0_v55 : Ref sig .tc := ⟨.hbm, 171, rfl⟩
abbrev main_call5_call0_call0_v56 : Ref sig .tc := ⟨.hbm, 172, rfl⟩
abbrev main_call5_call0_call0_c_14 : Ref sig .tc := ⟨.hbm, 173, rfl⟩
abbrev main_call5_call0_call0_v57 : Ref sig .tc := ⟨.hbm, 174, rfl⟩
abbrev main_call5_call0_call0_v58 : Ref sig .tc := ⟨.hbm, 175, rfl⟩
abbrev main_call5_call0_call0_v59 : Ref sig .tc := ⟨.hbm, 176, rfl⟩
abbrev main_call5_call0_call0_v60 : Ref sig .tc := ⟨.hbm, 177, rfl⟩
abbrev main_call5_call0_call0_v61 : Ref sig .tc := ⟨.hbm, 178, rfl⟩
abbrev main_call5_call0_call0_c_15 : Ref sig .tc := ⟨.hbm, 179, rfl⟩
abbrev main_call5_call0_call0_v62 : Ref sig .tc := ⟨.hbm, 180, rfl⟩
abbrev main_call5_call0_call0_v63 : Ref sig .tc := ⟨.hbm, 181, rfl⟩
abbrev main_call5_call0_call0_c_16 : Ref sig .tc := ⟨.hbm, 182, rfl⟩
abbrev main_call5_call0_call0_v64 : Ref sig .tc := ⟨.hbm, 183, rfl⟩
abbrev main_call5_call0_call0_v65 : Ref sig .tc := ⟨.hbm, 184, rfl⟩
abbrev main_call5_call0_call0_v66 : Ref sig .tc := ⟨.hbm, 185, rfl⟩
abbrev main_call5_call0_call0_v67 : Ref sig .tc := ⟨.hbm, 186, rfl⟩
abbrev main_call5_call0_call0_v68 : Ref sig .tc := ⟨.hbm, 187, rfl⟩
abbrev main_call5_call0_call0_v69 : Ref sig .tc := ⟨.hbm, 188, rfl⟩
abbrev main_call5_call0_call0_v70 : Ref sig .tc := ⟨.hbm, 189, rfl⟩
abbrev main_call5_call0_call0_v71 : Ref sig .tc := ⟨.hbm, 190, rfl⟩
abbrev main_call5_call0_call0_c_17 : Ref sig .tc := ⟨.hbm, 191, rfl⟩
abbrev main_call5_call0_call0_v72 : Ref sig .tc := ⟨.hbm, 192, rfl⟩
abbrev main_call5_call0_call0_v73 : Ref sig .tc := ⟨.hbm, 193, rfl⟩
abbrev main_call5_call0_call0_v74 : Ref sig .tc := ⟨.hbm, 194, rfl⟩
abbrev main_call5_call0_call0_c_18 : Ref sig .tc := ⟨.hbm, 195, rfl⟩
abbrev main_call5_call0_call0_v75 : Ref sig .tc := ⟨.hbm, 196, rfl⟩
abbrev main_call5_call0_call0_v76 : Ref sig .tc := ⟨.hbm, 197, rfl⟩
abbrev main_call5_call0_call0_c_19 : Ref sig .tc := ⟨.hbm, 198, rfl⟩
abbrev main_call5_call0_call0_v77 : Ref sig .tc := ⟨.hbm, 199, rfl⟩
abbrev main_call5_call0_call0_v78 : Ref sig .tc := ⟨.hbm, 200, rfl⟩
abbrev main_call5_call0_call0_v79 : Ref sig .tc := ⟨.hbm, 201, rfl⟩
abbrev main_call5_call0_call0_v80 : Ref sig .tc := ⟨.hbm, 202, rfl⟩
abbrev main_call5_call0_call0_v81 : Ref sig .tc := ⟨.hbm, 203, rfl⟩
abbrev main_call5_call0_call0_c_20 : Ref sig .tc := ⟨.hbm, 204, rfl⟩
abbrev main_call5_call0_call0_v82 : Ref sig .tc := ⟨.hbm, 205, rfl⟩
abbrev main_call5_call0_call0_v83 : Ref sig .tc := ⟨.hbm, 206, rfl⟩
abbrev main_call5_call0_call0_c_21 : Ref sig .tc := ⟨.hbm, 207, rfl⟩
abbrev main_call5_call0_call0_v84 : Ref sig .tc := ⟨.hbm, 208, rfl⟩
abbrev main_call5_call0_call0_v85 : Ref sig .tc := ⟨.hbm, 209, rfl⟩
abbrev main_call5_call0_call0_v86 : Ref sig .tc := ⟨.hbm, 210, rfl⟩
abbrev main_call5_call0_call0_v87 : Ref sig .tc := ⟨.hbm, 211, rfl⟩
abbrev main_call5_call0_call0_v88 : Ref sig .tc := ⟨.hbm, 212, rfl⟩
abbrev main_call5_call0_call0_c_22 : Ref sig .tc := ⟨.hbm, 213, rfl⟩
abbrev main_call5_call0_call0_v89 : Ref sig .tc := ⟨.hbm, 214, rfl⟩
abbrev main_call5_call0_call0_v90 : Ref sig .tc := ⟨.hbm, 215, rfl⟩
abbrev main_call5_call0_call0_c_23 : Ref sig .tc := ⟨.hbm, 216, rfl⟩
abbrev main_call5_call0_call0_v91 : Ref sig .tc := ⟨.hbm, 217, rfl⟩
abbrev main_call5_call0_call0_v92 : Ref sig .tc := ⟨.hbm, 218, rfl⟩
abbrev main_call5_call0_call0_v93 : Ref sig .tc := ⟨.hbm, 219, rfl⟩
abbrev main_call5_call0_call0_v94 : Ref sig .tc := ⟨.hbm, 220, rfl⟩
abbrev main_call5_call0_call0_v95 : Ref sig .tc := ⟨.hbm, 221, rfl⟩
abbrev main_call5_call0_call0_c_24 : Ref sig .tc := ⟨.hbm, 222, rfl⟩
abbrev main_call5_call0_call0_v96 : Ref sig .tc := ⟨.hbm, 223, rfl⟩
abbrev main_call5_call0_call0_v97 : Ref sig .tc := ⟨.hbm, 224, rfl⟩
abbrev main_call5_call0_call0_c_25 : Ref sig .tc := ⟨.hbm, 225, rfl⟩
abbrev main_call5_call0_call0_v98 : Ref sig .tc := ⟨.hbm, 226, rfl⟩
abbrev main_call5_call0_call0_v99 : Ref sig .tc := ⟨.hbm, 227, rfl⟩
abbrev main_call5_call0_call0_v100 : Ref sig .tc := ⟨.hbm, 228, rfl⟩
abbrev main_call5_call0_call0_v101 : Ref sig .tc := ⟨.hbm, 229, rfl⟩
abbrev main_call5_call0_call0_v102 : Ref sig .tc := ⟨.hbm, 230, rfl⟩
abbrev main_call5_call0_call0_v103 : Ref sig .tc := ⟨.hbm, 231, rfl⟩
abbrev main_call5_call0_call0_v104 : Ref sig .tc := ⟨.hbm, 232, rfl⟩
abbrev main_call5_call0_call0_v105 : Ref sig .tc := ⟨.hbm, 233, rfl⟩
abbrev main_call5_call0_call0_c_26 : Ref sig .tc := ⟨.hbm, 234, rfl⟩
abbrev main_call5_call0_call0_v106 : Ref sig .tc := ⟨.hbm, 235, rfl⟩
abbrev main_call5_call0_call0_v107 : Ref sig .tc := ⟨.hbm, 236, rfl⟩
abbrev main_call5_call0_call0_v108 : Ref sig .tc := ⟨.hbm, 237, rfl⟩
abbrev main_call5_call0_call0_c_27 : Ref sig .tc := ⟨.hbm, 238, rfl⟩
abbrev main_call5_call0_call0_v109 : Ref sig .tc := ⟨.hbm, 239, rfl⟩
abbrev main_call5_call0_call0_v110 : Ref sig .tc := ⟨.hbm, 240, rfl⟩
abbrev main_call5_call0_call0_c_28 : Ref sig .tc := ⟨.hbm, 241, rfl⟩
abbrev main_call5_call0_call0_v111 : Ref sig .tc := ⟨.hbm, 242, rfl⟩
abbrev main_call5_call0_call0_v112 : Ref sig .tc := ⟨.hbm, 243, rfl⟩
abbrev main_call5_call0_call0_v113 : Ref sig .tc := ⟨.hbm, 244, rfl⟩
abbrev main_call5_call0_call0_v114 : Ref sig .tc := ⟨.hbm, 245, rfl⟩
abbrev main_call5_call0_call0_v115 : Ref sig .tc := ⟨.hbm, 246, rfl⟩
abbrev main_call5_call0_call0_c_29 : Ref sig .tc := ⟨.hbm, 247, rfl⟩
abbrev main_call5_call0_call0_v116 : Ref sig .tc := ⟨.hbm, 248, rfl⟩
abbrev main_call5_call0_call0_v117 : Ref sig .tc := ⟨.hbm, 249, rfl⟩
abbrev main_call5_call0_call0_c_30 : Ref sig .tc := ⟨.hbm, 250, rfl⟩
abbrev main_call5_call0_call0_v118 : Ref sig .tc := ⟨.hbm, 251, rfl⟩
abbrev main_call5_call0_call0_v119 : Ref sig .tc := ⟨.hbm, 252, rfl⟩
abbrev main_call5_call0_call0_v120 : Ref sig .tc := ⟨.hbm, 253, rfl⟩
abbrev main_call5_call0_call0_v121 : Ref sig .tc := ⟨.hbm, 254, rfl⟩
abbrev main_call5_call0_call0_v122 : Ref sig .tc := ⟨.hbm, 255, rfl⟩
abbrev main_call5_call0_call0_c_31 : Ref sig .tc := ⟨.hbm, 256, rfl⟩
abbrev main_call5_call0_call0_v123 : Ref sig .tc := ⟨.hbm, 257, rfl⟩
abbrev main_call5_call0_call0_v124 : Ref sig .tc := ⟨.hbm, 258, rfl⟩
abbrev main_call5_call0_call0_c_32 : Ref sig .tc := ⟨.hbm, 259, rfl⟩
abbrev main_call5_call0_call0_v125 : Ref sig .tc := ⟨.hbm, 260, rfl⟩
abbrev main_call5_call0_call0_v126 : Ref sig .tc := ⟨.hbm, 261, rfl⟩
abbrev main_call5_call0_call0_v127 : Ref sig .tc := ⟨.hbm, 262, rfl⟩
abbrev main_call5_call0_call0_v128 : Ref sig .tc := ⟨.hbm, 263, rfl⟩
abbrev main_call5_call0_call0_v129 : Ref sig .tc := ⟨.hbm, 264, rfl⟩
abbrev main_call5_call0_call0_c_33 : Ref sig .tc := ⟨.hbm, 265, rfl⟩
abbrev main_call5_call0_call0_v130 : Ref sig .tc := ⟨.hbm, 266, rfl⟩
abbrev main_call5_call0_call0_v131 : Ref sig .tc := ⟨.hbm, 267, rfl⟩
abbrev main_call5_call0_call0_c_34 : Ref sig .tc := ⟨.hbm, 268, rfl⟩
abbrev main_call5_call0_call0_v132 : Ref sig .tc := ⟨.hbm, 269, rfl⟩
abbrev main_call5_call0_call0_v133 : Ref sig .tc := ⟨.hbm, 270, rfl⟩
abbrev main_call5_call0_call0_v134 : Ref sig .tc := ⟨.hbm, 271, rfl⟩
abbrev main_call5_call0_call0_v135 : Ref sig .tc := ⟨.hbm, 272, rfl⟩
abbrev main_call5_call0_call0_v136 : Ref sig .tc := ⟨.hbm, 273, rfl⟩
abbrev main_call5_call0_call0_v137 : Ref sig .tc := ⟨.hbm, 274, rfl⟩
abbrev main_call5_call0_call0_v138 : Ref sig .tc := ⟨.hbm, 275, rfl⟩
abbrev main_call5_call0_call0_v139 : Ref sig .tc := ⟨.hbm, 276, rfl⟩
abbrev main_call5_call0_call0_c_35 : Ref sig .tc := ⟨.hbm, 277, rfl⟩
abbrev main_call5_call0_call0_v140 : Ref sig .tc := ⟨.hbm, 278, rfl⟩
abbrev main_call5_call0_call0_v141 : Ref sig .tc := ⟨.hbm, 279, rfl⟩
abbrev main_call5_call0_call0_v142 : Ref sig .tc := ⟨.hbm, 280, rfl⟩
abbrev main_call5_call0_call0_c_36 : Ref sig .tc := ⟨.hbm, 281, rfl⟩
abbrev main_call5_call0_call0_v143 : Ref sig .tc := ⟨.hbm, 282, rfl⟩
abbrev main_call5_call0_call0_v144 : Ref sig .tc := ⟨.hbm, 283, rfl⟩
abbrev main_call5_call0_call0_c_37 : Ref sig .tc := ⟨.hbm, 284, rfl⟩
abbrev main_call5_call0_call0_v145 : Ref sig .tc := ⟨.hbm, 285, rfl⟩
abbrev main_call5_call0_call0_v146 : Ref sig .tc := ⟨.hbm, 286, rfl⟩
abbrev main_call5_call0_call0_v147 : Ref sig .tc := ⟨.hbm, 287, rfl⟩
abbrev main_call5_call0_call0_v148 : Ref sig .tc := ⟨.hbm, 288, rfl⟩
abbrev main_call5_call0_call0_v149 : Ref sig .tc := ⟨.hbm, 289, rfl⟩
abbrev main_call5_call0_call0_c_38 : Ref sig .tc := ⟨.hbm, 290, rfl⟩
abbrev main_call5_call0_call0_v150 : Ref sig .tc := ⟨.hbm, 291, rfl⟩
abbrev main_call5_call0_call0_v151 : Ref sig .tc := ⟨.hbm, 292, rfl⟩
abbrev main_call5_call0_call0_c_39 : Ref sig .tc := ⟨.hbm, 293, rfl⟩
abbrev main_call5_call0_call0_v152 : Ref sig .tc := ⟨.hbm, 294, rfl⟩
abbrev main_call5_call0_call0_v153 : Ref sig .tc := ⟨.hbm, 295, rfl⟩
abbrev main_call5_call0_call0_v154 : Ref sig .tc := ⟨.hbm, 296, rfl⟩
abbrev main_call5_call0_call0_v155 : Ref sig .tc := ⟨.hbm, 297, rfl⟩
abbrev main_call5_call0_call0_v156 : Ref sig .tc := ⟨.hbm, 298, rfl⟩
abbrev main_call5_call0_call0_c_40 : Ref sig .tc := ⟨.hbm, 299, rfl⟩
abbrev main_call5_call0_call0_v157 : Ref sig .tc := ⟨.hbm, 300, rfl⟩
abbrev main_call5_call0_call0_v158 : Ref sig .tc := ⟨.hbm, 301, rfl⟩
abbrev main_call5_call0_call0_c_41 : Ref sig .tc := ⟨.hbm, 302, rfl⟩
abbrev main_call5_call0_call0_v159 : Ref sig .tc := ⟨.hbm, 303, rfl⟩
abbrev main_call5_call0_call0_v160 : Ref sig .tc := ⟨.hbm, 304, rfl⟩
abbrev main_call5_call0_call0_v161 : Ref sig .tc := ⟨.hbm, 305, rfl⟩
abbrev main_call5_call0_call0_v162 : Ref sig .tc := ⟨.hbm, 306, rfl⟩
abbrev main_call5_call0_call0_v163 : Ref sig .tc := ⟨.hbm, 307, rfl⟩
abbrev main_call5_call0_call0_c_42 : Ref sig .tc := ⟨.hbm, 308, rfl⟩
abbrev main_call5_call0_call0_v164 : Ref sig .tc := ⟨.hbm, 309, rfl⟩
abbrev main_call5_call0_call0_v165 : Ref sig .tc := ⟨.hbm, 310, rfl⟩
abbrev main_call5_call0_call0_c_43 : Ref sig .tc := ⟨.hbm, 311, rfl⟩
abbrev main_call5_call0_call0_v166 : Ref sig .tc := ⟨.hbm, 312, rfl⟩
abbrev main_call5_call0_call0_v167 : Ref sig .tc := ⟨.hbm, 313, rfl⟩
abbrev main_call5_call0_call0_v168 : Ref sig .tc := ⟨.hbm, 314, rfl⟩
abbrev main_call5_call0_call0_v169 : Ref sig .tc := ⟨.hbm, 315, rfl⟩
abbrev main_call5_call0_call0_v170 : Ref sig .tc := ⟨.hbm, 316, rfl⟩
abbrev main_call5_call0_v18_0 : Ref sig .tc := ⟨.hbm, 317, rfl⟩
abbrev main_call5_call0_call0_v172 : Ref sig .tc := ⟨.hbm, 318, rfl⟩
abbrev main_call5_call0_call0_v173 : Ref sig .tc := ⟨.hbm, 319, rfl⟩
abbrev main_call5_call0_call0_c_44 : Ref sig .tc := ⟨.hbm, 320, rfl⟩
abbrev main_call5_call0_call0_v174 : Ref sig .tc := ⟨.hbm, 321, rfl⟩
abbrev main_call5_call0_v18_1 : Ref sig .tc := ⟨.hbm, 322, rfl⟩
abbrev main_call5_call0_v19 : Ref sig .tc := ⟨.hbm, 323, rfl⟩
abbrev main_call5_call0_c_2 : Ref sig .tc := ⟨.hbm, 324, rfl⟩
abbrev main_call5_call0_v20 : Ref sig .tc := ⟨.hbm, 325, rfl⟩
abbrev main_call5_call0_v21 : Ref sig .tc := ⟨.hbm, 326, rfl⟩
abbrev main_call5_call0_c_3 : Ref sig .tc := ⟨.hbm, 327, rfl⟩
abbrev main_call5_call0_v22 : Ref sig .tc := ⟨.hbm, 328, rfl⟩
abbrev main_call5_call0_v23 : Ref sig .tc := ⟨.hbm, 329, rfl⟩
abbrev main_call5_call0_v24 : Ref sig .tc := ⟨.hbm, 330, rfl⟩
abbrev main_call5_call0_cst : Ref sig .tc := ⟨.hbm, 331, rfl⟩
abbrev main_call5_call0_v25 : Ref sig .tc := ⟨.hbm, 332, rfl⟩
abbrev main_call5_call0_v26 : Ref sig .tc := ⟨.hbm, 333, rfl⟩
abbrev main_call5_call0_v27 : Ref sig .tc := ⟨.hbm, 334, rfl⟩
abbrev main_call5_call0_v28 : Ref sig .tc := ⟨.hbm, 335, rfl⟩
abbrev main_call5_call0_v29 : Ref sig .tc := ⟨.hbm, 336, rfl⟩
abbrev main_call5_call0_v30 : Ref sig .tc := ⟨.hbm, 337, rfl⟩
abbrev main_call5_call0_v31 : Ref sig .tc := ⟨.hbm, 338, rfl⟩
abbrev main_call5_call0_v32 : Ref sig .tc := ⟨.hbm, 339, rfl⟩
abbrev main_call5_v0 : Ref sig .tc := ⟨.hbm, 340, rfl⟩
abbrev main_call5_v1 : Ref sig .tc := ⟨.hbm, 341, rfl⟩
abbrev main_call5_v2 : Ref sig .tc := ⟨.hbm, 342, rfl⟩
abbrev main_call5_v3 : Ref sig .tc := ⟨.hbm, 343, rfl⟩
abbrev main_v35 : Ref sig .tc := ⟨.hbm, 344, rfl⟩
abbrev main_v36 : Ref sig .tc := ⟨.hbm, 345, rfl⟩
abbrev main_call6_v0 : Ref sig .tc := ⟨.hbm, 346, rfl⟩
abbrev main_call6_cst : Ref sig .tc := ⟨.hbm, 347, rfl⟩
abbrev main_call6_c : Ref sig .tc := ⟨.hbm, 348, rfl⟩
abbrev main_call6_v1_0 : Ref sig .tc := ⟨.hbm, 349, rfl⟩
abbrev main_v37 : Ref sig .tc := ⟨.hbm, 350, rfl⟩
abbrev main_v38 : Ref sig .tc := ⟨.hbm, 351, rfl⟩
abbrev main_call7_c : Ref sig .tc := ⟨.hbm, 352, rfl⟩
abbrev main_call7_v0 : Ref sig .tc := ⟨.hbm, 353, rfl⟩
abbrev main_call7_v1 : Ref sig .tc := ⟨.hbm, 354, rfl⟩
abbrev main_call7_c_0 : Ref sig .tc := ⟨.hbm, 355, rfl⟩
abbrev main_call7_v2 : Ref sig .tc := ⟨.hbm, 356, rfl⟩
abbrev main_call7_v3 : Ref sig .tc := ⟨.hbm, 357, rfl⟩
abbrev main_call7_v4 : Ref sig .tc := ⟨.hbm, 358, rfl⟩
abbrev main_call7_c_1 : Ref sig .tc := ⟨.hbm, 359, rfl⟩
abbrev main_call7_c_2 : Ref sig .tc := ⟨.hbm, 360, rfl⟩
abbrev main_call7_v5 : Ref sig .tc := ⟨.hbm, 361, rfl⟩
abbrev main_call7_v6 : Ref sig .tc := ⟨.hbm, 362, rfl⟩
abbrev main_call7_v7 : Ref sig .tc := ⟨.hbm, 363, rfl⟩
abbrev main_call7_v8 : Ref sig .tc := ⟨.hbm, 364, rfl⟩
abbrev main_call7_v9 : Ref sig .tc := ⟨.hbm, 365, rfl⟩
abbrev main_call7_c_3 : Ref sig .tc := ⟨.hbm, 366, rfl⟩
abbrev main_call7_v10 : Ref sig .tc := ⟨.hbm, 367, rfl⟩
abbrev main_call7_v11 : Ref sig .tc := ⟨.hbm, 368, rfl⟩
abbrev main_call7_v12 : Ref sig .tc := ⟨.hbm, 369, rfl⟩
abbrev main_call7_c_4 : Ref sig .tc := ⟨.hbm, 370, rfl⟩
abbrev main_call7_v13 : Ref sig .tc := ⟨.hbm, 371, rfl⟩
abbrev main_v39 : Ref sig .tc := ⟨.hbm, 372, rfl⟩
abbrev main_v40 : Ref sig .tc := ⟨.hbm, 373, rfl⟩

abbrev nD : Nat := 1
abbrev τ : Topo := Topo.v7x

variable {F : FTy → Type} [FloatOps F]
-- ==== Kernel2.lean ====
abbrev S1x1000000 : Shape := ⟨2, ![1, 1000000]⟩
abbrev S1 : Shape := ⟨1, ![1]⟩
abbrev S_ : Shape := ⟨0, ![]⟩
abbrev S1x1048576 : Shape := ⟨2, ![1, 1048576]⟩
abbrev S8192x128 : Shape := ⟨2, ![8192, 128]⟩
abbrev S1024x128 : Shape := ⟨2, ![1024, 128]⟩
abbrev S2 : Shape := ⟨1, ![2]⟩
abbrev S1x1024x128 : Shape := ⟨3, ![1, 1024, 128]⟩
abbrev S1x1x1 : Shape := ⟨3, ![1, 1, 1]⟩

abbrev nBuf : Space → Nat
  | .hbm => 8
  | .vmem => 4
  | .smem => 2
  | _ => 0

abbrev bufTy : (tb : Table) → Fin (tcTables nBuf tb) → BufTy
  | .hbm, ⟨0, _⟩ => ⟨S1x1000000, .f32⟩
  | .hbm, ⟨1, _⟩ => ⟨S1, .f32⟩
  | .hbm, ⟨2, _⟩ => ⟨S_, .f32⟩
  | .hbm, ⟨3, _⟩ => ⟨S1x1048576, .f32⟩
  | .hbm, ⟨4, _⟩ => ⟨S8192x128, .f32⟩
  | .hbm, ⟨5, _⟩ => ⟨S8192x128, .f32⟩
  | .hbm, ⟨6, _⟩ => ⟨S1x1048576, .f32⟩
  | .hbm, ⟨7, _⟩ => ⟨S1x1000000, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .smem, ⟨0, _⟩ => ⟨S1, .f32⟩
  | .local _ .smem, ⟨1, _⟩ => ⟨S2, .f32⟩
  | _, _ => ⟨S1x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_stg0_0 : Ref sig .tc := ⟨.smem, 0, rfl⟩
abbrev cc1_scratch0 : Ref sig .tc := ⟨.smem, 1, rfl⟩
abbrev cc0_sem0_0 : DmaSem sig := 0
abbrev cc1_sem0_0 : DmaSem sig := 1
abbrev cc1_sem0_1 : DmaSem sig := 2
abbrev cc1_sem1_0 : DmaSem sig := 3
abbrev cc1_sem1_1 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨1, ![24], ![false]⟩

def k1_cond4 (i : grid1.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c2_i32 : BitVec 32 := 2#32
  let v28 : BitVec 1 := Scalar.cmpi .eq v16 c2_i32
  let v29 : BitVec 32 := Scalar.extui v28
  let c0_i32_11 : BitVec 32 := 0#32
  let v30 : BitVec 1 := Scalar.cmpi .ne v29 c0_i32_11
  v30

def cc1_transform_0 (i : grid1.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_1 (i : grid1.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 1 := Scalar.cmpi .slt v16 c2_i32
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let v28 : BitVec 32 := Scalar.select v17 c0_i32_10 v27
  let c0_i32_11 : BitVec 32 := 0#32
  let c0_i32_12 : BitVec 32 := 0#32
  ![v28.toNat, c0_i32_11.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Kernel2Ideal.lean ====
variable {F : FTy → Type} [FloatOps F] [Named F]
def κ : String → Option EReal := fun
  | "mask" => some ⊥
  | _ => none
-- ==== Reference2Ideal.lean ====
abbrev S1x1000000 : Shape := ⟨2, ![1, 1000000]⟩
abbrev S_ : Shape := ⟨0, ![]⟩
abbrev S1 : Shape := ⟨1, ![1]⟩
abbrev S1x1 : Shape := ⟨2, ![1, 1]⟩

abbrev nBuf : Space → Nat
  | .hbm => 18
  | .vmem => 0
  | .smem => 0
  | _ => 0

abbrev bufTy : (tb : Table) → Fin (tcTables nBuf tb) → BufTy
  | .hbm, ⟨0, _⟩ => ⟨S1x1000000, .f32⟩
  | .hbm, ⟨1, _⟩ => ⟨S_, .f32⟩
  | .hbm, ⟨2, _⟩ => ⟨S1x1000000, .f32⟩
  | .hbm, ⟨3, _⟩ => ⟨S1x1000000, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1x1, .f32⟩
  | .hbm, ⟨10, _⟩ => ⟨S1x1000000, .f32⟩
  | .hbm, ⟨11, _⟩ => ⟨S1x1000000, .f32⟩
  | .hbm, ⟨12, _⟩ => ⟨S1x1000000, .f32⟩
  | .hbm, ⟨13, _⟩ => ⟨S_, .f32⟩
  | .hbm, ⟨14, _⟩ => ⟨S1, .f32⟩
  | .hbm, ⟨15, _⟩ => ⟨S1x1, .f32⟩
  | .hbm, ⟨16, _⟩ => ⟨S1x1000000, .f32⟩
  | .hbm, ⟨17, _⟩ => ⟨S1x1000000, .f32⟩
  | _, _ => ⟨S1x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Cells.lean ====
/-
  Short rank-one buffers held word by word: the contents after a store of one word, and what a load of one word reads.
-/
module

public import Idealize.ShloMosaic.Lib.CellWrites
public import Idealize.ShloMosaic.Lib.Tactic

@[expose] public section

noncomputable section

namespace Cert.Proof.Cells

open Idealize.ShloMosaic

variable {α : Type}

/-- The contents `s` of a rank-one buffer with the word at position `k` replaced by `v`. -/
def put {d : Fin 1 → ℕ} (s : (⟨1, d⟩ : Shape).Idx → α) (k : ℕ) (v : α) : (⟨1, d⟩ : Shape).Idx → α :=
  fun y => if (y 0).val = k then v else s y

/-- The position `k` of a rank-one buffer. -/
abbrev at1 {n : ℕ} (k : ℕ) (h : k < n := by decide) : (⟨1, ![n]⟩ : Shape).Idx := fun a => ⟨k, by fin_cases a; exact h⟩

theorem put_at_eq {n : ℕ} (s : (⟨1, ![n]⟩ : Shape).Idx → α) (k : ℕ) (h : k < n) (v : α) : put s k v (at1 k h) = v := if_pos rfl

theorem put_at_ne {n : ℕ} (s : (⟨1, ![n]⟩ : Shape).Idx → α) (k j : ℕ) (h : j < n) (hne : j ≠ k) (v : α) :
    put s k v (at1 j h) = s (at1 j h) := if_neg hne

variable {sig : RefSig} {κ : Kind} {sp : Space} {e : EltTy} {Val : EltTy → Type}

/-- A store of one word, read back, is `put`. -/
theorem read_writes_put {d : Fin 1 → ℕ} (v : View sig κ sp (⟨1, d⟩ : Shape) e) (f : v.ty.Contents Val)
    {off : Fin 1 → ℕ} (inb : ∀ a, off a + (![1] : Fin 1 → ℕ) a ≤ (⟨1, d⟩ : Shape).size a)
    (p : Val e) (L : List (View.Piece Val (⟨1, d⟩ : Shape) e)) :
    v.read Val (v.writes Val f ((⟨Rect.unit off ![1] inb, fun _ => p⟩ : View.Piece Val (⟨1, d⟩ : Shape) e) :: L))
      = put (v.read Val (v.writes Val f L)) (off 0) p := by
  funext y
  rw [View.read_writes_cons_cell]
  rfl

/-- A load of one word reads the contents there. -/
theorem readAt_at {n : ℕ} (v : View sig κ sp (⟨1, ![n]⟩ : Shape) e) (f : v.ty.Contents Val)
    {off : Fin 1 → ℕ} (inb : ∀ a, off a + (![1] : Fin 1 → ℕ) a ≤ (⟨1, ![n]⟩ : Shape).size a) (h0 : off 0 < n)
    (hp : 0 < (Rect.unit (s := ⟨1, ![n]⟩) off ![1] inb).toLoadRect.shape.numel) :
    View.readAt Val v (Rect.unit (s := ⟨1, ![n]⟩) off ![1] inb).toLoadRect f (Shape.Idx.first hp)
      = v.read Val f (at1 (off 0) h0) := by
  rw [View.readAt_apply]
  congr 1; funext a; apply Fin.ext
  have : a = 0 := Subsingleton.elim _ _
  subst this
  show off 0 + 1 * 0 = off 0
  omega

end Cert.Proof.Cells

end
-- ==== Proof.K.Head.lean ====
/-
  What the kernel calls share: the word the kernel masks with, and the index of a core's resources.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Regions
public import proofs.«01_k».proof.Proof.Cells
public import Idealize.ShloMosaic.Lib.Tactic

@[expose] public section

noncomputable section

namespace Cert.Kernel.Hand

open Idealize.ShloMosaic

variable {F : FTy → Type} [FloatOps F]

/-- The word the kernel masks with. -/
def maskWord : F .f32 := Scalar.ofBits .f32 0xF149F2CA#32

/-- The zero word. -/
def zeroWord : F .f32 := Scalar.ofBits .f32 0x00000000#32

end Cert.Kernel.Hand

end
-- ==== Proof.KI.Head.lean ====
/-
  What the kernel calls share: the word the kernel masks with, and the index of a core's resources.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Cells
public import Idealize.ShloMosaic.Lib.Tactic

@[expose] public section

noncomputable section

namespace Cert.KernelIdeal.Hand

open Idealize.ShloMosaic

variable {F : FTy → Type} [FloatOps F] [Named F]

/-- The word the kernel masks with. -/
def maskWord : F .f32 := Named.named κ "mask" 0xF149F2CA#32

/-- The zero word. -/
def zeroWord : F .f32 := Scalar.ofBits .f32 0x00000000#32

end Cert.KernelIdeal.Hand

end
-- ==== Proof.KI.SoftmaxRun.lean ====
/-
  The softmax kernel's body at one grid point. Its two words of scratch carry the running maximum (word 0) and the
  running sum of exponentials (word 1); 24 points make three sweeps of the eight blocks: the maximum, the sum, the
  quotients. Here: what the scratch holds after a point, from what it held before and the point's block.
-/
module

public import proofs.«01_k».proof.Proof.KI.Head
public import Idealize.ShloMosaic.Lib.VecWindow

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The sweep a point of the softmax grid belongs to, as the body computes it. -/
abbrev sweep1 (i : grid1.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 8#32 0#32)) (Scalar.extui (Scalar.cmpi .slt 8#32 0#32)))) (Scalar.cmpi .ne (Scalar.remsi (BitVec.ofNat 32 (i 0).val) 8#32) 0#32)) (Scalar.subi (Scalar.divsi (BitVec.ofNat 32 (i 0).val) 8#32) 1#32) (Scalar.divsi (BitVec.ofNat 32 (i 0).val) 8#32)

/-- The body's four conditions. -/
abbrev first1 (i : grid1.Coords) : Prop := Scalar.cmpi .ne (Scalar.extui (Scalar.cmpi .eq (BitVec.ofNat 32 (i 0).val) 0#32)) 0#32 = 1#1
abbrev max1 (i : grid1.Coords) : Prop := Scalar.cmpi .ne (Scalar.extui (Scalar.cmpi .eq (sweep1 i) 0#32)) 0#32 = 1#1
abbrev sum1 (i : grid1.Coords) : Prop := Scalar.cmpi .ne (Scalar.extui (Scalar.cmpi .eq (sweep1 i) 1#32)) 0#32 = 1#1
abbrev quo1 (i : grid1.Coords) : Prop := k1_cond4 i = 1#1

theorem first1_iff : ∀ t : Fin cfg1.N, first1 (grid1.coords t) ↔ t.val = 0 :=
  (by decide +kernel : ∀ t : Fin grid1.N, first1 (grid1.coords t) ↔ t.val = 0)
theorem max1_iff : ∀ t : Fin cfg1.N, max1 (grid1.coords t) ↔ t.val < 8 :=
  (by decide +kernel : ∀ t : Fin grid1.N, max1 (grid1.coords t) ↔ t.val < 8)
theorem sum1_iff : ∀ t : Fin cfg1.N, sum1 (grid1.coords t) ↔ (8 ≤ t.val ∧ t.val < 16) :=
  (by decide +kernel : ∀ t : Fin grid1.N, sum1 (grid1.coords t) ↔ (8 ≤ t.val ∧ t.val < 16))
theorem quo1_iff : ∀ t : Fin cfg1.N, quo1 (grid1.coords t) ↔ 16 ≤ t.val :=
  (by decide +kernel : ∀ t : Fin grid1.N, quo1 (grid1.coords t) ↔ 16 ≤ t.val)

/-- A load of a whole block reads the block. -/
theorem load_block {κ : Kind} {sp : Space} (M : Memref sig κ sp S1024x128 .f32) (hM : M.IsWhole) (x : Vec F S1024x128 .f32)
    (inb : ∀ a, (![0, 0] : Fin 2 → ℕ) a + S1024x128.size a ≤ S1024x128.size a) :
    View.readAt (Elt F) M.view (Rect.unit (s := S1024x128) ![0, 0] S1024x128.size inb).toLoadRect (hM.unread x) = x :=
  (View.readAt_full M.view _ inb).trans (hM.read_unread x)

set_option maxHeartbeats 1000000 in
/-- The first point: the two words are initialised, then the first block's maximum is taken in. -/
theorem run1_first (c : Dev nD) (i : grid1.Coords) (arg1 : Memref sig .tc .vmem S1024x128 .f32) (harg1 : arg1.IsWhole) (arg2 : Memref sig .tc .vmem S1024x128 .f32) (harg2 : arg2.IsWhole) (arg3 : Memref sig .tc .smem S2 .f32) (harg3 : arg3.IsWhole)
    (hc0 : first1 i) (hc1 : max1 i) (hc2 : ¬sum1 i) (hc3 : ¬quo1 i)
    (x : Vec F S1024x128 .f32) (s : Vec F S2 .f32) (E : Set ℕ) (K : PUnit → sProp 𝕄) :
    iprop(owns (c : Thread nD τ) arg1 fullShare x ∗ owns (c : Thread nD τ) arg3 fullShare s
        ∗ (iprop(owns (c : Thread nD τ) arg1 fullShare x ∗ owns (c : Thread nD τ) arg3 fullShare (put (put (put s 0 maskWord) 1 zeroWord) 0 (k1_pay2 x maskWord))) -∗ K ⟨⟩))
      ⊢ wp frame (wpE (defs₀ (F := F)) Variants.none c none) E (cc1__softmax_kernel i arg1 harg1 arg2 harg2 arg3 harg3) K := by
  simp only [cc1__softmax_kernel_eq_skeleton]; unfold cc1__softmax_kernel_skel
  unfold owns
  iintro ⟨⟨%f0, %hf0, H0⟩, ⟨%fs, %hs, HS⟩, Hk⟩
  obtain rfl := harg1.eq_unread hf0; obtain rfl := harg3.eq_unread hs
  sl_exec (disch := first | sl_exact hc0 | sl_exact hc1 | sl_exact hc2 | sl_exact hc3)
  sl_step
  iapply Hk
  isplitl [H0]
  · iexists _; isplitr; · ipureintro; exact harg1.read_unread _
    iexact H0
  iexists _; isplitr
  swap; · iexact HS
  ipureintro
  rw [read_writes_put, read_writes_put, read_writes_put, View.writes_nil, hs, load_block]
  rfl

set_option maxHeartbeats 1000000 in
/-- A later point of the first sweep: the block's maximum is taken in. -/
theorem run1_max (c : Dev nD) (i : grid1.Coords) (arg1 : Memref sig .tc .vmem S1024x128 .f32) (harg1 : arg1.IsWhole) (arg2 : Memref sig .tc .vmem S1024x128 .f32) (harg2 : arg2.IsWhole) (arg3 : Memref sig .tc .smem S2 .f32) (harg3 : arg3.IsWhole)
    (hc0 : ¬first1 i) (hc1 : max1 i) (hc2 : ¬sum1 i) (hc3 : ¬quo1 i)
    (x : Vec F S1024x128 .f32) (s : Vec F S2 .f32) (E : Set ℕ) (K : PUnit → sProp 𝕄) :
    iprop(owns (c : Thread nD τ) arg1 fullShare x ∗ owns (c : Thread nD τ) arg3 fullShare s
        ∗ (iprop(owns (c : Thread nD τ) arg1 fullShare x ∗ owns (c : Thread nD τ) arg3 fullShare (put s 0 (k1_pay2 x (s (at1 0))))) -∗ K ⟨⟩))
      ⊢ wp frame (wpE (defs₀ (F := F)) Variants.none c none) E (cc1__softmax_kernel i arg1 harg1 arg2 harg2 arg3 harg3) K := by
  simp only [cc1__softmax_kernel_eq_skeleton]; unfold cc1__softmax_kernel_skel
  unfold owns
  iintro ⟨⟨%f0, %hf0, H0⟩, ⟨%fs, %hs, HS⟩, Hk⟩
  obtain rfl := harg1.eq_unread hf0; obtain rfl := harg3.eq_unread hs
  sl_exec (disch := first | sl_exact hc0 | sl_exact hc1 | sl_exact hc2 | sl_exact hc3)
  sl_step
  iapply Hk
  isplitl [H0]
  · iexists _; isplitr; · ipureintro; exact harg1.read_unread _
    iexact H0
  iexists _; isplitr
  swap; · iexact HS
  ipureintro
  have e0 : run1_max.sl.r c arg3 harg3 s = s (at1 0) := (readAt_at arg3.view _ _ (by decide) _).trans (congrFun hs _)
  rw [read_writes_put, View.writes_nil, hs, load_block, e0]
  rfl

set_option maxHeartbeats 1000000 in
/-- A point of the second sweep: the block's sum of exponentials is taken in. -/
theorem run1_sum (c : Dev nD) (i : grid1.Coords) (arg1 : Memref sig .tc .vmem S1024x128 .f32) (harg1 : arg1.IsWhole) (arg2 : Memref sig .tc .vmem S1024x128 .f32) (harg2 : arg2.IsWhole) (arg3 : Memref sig .tc .smem S2 .f32) (harg3 : arg3.IsWhole)
    (hc0 : ¬first1 i) (hc1 : ¬max1 i) (hc2 : sum1 i) (hc3 : ¬quo1 i)
    (x : Vec F S1024x128 .f32) (s : Vec F S2 .f32) (E : Set ℕ) (K : PUnit → sProp 𝕄) :
    iprop(owns (c : Thread nD τ) arg1 fullShare x ∗ owns (c : Thread nD τ) arg3 fullShare s
        ∗ (iprop(owns (c : Thread nD τ) arg1 fullShare x ∗ owns (c : Thread nD τ) arg3 fullShare (put s 1 (k1_pay3 x (s (at1 1)) (s (at1 0))))) -∗ K ⟨⟩))
      ⊢ wp frame (wpE (defs₀ (F := F)) Variants.none c none) E (cc1__softmax_kernel i arg1 harg1 arg2 harg2 arg3 harg3) K := by
  simp only [cc1__softmax_kernel_eq_skeleton]; unfold cc1__softmax_kernel_skel
  unfold owns
  iintro ⟨⟨%f0, %hf0, H0⟩, ⟨%fs, %hs, HS⟩, Hk⟩
  obtain rfl := harg1.eq_unread hf0; obtain rfl := harg3.eq_unread hs
  sl_exec (disch := first | sl_exact hc0 | sl_exact hc1 | sl_exact hc2 | sl_exact hc3)
  sl_step
  iapply Hk
  isplitl [H0]
  · iexists _; isplitr; · ipureintro; exact harg1.read_unread _
    iexact H0
  iexists _; isplitr
  swap; · iexact HS
  ipureintro
  have e0 : run1_sum.sl.r c arg3 harg3 s = s (at1 1) := (readAt_at arg3.view _ _ (by decide) _).trans (congrFun hs _)
  have e1 : run1_sum.sl.r_1 c arg3 harg3 s = s (at1 0) := (readAt_at arg3.view _ _ (by decide) _).trans (congrFun hs _)
  rw [read_writes_put, View.writes_nil, hs, load_block, e0, e1]
  rfl

set_option maxHeartbeats 1000000 in
/-- A point of the third sweep: the block's quotients are stored. -/
theorem run1_quo (c : Dev nD) (i : grid1.Coords) (arg1 : Memref sig .tc .vmem S1024x128 .f32) (harg1 : arg1.IsWhole) (arg2 : Memref sig .tc .vmem S1024x128 .f32) (harg2 : arg2.IsWhole) (arg3 : Memref sig .tc .smem S2 .f32) (harg3 : arg3.IsWhole)
    (hc0 : ¬first1 i) (hc1 : ¬max1 i) (hc2 : ¬sum1 i) (hc3 : quo1 i)
    (x : Vec F S1024x128 .f32) (s : Vec F S2 .f32) (E : Set ℕ) (K : PUnit → sProp 𝕄) :
    iprop(owns (c : Thread nD τ) arg1 fullShare x ∗ (∃ d, owns (c : Thread nD τ) arg2 fullShare d) ∗ owns (c : Thread nD τ) arg3 fullShare s
        ∗ (iprop(owns (c : Thread nD τ) arg1 fullShare x ∗ owns (c : Thread nD τ) arg2 fullShare (k1_pay4 x (s (at1 0)) (s (at1 1))) ∗ owns (c : Thread nD τ) arg3 fullShare s) -∗ K ⟨⟩))
      ⊢ wp frame (wpE (defs₀ (F := F)) Variants.none c none) E (cc1__softmax_kernel i arg1 harg1 arg2 harg2 arg3 harg3) K := by
  simp only [cc1__softmax_kernel_eq_skeleton]; unfold cc1__softmax_kernel_skel
  unfold owns
  iintro ⟨⟨%f0, %hf0, H0⟩, ⟨%d1, %f1, -, H1⟩, ⟨%fs, %hs, HS⟩, Hk⟩
  obtain rfl := harg1.eq_unread hf0; obtain rfl := harg3.eq_unread hs
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; swap; · iexact H1
    ipureintro
    have e0 : run1_quo.sl.r c arg3 harg3 s = s (at1 0) := (readAt_at arg3.view _ _ (by decide) _).trans (congrFun hs _)
    have e1 : run1_quo.sl.r_1 c arg3 harg3 s = s (at1 1) := (readAt_at arg3.view _ _ (by decide) _).trans (congrFun hs _)
    rw [View.read_writes_full, load_block, e0, e1]
  iexists _; isplitr; · ipureintro; exact harg3.read_unread _
  iexact HS

end Cert.KernelIdeal.Hand

end
-- ==== Proof.KI.Mask.lean ====
/-
  The one-word call that produces the mask the logits are padded with: its body, and the proof data of the call.
-/
module

public import proofs.«01_k».proof.Proof.KI.SoftmaxRun

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body stores the mask. -/
theorem run0 (c : Dev nD) (arg0 : Memref sig .tc .smem S1 .f32) (harg0 : arg0.IsWhole) (E : Set ℕ) (K : PUnit → sProp 𝕄) :
    iprop((∃ d, owns (c : Thread nD τ) arg0 fullShare d)
        ∗ (iprop(owns (c : Thread nD τ) arg0 fullShare (fun _ => maskWord)) -∗ K ⟨⟩))
      ⊢ wp frame (wpE (defs₀ (F := F)) Variants.none c none) E (cc0__mask_kernel arg0 harg0) K := by
  simp only [cc0__mask_kernel_eq_skeleton]; unfold cc0__mask_kernel_skel
  unfold owns
  iintro ⟨⟨%d0, %f0, -, H0⟩, Hk⟩
  sl_exec
  sl_step
  iapply Hk
  iexists _; isplitr
  swap; · iexact H0
  ipureintro
  rw [read_writes_put]
  funext y; exact if_pos (by have h : (y 0).val < 1 := (y 0).isLt; show (y 0).val = 0; omega)

variable (V : (c : Dev nD) → (b : Ref sig .tc) → Buf (Elt F) ((c : Thread nD τ).loc b))

/-- The proof data of the call. -/
def dat0 (c : Dev nD) : Dat τ (Elt F) Unit ℕ (UR sig nD τ) ℕ cfg0 c where
  A w := V c (Pipeline.arrRef spec0 w)
  after w t := match w with
    | ⟨0, _⟩ => fun _ => maskWord
  Φ _ := Pipeline.scopedRest (Ix := Unit) (Name := ℕ) (U := UR sig nD τ) (Lvl := ℕ) (Val := Elt F) spec0 c
  q _ := fullShare
  owed _ := 0

theorem after0_0 (c : Dev nD) (t : Fin cfg0.N) : (dat0 V c).after 0 t = fun _ => maskWord := by dsimp only [dat0]
theorem live0_0 (t : Fin cfg0.N) : cfg0.idle 0 (grid0.coords t) = false := rfl

theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d)))
      ⊢ wp frame (wpE (defs₀ (F := F)) Variants.none c none) Set.univ (bodyAt0 t)
        (fun _ => iprop((dat0 V c).Φ t.succ ∗ (dat0 V c).owesAt () t.succ ∗ (dat0 V c).leavesExact 0 t)) := by
  unfold bodyAt0
  rw [show (dat0 V c).owesAt () t.succ = (dat0 V c).owesAt () t.castSucc from rfl,
    show (dat0 V c).Φ t.succ = (dat0 V c).Φ t.castSucc from rfl]
  rw [show (dat0 V c).leavesExact 0 t = owns (c : Thread nD τ) (st0_0 t) fullShare ((dat0 V c).after 0 t) from by
      unfold Dat.leavesExact; rw [live0_0 t], after0_0]
  iintro ⟨HR, Ho, ⟨%d0, H0⟩⟩
  iapply (run0 c _ _ Set.univ _)
  isplitl [H0]; · iexists _; iexact H0
  iintro H0
  isplitl [HR]; · iexact HR
  isplitl [Ho]; · iexact Ho
  iexact H0

theorem defs₀_row0 (t : Fin cfg0.N) : defs₀ (F := F) .tc cfg0.body (cfg0.bodyArgs t (cfg0.slots t)) = bodyAt0 t := by
  unfold defs₀; rw [Defs.onTc_tc]

/-- The body at its point, as the call asks for it. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KI.Softmax.lean ====
/-
  The softmax call, point by point: the two words its scratch carries, the blocks it writes, and the proof data of the
  whole call entered from any contents of the arrays.
-/
module

public import proofs.«01_k».proof.Proof.KI.SoftmaxRun

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of the padded logits point `t` works on. -/
def blk1 (c : Dev nD) (t : Fin cfg1.N) : Vec F S1024x128 .f32 :=
  ((cfg1.win 0).blk t).view.read (Elt F) (V c (Pipeline.arrRef spec1 0))

/-- The running maximum and the running sum before point `n`. -/
def st1 (c : Dev nD) : ℕ → F .f32 × F .f32
  | 0 => (maskWord, zeroWord)
  | n + 1 =>
    if h : n < cfg1.N then
      if n < 8 then (k1_pay2 (blk1 V c ⟨n, h⟩) (st1 c n).1, (st1 c n).2)
      else if n < 16 then ((st1 c n).1, k1_pay3 (blk1 V c ⟨n, h⟩) (st1 c n).2 (st1 c n).1)
      else st1 c n
    else st1 c n

theorem st1_max (c : Dev nD) (t : Fin cfg1.N) (h : t.val < 8) :
    st1 V c (t.val + 1) = (k1_pay2 (blk1 V c t) (st1 V c t.val).1, (st1 V c t.val).2) := by
  rw [st1, dif_pos t.isLt, if_pos h]
theorem st1_sum (c : Dev nD) (t : Fin cfg1.N) (h : 8 ≤ t.val) (h' : t.val < 16) :
    st1 V c (t.val + 1) = ((st1 V c t.val).1, k1_pay3 (blk1 V c t) (st1 V c t.val).2 (st1 V c t.val).1) := by
  rw [st1, dif_pos t.isLt, if_neg (Nat.not_lt.2 h), if_pos h']
theorem st1_quo (c : Dev nD) (t : Fin cfg1.N) (h : 16 ≤ t.val) : st1 V c (t.val + 1) = st1 V c t.val := by
  rw [st1, dif_pos t.isLt, if_neg (by omega), if_neg (by omega)]

/-- What the scratch holds before point `n`: anything at the first, the two running words after it. -/
def holds1 (c : Dev nD) (n : ℕ) (s : Vec F S2 .f32) : Prop := 0 < n → (s (at1 0), s (at1 1)) = st1 V c n

/-- The quotients point `t` leaves in the result's block. -/
def out1 (c : Dev nD) (t : Fin cfg1.N) : Vec F S1024x128 .f32 := k1_pay4 (blk1 V c t) (st1 V c t.val).1 (st1 V c t.val).2

/-- What rides through the call beside the windows: the scratch, and the buffers of the other calls. -/
def inv1 (c : Dev nD) (n : ℕ) : sProp 𝕄 :=
  iprop((∃ s : Vec F S2 .f32, ⌜holds1 V c n s⌝ ∗ owns (c : Thread nD τ) (Memref.whole cc1_scratch0) fullShare s)
    ∗ Pipeline.scopedRestBut (Ix := Unit) (Name := ℕ) (U := UR sig nD τ) (Lvl := ℕ) (Val := Elt F) spec1 c [cc1_scratch0])

/-- The proof data of the call. -/
def dat1 (c : Dev nD) : Dat τ (Elt F) Unit ℕ (UR sig nD τ) ℕ cfg1 c where
  A w := V c (Pipeline.arrRef spec1 w)
  after w t := match w with
    | ⟨0, _⟩ => blk1 V c t
    | ⟨1, _⟩ => out1 V c t
  Φ t := inv1 V c t.val
  q _ := fullShare
  owed _ := 0

theorem after1_0 (c : Dev nD) (t : Fin cfg1.N) : (dat1 V c).after 0 t = blk1 V c t := by dsimp only [dat1]
theorem after1_1 (c : Dev nD) (t : Fin cfg1.N) : (dat1 V c).after 1 t = out1 V c t := by dsimp only [dat1]

/-- The input window holds its block when the body runs. -/
theorem before1_0 (c : Dev nD) (t : Fin cfg1.N) (d) : (dat1 V c).before 0 t d = blk1 V c t :=
  ((dat1 V c).before_in_eq_fetched 0 rfl (fun _ => rfl) (fun _ _ _ => rfl) (fun t => by rw [after1_0]; rfl) t d).trans rfl

theorem live1_0 (t : Fin cfg1.N) : cfg1.idle 0 (grid1.coords t) = false := rfl
theorem idle1_1 : ∀ t : Fin cfg1.N, t.val < 16 → cfg1.idle 1 (grid1.coords t) = true :=
  (by decide +kernel : ∀ t : Fin grid1.N, t.val < 16 → cfg1.idle 1 (grid1.coords t) = true)
theorem noflush1_1 : ∀ t : Fin cfg1.N, t.val < 16 → (cfg1.win 1).flush t = false :=
  (by decide +kernel : ∀ t : Fin grid1.N, t.val < 16 → (cfg1.win 1).flush t = false)
theorem live1_1 : ∀ t : Fin cfg1.N, 16 ≤ t.val → cfg1.idle 1 (grid1.coords t) = false :=
  (by decide +kernel : ∀ t : Fin grid1.N, 16 ≤ t.val → cfg1.idle 1 (grid1.coords t) = false)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 3200000 in
/-- The body at any point, one of four kinds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = inv1 V c (t.val + 1) from rfl, show (dat1 V c).Φ t.castSucc = inv1 V c t.val from rfl]
  unfold inv1
  rw [show (dat1 V c).leavesExact 0 t = owns (c : Thread nD τ) (st1_0 t) fullShare ((dat1 V c).after 0 t) from by
      unfold Dat.leavesExact; rw [live1_0 t], after1_0]
  have hN : t.val < 24 := lt_of_lt_of_eq t.isLt (show cfg1.N = 24 from N_1)
  by_cases h16 : t.val < 16
  · rw [Dat.leavesExact_idle (dat1 V c) 1 t (idle1_1 t h16) (noflush1_1 t h16)]
    have hq : ¬ quo1 (grid1.coords t) := fun h => absurd ((quo1_iff t).mp h) (by omega)
    by_cases h8 : t.val < 8
    · have hm : max1 (grid1.coords t) := (max1_iff t).mpr h8
      have hs : ¬ sum1 (grid1.coords t) := fun h => absurd ((sum1_iff t).mp h) (by omega)
      by_cases h0 : t.val = 0
      · iintro ⟨⟨⟨%s, %hh, HS⟩, HR⟩, Ho, ⟨%d0, H0⟩, ⟨%d1, H1⟩⟩
        iapply (run1_first c (grid1.coords t) _ _ _ _ _ _ ((first1_iff t).mpr h0) hm hs hq (blk1 V c t) s Set.univ _)
        isplitl [H0]; · iexact H0
        isplitl [HS]; · iexact HS
        iintro ⟨H0, HS⟩
        isplitl [HS HR]
        · isplitl [HS]
          · iexists _; isplitr; swap; · iexact HS
            ipureintro; intro _
            rw [st1_max V c t h8, h0]; rfl
          iexact HR
        isplitl [Ho]; · iexact Ho
        isplitl [H0]; · iexact H0
        iexists _; iexact H1
      · have hf : ¬ first1 (grid1.coords t) := fun h => h0 ((first1_iff t).mp h)
        iintro ⟨⟨⟨%s, %hh, HS⟩, HR⟩, Ho, ⟨%d0, H0⟩, ⟨%d1, H1⟩⟩
        iapply (run1_max c (grid1.coords t) _ _ _ _ _ _ hf hm hs hq (blk1 V c t) s Set.univ _)
        isplitl [H0]; · iexact H0
        isplitl [HS]; · iexact HS
        iintro ⟨H0, HS⟩
        isplitl [HS HR]
        · isplitl [HS]
          · iexists _; isplitr; swap; · iexact HS
            ipureintro; intro _
            rw [st1_max V c t h8, ← hh (by omega)]; rfl
          iexact HR
        isplitl [Ho]; · iexact Ho
        isplitl [H0]; · iexact H0
        iexists _; iexact H1
    · have hf : ¬ first1 (grid1.coords t) := fun h => absurd ((first1_iff t).mp h) (by omega)
      have hm : ¬ max1 (grid1.coords t) := fun h => h8 ((max1_iff t).mp h)
      have hs : sum1 (grid1.coords t) := (sum1_iff t).mpr ⟨by omega, h16⟩
      iintro ⟨⟨⟨%s, %hh, HS⟩, HR⟩, Ho, ⟨%d0, H0⟩, ⟨%d1, H1⟩⟩
      iapply (run1_sum c (grid1.coords t) _ _ _ _ _ _ hf hm hs hq (blk1 V c t) s Set.univ _)
      isplitl [H0]; · iexact H0
      isplitl [HS]; · iexact HS
      iintro ⟨H0, HS⟩
      isplitl [HS HR]
      · isplitl [HS]
        · iexists _; isplitr; swap; · iexact HS
          ipureintro; intro _
          rw [st1_sum V c t (by omega) h16, ← hh (by omega)]; rfl
        iexact HR
      isplitl [Ho]; · iexact Ho
      isplitl [H0]; · iexact H0
      iexists _; iexact H1
  · rw [show (dat1 V c).leavesExact 1 t = owns (c : Thread nD τ) (st1_1 t) fullShare ((dat1 V c).after 1 t) from by
      unfold Dat.leavesExact; rw [live1_1 t (by omega)], after1_1]
    have hf : ¬ first1 (grid1.coords t) := fun h => absurd ((first1_iff t).mp h) (by omega)
    have hm : ¬ max1 (grid1.coords t) := fun h => absurd ((max1_iff t).mp h) (by omega)
    have hs : ¬ sum1 (grid1.coords t) := fun h => absurd ((sum1_iff t).mp h) (by omega)
    have hq : quo1 (grid1.coords t) := (quo1_iff t).mpr (by omega)
    iintro ⟨⟨⟨%s, %hh, HS⟩, HR⟩, Ho, ⟨%d0, H0⟩, ⟨%d1, H1⟩⟩
    iapply (run1_quo c (grid1.coords t) _ _ _ _ _ _ hf hm hs hq (blk1 V c t) s Set.univ _)
    isplitl [H0]; · iexact H0
    isplitl [H1]; · iexists _; iexact H1
    isplitl [HS]; · iexact HS
    iintro ⟨H0, H1, HS⟩
    have e := hh (by omega)
    rw [show out1 V c t = k1_pay4 (blk1 V c t) (s (at1 0)) (s (at1 1)) from by unfold out1; rw [← e]]
    isplitl [HS HR]
    · isplitl [HS]
      · iexists _; isplitr; swap; · iexact HS
        ipureintro; intro _
        rw [st1_quo V c t (by omega), ← e]
      iexact HR
    isplitl [Ho]; · iexact Ho
    isplitl [H0]; · iexact H0
    iexact H1

theorem defs₀_row1 (t : Fin cfg1.N) : defs₀ (F := F) .tc cfg1.body (cfg1.bodyArgs t (cfg1.slots t)) = bodyAt1 t := by
  unfold defs₀; rw [Defs.onTc_tc]

/-- The body at every point, as the call asks for it. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-- The scoped buffers beside the windows: the scratch, and the rest. -/
theorem scoped1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide), bigSepL_singleton]; rfl

/-- The invariant before the first point, from the scoped buffers; -/
theorem inv1_in (c : Dev nD) :
    (Pipeline.scopedRest (Ix := Unit) (Name := ℕ) (U := UR sig nD τ) (Lvl := ℕ) (Val := Elt F) spec1 c : sProp 𝕄) ⊢ inv1 V c 0 := by
  rw [scoped1]
  unfold inv1; simp only [owns_whole]
  iintro ⟨HS, HR⟩
  isplitl [HS]
  · icases HS with ⟨%f, HS⟩
    iexists f; isplitr; · ipureintro; exact fun h => absurd h (lt_irrefl _)
    iexact HS
  iexact HR

/-- and the scoped buffers back from the invariant at any point. -/
theorem inv1_out (c : Dev nD) (n : ℕ) :
    inv1 V c n ⊢ (Pipeline.scopedRest (Ix := Unit) (Name := ℕ) (U := UR sig nD τ) (Lvl := ℕ) (Val := Elt F) spec1 c : sProp 𝕄) := by
  rw [scoped1]
  unfold inv1; simp only [owns_whole]
  iintro ⟨⟨%s, -, HS⟩, HR⟩
  isplitl [HS]
  · iexists s; iexact HS
  iexact HR

end Cert.KernelIdeal.Hand

end
-- ==== Proof.KI.SampleRun.lean ====
/-
  The sampling kernel's body at one grid point. Thirty-two points make four sweeps of the eight blocks: the nucleus'
  count and threshold, the winning score, the number of larger probabilities, the token. Here: the nine words of scratch
  the sweeps carry, and how one point changes them.
-/
module

public import proofs.«01_k».proof.Proof.KI.SoftmaxRun

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The nine words the sampling kernel keeps: the running sum of the probabilities, the nucleus' threshold, the best score,
    the probability it was met at, and how many of that probability went by (`f0` … `f4`); the nucleus' size, the winner's
    position, the number of larger probabilities, and the token (`i0` … `i3`). -/
structure Words (F : FTy → Type) where
  f0 : F .f32
  f1 : F .f32
  f2 : F .f32
  f3 : F .f32
  f4 : F .f32
  i0 : BitVec 32
  i1 : BitVec 32
  i2 : BitVec 32
  i3 : BitVec 32

/-- The two scratch buffers hold the nine words. -/
def Words.heldBy (r : Words F) (s : Vec F S8 .f32) (s' : Vec F S8 .i32) : Prop :=
  s (at1 0) = r.f0 ∧ s (at1 1) = r.f1 ∧ s (at1 2) = r.f2 ∧ s (at1 3) = r.f3 ∧ s (at1 4) = r.f4
    ∧ s' (at1 0) = r.i0 ∧ s' (at1 1) = r.i1 ∧ s' (at1 2) = r.i2 ∧ s' (at1 3) = r.i3

/-- The words as the first point sets them. -/
def Words.start : Words F :=
  ⟨zeroWord, Scalar.ofBits .f32 0xBF800000#32, maskWord, zeroWord, zeroWord, 0#32, 0#32, 0#32, 0#32⟩

/-- A point of the first sweep, on a block `x` of the sorted probabilities. -/
def Words.gather (x : Vec F S1024x128 .f32) (r : Words F) : Words F :=
  { r with
    i0 := Scalar.addi r.i0 (extractAt ![0, 0, 0] (k2_pay3 (k2_pay13 x) (k2_pay14 x) (k2_pay15 x) (k2_pay16 (F := F)) (k2_pay17 x) r.f0) inpos_S1x1x1_p0_0_0)
    f1 := k2_pay4 (k2_pay13 x) (k2_pay14 x) (k2_pay15 x) (k2_pay16 (F := F)) (k2_pay17 x) r.f0 r.f1
    f0 := k2_pay5 (k2_pay14 x) r.f0 }

/-- The block's best score beats the best so far. -/
def Words.better (w : IVec S1024x128 32) (x g : Vec F S1024x128 .f32) (r : Words F) : Prop :=
  Scalar.cmpi .ne (Scalar.extui (Scalar.cmpf .ogt (k2_pay7 w x g r.f1 r.i0) r.f2)) 0#32 = 1#1

open Classical in
/-- A point of the second sweep, on blocks of positions, sorted probabilities and noise. -/
def Words.choose (w : IVec S1024x128 32) (x g : Vec F S1024x128 .f32) (r : Words F) : Words F :=
  if r.better w x g then
    { r with
      f2 := k2_pay7 w x g r.f1 r.i0
      i1 := extractAt ![0, 0, 0] (k2_pay8 w x g r.f1 r.i0) inpos_S1x1x1_p0_0_0
      f3 := k2_pay9 w x g r.f1 r.i0 x }
  else r

/-- A point of the third sweep, on a block of the probabilities. -/
def Words.rank (p : Vec F S1024x128 .f32) (r : Words F) : Words F :=
  { r with i2 := Scalar.addi r.i2 (extractAt ![0, 0, 0] (k2_pay10 p r.f3) inpos_S1x1x1_p0_0_0) }

/-- A point of the fourth sweep, on blocks of positions and probabilities. -/
def Words.find (w : IVec S1024x128 32) (p : Vec F S1024x128 .f32) (r : Words F) : Words F :=
  { r with
    i3 := Scalar.addi r.i3 (extractAt ![0, 0, 0] (k2_pay11 w (k2_pay18 p r.f3) (k2_pay19 p r.f3) (k2_pay20 p r.f3) (k2_pay21 p r.f3) (k2_pay22 (F := F)) r.f4 r.i1 r.i2) inpos_S1x1x1_p0_0_0)
    f4 := k2_pay12 (k2_pay18 p r.f3) r.f4 }

/-- The sweep a point of the sampling grid belongs to, as the body computes it. -/
abbrev sweep2 (i : grid2.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 8#32 0#32)) (Scalar.extui (Scalar.cmpi .slt 8#32 0#32)))) (Scalar.cmpi .ne (Scalar.remsi (BitVec.ofNat 32 (i 0).val) 8#32) 0#32)) (Scalar.subi (Scalar.divsi (BitVec.ofNat 32 (i 0).val) 8#32) 1#32) (Scalar.divsi (BitVec.ofNat 32 (i 0).val) 8#32)

/-- The body's conditions on its grid point. -/
abbrev first2 (i : grid2.Coords) : Prop := Scalar.cmpi .ne (Scalar.extui (Scalar.cmpi .eq (BitVec.ofNat 32 (i 0).val) 0#32)) 0#32 = 1#1
abbrev in2 (k : BitVec 32) (i : grid2.Coords) : Prop := Scalar.cmpi .ne (Scalar.extui (Scalar.cmpi .eq (sweep2 i) k)) 0#32 = 1#1
abbrev last2 (i : grid2.Coords) : Prop := k2_cond7 i = 1#1

theorem first2_iff : ∀ t : Fin cfg2.N, first2 (grid2.coords t) ↔ t.val = 0 :=
  (by decide +kernel : ∀ t : Fin grid2.N, first2 (grid2.coords t) ↔ t.val = 0)
theorem in2_0_iff : ∀ t : Fin cfg2.N, in2 0#32 (grid2.coords t) ↔ t.val < 8 :=
  (by decide +kernel : ∀ t : Fin grid2.N, in2 0#32 (grid2.coords t) ↔ t.val < 8)
theorem in2_1_iff : ∀ t : Fin cfg2.N, in2 1#32 (grid2.coords t) ↔ (8 ≤ t.val ∧ t.val < 16) :=
  (by decide +kernel : ∀ t : Fin grid2.N, in2 1#32 (grid2.coords t) ↔ (8 ≤ t.val ∧ t.val < 16))
theorem in2_2_iff : ∀ t : Fin cfg2.N, in2 2#32 (grid2.coords t) ↔ (16 ≤ t.val ∧ t.val < 24) :=
  (by decide +kernel : ∀ t : Fin grid2.N, in2 2#32 (grid2.coords t) ↔ (16 ≤ t.val ∧ t.val < 24))
theorem in2_3_iff : ∀ t : Fin cfg2.N, in2 3#32 (grid2.coords t) ↔ 24 ≤ t.val :=
  (by decide +kernel : ∀ t : Fin grid2.N, in2 3#32 (grid2.coords t) ↔ 24 ≤ t.val)
theorem last2_iff : ∀ t : Fin cfg2.N, last2 (grid2.coords t) ↔ t.val = 31 :=
  (by decide +kernel : ∀ t : Fin grid2.N, last2 (grid2.coords t) ↔ t.val = 31)

section
variable (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .smem S1 .i32) (harg4 : arg4.IsWhole) (arg5 : Memref sig .tc .smem S8 .f32) (harg5 : arg5.IsWhole) (arg6 : Memref sig .tc .smem S8 .i32) (harg6 : arg6.IsWhole)
  (x g p : Vec F S1024x128 .f32) (r : Words F) (s : Vec F S8 .f32) (s' : Vec F S8 .i32)

/-- The two scratch buffers, holding the nine words `r` (and anything else in the words left over). -/
def wordsAt (r : Words F) : sProp 𝕄 :=
  iprop(∃ s s', ⌜r.heldBy s s'⌝ ∗ owns (c : Thread nD τ) arg5 fullShare s ∗ owns (c : Thread nD τ) arg6 fullShare s')

/-- What the point's memory operations leave, in the words' own terms. -/
theorem Words.heldBy_gather {r : Words F} {s : Vec F S8 .f32} {s' : Vec F S8 .i32} (h : r.heldBy s s') :
    (r.gather x).heldBy (put (put s 1 (r.gather x).f1) 0 (r.gather x).f0) (put s' 0 (r.gather x).i0) := by
  obtain ⟨h0, h1, h2, h3, h4, g0, g1, g2, g3⟩ := h
  refine ⟨?_, ?_, ?_, ?_, ?_, ?_, ?_, ?_, ?_⟩ <;> simp (disch := decide) only [put_at_eq, put_at_ne] <;> assumption

set_option maxHeartbeats 2000000 in
/-- A later point of the first sweep. -/
theorem run2_gather (hc0 : ¬first2 i) (hc1 : in2 0#32 i) (hc2 : ¬in2 1#32 i) (hc3 : ¬in2 2#32 i) (hc4 : ¬in2 3#32 i) (hc5 : ¬last2 i)
    (E : Set ℕ) (K : PUnit → sProp 𝕄) :
    iprop(owns (c : Thread nD τ) arg1 fullShare x ∗ wordsAt c arg5 arg6 r
        ∗ (iprop(owns (c : Thread nD τ) arg1 fullShare x ∗ wordsAt c arg5 arg6 (r.gather x)) -∗ K ⟨⟩))
      ⊢ wp frame (wpE (defs₀ (F := F)) Variants.none c none) E (cc2__sample_kernel i arg1 harg1 arg2 harg2 arg3 harg3 arg4 harg4 arg5 harg5 arg6 harg6) K := by
  simp only [cc2__sample_kernel_eq_skeleton]; unfold cc2__sample_kernel_skel
  simp only [k2_part1_eq_skeleton, k2_part2_eq_skeleton, k2_part3_eq_skeleton]; unfold k2_part1_skel k2_part2_skel k2_part3_skel
  unfold wordsAt owns
  iintro ⟨⟨%f0, %hf0, H0⟩, ⟨%s, %s', %hw, ⟨%fs, %hs, HS⟩, ⟨%fi, %hi, HI⟩⟩, Hk⟩
  obtain rfl := harg1.eq_unread hf0; obtain rfl := harg5.eq_unread hs; obtain rfl := harg6.eq_unread hi
  sl_exec (disch := first | sl_exact hc0 | sl_exact hc1 | sl_exact hc2 | sl_exact hc3 | sl_exact hc4 | sl_exact hc5)
  sl_step
  iapply Hk
  isplitl [H0]
  · iexists _; isplitr; · ipureintro; exact harg1.read_unread _
    iexact H0
  have e0 : run2_gather.sl.r c arg5 harg5 s = r.f0 := (readAt_at arg5.view _ _ (by decide) _).trans ((congrFun hs _).trans hw.1)
  have e1 : run2_gather.sl.r_1 c arg6 harg6 s' = r.i0 := (readAt_at arg6.view _ _ (by decide) _).trans ((congrFun hi _).trans hw.2.2.2.2.2.1)
  have e2 : run2_gather.sl.r_2 c arg5 harg5 s = r.f1 := (readAt_at arg5.view _ _ (by decide) _).trans ((congrFun hs _).trans hw.2.1)
  have e3 : run2_gather.sl.r_3 c arg5 harg5 s = r.f0 := (readAt_at arg5.view _ _ (by decide) _).trans ((congrFun hs _).trans hw.1)
  iexists _, _; isplitr
  · ipureintro; exact Words.heldBy_gather x hw
  isplitl [HS]
  · iexists _; isplitr
    swap; · iexact HS
    ipureintro
    rw [read_writes_put, read_writes_put, View.writes_nil, hs, load_block, e0, e2, e3]; rfl
  iexists _; isplitr
  swap; · iexact HI
  ipureintro
  rw [read_writes_put, View.writes_nil, hi, load_block, e0, e1]; rfl

/-- What the first point's memory operations leave, in the words' own terms. -/
theorem Words.heldBy_first :
    (Words.start.gather x).heldBy
      (put (put (put (put (put (put (put s 0 zeroWord) 1 (Scalar.ofBits .f32 0xBF800000#32)) 2 maskWord) 3 zeroWord) 4 zeroWord) 1 (Words.start.gather x).f1) 0 (Words.start.gather x).f0)
      (put (put (put (put (put s' 0 0#32) 1 0#32) 2 0#32) 3 0#32) 0 (Words.start.gather x).i0) := by
  refine ⟨?_, ?_, ?_, ?_, ?_, ?_, ?_, ?_, ?_⟩ <;> simp (disch := decide) only [put_at_eq, put_at_ne] <;> rfl

set_option maxHeartbeats 2000000 in
/-- The first point: the words are set, then the first block is taken in. -/
theorem run2_first (hc0 : first2 i) (hc1 : in2 0#32 i) (hc2 : ¬in2 1#32 i) (hc3 : ¬in2 2#32 i) (hc4 : ¬in2 3#32 i) (hc5 : ¬last2 i)
    (E : Set ℕ) (K : PUnit → sProp 𝕄) :
    iprop(owns (c : Thread nD τ) arg1 fullShare x ∗ owns (c : Thread nD τ) arg5 fullShare s ∗ owns (c : Thread nD τ) arg6 fullShare s'
        ∗ (iprop(owns (c : Thread nD τ) arg1 fullShare x ∗ wordsAt c arg5 arg6 (Words.start.gather x)) -∗ K ⟨⟩))
      ⊢ wp frame (wpE (defs₀ (F := F)) Variants.none c none) E (cc2__sample_kernel i arg1 harg1 arg2 harg2 arg3 harg3 arg4 harg4 arg5 harg5 arg6 harg6) K := by
  simp only [cc2__sample_kernel_eq_skeleton]; unfold cc2__sample_kernel_skel
  simp only [k2_part1_eq_skeleton, k2_part2_eq_skeleton, k2_part3_eq_skeleton]; unfold k2_part1_skel k2_part2_skel k2_part3_skel
  unfold wordsAt owns
  iintro ⟨⟨%f1, %hf1, H1⟩, ⟨%fs, %hs, HS⟩, ⟨%fi, %hi, HI⟩, Hk⟩
  obtain rfl := harg1.eq_unread hf1; obtain rfl := harg5.eq_unread hs; obtain rfl := harg6.eq_unread hi
  sl_exec (disch := first | sl_exact hc0 | sl_exact hc1 | sl_exact hc2 | sl_exact hc3 | sl_exact hc4 | sl_exact hc5)
  sl_step
  iapply Hk
  isplitl [H1]
  · iexists _; isplitr; · ipureintro; exact harg1.read_unread _
    iexact H1
  iexists _, _; isplitr
  · ipureintro; exact Words.heldBy_first x s s'
  isplitl [HS]
  · iexists _; isplitr
    swap; · iexact HS
    ipureintro
    rw [read_writes_put, read_writes_put, read_writes_put, read_writes_put, read_writes_put, read_writes_put, read_writes_put, View.writes_nil, hs, load_block]; rfl
  iexists _; isplitr
  swap; · iexact HI
  ipureintro
  rw [read_writes_put, read_writes_put, read_writes_put, read_writes_put, read_writes_put, View.writes_nil, hi, load_block]; rfl

/-- What a point of the second sweep leaves, in the words' own terms. -/
theorem Words.heldBy_better (w : IVec S1024x128 32) {r : Words F} {s : Vec F S8 .f32} {s' : Vec F S8 .i32} (h : r.heldBy s s')
    (hd : r.better w x g) :
    (r.choose w x g).heldBy (put (put s 2 (k2_pay7 w x g r.f1 r.i0)) 3 (k2_pay9 w x g r.f1 r.i0 x))
      (put s' 1 (extractAt ![0, 0, 0] (k2_pay8 w x g r.f1 r.i0) inpos_S1x1x1_p0_0_0)) := by
  obtain ⟨h0, h1, h2, h3, h4, g0, g1, g2, g3⟩ := h
  unfold Words.choose
  rw [if_pos hd]
  refine ⟨?_, ?_, ?_, ?_, ?_, ?_, ?_, ?_, ?_⟩ <;> simp (disch := decide) only [put_at_eq, put_at_ne] <;> assumption

set_option maxHeartbeats 2000000 in
/-- A point of the second sweep. -/
theorem run2_choose (hc0 : ¬first2 i) (hc1 : ¬in2 0#32 i) (hc2 : in2 1#32 i) (hc3 : ¬in2 2#32 i) (hc4 : ¬in2 3#32 i) (hc5 : ¬last2 i)
    (E : Set ℕ) (K : PUnit → sProp 𝕄) :
    iprop(owns (c : Thread nD τ) arg1 fullShare x ∗ owns (c : Thread nD τ) arg2 fullShare g ∗ wordsAt c arg5 arg6 r
        ∗ (iprop(owns (c : Thread nD τ) arg1 fullShare x ∗ owns (c : Thread nD τ) arg2 fullShare g ∗ wordsAt c arg5 arg6 (r.choose (k2_pay23 i) x g)) -∗ K ⟨⟩))
      ⊢ wp frame (wpE (defs₀ (F := F)) Variants.none c none) E (cc2__sample_kernel i arg1 harg1 arg2 harg2 arg3 harg3 arg4 harg4 arg5 harg5 arg6 harg6) K := by
  simp only [cc2__sample_kernel_eq_skeleton]; unfold cc2__sample_kernel_skel
  simp only [k2_part1_eq_skeleton, k2_part2_eq_skeleton, k2_part3_eq_skeleton]; unfold k2_part1_skel k2_part2_skel k2_part3_skel
  unfold wordsAt owns
  iintro ⟨⟨%f1, %hf1, H1⟩, ⟨%f2, %hf2, H2⟩, ⟨%s, %s', %hw, ⟨%fs, %hs, HS⟩, ⟨%fi, %hi, HI⟩⟩, Hk⟩
  obtain rfl := harg1.eq_unread hf1; obtain rfl := harg2.eq_unread hf2; obtain rfl := harg5.eq_unread hs; obtain rfl := harg6.eq_unread hi
  sl_exec (disch := first | sl_exact hc0 | sl_exact hc1 | sl_exact hc2 | sl_exact hc3 | sl_exact hc4 | sl_exact hc5)
  sl_step
  iapply Hk
  isplitl [H1]
  · iexists _; isplitr; · ipureintro; exact harg1.read_unread _
    iexact H1
  isplitl [H2]
  · iexists _; isplitr; · ipureintro; exact harg2.read_unread _
    iexact H2
  have e0 : run2_choose.sl.r c arg5 harg5 s = r.f1 := (readAt_at arg5.view _ _ (by decide) _).trans ((congrFun hs _).trans hw.2.1)
  have e1 : run2_choose.sl.r_1 c arg6 harg6 s' = r.i0 := (readAt_at arg6.view _ _ (by decide) _).trans ((congrFun hi _).trans hw.2.2.2.2.2.1)
  have e2 : run2_choose.sl.r_2 c arg5 harg5 s = r.f2 := (readAt_at arg5.view _ _ (by decide) _).trans ((congrFun hs _).trans hw.2.2.1)
  by_cases hd : r.better (k2_pay23 i) x g
  · have hd' := hd
    unfold Words.better at hd'
    rw [← load_block arg1 harg1 x inb_S1024x128_S1024x128_0_0, ← load_block arg2 harg2 g inb_S1024x128_S1024x128_0_0, ← e0, ← e1, ← e2] at hd'
    rw [dif_pos hd', dif_pos hd']
    iexists _, _; isplitr
    · ipureintro; exact Words.heldBy_better x g _ hw hd
    isplitl [HS]
    · iexists _; isplitr
      swap; · iexact HS
      ipureintro
      rw [read_writes_put, read_writes_put, View.writes_nil, hs, load_block, load_block, e0, e1]; rfl
    iexists _; isplitr
    swap; · iexact HI
    ipureintro
    rw [read_writes_put, View.writes_nil, hi, load_block, load_block, e0, e1]; rfl
  · have hd' := hd
    unfold Words.better at hd'
    rw [← load_block arg1 harg1 x inb_S1024x128_S1024x128_0_0, ← load_block arg2 harg2 g inb_S1024x128_S1024x128_0_0, ← e0, ← e1, ← e2] at hd'
    rw [dif_neg hd', dif_neg hd', show r.choose (k2_pay23 i) x g = r from if_neg hd]
    iexists _, _; isplitr
    · ipureintro; exact hw
    isplitl [HS]
    · iexists _; isplitr
      swap; · iexact HS
      ipureintro
      exact hs
    iexists _; isplitr
    swap; · iexact HI
    ipureintro
    exact hi

/-- What a point of the third sweep leaves. -/
theorem Words.heldBy_rank {r : Words F} {s : Vec F S8 .f32} {s' : Vec F S8 .i32} (h : r.heldBy s s') :
    (r.rank p).heldBy s (put s' 2 (r.rank p).i2) := by
  obtain ⟨h0, h1, h2, h3, h4, g0, g1, g2, g3⟩ := h
  unfold Words.rank
  refine ⟨?_, ?_, ?_, ?_, ?_, ?_, ?_, ?_, ?_⟩
  · dsimp only; exact h0
  · dsimp only; exact h1
  · dsimp only; exact h2
  · dsimp only; exact h3
  · dsimp only; exact h4
  · dsimp only; exact (put_at_ne _ _ _ _ (by decide) _).trans g0
  · dsimp only; exact (put_at_ne _ _ _ _ (by decide) _).trans g1
  · dsimp only; exact put_at_eq _ _ _ _
  · dsimp only; exact (put_at_ne _ _ _ _ (by decide) _).trans g3

set_option maxHeartbeats 2000000 in
/-- A point of the third sweep. -/
theorem run2_rank (hc0 : ¬first2 i) (hc1 : ¬in2 0#32 i) (hc2 : ¬in2 1#32 i) (hc3 : in2 2#32 i) (hc4 : ¬in2 3#32 i) (hc5 : ¬last2 i)
    (E : Set ℕ) (K : PUnit → sProp 𝕄) :
    iprop(owns (c : Thread nD τ) arg3 fullShare p ∗ wordsAt c arg5 arg6 r
        ∗ (iprop(owns (c : Thread nD τ) arg3 fullShare p ∗ wordsAt c arg5 arg6 (r.rank p)) -∗ K ⟨⟩))
      ⊢ wp frame (wpE (defs₀ (F := F)) Variants.none c none) E (cc2__sample_kernel i arg1 harg1 arg2 harg2 arg3 harg3 arg4 harg4 arg5 harg5 arg6 harg6) K := by
  simp only [cc2__sample_kernel_eq_skeleton]; unfold cc2__sample_kernel_skel
  simp only [k2_part1_eq_skeleton, k2_part2_eq_skeleton, k2_part3_eq_skeleton]; unfold k2_part1_skel k2_part2_skel k2_part3_skel
  unfold wordsAt owns
  iintro ⟨⟨%f3, %hf3, H3⟩, ⟨%s, %s', %hw, ⟨%fs, %hs, HS⟩, ⟨%fi, %hi, HI⟩⟩, Hk⟩
  obtain rfl := harg3.eq_unread hf3; obtain rfl := harg5.eq_unread hs; obtain rfl := harg6.eq_unread hi
  sl_exec (disch := first | sl_exact hc0 | sl_exact hc1 | sl_exact hc2 | sl_exact hc3 | sl_exact hc4 | sl_exact hc5)
  sl_step
  iapply Hk
  isplitl [H3]
  · iexists _; isplitr; · ipureintro; exact harg3.read_unread _
    iexact H3
  have e0 : run2_rank.sl.r c arg6 harg6 s' = r.i2 := (readAt_at arg6.view _ _ (by decide) _).trans ((congrFun hi _).trans hw.2.2.2.2.2.2.2.1)
  have e1 : run2_rank.sl.r_1 c arg5 harg5 s = r.f3 := (readAt_at arg5.view _ _ (by decide) _).trans ((congrFun hs _).trans hw.2.2.2.1)
  iexists _, _; isplitr
  · ipureintro; exact Words.heldBy_rank p hw
  isplitl [HS]
  · iexists _; isplitr
    swap; · iexact HS
    ipureintro
    exact hs
  iexists _; isplitr
  swap; · iexact HI
  ipureintro
  rw [read_writes_put, View.writes_nil, hi, load_block, e0, e1]; rfl

/-- What a point of the fourth sweep leaves. -/
theorem Words.heldBy_find (w : IVec S1024x128 32) {r : Words F} {s : Vec F S8 .f32} {s' : Vec F S8 .i32} (h : r.heldBy s s') :
    (r.find w p).heldBy (put s 4 (r.find w p).f4) (put s' 3 (r.find w p).i3) := by
  obtain ⟨h0, h1, h2, h3, h4, g0, g1, g2, g3⟩ := h
  refine ⟨?_, ?_, ?_, ?_, ?_, ?_, ?_, ?_, ?_⟩ <;> simp (disch := decide) only [put_at_eq, put_at_ne] <;> assumption

set_option maxHeartbeats 2000000 in
/-- A point of the fourth sweep. -/
theorem run2_find (hc0 : ¬first2 i) (hc1 : ¬in2 0#32 i) (hc2 : ¬in2 1#32 i) (hc3 : ¬in2 2#32 i) (hc4 : in2 3#32 i) (hc5 : ¬last2 i)
    (E : Set ℕ) (K : PUnit → sProp 𝕄) :
    iprop(owns (c : Thread nD τ) arg3 fullShare p ∗ wordsAt c arg5 arg6 r
        ∗ (iprop(owns (c : Thread nD τ) arg3 fullShare p ∗ wordsAt c arg5 arg6 (r.find (k2_pay23 i) p)) -∗ K ⟨⟩))
      ⊢ wp frame (wpE (defs₀ (F := F)) Variants.none c none) E (cc2__sample_kernel i arg1 harg1 arg2 harg2 arg3 harg3 arg4 harg4 arg5 harg5 arg6 harg6) K := by
  simp only [cc2__sample_kernel_eq_skeleton]; unfold cc2__sample_kernel_skel
  simp only [k2_part1_eq_skeleton, k2_part2_eq_skeleton, k2_part3_eq_skeleton]; unfold k2_part1_skel k2_part2_skel k2_part3_skel
  unfold wordsAt owns
  iintro ⟨⟨%f3, %hf3, H3⟩, ⟨%s, %s', %hw, ⟨%fs, %hs, HS⟩, ⟨%fi, %hi, HI⟩⟩, Hk⟩
  obtain rfl := harg3.eq_unread hf3; obtain rfl := harg5.eq_unread hs; obtain rfl := harg6.eq_unread hi
  sl_exec (disch := first | sl_exact hc0 | sl_exact hc1 | sl_exact hc2 | sl_exact hc3 | sl_exact hc4 | sl_exact hc5)
  sl_step
  iapply Hk
  isplitl [H3]
  · iexists _; isplitr; · ipureintro; exact harg3.read_unread _
    iexact H3
  have e0 : run2_find.sl.r c arg5 harg5 s = r.f3 := (readAt_at arg5.view _ _ (by decide) _).trans ((congrFun hs _).trans hw.2.2.2.1)
  have e1 : run2_find.sl.r_1 c arg5 harg5 s = r.f4 := (readAt_at arg5.view _ _ (by decide) _).trans ((congrFun hs _).trans hw.2.2.2.2.1)
  have e2 : run2_find.sl.r_2 c arg6 harg6 s' = r.i1 := (readAt_at arg6.view _ _ (by decide) _).trans ((congrFun hi _).trans hw.2.2.2.2.2.2.1)
  have e3 : run2_find.sl.r_3 c arg6 harg6 s' = r.i2 := (readAt_at arg6.view _ _ (by decide) _).trans ((congrFun hi _).trans hw.2.2.2.2.2.2.2.1)
  have e4 : run2_find.sl.r_4 c arg6 harg6 s' = r.i3 := (readAt_at arg6.view _ _ (by decide) _).trans ((congrFun hi _).trans hw.2.2.2.2.2.2.2.2)
  iexists _, _; isplitr
  · ipureintro; exact Words.heldBy_find p _ hw
  isplitl [HS]
  · iexists _; isplitr
    swap; · iexact HS
    ipureintro
    rw [read_writes_put, View.writes_nil, hs, load_block, e0, e1]; rfl
  iexists _; isplitr
  swap; · iexact HI
  ipureintro
  rw [read_writes_put, View.writes_nil, hi, load_block, e0, e1, e2, e3, e4]; rfl

set_option maxHeartbeats 2000000 in
/-- The last point of the fourth sweep: the token is stored. -/
theorem run2_last (hc0 : ¬first2 i) (hc1 : ¬in2 0#32 i) (hc2 : ¬in2 1#32 i) (hc3 : ¬in2 2#32 i) (hc4 : in2 3#32 i) (hc5 : last2 i)
    (E : Set ℕ) (K : PUnit → sProp 𝕄) :
    iprop(owns (c : Thread nD τ) arg3 fullShare p ∗ (∃ d, owns (c : Thread nD τ) arg4 fullShare d) ∗ wordsAt c arg5 arg6 r
        ∗ (iprop(owns (c : Thread nD τ) arg3 fullShare p ∗ owns (c : Thread nD τ) arg4 fullShare (fun _ => (r.find (k2_pay23 i) p).i3) ∗ wordsAt c arg5 arg6 (r.find (k2_pay23 i) p)) -∗ K ⟨⟩))
      ⊢ wp frame (wpE (defs₀ (F := F)) Variants.none c none) E (cc2__sample_kernel i arg1 harg1 arg2 harg2 arg3 harg3 arg4 harg4 arg5 harg5 arg6 harg6) K := by
  simp only [cc2__sample_kernel_eq_skeleton]; unfold cc2__sample_kernel_skel
  simp only [k2_part1_eq_skeleton, k2_part2_eq_skeleton, k2_part3_eq_skeleton]; unfold k2_part1_skel k2_part2_skel k2_part3_skel
  unfold wordsAt owns
  iintro ⟨⟨%f3, %hf3, H3⟩, ⟨%d4, %f4, -, H4⟩, ⟨%s, %s', %hw, ⟨%fs, %hs, HS⟩, ⟨%fi, %hi, HI⟩⟩, Hk⟩
  obtain rfl := harg3.eq_unread hf3; obtain rfl := harg5.eq_unread hs; obtain rfl := harg6.eq_unread hi
  sl_exec (disch := first | sl_exact hc0 | sl_exact hc1 | sl_exact hc2 | sl_exact hc3 | sl_exact hc4 | sl_exact hc5)
  sl_step
  iapply Hk
  isplitl [H3]
  · iexists _; isplitr; · ipureintro; exact harg3.read_unread _
    iexact H3
  have e0 : run2_last.sl.r c arg5 harg5 s = r.f3 := (readAt_at arg5.view _ _ (by decide) _).trans ((congrFun hs _).trans hw.2.2.2.1)
  have e1 : run2_last.sl.r_1 c arg5 harg5 s = r.f4 := (readAt_at arg5.view _ _ (by decide) _).trans ((congrFun hs _).trans hw.2.2.2.2.1)
  have e2 : run2_last.sl.r_2 c arg6 harg6 s' = r.i1 := (readAt_at arg6.view _ _ (by decide) _).trans ((congrFun hi _).trans hw.2.2.2.2.2.2.1)
  have e3 : run2_last.sl.r_3 c arg6 harg6 s' = r.i2 := (readAt_at arg6.view _ _ (by decide) _).trans ((congrFun hi _).trans hw.2.2.2.2.2.2.2.1)
  have e4 : run2_last.sl.r_4 c arg6 harg6 s' = r.i3 := (readAt_at arg6.view _ _ (by decide) _).trans ((congrFun hi _).trans hw.2.2.2.2.2.2.2.2)
  have e5 : run2_last.sl.r_5 c i arg3 harg3 arg5 harg5 arg6 harg6 p s s' = (r.find (k2_pay23 i) p).i3 := by
    unfold run2_last.sl.r_5
    rw [load_block, e0, e1, e2, e3, e4]; rfl
  isplitl [H4]
  · iexists _; isplitr; swap; · iexact H4
    ipureintro
    rw [read_writes_put, e5]
    funext y; exact if_pos (by have h : (y 0).val < 1 := (y 0).isLt; show (y 0).val = 0; omega)
  iexists _, _; isplitr
  · ipureintro; exact Words.heldBy_find p _ hw
  isplitl [HS]
  · iexists _; isplitr
    swap; · iexact HS
    ipureintro
    rw [read_writes_put, View.writes_nil, hs, load_block, e0, e1]; rfl
  iexists _; isplitr
  swap; · iexact HI
  ipureintro
  rw [read_writes_put, View.writes_nil, hi, load_block, e0, e1, e2, e3, e4]; rfl

end

end Cert.KernelIdeal.Hand

end
-- ==== Proof.KI.Sample.lean ====
/-
  The sampling call, point by point: the nine words its scratch carries, the token it stores at the last point, and the
  proof data of the whole call entered from any contents of the arrays.
-/
module

public import proofs.«01_k».proof.Proof.KI.SampleRun

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The blocks point `t` works on: the sorted probabilities, the noise, the probabilities. -/
def blkS (c : Dev nD) (t : Fin cfg2.N) : Vec F S1024x128 .f32 :=
  ((cfg2.win 0).blk t).view.read (Elt F) (V c (Pipeline.arrRef spec2 0))
def blkG (c : Dev nD) (t : Fin cfg2.N) : Vec F S1024x128 .f32 :=
  ((cfg2.win 1).blk t).view.read (Elt F) (V c (Pipeline.arrRef spec2 1))
def blkP (c : Dev nD) (t : Fin cfg2.N) : Vec F S1024x128 .f32 :=
  ((cfg2.win 2).blk t).view.read (Elt F) (V c (Pipeline.arrRef spec2 2))
/-- The positions point `t`'s block covers. -/
def pos2 (t : Fin cfg2.N) : IVec S1024x128 32 := k2_pay23 (grid2.coords t)

/-- One point's change of the nine words. -/
def step2 (c : Dev nD) (t : Fin cfg2.N) (r : Words F) : Words F :=
  if t.val < 8 then r.gather (blkS V c t)
  else if t.val < 16 then r.choose (pos2 t) (blkS V c t) (blkG V c t)
  else if t.val < 24 then r.rank (blkP V c t)
  else r.find (pos2 t) (blkP V c t)

/-- The nine words before point `n`. -/
def st2 (c : Dev nD) : ℕ → Words F
  | 0 => Words.start
  | n + 1 => if h : n < cfg2.N then step2 V c ⟨n, h⟩ (st2 c n) else st2 c n

theorem st2_succ (c : Dev nD) (t : Fin cfg2.N) : st2 V c (t.val + 1) = step2 V c t (st2 V c t.val) := by
  rw [st2, dif_pos t.isLt]
theorem st2_gather (c : Dev nD) (t : Fin cfg2.N) (h : t.val < 8) : st2 V c (t.val + 1) = (st2 V c t.val).gather (blkS V c t) := by
  rw [st2_succ, step2, if_pos h]
theorem st2_choose (c : Dev nD) (t : Fin cfg2.N) (h : 8 ≤ t.val) (h' : t.val < 16) :
    st2 V c (t.val + 1) = (st2 V c t.val).choose (pos2 t) (blkS V c t) (blkG V c t) := by
  rw [st2_succ, step2, if_neg (by omega), if_pos h']
theorem st2_rank (c : Dev nD) (t : Fin cfg2.N) (h : 16 ≤ t.val) (h' : t.val < 24) :
    st2 V c (t.val + 1) = (st2 V c t.val).rank (blkP V c t) := by
  rw [st2_succ, step2, if_neg (by omega), if_neg (by omega), if_pos h']
theorem st2_find (c : Dev nD) (t : Fin cfg2.N) (h : 24 ≤ t.val) :
    st2 V c (t.val + 1) = (st2 V c t.val).find (pos2 t) (blkP V c t) := by
  rw [st2_succ, step2, if_neg (by omega), if_neg (by omega), if_neg (by omega)]

/-- The two scratch buffers before point `n`: anything at the first, the nine words after it. -/
def scr2 (c : Dev nD) (n : ℕ) : sProp 𝕄 :=
  iprop(∃ (s : Vec F S8 .f32) (s' : Vec F S8 .i32), ⌜0 < n → (st2 V c n).heldBy s s'⌝
    ∗ owns (c : Thread nD τ) (Memref.whole cc2_scratch0) fullShare s ∗ owns (c : Thread nD τ) (Memref.whole cc2_scratch1) fullShare s')

/-- The buffers of the other calls. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- What rides through the call beside the windows. -/
def inv2 (c : Dev nD) (n : ℕ) : sProp 𝕄 := iprop(scr2 V c n ∗ rest2 c)

theorem scr2_open (c : Dev nD) (n : ℕ) (h : 0 < n) :
    scr2 V c n ⊢ wordsAt c (Memref.whole cc2_scratch0) (Memref.whole cc2_scratch1) (st2 V c n) := by
  unfold scr2 wordsAt
  iintro ⟨%s, %s', %hh, HS, HI⟩
  iexists s, s'; isplitr; · ipureintro; exact hh h
  isplitl [HS] <;> iassumption
theorem scr2_any (c : Dev nD) (n : ℕ) :
    scr2 V c n ⊢ iprop(∃ s s', owns (c : Thread nD τ) (Memref.whole cc2_scratch0) fullShare s
      ∗ owns (c : Thread nD τ) (Memref.whole cc2_scratch1) fullShare s') := by
  unfold scr2
  iintro ⟨%s, %s', -, HS, HI⟩
  iexists s, s'
  isplitl [HS] <;> iassumption
theorem scr2_close (c : Dev nD) (n : ℕ) :
    wordsAt c (Memref.whole cc2_scratch0) (Memref.whole cc2_scratch1) (st2 V c n) ⊢ scr2 V c n := by
  unfold scr2 wordsAt
  iintro ⟨%s, %s', %hh, HS, HI⟩
  iexists s, s'; isplitr; · ipureintro; exact fun _ => hh
  isplitl [HS] <;> iassumption

/-- The proof data of the call. -/
def dat2 (c : Dev nD) : Dat τ (Elt F) Unit ℕ (UR sig nD τ) ℕ cfg2 c where
  A w := V c (Pipeline.arrRef spec2 w)
  after w t := match w with
    | ⟨0, _⟩ => blkS V c t
    | ⟨1, _⟩ => blkG V c t
    | ⟨2, _⟩ => blkP V c t
    | ⟨3, _⟩ => fun _ => (st2 V c (t.val + 1)).i3
  Φ t := inv2 V c t.val
  q _ := fullShare
  owed _ := 0

theorem after2_0 (c : Dev nD) (t : Fin cfg2.N) : (dat2 V c).after 0 t = blkS V c t := by dsimp only [dat2]
theorem after2_1 (c : Dev nD) (t : Fin cfg2.N) : (dat2 V c).after 1 t = blkG V c t := by dsimp only [dat2]
theorem after2_2 (c : Dev nD) (t : Fin cfg2.N) : (dat2 V c).after 2 t = blkP V c t := by dsimp only [dat2]
theorem after2_3 (c : Dev nD) (t : Fin cfg2.N) : (dat2 V c).after 3 t = fun _ => (st2 V c (t.val + 1)).i3 := by dsimp only [dat2]

/-- The input windows hold their blocks when the body runs. -/
theorem before2_0 (c : Dev nD) (t : Fin cfg2.N) (d) : (dat2 V c).before 0 t d = blkS V c t :=
  ((dat2 V c).before_in_eq_fetched 0 rfl (fun _ => rfl) (fun _ _ _ => rfl) (fun t => by rw [after2_0]; rfl) t d).trans rfl
theorem before2_1 (c : Dev nD) (t : Fin cfg2.N) (d) : (dat2 V c).before 1 t d = blkG V c t :=
  ((dat2 V c).before_in_eq_fetched 1 rfl (fun _ => rfl) (fun _ _ _ => rfl) (fun t => by rw [after2_1]; rfl) t d).trans rfl
theorem before2_2 (c : Dev nD) (t : Fin cfg2.N) (d) : (dat2 V c).before 2 t d = blkP V c t :=
  ((dat2 V c).before_in_eq_fetched 2 rfl (fun _ => rfl) (fun _ _ _ => rfl) (fun t => by rw [after2_2]; rfl) t d).trans rfl

theorem live2_0 (t : Fin cfg2.N) : cfg2.idle 0 (grid2.coords t) = false := rfl
theorem live2_1 (t : Fin cfg2.N) : cfg2.idle 1 (grid2.coords t) = false := rfl
theorem live2_2 (t : Fin cfg2.N) : cfg2.idle 2 (grid2.coords t) = false := rfl
theorem idle2_3 : ∀ t : Fin cfg2.N, t.val ≠ 31 → cfg2.idle 3 (grid2.coords t) = true :=
  (by decide +kernel : ∀ t : Fin grid2.N, t.val ≠ 31 → cfg2.idle 3 (grid2.coords t) = true)
theorem noflush2_3 : ∀ t : Fin cfg2.N, t.val ≠ 31 → (cfg2.win 3).flush t = false :=
  (by decide +kernel : ∀ t : Fin grid2.N, t.val ≠ 31 → (cfg2.win 3).flush t = false)
theorem live2_3 : ∀ t : Fin cfg2.N, t.val = 31 → cfg2.idle 3 (grid2.coords t) = false :=
  (by decide +kernel : ∀ t : Fin grid2.N, t.val = 31 → cfg2.idle 3 (grid2.coords t) = false)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 3200000 in
/-- The body at any point, one of six kinds. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = inv2 V c (t.val + 1) from rfl, show (dat2 V c).Φ t.castSucc = inv2 V c t.val from rfl]
  unfold inv2
  rw [show (dat2 V c).leavesExact 0 t = owns (c : Thread nD τ) (st2_0 t) fullShare ((dat2 V c).after 0 t) from by
      unfold Dat.leavesExact; rw [live2_0 t], after2_0,
    show (dat2 V c).leavesExact 1 t = owns (c : Thread nD τ) (st2_1 t) fullShare ((dat2 V c).after 1 t) from by
      unfold Dat.leavesExact; rw [live2_1 t], after2_1,
    show (dat2 V c).leavesExact 2 t = owns (c : Thread nD τ) (st2_2 t) fullShare ((dat2 V c).after 2 t) from by
      unfold Dat.leavesExact; rw [live2_2 t], after2_2]
  have hN : t.val < 32 := lt_of_lt_of_eq t.isLt (show cfg2.N = 32 from N_2)
  have n0 (h : t.val ≠ 0) : ¬first2 (grid2.coords t) := fun h' => h ((first2_iff t).mp h')
  have n1 (h : ¬ t.val < 8) : ¬in2 0#32 (grid2.coords t) := fun h' => h ((in2_0_iff t).mp h')
  have n2 (h : ¬ (8 ≤ t.val ∧ t.val < 16)) : ¬in2 1#32 (grid2.coords t) := fun h' => h ((in2_1_iff t).mp h')
  have n3 (h : ¬ (16 ≤ t.val ∧ t.val < 24)) : ¬in2 2#32 (grid2.coords t) := fun h' => h ((in2_2_iff t).mp h')
  have n4 (h : ¬ 24 ≤ t.val) : ¬in2 3#32 (grid2.coords t) := fun h' => h ((in2_3_iff t).mp h')
  have n5 (h : t.val ≠ 31) : ¬last2 (grid2.coords t) := fun h' => h ((last2_iff t).mp h')
  by_cases h31 : t.val = 31
  · rw [show (dat2 V c).leavesExact 3 t = owns (c : Thread nD τ) (st2_3 t) fullShare ((dat2 V c).after 3 t) from by
      unfold Dat.leavesExact; rw [live2_3 t h31], after2_3, st2_find V c t (by omega)]
    iintro ⟨⟨HS, HR⟩, Ho, ⟨%d0, H0⟩, ⟨%d1, H1⟩, ⟨%d2, H2⟩, ⟨%d3, H3⟩⟩
    ihave HS := (scr2_open V c t.val (by omega)) $$ HS
    iapply (run2_last c (grid2.coords t) _ _ _ _ _ _ _ _ _ _ _ _ (blkP V c t) (st2 V c t.val) (n0 (by omega)) (n1 (by omega)) (n2 (by omega)) (n3 (by omega)) ((in2_3_iff t).mpr (by omega)) ((last2_iff t).mpr h31) Set.univ _)
    isplitl [H2]; · iexact H2
    isplitl [H3]; · iexists _; iexact H3
    isplitl [HS]; · iexact HS
    iintro ⟨H2, H3, HS⟩
    isplitl [HS HR]
    · isplitl [HS]
      · iapply (scr2_close V c (t.val + 1)); rw [st2_find V c t (by omega)]; iexact HS
      iexact HR
    isplitl [Ho]; · iexact Ho
    isplitl [H0]; · iexact H0
    isplitl [H1]; · iexact H1
    isplitl [H2]; · iexact H2
    iexact H3
  rw [Dat.leavesExact_idle (dat2 V c) 3 t (idle2_3 t h31) (noflush2_3 t h31)]
  by_cases h0 : t.val = 0
  ·
    iintro ⟨⟨HS, HR⟩, Ho, ⟨%d0, H0⟩, ⟨%d1, H1⟩, ⟨%d2, H2⟩, ⟨%d3, H3⟩⟩
    ihave HS := (scr2_any V c t.val) $$ HS
    icases HS with ⟨%s, %s', HS, HI⟩
    iapply (run2_first c (grid2.coords t) _ _ _ _ _ _ _ _ _ _ _ _ (blkS V c t) _ _ ((first2_iff t).mpr h0) ((in2_0_iff t).mpr (by omega)) (n2 (by omega)) (n3 (by omega)) (n4 (by omega)) (n5 h31) Set.univ _)
    isplitl [H0]; · iexact H0
    isplitl [HS]; · iexact HS
    isplitl [HI]; · iexact HI
    iintro ⟨H0, HS⟩
    isplitl [HS HR]
    · isplitl [HS]
      · iapply (scr2_close V c (t.val + 1)); rw [st2_gather V c t (by omega), h0]; iexact HS
      iexact HR
    isplitl [Ho]; · iexact Ho
    isplitl [H0]; · iexact H0
    isplitl [H1]; · iexact H1
    isplitl [H2]; · iexact H2
    iexists _; iexact H3
  by_cases h8 : t.val < 8
  ·
    iintro ⟨⟨HS, HR⟩, Ho, ⟨%d0, H0⟩, ⟨%d1, H1⟩, ⟨%d2, H2⟩, ⟨%d3, H3⟩⟩
    ihave HS := (scr2_open V c t.val (by omega)) $$ HS
    iapply (run2_gather c (grid2.coords t) _ _ _ _ _ _ _ _ _ _ _ _ (blkS V c t) (st2 V c t.val) (n0 h0) ((in2_0_iff t).mpr h8) (n2 (by omega)) (n3 (by omega)) (n4 (by omega)) (n5 h31) Set.univ _)
    isplitl [H0]; · iexact H0
    isplitl [HS]; · iexact HS
    iintro ⟨H0, HS⟩
    isplitl [HS HR]
    · isplitl [HS]
      · iapply (scr2_close V c (t.val + 1)); rw [st2_gather V c t h8]; iexact HS
      iexact HR
    isplitl [Ho]; · iexact Ho
    isplitl [H0]; · iexact H0
    isplitl [H1]; · iexact H1
    isplitl [H2]; · iexact H2
    iexists _; iexact H3
  by_cases h16 : t.val < 16
  ·
    iintro ⟨⟨HS, HR⟩, Ho, ⟨%d0, H0⟩, ⟨%d1, H1⟩, ⟨%d2, H2⟩, ⟨%d3, H3⟩⟩
    ihave HS := (scr2_open V c t.val (by omega)) $$ HS
    iapply (run2_choose c (grid2.coords t) _ _ _ _ _ _ _ _ _ _ _ _ (blkS V c t) (blkG V c t) (st2 V c t.val) (n0 h0) (n1 h8) ((in2_1_iff t).mpr ⟨by omega, h16⟩) (n3 (by omega)) (n4 (by omega)) (n5 h31) Set.univ _)
    isplitl [H0]; · iexact H0
    isplitl [H1]; · iexact H1
    isplitl [HS]; · iexact HS
    iintro ⟨H0, H1, HS⟩
    isplitl [HS HR]
    · isplitl [HS]
      · iapply (scr2_close V c (t.val + 1)); rw [st2_choose V c t (by omega) h16]; iexact HS
      iexact HR
    isplitl [Ho]; · iexact Ho
    isplitl [H0]; · iexact H0
    isplitl [H1]; · iexact H1
    isplitl [H2]; · iexact H2
    iexists _; iexact H3
  by_cases h24 : t.val < 24
  ·
    iintro ⟨⟨HS, HR⟩, Ho, ⟨%d0, H0⟩, ⟨%d1, H1⟩, ⟨%d2, H2⟩, ⟨%d3, H3⟩⟩
    ihave HS := (scr2_open V c t.val (by omega)) $$ HS
    iapply (run2_rank c (grid2.coords t) _ _ _ _ _ _ _ _ _ _ _ _ (blkP V c t) (st2 V c t.val) (n0 h0) (n1 h8) (n2 (by omega)) ((in2_2_iff t).mpr ⟨by omega, h24⟩) (n4 (by omega)) (n5 h31) Set.univ _)
    isplitl [H2]; · iexact H2
    isplitl [HS]; · iexact HS
    iintro ⟨H2, HS⟩
    isplitl [HS HR]
    · isplitl [HS]
      · iapply (scr2_close V c (t.val + 1)); rw [st2_rank V c t (by omega) h24]; iexact HS
      iexact HR
    isplitl [Ho]; · iexact Ho
    isplitl [H0]; · iexact H0
    isplitl [H1]; · iexact H1
    isplitl [H2]; · iexact H2
    iexists _; iexact H3
  ·
    iintro ⟨⟨HS, HR⟩, Ho, ⟨%d0, H0⟩, ⟨%d1, H1⟩, ⟨%d2, H2⟩, ⟨%d3, H3⟩⟩
    ihave HS := (scr2_open V c t.val (by omega)) $$ HS
    iapply (run2_find c (grid2.coords t) _ _ _ _ _ _ _ _ _ _ _ _ (blkP V c t) (st2 V c t.val) (n0 h0) (n1 h8) (n2 (by omega)) (n3 (by omega)) ((in2_3_iff t).mpr (by omega)) (n5 h31) Set.univ _)
    isplitl [H2]; · iexact H2
    isplitl [HS]; · iexact HS
    iintro ⟨H2, HS⟩
    isplitl [HS HR]
    · isplitl [HS]
      · iapply (scr2_close V c (t.val + 1)); rw [st2_find V c t (by omega)]; iexact HS
      iexact HR
    isplitl [Ho]; · iexact Ho
    isplitl [H0]; · iexact H0
    isplitl [H1]; · iexact H1
    isplitl [H2]; · iexact H2
    iexists _; iexact H3

theorem defs₀_row2 (t : Fin cfg2.N) : defs₀ (F := F) .tc cfg2.body (cfg2.bodyArgs t (cfg2.slots t)) = bodyAt2 t := by
  unfold defs₀; rw [Defs.onTc_tc]

/-- The body at every point, as the call asks for it. -/
theorem body_obligation2 (c : Dev nD) : BodyObligation (dat2 V c) (defs₀ (F := F)) Variants.none () Set.univ := fun t => by
  rw [bigSep_W2, bigSep_W2, defs₀_row2]
  exact triple_restated (sound_body2 V c t) rfl .rfl fun _ => .rfl

/-- The scoped buffers beside the windows: the two scratch buffers, and the rest. -/
theorem scoped2 (c : Dev nD) :
    (Pipeline.scopedRest (Ix := Unit) (Name := ℕ) (U := UR sig nD τ) (Lvl := ℕ) (Val := Elt F) spec2 c : sProp 𝕄)
      = iprop(((∃ f : Buf (Elt F) ((c : Thread nD τ).loc cc2_scratch0), ((c : Thread nD τ).loc cc2_scratch0) ↦{fullShare} f)
          ∗ (∃ f : Buf (Elt F) ((c : Thread nD τ).loc cc2_scratch1), ((c : Thread nD τ).loc cc2_scratch1) ↦{fullShare} f))
        ∗ rest2 c) := by
  rw [Pipeline.scopedRest_split_of_list spec2 c [cc2_scratch0, cc2_scratch1] (by decide) (by decide), bigSepL_cons_cons, bigSepL_singleton]; rfl

/-- The invariant before the first point, from the scoped buffers; -/
theorem inv2_in (c : Dev nD) :
    (Pipeline.scopedRest (Ix := Unit) (Name := ℕ) (U := UR sig nD τ) (Lvl := ℕ) (Val := Elt F) spec2 c : sProp 𝕄) ⊢ inv2 V c 0 := by
  rw [scoped2]
  unfold inv2 scr2; simp only [owns_whole]
  iintro ⟨⟨⟨%f, HS⟩, ⟨%f', HI⟩⟩, HR⟩
  isplitl [HS HI]
  · iexists f, f'; isplitr; · ipureintro; exact fun h => absurd h (lt_irrefl _)
    isplitl [HS] <;> iassumption
  iexact HR

/-- and the scoped buffers back from the invariant at any point. -/
theorem inv2_out (c : Dev nD) (n : ℕ) :
    inv2 V c n ⊢ (Pipeline.scopedRest (Ix := Unit) (Name := ℕ) (U := UR sig nD τ) (Lvl := ℕ) (Val := Elt F) spec2 c : sProp 𝕄) := by
  rw [scoped2]
  unfold inv2 scr2; simp only [owns_whole]
  iintro ⟨⟨%s, %s', -, HS, HI⟩, HR⟩
  isplitl [HS HI]
  · isplitl [HS]
    · iexists s; iexact HS
    iexists s'; iexact HI
  iexact HR

end Cert.KernelIdeal.Hand

end
-- ==== Proof.KI.Run.lean ====
/-
  The whole program: the three calls as segments between the host's stretches, and what a run ends with — the argument
  unchanged, every semaphore at zero, and the token's buffer as the third call leaves it.
-/
module

public import proofs.«01_k».proof.Proof.KI.Mask
public import proofs.«01_k».proof.Proof.KI.Softmax
public import proofs.«01_k».proof.Proof.KI.Sample
public import Idealize.ShloMosaic.Lib.Pipeline.RegionsLoop

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg cellOf)

variable {F : FTy → Type} [FloatOps F] [Named F]

abbrev U : Type := UR sig nD τ
local notation "𝕄" => MT nD τ sig Unit (Elt F) ℕ U ℕ

/-- The contents of a core's arrays. -/
abbrev Arrays : Type := (c : Dev nD) → (b : Ref sig .tc) → Buf (Elt F) ((c : Thread nD τ).loc b)

/-- The proof data of the three calls, entered with the arrays holding `e0`, `e1` and `e2`. -/
def pdats (e0 e1 e2 : Arrays (F := F)) : (p : Fin 3) → (c : Dev nD) → Dat τ (Elt F) Unit ℕ U ℕ (Pipeline.pin (pcfgs (F := F)) adm p) c
  | ⟨0, _⟩, c => dat0 e0 c
  | ⟨1, _⟩, c => dat1 e1 c
  | ⟨2, _⟩, c => dat2 e2 c

abbrev L : GSem nD τ sig → Finset Unit := fun _ => ∅
abbrev lv : GSem nD τ sig → Unit → ℕ := fun _ _ => 0

/-- The rest of a thread's state between two items: nothing owed. -/
abbrev idleRest (c : Dev nD) : sProp 𝕄 := iprop(∃ W, owes (c : Thread nD τ) (0 : CellTallies nD τ sig Unit) W)

variable (e0 e1 e2 x : Arrays (F := F))

set_option backward.isDefEq.respectTransparency.types false in
/-- Call 0 as a segment. -/
def reg0 (hout : ∀ c, x c main_v0 = (dat0 e0 c).arrAt 0 cfg0.N) (hne : ∀ (c : Dev nD) (b : Ref sig .tc), b ≠ main_v0 → x c b = e0 c b) : RegionSeg (pcfgs (F := F)) adm (pdats e0 e1 e2) () defs₀ Variants.none L lv 0 where
  win := launch0.win.to₀
  block_pos := launch0.block_pos
  stage_whole := launch0.stage_whole
  K := PEmpty
  osem k := k.elim
  ho := Pipeline.OwnSemFacts.none _
  hbody c := (body_obligation0 (e0) c).loose
  hwaits := Pipeline.hwaits_of_owed_zero _ _ _ _ L lv 0 fun _ _ => rfl
  pre c := iprop(unscopedBufs c (e0 c) ∗ idleRest c)
  post c := iprop(unscopedBufs c (x c) ∗ idleRest c)
  X _ := BI.emp
  Y _ := BI.emp
  Z c := Pipeline.unscopedRest (Ix := Unit) (Name := ℕ) (U := U) (Lvl := ℕ) spec0 c (e0 c)
  hentry c := by
    rw [Pipeline.ownSems0_none]
    have hsplit := Pipeline.arrays_of_unscopedBufs (p := 0) (pcfgs (F := F)) adm (pdats e0 e1 e2) launch0.win launch0.arr_whole c
      ((pdats e0 e1 e2 0 c).share_full fun _ => rfl) (e0 c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W; isplitr; · ipureintro; exact fun _ _ => Or.inl trivial
      iexact HO
    isplitr; · iempintro
    iexact Hrest
  hin c := by
    rw [show (pdats e0 e1 e2 0 c).Φ 0 = Pipeline.scopedRest (Ix := Unit) (Name := ℕ) (U := U) (Lvl := ℕ) (Val := Elt F) spec0 c from rfl]
    iintro ⟨-, -, Hr⟩
    iexact Hr
  hout c := by
    rw [Pipeline.ownSems0_none, show (pdats e0 e1 e2 0 c).Φ (Fin.last _) = Pipeline.scopedRest (Ix := Unit) (Name := ℕ) (U := U) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := U) (Lvl := ℕ)
      launch0.win launch0.arr_whole c (pdats e0 e1 e2) ((pdats e0 e1 e2 0 c).share_full fun _ => rfl) (e0 c) (x c)
      ((pdats e0 e1 e2 0 c).arrAt · cfg0.N) (fun w => by
        fin_cases w
        · exact (hout c).symm)
      (fun b hb => hne c b fun h => hb (h ▸ Finset.mem_image.mpr ⟨0, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

set_option backward.isDefEq.respectTransparency.types false in
/-- Call 1 as a segment. -/
def reg1 (hout : ∀ c, x c main_v4 = (dat1 e1 c).arrAt 1 cfg1.N) (hne : ∀ (c : Dev nD) (b : Ref sig .tc), b ≠ main_v4 → x c b = e1 c b) : RegionSeg (pcfgs (F := F)) adm (pdats e0 e1 e2) () defs₀ Variants.none L lv 1 where
  win := launch1.win.to₀
  block_pos := launch1.block_pos
  stage_whole := launch1.stage_whole
  K := PEmpty
  osem k := k.elim
  ho := Pipeline.OwnSemFacts.none _
  hbody c := (body_obligation1 (e1) c).loose
  hwaits := Pipeline.hwaits_of_owed_zero _ _ _ _ L lv 1 fun _ _ => rfl
  pre c := iprop(unscopedBufs c (e1 c) ∗ idleRest c)
  post c := iprop(unscopedBufs c (x c) ∗ idleRest c)
  X _ := BI.emp
  Y _ := BI.emp
  Z c := Pipeline.unscopedRest (Ix := Unit) (Name := ℕ) (U := U) (Lvl := ℕ) spec1 c (e1 c)
  hentry c := by
    rw [Pipeline.ownSems0_none]
    have hsplit := Pipeline.arrays_of_unscopedBufs (p := 1) (pcfgs (F := F)) adm (pdats e0 e1 e2) launch1.win launch1.arr_whole c
      ((pdats e0 e1 e2 1 c).share_full fun _ => rfl) (e1 c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W; isplitr; · ipureintro; exact fun _ _ => Or.inl trivial
      iexact HO
    isplitr; · iempintro
    iexact Hrest
  hin c := by
    rw [show (pdats e0 e1 e2 1 c).Φ 0 = inv1 (e1) c 0 from rfl]
    iintro ⟨-, -, Hr⟩
    iapply (inv1_in e1 c); iexact Hr
  hout c := by
    rw [Pipeline.ownSems0_none, show (pdats e0 e1 e2 1 c).Φ (Fin.last _) = inv1 (e1) c cfg1.N from rfl]
    iintro Hr
    isplitr; · iempintro
    isplitr; · iempintro
    iapply (inv1_out e1 c cfg1.N); iexact Hr
  hexit c := by
    have hjoin := Pipeline.unscopedBufs_of_arrays (p := 1) (pcfgs (F := F)) adm (Ix := Unit) (Name := ℕ) (U := U) (Lvl := ℕ)
      launch1.win launch1.arr_whole c (pdats e0 e1 e2) ((pdats e0 e1 e2 1 c).share_full fun _ => rfl) (e1 c) (x c)
      ((pdats e0 e1 e2 1 c).arrAt · cfg1.N) (fun w => by
        fin_cases w
        · exact ((pdats e0 e1 e2 1 c).arrAt_in 0 rfl _).trans (hne c main_v3 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

set_option backward.isDefEq.respectTransparency.types false in
/-- Call 2 as a segment. -/
def reg2 (hout : ∀ c, x c main_v20 = (dat2 e2 c).arrAt 3 cfg2.N) (hne : ∀ (c : Dev nD) (b : Ref sig .tc), b ≠ main_v20 → x c b = e2 c b) : RegionSeg (pcfgs (F := F)) adm (pdats e0 e1 e2) () defs₀ Variants.none L lv 2 where
  win := launch2.win.to₀
  block_pos := launch2.block_pos
  stage_whole := launch2.stage_whole
  K := PEmpty
  osem k := k.elim
  ho := Pipeline.OwnSemFacts.none _
  hbody c := (body_obligation2 (e2) c).loose
  hwaits := Pipeline.hwaits_of_owed_zero _ _ _ _ L lv 2 fun _ _ => rfl
  pre c := iprop(unscopedBufs c (e2 c) ∗ idleRest c)
  post c := iprop(unscopedBufs c (x c) ∗ idleRest c)
  X _ := BI.emp
  Y _ := BI.emp
  Z c := Pipeline.unscopedRest (Ix := Unit) (Name := ℕ) (U := U) (Lvl := ℕ) spec2 c (e2 c)
  hentry c := by
    rw [Pipeline.ownSems0_none]
    have hsplit := Pipeline.arrays_of_unscopedBufs (p := 2) (pcfgs (F := F)) adm (pdats e0 e1 e2) launch2.win launch2.arr_whole c
      ((pdats e0 e1 e2 2 c).share_full fun _ => rfl) (e2 c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W; isplitr; · ipureintro; exact fun _ _ => Or.inl trivial
      iexact HO
    isplitr; · iempintro
    iexact Hrest
  hin c := by
    rw [show (pdats e0 e1 e2 2 c).Φ 0 = inv2 (e2) c 0 from rfl]
    iintro ⟨-, -, Hr⟩
    iapply (inv2_in e2 c); iexact Hr
  hout c := by
    rw [Pipeline.ownSems0_none, show (pdats e0 e1 e2 2 c).Φ (Fin.last _) = inv2 (e2) c cfg2.N from rfl]
    iintro Hr
    isplitr; · iempintro
    isplitr; · iempintro
    iapply (inv2_out e2 c cfg2.N); iexact Hr
  hexit c := by
    have hjoin := Pipeline.unscopedBufs_of_arrays (p := 2) (pcfgs (F := F)) adm (Ix := Unit) (Name := ℕ) (U := U) (Lvl := ℕ)
      launch2.win launch2.arr_whole c (pdats e0 e1 e2) ((pdats e0 e1 e2 2 c).share_full fun _ => rfl) (e2 c) (x c)
      ((pdats e0 e1 e2 2 c).arrAt · cfg2.N) (fun w => by
        fin_cases w
        · exact ((pdats e0 e1 e2 2 c).arrAt_in 0 rfl _).trans (hne c main_v9 (by decide)).symm
        · exact ((pdats e0 e1 e2 2 c).arrAt_in 1 rfl _).trans (hne c main_v19 (by decide)).symm
        · exact ((pdats e0 e1 e2 2 c).arrAt_in 2 rfl _).trans (hne c main_v4 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

section
variable (m : (ℓ : Loc nD τ sig) → Buf (Elt F) ℓ)

/-- The contents of the arrays as the second and third call are entered. -/
abbrev E0 : Arrays (F := F) := fun c b => V0 m c b
abbrev E1 (outs : Outs (F := F)) : Arrays (F := F) := fun c b => V2 m outs c b
abbrev E2 (outs : Outs (F := F)) : Arrays (F := F) := fun c b => V10 m outs c b

/-- `outs` holds what each call leaves. -/
structure Leaves (outs : Outs (F := F)) : Prop where
  l0 : ∀ c, outs 1 main_v0 c = (dat0 (E0 m) c).arrAt 0 cfg0.N
  l1 : ∀ c, outs 3 main_v4 c = (dat1 (E1 m outs) c).arrAt 1 cfg1.N
  l2 : ∀ c, outs 11 main_v20 c = (dat2 (E2 m outs) c).arrAt 3 cfg2.N

/-- One buffer's entry replaced. -/
def setOut (o : Outs (F := F)) (r : Ref sig .tc) (x : (c : Dev nD) → Buf (Elt F) ((c : Thread nD τ).loc r)) : Outs (F := F) :=
  fun J r' c => if h : r' = r then h ▸ x c else o J r' c

theorem setOut_self (o : Outs (F := F)) (r : Ref sig .tc) (x) (J : ℕ) (c : Dev nD) : setOut o r x J r c = x c := by
  unfold setOut; rw [dif_pos rfl]
theorem setOut_ne (o : Outs (F := F)) (r r' : Ref sig .tc) (x) (J : ℕ) (c : Dev nD) (h : r' ≠ r) : setOut o r x J r' c = o J r' c := by
  unfold setOut; rw [dif_neg h]

theorem V2_congr {o o' : Outs (F := F)} (h : ∀ c, o 1 main_v0 c = o' 1 main_v0 c) (c : Dev nD) : V2 m o c = V2 m o' c := by
  show StableHlo.after hostOps1 (Function.update (V0 m c) _ (o 1 main_v0 c)) = StableHlo.after hostOps1 (Function.update (V0 m c) _ (o' 1 main_v0 c))
  rw [h]
theorem V10_congr {o o' : Outs (F := F)} (h : ∀ c, o 1 main_v0 c = o' 1 main_v0 c) (h' : ∀ c, o 3 main_v4 c = o' 3 main_v4 c) (c : Dev nD) :
    V10 m o c = V10 m o' c := by
  have e : V3 m o c = V3 m o' c := by unfold V3; rw [V2_congr m h, h']
  unfold V10 V9 V8 V7 V6 V5 V4; rw [e]

/-- The calls one after another leave something. -/
theorem exists_leaves : ∃ outs : Outs (F := F), Leaves m outs := by
  let oA : Outs (F := F) := setOut (fun _ r c => m ((c : Thread nD τ).loc r)) main_v0 fun c => (dat0 (E0 m) c).arrAt 0 cfg0.N
  let oB : Outs (F := F) := setOut oA main_v4 fun c => (dat1 (E1 m oA) c).arrAt 1 cfg1.N
  let oC : Outs (F := F) := setOut oB main_v20 fun c => (dat2 (E2 m oB) c).arrAt 3 cfg2.N
  have hB : ∀ J c, oB J main_v0 c = oA J main_v0 c := fun J c => setOut_ne _ _ _ _ _ _ (by decide)
  have hC : ∀ J c, oC J main_v0 c = oB J main_v0 c := fun J c => setOut_ne _ _ _ _ _ _ (by decide)
  have hC' : ∀ J c, oC J main_v4 c = oB J main_v4 c := fun J c => setOut_ne _ _ _ _ _ _ (by decide)
  have e1 : E1 m oC = E1 m oA := funext fun c => funext fun b =>
    congrFun (V2_congr m (fun c => (hC 1 c).trans (hB 1 c)) c) _
  have e2 : E2 m oC = E2 m oB := funext fun c => funext fun b =>
    congrFun (V10_congr m (fun c => hC 1 c) (fun c => hC' 3 c) c) _
  refine ⟨oC, ⟨fun c => ?_, fun c => ?_, fun c => ?_⟩⟩
  · rw [hC, hB]; exact setOut_self _ _ _ _ _
  · rw [hC', e1]; exact setOut_self _ _ _ _ _
  · rw [e2]; exact setOut_self _ _ _ _ _

variable (ρ : Dev nD → PrngReg) {outs : Outs (F := F)} (hL : Leaves m outs)

/-- The three calls as segments of the run from `m`. -/
abbrev R0 := reg0 (E0 m) (E1 m outs) (E2 m outs) (fun c b => V1 m outs c b) (fun c => (Function.update_self _ _ _).trans (hL.l0 c))
  fun c b hb => V1_of m outs c b (by simpa using hb)
abbrev R1 := reg1 (E0 m) (E1 m outs) (E2 m outs) (fun c b => V3 m outs c b) (fun c => (Function.update_self _ _ _).trans (hL.l1 c))
  fun c b hb => V3_of m outs c b (by simpa using hb)
abbrev R2 := reg2 (E0 m) (E1 m outs) (E2 m outs) (fun c b => V11 m outs c b) (fun c => (Function.update_self _ _ _).trans (hL.l2 c))
  fun c b hb => V11_of m outs c b (by simpa using hb)

theorem held_in (c : Dev nD) (W : Valuation τ sig (Elt F)) (Q : sProp 𝕄) :
    iprop(StableHlo.held (c : Thread nD τ) (Pipeline.ucRefs τ sig) W ∗ Q) ⊢ (iprop(unscopedBufs c (fun b => W b) ∗ Q) : sProp 𝕄) := by
  rw [Pipeline.unscopedBufs_held (Ix := Unit) (Name := ℕ) (U := U) (Lvl := ℕ) c W]
theorem held_out (c : Dev nD) (W : Valuation τ sig (Elt F)) (Q : sProp 𝕄) :
    iprop(unscopedBufs c (fun b => W b) ∗ Q) ⊢ (iprop(StableHlo.held (c : Thread nD τ) (Pipeline.ucRefs τ sig) W ∗ Q) : sProp 𝕄) := by
  rw [Pipeline.unscopedBufs_held (Ix := Unit) (Name := ℕ) (U := U) (Lvl := ℕ) c W]

theorem launch_in (c : Dev nD) :
    iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp)
      ⊢ (iprop(StableHlo.held (c : Thread nD τ) (Pipeline.ucRefs τ sig) (V0 m c) ∗ idleRest c) : sProp 𝕄) := by
  iintro ⟨Hb, -, HO, -, -, -⟩
  iapply (held_out c (V0 m c) (idleRest c))
  isplitl [Hb]; · iexact Hb
  iexists ∅; iexact HO

include hL in
/-- A run's end: the token's buffer as the third call leaves it, the argument as launched, the semaphores at zero. -/
theorem run_main :
    θ_run defs (onTc (τ := τ) (main (F := F))) ⟨m, fun _ => 0, ρ⟩ (fun r => (∀ c : Dev nD,
      r.2.mem ((c.tc : Thread nD τ).loc main_v20) = outs 11 main_v20 c
        ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats (E0 m) (E1 m outs) (E2 m outs)) () cellOf_inj emb₁ defs₀ Variants.none L lv m ρ main
    (segs m outs Variants.none L lv (fun _ => idleRest) () (pdats (E0 m) (E1 m outs) (E2 m outs)) (R0 m hL) (R1 m hL) (R2 m hL))
    (fun c Q => by
      rewrite [main_chain c, Seg.run_eq_chain,
        show (segs m outs Variants.none L lv (fun _ => idleRest) () (pdats (E0 m) (E1 m outs) (E2 m outs)) (R0 m hL) (R1 m hL) (R2 m hL) c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0) (fun _ _ => rfl) (fun _ => BI.emp)
    (initOf (Pipeline.cells cfgs cellOf_inj) (Pipeline.launchToks cfgs cellOf_inj)) ?hu
    (T₀ := fun c => iprop(StableHlo.held (c : Thread nD τ) (Pipeline.ucRefs τ sig) (V0 m c) ∗ idleRest c))
    (Tₙ := fun c => StableHlo.held (c : Thread nD τ) (Pipeline.ucRefs τ sig) (V11 m outs c))
    (hch := fun c => ⟨held_in c _ _, held_out c _ _, held_in c _ _, held_out c _ _, .rfl, .rfl, .rfl, .rfl, .rfl, .rfl, held_in c _ _, held_out c _ _⟩)
    (hinit := ?_) (QY := fun c s => s.mem ((c.tc : Thread nD τ).loc main_v20) = outs 11 main_v20 c
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ idleRest c) : sProp 𝕄) :=
      bigSep_mono fun c _ => launch_in m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨(h (Proc.devRef .tc main_v20) (Finset.mem_filter.mpr ⟨StableHlo.devRef_mem_tcRefs main_v20, by decide⟩)).trans (Function.update_self _ _ _),
        (h (Proc.devRef .tc main_arg0) (Finset.mem_filter.mpr ⟨StableHlo.devRef_mem_tcRefs main_arg0, by decide⟩)).trans (V11_main_arg0 m outs c)⟩
    · iexact HSI

end

end Cert.KernelIdeal.Hand

end
-- ==== Proof.RI.Ops.lean ====
/-
  The reference's operations as lists: each function of the host program is the line of its operations, and the whole is
  one line.
-/
module

public import proofs.«01_k».proof.Proof.Gen.ReferenceIdeal
public import Idealize.ShloMosaic.Lib.StableHlo.Run
public import Idealize.ShloMosaic.Lib.Pipeline.Regions

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- The operations of one call of `argsort`, in order. -/
def argsortOps (arg0 : StableHlo.TRef sig ⟨S1x1000000, .f32⟩) (φ : fn_argsort.Bufs) : List (HloOp τ sig (Elt F)) :=
  [ StableHlo.TRef.nullary φ.v0 (iotaInDim S1x1000000 32 1),
    StableHlo.TRef.binary arg0 φ.v0 φ.v1_0 (fun x y => (Host.sort2 S1x1000000 1 comparator_f32_i32_d1 x y).1),
    StableHlo.TRef.binary arg0 φ.v0 φ.v1_1 (fun x y => (Host.sort2 S1x1000000 1 comparator_f32_i32_d1 x y).2) ]

/-- The operations of one call of `take_along_axis`, in order. -/
def take_along_axisOps (arg0 : StableHlo.TRef sig ⟨S1x1000000, .f32⟩) (arg1 : StableHlo.TRef sig ⟨S1x1000000, .i32⟩) (φ : fn_take_along_axis.Bufs) : List (HloOp τ sig (Elt F)) :=
  [ StableHlo.TRef.nullary φ.c (constantI S_ 32 0#32),
    StableHlo.TRef.unary φ.c φ.v0 (broadcastInDim S1x1000000 ![] bcast_S_S1x1000000),
    StableHlo.TRef.binary arg1 φ.v0 φ.v1 (cmpi .slt),
    StableHlo.TRef.nullary φ.c_0 (constantI S_ 32 1000000#32),
    StableHlo.TRef.unary φ.c_0 φ.v2 (broadcastInDim S1x1000000 ![] bcast_S_S1x1000000),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S1x1000000_S1000000x1,
    StableHlo.TRef.nullary φ.c_1 (constantI S1 32 999999#32),
    StableHlo.TRef.nullary φ.c_2 (constantI S_ 32 0#32),
    StableHlo.TRef.unary φ.c_2 φ.v6 (broadcastInDim S1000000x1 ![] bcast_S_S1000000x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S1000000x1 ![0, 1] bcast_S1x1_S1000000x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S1000000x1_S1000000_d1 h_S_),
    StableHlo.TRef.binary arg0 φ.v5 φ.v13 (fun x i => Host.gather gather_S1x1000000_S1000000x1_S1x1000000_0_1_n_n_1_1_11 x i),
    StableHlo.TRef.unary φ.v12 φ.v14 (broadcastInDim S1x1000000 ![1] bcast_S1000000_S1x1000000_1),
    StableHlo.TRef.nullary φ.cst (constant S_ .f32 0x7FC00000#32),
    StableHlo.TRef.unary φ.cst φ.v15 (broadcastInDim S1x1000000 ![] bcast_S_S1x1000000),
    StableHlo.TRef.ternary φ.v14 φ.v13 φ.v15 φ.v16 select ]

/-- The operations of one call of `cumsum_0`, in order. -/
def cumsum_0Ops (arg0 : StableHlo.TRef sig ⟨S1x1000000, .f32⟩) (φ : fn_cumsum_0.Bufs) : List (HloOp τ sig (Elt F)) :=
  [ StableHlo.TRef.nullary φ.cst (constant S_ .f32 0x00000000#32),
    StableHlo.TRef.unary φ.cst φ.v0 (broadcastInDim S_ ![] bcast_S_S_),
    StableHlo.TRef.binary arg0 φ.v0 φ.v1 (fun x v => Host.reduceWindowAdd ![1, 1000000] ![1, 1] ![0, 999999] ![0, 0] x v reduceWindows_S1x1000000_S1x1000000_w1s1p0_0_w1000000s1p999999_0 h_S_) ]

/-- The operations of one call of `cumsum`, in order. -/
def cumsumOps (arg0 : StableHlo.TRef sig ⟨S1x1000000, .f32⟩) (φ : fn_cumsum.Bufs) : List (HloOp τ sig (Elt F)) :=
  cumsum_0Ops arg0 φ.call0 ++ []

/-- The operations of one call of `where`, in order. -/
def whereOps (arg0 : StableHlo.TRef sig ⟨S1x1000000, .i1⟩) (arg1 : StableHlo.TRef sig ⟨S_, .f32⟩) (arg2 : StableHlo.TRef sig ⟨S1x1000000, .f32⟩) (φ : fn_where.Bufs) : List (HloOp τ sig (Elt F)) :=
  [ StableHlo.TRef.unary arg1 φ.v0 id,
    StableHlo.TRef.unary φ.v0 φ.v1 (broadcastInDim S1x1000000 ![] bcast_S_S1x1000000),
    StableHlo.TRef.ternary arg0 φ.v1 arg2 φ.v2 select ]

/-- The operations of one call of `clip`, in order. -/
def clipOps (arg0 : StableHlo.TRef sig ⟨S1x1, .f32⟩) (arg1 : StableHlo.TRef sig ⟨S_, .f32⟩) (φ : fn_clip.Bufs) : List (HloOp τ sig (Elt F)) :=
  [ StableHlo.TRef.unary arg1 φ.v0 id,
    StableHlo.TRef.unary φ.v0 φ.v1 (broadcastInDim S1x1 ![] bcast_S_S1x1),
    StableHlo.TRef.binary φ.v1 arg0 φ.v2 maximumf ]

/-- The operations of one call of `threefry2x32` (a stretch of it), in order. -/
def threefry2x32OpsPart0 (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S1x1000000 ![] bcast_S_S1x1000000),
    StableHlo.TRef.binary arg2 φ.v2 φ.v3 addi,
    StableHlo.TRef.unary arg1 φ.v4 (broadcastInDim S1x1000000 ![] bcast_S_S1x1000000),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S1x1000000 ![] bcast_S_S1x1000000),
    StableHlo.TRef.binary φ.v5 φ.v7 φ.v8 Host.shli,
    StableHlo.TRef.nullary φ.c_1 (constantI S_ 32 19#32),
    StableHlo.TRef.unary φ.c_1 φ.v9 (broadcastInDim S1x1000000 ![] bcast_S_S1x1000000),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S1x1000000 ![] bcast_S_S1x1000000),
    StableHlo.TRef.binary φ.v12 φ.v14 φ.v15 Host.shli,
    StableHlo.TRef.nullary φ.c_3 (constantI S_ 32 17#32),
    StableHlo.TRef.unary φ.c_3 φ.v16 (broadcastInDim S1x1000000 ![] bcast_S_S1x1000000),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S1x1000000 ![] bcast_S_S1x1000000),
    StableHlo.TRef.binary φ.v19 φ.v21 φ.v22 Host.shli,
    StableHlo.TRef.nullary φ.c_5 (constantI S_ 32 6#32),
    StableHlo.TRef.unary φ.c_5 φ.v23 (broadcastInDim S1x1000000 ![] bcast_S_S1x1000000),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S1x1000000 ![] bcast_S_S1x1000000),
    StableHlo.TRef.binary φ.v26 φ.v28 φ.v29 Host.shli,
    StableHlo.TRef.nullary φ.c_7 (constantI S_ 32 26#32),
    StableHlo.TRef.unary φ.c_7 φ.v30 (broadcastInDim S1x1000000 ![] bcast_S_S1x1000000),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S1x1000000 ![] bcast_S_S1x1000000),
    StableHlo.TRef.binary φ.v27 φ.v34 φ.v35 addi,
    StableHlo.TRef.unary φ.v1 φ.v36 (broadcastInDim S1x1000000 ![] bcast_S_S1x1000000),
    StableHlo.TRef.binary φ.v33 φ.v36 φ.v37 addi,
    StableHlo.TRef.nullary φ.c_8 (constantI S_ 32 1#32),
    StableHlo.TRef.unary φ.c_8 φ.v38 (broadcastInDim S1x1000000 ![] bcast_S_S1x1000000),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S1x1000000 ![] bcast_S_S1x1000000),
    StableHlo.TRef.binary φ.v39 φ.v41 φ.v42 Host.shli,
    StableHlo.TRef.nullary φ.c_10 (constantI S_ 32 15#32),
    StableHlo.TRef.unary φ.c_10 φ.v43 (broadcastInDim S1x1000000 ![] bcast_S_S1x1000000),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]

/-- The operations of one call of `threefry2x32` (a stretch of it), in order. -/
def threefry2x32OpsPart1 (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) : List (HloOp τ sig (Elt F)) :=
  [ StableHlo.TRef.nullary φ.c_11 (constantI S_ 32 29#32),
    StableHlo.TRef.unary φ.c_11 φ.v48 (broadcastInDim S1x1000000 ![] bcast_S_S1x1000000),
    StableHlo.TRef.binary φ.v46 φ.v48 φ.v49 Host.shli,
    StableHlo.TRef.nullary φ.c_12 (constantI S_ 32 3#32),
    StableHlo.TRef.unary φ.c_12 φ.v50 (broadcastInDim S1x1000000 ![] bcast_S_S1x1000000),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S1x1000000 ![] bcast_S_S1x1000000),
    StableHlo.TRef.binary φ.v53 φ.v55 φ.v56 Host.shli,
    StableHlo.TRef.nullary φ.c_14 (constantI S_ 32 16#32),
    StableHlo.TRef.unary φ.c_14 φ.v57 (broadcastInDim S1x1000000 ![] bcast_S_S1x1000000),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S1x1000000 ![] bcast_S_S1x1000000),
    StableHlo.TRef.binary φ.v60 φ.v62 φ.v63 Host.shli,
    StableHlo.TRef.nullary φ.c_16 (constantI S_ 32 8#32),
    StableHlo.TRef.unary φ.c_16 φ.v64 (broadcastInDim S1x1000000 ![] bcast_S_S1x1000000),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S1x1000000 ![] bcast_S_S1x1000000),
    StableHlo.TRef.binary φ.v61 φ.v68 φ.v69 addi,
    StableHlo.TRef.unary arg0 φ.v70 (broadcastInDim S1x1000000 ![] bcast_S_S1x1000000),
    StableHlo.TRef.binary φ.v67 φ.v70 φ.v71 addi,
    StableHlo.TRef.nullary φ.c_17 (constantI S_ 32 2#32),
    StableHlo.TRef.unary φ.c_17 φ.v72 (broadcastInDim S1x1000000 ![] bcast_S_S1x1000000),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S1x1000000 ![] bcast_S_S1x1000000),
    StableHlo.TRef.binary φ.v73 φ.v75 φ.v76 Host.shli,
    StableHlo.TRef.nullary φ.c_19 (constantI S_ 32 19#32),
    StableHlo.TRef.unary φ.c_19 φ.v77 (broadcastInDim S1x1000000 ![] bcast_S_S1x1000000),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S1x1000000 ![] bcast_S_S1x1000000),
    StableHlo.TRef.binary φ.v80 φ.v82 φ.v83 Host.shli,
    StableHlo.TRef.nullary φ.c_21 (constantI S_ 32 17#32),
    StableHlo.TRef.unary φ.c_21 φ.v84 (broadcastInDim S1x1000000 ![] bcast_S_S1x1000000),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S1x1000000 ![] bcast_S_S1x1000000),
    StableHlo.TRef.binary φ.v87 φ.v89 φ.v90 Host.shli,
    StableHlo.TRef.nullary φ.c_23 (constantI S_ 32 6#32),
    StableHlo.TRef.unary φ.c_23 φ.v91 (broadcastInDim S1x1000000 ![] bcast_S_S1x1000000),
    StableHlo.TRef.binary φ.v87 φ.v91 φ.v92 Host.shrui,
    StableHlo.TRef.binary φ.v90 φ.v92 φ.v93 ori,
    StableHlo.TRef.binary φ.v88 φ.v93 φ.v94 xori ]

/-- The operations of one call of `threefry2x32` (a stretch of it), in order. -/
def threefry2x32OpsPart2 (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S1x1000000 ![] bcast_S_S1x1000000),
    StableHlo.TRef.binary φ.v94 φ.v96 φ.v97 Host.shli,
    StableHlo.TRef.nullary φ.c_25 (constantI S_ 32 26#32),
    StableHlo.TRef.unary φ.c_25 φ.v98 (broadcastInDim S1x1000000 ![] bcast_S_S1x1000000),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S1x1000000 ![] bcast_S_S1x1000000),
    StableHlo.TRef.binary φ.v95 φ.v102 φ.v103 addi,
    StableHlo.TRef.unary arg1 φ.v104 (broadcastInDim S1x1000000 ![] bcast_S_S1x1000000),
    StableHlo.TRef.binary φ.v101 φ.v104 φ.v105 addi,
    StableHlo.TRef.nullary φ.c_26 (constantI S_ 32 3#32),
    StableHlo.TRef.unary φ.c_26 φ.v106 (broadcastInDim S1x1000000 ![] bcast_S_S1x1000000),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S1x1000000 ![] bcast_S_S1x1000000),
    StableHlo.TRef.binary φ.v107 φ.v109 φ.v110 Host.shli,
    StableHlo.TRef.nullary φ.c_28 (constantI S_ 32 15#32),
    StableHlo.TRef.unary φ.c_28 φ.v111 (broadcastInDim S1x1000000 ![] bcast_S_S1x1000000),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S1x1000000 ![] bcast_S_S1x1000000),
    StableHlo.TRef.binary φ.v114 φ.v116 φ.v117 Host.shli,
    StableHlo.TRef.nullary φ.c_30 (constantI S_ 32 3#32),
    StableHlo.TRef.unary φ.c_30 φ.v118 (broadcastInDim S1x1000000 ![] bcast_S_S1x1000000),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S1x1000000 ![] bcast_S_S1x1000000),
    StableHlo.TRef.binary φ.v121 φ.v123 φ.v124 Host.shli,
    StableHlo.TRef.nullary φ.c_32 (constantI S_ 32 16#32),
    StableHlo.TRef.unary φ.c_32 φ.v125 (broadcastInDim S1x1000000 ![] bcast_S_S1x1000000),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S1x1000000 ![] bcast_S_S1x1000000),
    StableHlo.TRef.binary φ.v128 φ.v130 φ.v131 Host.shli,
    StableHlo.TRef.nullary φ.c_34 (constantI S_ 32 8#32),
    StableHlo.TRef.unary φ.c_34 φ.v132 (broadcastInDim S1x1000000 ![] bcast_S_S1x1000000),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S1x1000000 ![] bcast_S_S1x1000000),
    StableHlo.TRef.binary φ.v129 φ.v136 φ.v137 addi,
    StableHlo.TRef.unary φ.v1 φ.v138 (broadcastInDim S1x1000000 ![] bcast_S_S1x1000000),
    StableHlo.TRef.binary φ.v135 φ.v138 φ.v139 addi,
    StableHlo.TRef.nullary φ.c_35 (constantI S_ 32 4#32),
    StableHlo.TRef.unary φ.c_35 φ.v140 (broadcastInDim S1x1000000 ![] bcast_S_S1x1000000),
    StableHlo.TRef.binary φ.v139 φ.v140 φ.v141 addi,
    StableHlo.TRef.binary φ.v137 φ.v141 φ.v142 addi ]

/-- The operations of one call of `threefry2x32` (a stretch of it), in order. -/
def threefry2x32OpsPart3 (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) : List (HloOp τ sig (Elt F)) :=
  [ StableHlo.TRef.nullary φ.c_36 (constantI S_ 32 13#32),
    StableHlo.TRef.unary φ.c_36 φ.v143 (broadcastInDim S1x1000000 ![] bcast_S_S1x1000000),
    StableHlo.TRef.binary φ.v141 φ.v143 φ.v144 Host.shli,
    StableHlo.TRef.nullary φ.c_37 (constantI S_ 32 19#32),
    StableHlo.TRef.unary φ.c_37 φ.v145 (broadcastInDim S1x1000000 ![] bcast_S_S1x1000000),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S1x1000000 ![] bcast_S_S1x1000000),
    StableHlo.TRef.binary φ.v148 φ.v150 φ.v151 Host.shli,
    StableHlo.TRef.nullary φ.c_39 (constantI S_ 32 17#32),
    StableHlo.TRef.unary φ.c_39 φ.v152 (broadcastInDim S1x1000000 ![] bcast_S_S1x1000000),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S1x1000000 ![] bcast_S_S1x1000000),
    StableHlo.TRef.binary φ.v155 φ.v157 φ.v158 Host.shli,
    StableHlo.TRef.nullary φ.c_41 (constantI S_ 32 6#32),
    StableHlo.TRef.unary φ.c_41 φ.v159 (broadcastInDim S1x1000000 ![] bcast_S_S1x1000000),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S1x1000000 ![] bcast_S_S1x1000000),
    StableHlo.TRef.binary φ.v162 φ.v164 φ.v165 Host.shli,
    StableHlo.TRef.nullary φ.c_43 (constantI S_ 32 26#32),
    StableHlo.TRef.unary φ.c_43 φ.v166 (broadcastInDim S1x1000000 ![] bcast_S_S1x1000000),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S1x1000000 ![] bcast_S_S1x1000000),
    StableHlo.TRef.binary φ.v163 φ.v170 φ.v171 addi,
    StableHlo.TRef.unary arg0 φ.v172 (broadcastInDim S1x1000000 ![] bcast_S_S1x1000000),
    StableHlo.TRef.binary φ.v169 φ.v172 φ.v173 addi,
    StableHlo.TRef.nullary φ.c_44 (constantI S_ 32 5#32),
    StableHlo.TRef.unary φ.c_44 φ.v174 (broadcastInDim S1x1000000 ![] bcast_S_S1x1000000),
    StableHlo.TRef.binary φ.v173 φ.v174 φ.v175 addi ]

/-- The operations of one call of `threefry2x32`, in order. -/
def threefry2x32Ops (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) : List (HloOp τ sig (Elt F)) :=
  threefry2x32OpsPart0 arg0 arg1 arg2 arg3 φ ++ (
  threefry2x32OpsPart1 arg0 arg1 arg2 arg3 φ ++ (
  threefry2x32OpsPart2 arg0 arg1 arg2 arg3 φ ++ (
  threefry2x32OpsPart3 arg0 arg1 arg2 arg3 φ)))

/-- The operations of one call of `uniform`, in order. -/
def uniformOps (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [ StableHlo.TRef.unary arg1 φ.v0 id,
    StableHlo.TRef.unary arg2 φ.v1 (broadcastInDim S1x1 ![] bcast_S_S1x1),
    StableHlo.TRef.unary φ.v0 φ.v2 (broadcastInDim S1x1 ![] bcast_S_S1x1),
    StableHlo.TRef.unary arg0 φ.v3 (extractStridedSlice S1 ![0] · slices_S2_S1_0),
    StableHlo.TRef.reshape φ.v3 φ.v4 (rfl : (.i32 : EltTy) = .i32) shapeCasts_S1_S_,
    StableHlo.TRef.unary arg0 φ.v5 (extractStridedSlice S1 ![1] · slices_S2_S1_1),
    StableHlo.TRef.reshape φ.v5 φ.v6 (rfl : (.i32 : EltTy) = .i32) shapeCasts_S1_S_,
    StableHlo.TRef.nullary φ.v7 (iotaInDim S1x1000000 64 0),
    StableHlo.TRef.nullary φ.v8 (iotaInDim S1x1000000 64 1),
    StableHlo.TRef.nullary φ.c (constantI S_ 64 1000000#64),
    StableHlo.TRef.unary φ.c φ.v9 (broadcastInDim S1x1000000 ![] bcast_S_S1x1000000),
    StableHlo.TRef.binary φ.v9 φ.v7 φ.v10 muli,
    StableHlo.TRef.nullary φ.c_0 (constantI S_ 64 1#64),
    StableHlo.TRef.unary φ.c_0 φ.v11 (broadcastInDim S1x1000000 ![] bcast_S_S1x1000000),
    StableHlo.TRef.binary φ.v11 φ.v8 φ.v12 muli,
    StableHlo.TRef.binary φ.v10 φ.v12 φ.v13 addi,
    StableHlo.TRef.nullary φ.c_1 (constantI S_ 64 32#64),
    StableHlo.TRef.unary φ.c_1 φ.v14 (broadcastInDim S1x1000000 ![] bcast_S_S1x1000000),
    StableHlo.TRef.binary φ.v13 φ.v14 φ.v15 Host.shrui,
    StableHlo.TRef.unary φ.v13 φ.v16 (trunci 32 · natLt_32_64),
    StableHlo.TRef.unary φ.v15 φ.v17 (trunci 32 · natLt_32_64) ] ++ (
  threefry2x32Ops φ.v4 φ.v6 φ.v17 φ.v16 φ.call0 ++ (
  [ StableHlo.TRef.binary φ.call0.v171 φ.call0.v175 φ.v19 xori,
    StableHlo.TRef.nullary φ.c_2 (constantI S_ 32 9#32),
    StableHlo.TRef.unary φ.c_2 φ.v20 (broadcastInDim S1x1000000 ![] bcast_S_S1x1000000),
    StableHlo.TRef.binary φ.v19 φ.v20 φ.v21 Host.shrui,
    StableHlo.TRef.nullary φ.c_3 (constantI S_ 32 1065353216#32),
    StableHlo.TRef.unary φ.c_3 φ.v22 (broadcastInDim S1x1000000 ![] bcast_S_S1x1000000),
    StableHlo.TRef.binary φ.v21 φ.v22 φ.v23 ori,
    StableHlo.TRef.unary φ.v23 φ.v24 (bitcastToFloat .f32),
    StableHlo.TRef.nullary φ.cst (constant S_ .f32 0x3F800000#32),
    StableHlo.TRef.unary φ.cst φ.v25 (broadcastInDim S1x1000000 ![] bcast_S_S1x1000000),
    StableHlo.TRef.binary φ.v24 φ.v25 φ.v26 subf,
    StableHlo.TRef.binary φ.v2 φ.v1 φ.v27 subf,
    StableHlo.TRef.unary φ.v27 φ.v28 (broadcastInDim S1x1000000 ![0, 1] bcast_S1x1_S1x1000000_0_1),
    StableHlo.TRef.binary φ.v26 φ.v28 φ.v29 mulf,
    StableHlo.TRef.unary φ.v1 φ.v30 (broadcastInDim S1x1000000 ![0, 1] bcast_S1x1_S1x1000000_0_1),
    StableHlo.TRef.binary φ.v29 φ.v30 φ.v31 addf,
    StableHlo.TRef.unary φ.v1 φ.v32 (broadcastInDim S1x1000000 ![0, 1] bcast_S1x1_S1x1000000_0_1),
    StableHlo.TRef.binary φ.v32 φ.v31 φ.v33 maximumf ]))

/-- The operations of one call of `gumbel`, in order. -/
def gumbelOps (arg0 : StableHlo.TRef sig ⟨S2, .i32⟩) (φ : fn_gumbel.Bufs) : List (HloOp τ sig (Elt F)) :=
  [ StableHlo.TRef.nullary φ.cst (constant S_ .f32 0x3F800000#32),
    StableHlo.TRef.nullary φ.cst_0 (constant S_ .f32 0x00800000#32) ] ++ (
  uniformOps arg0 φ.cst φ.cst_0 φ.call0 ++ (
  [ StableHlo.TRef.unary φ.call0.v33 φ.v1 Host.log,
    StableHlo.TRef.unary φ.v1 φ.v2 Host.negf,
    StableHlo.TRef.unary φ.v2 φ.v3 Host.log,
    StableHlo.TRef.unary φ.v3 φ.v4 Host.negf ]))

/-- The operations of one call of `argmax`, in order. -/
def argmaxOps (arg0 : StableHlo.TRef sig ⟨S1x1000000, .f32⟩) (φ : fn_argmax.Bufs) : List (HloOp τ sig (Elt F)) :=
  [ StableHlo.TRef.nullary φ.v0 (iotaInDim S1x1000000 32 1),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S1x1000000_S1_d1 h_S_ j).1),
    StableHlo.TRef.quaternary arg0 φ.v0 φ.cst φ.c φ.v1_1 (fun x y u v j => (Host.argReduce reducer_argmax_f32_i32 x y u v reducesTo_S1x1000000_S1_d1 h_S_ j).2) ]

/-- The operations of one call of `take_along_axis_1`, in order. -/
def take_along_axis_1Ops (arg0 : StableHlo.TRef sig ⟨S1x1000000, .i32⟩) (arg1 : StableHlo.TRef sig ⟨S1x1, .i32⟩) (φ : fn_take_along_axis_1.Bufs) : List (HloOp τ sig (Elt F)) :=
  [ StableHlo.TRef.nullary φ.c (constantI S_ 32 0#32),
    StableHlo.TRef.unary φ.c φ.v0 (broadcastInDim S1x1 ![] bcast_S_S1x1),
    StableHlo.TRef.binary arg1 φ.v0 φ.v1 (cmpi .slt),
    StableHlo.TRef.nullary φ.c_0 (constantI S_ 32 1000000#32),
    StableHlo.TRef.unary φ.c_0 φ.v2 (broadcastInDim S1x1 ![] bcast_S_S1x1),
    StableHlo.TRef.binary arg1 φ.v2 φ.v3 addi,
    StableHlo.TRef.ternary φ.v1 φ.v3 arg1 φ.v4 select,
    StableHlo.TRef.nullary φ.c_1 (constantI S1 32 999999#32),
    StableHlo.TRef.nullary φ.c_2 (constantI S_ 32 0#32),
    StableHlo.TRef.unary φ.c_2 φ.v5 (broadcastInDim S1x1 ![] bcast_S_S1x1),
    StableHlo.TRef.binary φ.v4 φ.v5 φ.v6 (cmpi .sge),
    StableHlo.TRef.unary φ.c_1 φ.v7 (broadcastInDim S1x1 ![1] bcast_S1_S1x1_1),
    StableHlo.TRef.binary φ.v4 φ.v7 φ.v8 (cmpi .sle),
    StableHlo.TRef.binary φ.v6 φ.v8 φ.v9 andi,
    StableHlo.TRef.nullary φ.c_3 (constantI S_ 1 1#1),
    StableHlo.TRef.binary φ.v9 φ.c_3 φ.v10 (fun x v => Host.reduce IntOp.andi x v reducesTo_S1x1_S1_d1 h_S_),
    StableHlo.TRef.binary arg0 φ.v4 φ.v11 (fun x i => Host.gather gather_S1x1000000_S1x1_S1x1_0_1_n_n_1_1_11 x i),
    StableHlo.TRef.unary φ.v10 φ.v12 (broadcastInDim S1x1 ![1] bcast_S1_S1x1_1),
    StableHlo.TRef.nullary φ.c_4 (constantI S_ 32 2147483648#32),
    StableHlo.TRef.unary φ.c_4 φ.v13 (broadcastInDim S1x1 ![] bcast_S_S1x1),
    StableHlo.TRef.ternary φ.v12 φ.v11 φ.v13 φ.v14 select ]

/-- The operations of the whole reference, in order. -/
def mainOps  : List (HloOp τ sig (Elt F)) :=
  [ StableHlo.nullary main_cst (constant S_ .f32 0x3F800000#32),
    StableHlo.unary main_cst main_v0 (broadcastInDim S1x1000000 ![] bcast_S_S1x1000000 : (⟨S_, .f32⟩ : BufTy).Contents (Elt F) → (⟨S1x1000000, .f32⟩ : BufTy).Contents (Elt F)),
    StableHlo.binary main_arg0 main_v0 main_v1 (Host.divf : (⟨S1x1000000, .f32⟩ : BufTy).Contents (Elt F) → (⟨S1x1000000, .f32⟩ : BufTy).Contents (Elt F) → (⟨S1x1000000, .f32⟩ : BufTy).Contents (Elt F)),
    StableHlo.nullary main_cst_0 (constant S_ .f32 0xFF800000#32),
    StableHlo.binary main_v1 main_cst_0 main_v2 ((fun x v => Host.reduce FloatOps.maximumf x v reducesTo_S1x1000000_S1_d1 h_S_) : (⟨S1x1000000, .f32⟩ : BufTy).Contents (Elt F) → (⟨S_, .f32⟩ : BufTy).Contents (Elt F) → (⟨S1, .f32⟩ : BufTy).Contents (Elt F)),
    StableHlo.nullary main_cst_1 (constant S_ .f32 0xFF800000#32),
    StableHlo.unary main_cst_1 main_v3 (broadcastInDim S1 ![] bcast_S_S1 : (⟨S_, .f32⟩ : BufTy).Contents (Elt F) → (⟨S1, .f32⟩ : BufTy).Contents (Elt F)),
    StableHlo.binary main_v3 main_v2 main_v4 (maximumf : (⟨S1, .f32⟩ : BufTy).Contents (Elt F) → (⟨S1, .f32⟩ : BufTy).Contents (Elt F) → (⟨S1, .f32⟩ : BufTy).Contents (Elt F)),
    StableHlo.unary main_v4 main_v5 (broadcastInDim S1x1 ![0] bcast_S1_S1x1_0 : (⟨S1, .f32⟩ : BufTy).Contents (Elt F) → (⟨S1x1, .f32⟩ : BufTy).Contents (Elt F)),
    StableHlo.unary main_v5 main_v6 (broadcastInDim S1x1000000 ![0, 1] bcast_S1x1_S1x1000000_0_1 : (⟨S1x1, .f32⟩ : BufTy).Contents (Elt F) → (⟨S1x1000000, .f32⟩ : BufTy).Contents (Elt F)),
    StableHlo.binary main_v1 main_v6 main_v7 (subf : (⟨S1x1000000, .f32⟩ : BufTy).Contents (Elt F) → (⟨S1x1000000, .f32⟩ : BufTy).Contents (Elt F) → (⟨S1x1000000, .f32⟩ : BufTy).Contents (Elt F)),
    StableHlo.unary main_v7 main_v8 (Host.exp : (⟨S1x1000000, .f32⟩ : BufTy).Contents (Elt F) → (⟨S1x1000000, .f32⟩ : BufTy).Contents (Elt F)),
    StableHlo.nullary main_cst_2 (constant S_ .f32 0x00000000#32),
    StableHlo.binary main_v8 main_cst_2 main_v9 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F)),
    StableHlo.unary main_v9 main_v10 (broadcastInDim S1x1 ![0] bcast_S1_S1x1_0 : (⟨S1, .f32⟩ : BufTy).Contents (Elt F) → (⟨S1x1, .f32⟩ : BufTy).Contents (Elt F)),
    StableHlo.unary main_v10 main_v11 (broadcastInDim S1x1000000 ![0, 1] bcast_S1x1_S1x1000000_0_1 : (⟨S1x1, .f32⟩ : BufTy).Contents (Elt F) → (⟨S1x1000000, .f32⟩ : BufTy).Contents (Elt F)),
    StableHlo.binary main_v8 main_v11 main_v12 (Host.divf : (⟨S1x1000000, .f32⟩ : BufTy).Contents (Elt F) → (⟨S1x1000000, .f32⟩ : BufTy).Contents (Elt F) → (⟨S1x1000000, .f32⟩ : BufTy).Contents (Elt F)),
    StableHlo.unary main_v12 main_v13 (Host.negf : (⟨S1x1000000, .f32⟩ : BufTy).Contents (Elt F) → (⟨S1x1000000, .f32⟩ : BufTy).Contents (Elt F)) ] ++ (
  argsortOps (.of main_v13) main_call0 ++ (
  take_along_axisOps (.of main_v12) (.of main_v14) main_call1 ++ (
  cumsumOps (.of main_v15) main_call2 ++ (
  [ StableHlo.nullary main_cst_3 (constant S_ .f32 0x3F2AAAAB#32),
    StableHlo.unary main_cst_3 main_v17 (broadcastInDim S1x1000000 ![] bcast_S_S1x1000000 : (⟨S_, .f32⟩ : BufTy).Contents (Elt F) → (⟨S1x1000000, .f32⟩ : BufTy).Contents (Elt F)),
    StableHlo.binary main_v16 main_v17 main_v18 (cmpf .ogt : (⟨S1x1000000, .f32⟩ : BufTy).Contents (Elt F) → (⟨S1x1000000, .f32⟩ : BufTy).Contents (Elt F) → (⟨S1x1000000, .i1⟩ : BufTy).Contents (Elt F)),
    StableHlo.nullary main_cst_4 (constant S_ .f32 0x00000000#32) ] ++ (
  whereOps (.of main_v18) (.of main_cst_4) (.of main_v15) main_call3 ++ (
  [ StableHlo.nullary main_cst_5 (constant S_ .f32 0x00000000#32),
    StableHlo.binary main_v19 main_cst_5 main_v20 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F)),
    StableHlo.unary main_v20 main_v21 (broadcastInDim S1x1 ![0] bcast_S1_S1x1_0 : (⟨S1, .f32⟩ : BufTy).Contents (Elt F) → (⟨S1x1, .f32⟩ : BufTy).Contents (Elt F)),
    StableHlo.nullary main_cst_6 (constant S_ .f32 0x2EDBE6FF#32) ] ++ (
  clipOps (.of main_v21) (.of main_cst_6) main_call4 ++ (
  [ StableHlo.unary main_v22 main_v23 (broadcastInDim S1x1000000 ![0, 1] bcast_S1x1_S1x1000000_0_1 : (⟨S1x1, .f32⟩ : BufTy).Contents (Elt F) → (⟨S1x1000000, .f32⟩ : BufTy).Contents (Elt F)),
    StableHlo.binary main_v19 main_v23 main_v24 (Host.divf : (⟨S1x1000000, .f32⟩ : BufTy).Contents (Elt F) → (⟨S1x1000000, .f32⟩ : BufTy).Contents (Elt F) → (⟨S1x1000000, .f32⟩ : BufTy).Contents (Elt F)),
    StableHlo.nullary main_c (constantI S_ 32 42#32),
    StableHlo.nullary main_c_7 (constantI S_ 32 32#32),
    StableHlo.binary main_c main_c_7 main_v25 (Host.shrui : (⟨S_, .i32⟩ : BufTy).Contents (Elt F) → (⟨S_, .i32⟩ : BufTy).Contents (Elt F) → (⟨S_, .i32⟩ : BufTy).Contents (Elt F)),
    StableHlo.unary main_v25 main_v26 (id : (⟨S_, .i32⟩ : BufTy).Contents (Elt F) → (⟨S_, .i32⟩ : BufTy).Contents (Elt F)),
    StableHlo.unary main_v26 main_v27 (broadcastInDim S1 ![] bcast_S_S1 : (⟨S_, .i32⟩ : BufTy).Contents (Elt F) → (⟨S1, .i32⟩ : BufTy).Contents (Elt F)),
    StableHlo.nullary main_c_8 (constantI S_ 32 4294967295#32),
    StableHlo.binary main_c main_c_8 main_v28 (andi : (⟨S_, .i32⟩ : BufTy).Contents (Elt F) → (⟨S_, .i32⟩ : BufTy).Contents (Elt F) → (⟨S_, .i32⟩ : BufTy).Contents (Elt F)),
    StableHlo.unary main_v28 main_v29 (id : (⟨S_, .i32⟩ : BufTy).Contents (Elt F) → (⟨S_, .i32⟩ : BufTy).Contents (Elt F)),
    StableHlo.unary main_v29 main_v30 (broadcastInDim S1 ![] bcast_S_S1 : (⟨S_, .i32⟩ : BufTy).Contents (Elt F) → (⟨S1, .i32⟩ : BufTy).Contents (Elt F)),
    StableHlo.binary main_v27 main_v30 main_v31 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_9 (constant S_ .f32 0x2EDBE6FF#32),
    StableHlo.unary main_cst_9 main_v32 (broadcastInDim S1x1000000 ![] bcast_S_S1x1000000 : (⟨S_, .f32⟩ : BufTy).Contents (Elt F) → (⟨S1x1000000, .f32⟩ : BufTy).Contents (Elt F)),
    StableHlo.binary main_v24 main_v32 main_v33 (addf : (⟨S1x1000000, .f32⟩ : BufTy).Contents (Elt F) → (⟨S1x1000000, .f32⟩ : BufTy).Contents (Elt F) → (⟨S1x1000000, .f32⟩ : BufTy).Contents (Elt F)),
    StableHlo.unary main_v33 main_v34 (Host.log : (⟨S1x1000000, .f32⟩ : BufTy).Contents (Elt F) → (⟨S1x1000000, .f32⟩ : BufTy).Contents (Elt F)) ] ++ (
  gumbelOps (.of main_v31) main_call5 ++ (
  [ StableHlo.binary main_v35 main_v34 main_v36 (addf : (⟨S1x1000000, .f32⟩ : BufTy).Contents (Elt F) → (⟨S1x1000000, .f32⟩ : BufTy).Contents (Elt F) → (⟨S1x1000000, .f32⟩ : BufTy).Contents (Elt F)) ] ++ (
  argmaxOps (.of main_v36) main_call6 ++ (
  [ StableHlo.unary main_v37 main_v38 (broadcastInDim S1x1 ![0] bcast_S1_S1x1_0 : (⟨S1, .i32⟩ : BufTy).Contents (Elt F) → (⟨S1x1, .i32⟩ : BufTy).Contents (Elt F)) ] ++ (
  take_along_axis_1Ops (.of main_v14) (.of main_v38) main_call7 ++ (
  [ StableHlo.reshape main_v39 main_v40 (rfl : (.i32 : EltTy) = .i32) shapeCasts_S1x1_S1 ]))))))))))))))

/-! ## Each function runs its list -/

/-- The programs of the reference. -/
abbrev HostProg : Type 1 := Prog (TpuEff nD τ sig (Elt F) (Pipeline.Sig Λ₀ (Fin 0) fun p => (pcfgs (F := F) p).Adm) .tc) PUnit

theorem argsortOps_run (arg0 : StableHlo.TRef sig ⟨S1x1000000, .f32⟩) (φ : fn_argsort.Bufs) :
    (fn_argsort.body arg0 φ : HostProg (F := F)) = StableHlo.seq (argsortOps arg0 φ) := rfl

theorem take_along_axisOps_run (arg0 : StableHlo.TRef sig ⟨S1x1000000, .f32⟩) (arg1 : StableHlo.TRef sig ⟨S1x1000000, .i32⟩) (φ : fn_take_along_axis.Bufs) :
    (fn_take_along_axis.body arg0 arg1 φ : HostProg (F := F)) = StableHlo.seq (take_along_axisOps arg0 arg1 φ) := rfl

theorem cumsum_0Ops_run (arg0 : StableHlo.TRef sig ⟨S1x1000000, .f32⟩) (φ : fn_cumsum_0.Bufs) :
    (fn_cumsum_0.body arg0 φ : HostProg (F := F)) = StableHlo.seq (cumsum_0Ops arg0 φ) := rfl

theorem cumsumOps_run (arg0 : StableHlo.TRef sig ⟨S1x1000000, .f32⟩) (φ : fn_cumsum.Bufs) :
    (fn_cumsum.body arg0 φ : HostProg (F := F)) = StableHlo.seq (cumsumOps arg0 φ) := by
  simp only [fn_cumsum.body, cumsumOps, cumsum_0Ops_run, StableHlo.seq_append, StableHlo.seq, bind_assoc, pure_bind]

theorem whereOps_run (arg0 : StableHlo.TRef sig ⟨S1x1000000, .i1⟩) (arg1 : StableHlo.TRef sig ⟨S_, .f32⟩) (arg2 : StableHlo.TRef sig ⟨S1x1000000, .f32⟩) (φ : fn_where.Bufs) :
    (fn_where.body arg0 arg1 arg2 φ : HostProg (F := F)) = StableHlo.seq (whereOps arg0 arg1 arg2 φ) := rfl

theorem clipOps_run (arg0 : StableHlo.TRef sig ⟨S1x1, .f32⟩) (arg1 : StableHlo.TRef sig ⟨S_, .f32⟩) (φ : fn_clip.Bufs) :
    (fn_clip.body arg0 arg1 φ : HostProg (F := F)) = StableHlo.seq (clipOps arg0 arg1 φ) := rfl

theorem threefry2x32OpsPart0_run (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) :
    (fn_threefry2x32.body_part0 arg0 arg1 arg2 arg3 φ : HostProg (F := F)) = StableHlo.seq (threefry2x32OpsPart0 arg0 arg1 arg2 arg3 φ) := rfl

theorem threefry2x32OpsPart1_run (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) :
    (fn_threefry2x32.body_part1 arg0 arg1 arg2 arg3 φ : HostProg (F := F)) = StableHlo.seq (threefry2x32OpsPart1 arg0 arg1 arg2 arg3 φ) := rfl

theorem threefry2x32OpsPart2_run (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) :
    (fn_threefry2x32.body_part2 arg0 arg1 arg2 arg3 φ : HostProg (F := F)) = StableHlo.seq (threefry2x32OpsPart2 arg0 arg1 arg2 arg3 φ) := rfl

theorem threefry2x32OpsPart3_run (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) :
    (fn_threefry2x32.body_part3 arg0 arg1 arg2 arg3 φ : HostProg (F := F)) = StableHlo.seq (threefry2x32OpsPart3 arg0 arg1 arg2 arg3 φ) := rfl

theorem threefry2x32Ops_run (arg0 : StableHlo.TRef sig ⟨S_, .i32⟩) (arg1 : StableHlo.TRef sig ⟨S_, .i32⟩) (arg2 : StableHlo.TRef sig ⟨S1x1000000, .i32⟩) (arg3 : StableHlo.TRef sig ⟨S1x1000000, .i32⟩) (φ : fn_threefry2x32.Bufs) :
    (fn_threefry2x32.body arg0 arg1 arg2 arg3 φ : HostProg (F := F)) = StableHlo.seq (threefry2x32Ops arg0 arg1 arg2 arg3 φ) := by
  simp only [fn_threefry2x32.body, threefry2x32Ops, threefry2x32OpsPart0_run, threefry2x32OpsPart1_run, threefry2x32OpsPart2_run, threefry2x32OpsPart3_run, StableHlo.seq_append, StableHlo.seq, bind_assoc, pure_bind]

theorem uniformOps_run (arg0 : StableHlo.TRef sig ⟨S2, .i32⟩) (arg1 : StableHlo.TRef sig ⟨S_, .f32⟩) (arg2 : StableHlo.TRef sig ⟨S_, .f32⟩) (φ : fn_uniform.Bufs) :
    (fn_uniform.body arg0 arg1 arg2 φ : HostProg (F := F)) = StableHlo.seq (uniformOps arg0 arg1 arg2 φ) := by
  simp only [fn_uniform.body, uniformOps, threefry2x32Ops_run, StableHlo.seq_append, StableHlo.seq, bind_assoc, pure_bind]

theorem gumbelOps_run (arg0 : StableHlo.TRef sig ⟨S2, .i32⟩) (φ : fn_gumbel.Bufs) :
    (fn_gumbel.body arg0 φ : HostProg (F := F)) = StableHlo.seq (gumbelOps arg0 φ) := by
  simp only [fn_gumbel.body, gumbelOps, uniformOps_run, StableHlo.seq_append, StableHlo.seq, bind_assoc, pure_bind]

theorem argmaxOps_run (arg0 : StableHlo.TRef sig ⟨S1x1000000, .f32⟩) (φ : fn_argmax.Bufs) :
    (fn_argmax.body arg0 φ : HostProg (F := F)) = StableHlo.seq (argmaxOps arg0 φ) := rfl

theorem take_along_axis_1Ops_run (arg0 : StableHlo.TRef sig ⟨S1x1000000, .i32⟩) (arg1 : StableHlo.TRef sig ⟨S1x1, .i32⟩) (φ : fn_take_along_axis_1.Bufs) :
    (fn_take_along_axis_1.body arg0 arg1 φ : HostProg (F := F)) = StableHlo.seq (take_along_axis_1Ops arg0 arg1 φ) := rfl

set_option maxHeartbeats 4000000 in
/-- The whole reference runs its list. -/
theorem main_run (c : Dev nD) : main (F := F) c = StableHlo.seq mainOps := by
  simp only [main, mainOps, argmaxOps_run, argsortOps_run, clipOps_run, cumsumOps_run, gumbelOps_run, take_along_axisOps_run, take_along_axis_1Ops_run, whereOps_run, StableHlo.seq_append, StableHlo.seq, bind_assoc, pure_bind]

end Cert.ReferenceIdeal.Hand

end
-- ==== Proof.RI.Run.lean ====
/-
  The reference's run: it ends with its argument as it was, every semaphore at zero, and every array at the fold of the
  operations over the contents at the start.
-/
module

public import proofs.«01_k».proof.Proof.RI.Ops
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.StableHlo (nullary_bufs_sub unary_bufs_sub binary_bufs_sub ternary_bufs_sub quaternary_bufs_sub reshape_bufs_sub)

variable {F : FTy → Type} [FloatOps F]

/-- What the run asks of one operation: it touches the core's arrays only, its results are determined, and it does not
    write the argument. -/
structure Tame (op : HloOp τ sig (Elt F)) : Prop where
  bufs : op.bufs ⊆ StableHlo.tcRefs τ sig
  fresh : op.fresh = ∅
  keeps : Proc.devRef (τ := τ) .tc main_arg0 ∉ op.writes

theorem tame_nullary {y : Ref sig .tc} (h : main_arg0 ≠ y) (v hy) : Tame (StableHlo.nullary (Val := Elt F) y v hy) :=
  ⟨nullary_bufs_sub .., rfl, fun hm => h (Proc.devRef_injective _ (Finset.mem_singleton.mp hm))⟩
theorem tame_unary {x y : Ref sig .tc} (h : main_arg0 ≠ y) (f hx hy) : Tame (StableHlo.unary (Val := Elt F) x y f hx hy) :=
  ⟨unary_bufs_sub .., rfl, fun hm => h (Proc.devRef_injective _ (Finset.mem_singleton.mp hm))⟩
theorem tame_binary {a b y : Ref sig .tc} (h : main_arg0 ≠ y) (f ha hb hy) :
    Tame (StableHlo.binary (Val := Elt F) a b y f ha hb hy) :=
  ⟨binary_bufs_sub .., rfl, fun hm => h (Proc.devRef_injective _ (Finset.mem_singleton.mp hm))⟩
theorem tame_ternary {c a b y : Ref sig .tc} (h : main_arg0 ≠ y) (f hc ha hb hy) :
    Tame (StableHlo.ternary (Val := Elt F) c a b y f hc ha hb hy) :=
  ⟨ternary_bufs_sub .., rfl, fun hm => h (Proc.devRef_injective _ (Finset.mem_singleton.mp hm))⟩
theorem tame_quaternary {a b c e y : Ref sig .tc} (h : main_arg0 ≠ y) (f ha hb hc he hy) :
    Tame (StableHlo.quaternary (Val := Elt F) a b c e y f ha hb hc he hy) :=
  ⟨quaternary_bufs_sub .., rfl, fun hm => h (Proc.devRef_injective _ (Finset.mem_singleton.mp hm))⟩
theorem tame_reshape {x y : Ref sig .tc} (h : main_arg0 ≠ y) (he hn hx hy) :
    Tame (StableHlo.reshape (Val := Elt F) x y he hn hx hy) :=
  ⟨reshape_bufs_sub .., rfl, fun hm => h (Proc.devRef_injective _ (Finset.mem_singleton.mp hm))⟩

/-- A line of operations each of which is tame. -/
abbrev TameLine (l : List (HloOp τ sig (Elt F))) : Prop := ∀ op ∈ l, Tame op

theorem tame_nil : TameLine (F := F) [] := fun _ h => nomatch h
theorem tame_append {l l' : List (HloOp τ sig (Elt F))} (h : TameLine l) (h' : TameLine l') : TameLine (l ++ l') :=
  List.forall_mem_append.mpr ⟨h, h'⟩
theorem tame_cons {op : HloOp τ sig (Elt F)} {l : List (HloOp τ sig (Elt F))} (h : Tame op) (hl : TameLine l) : TameLine (op :: l) :=
  List.forall_mem_cons.mpr ⟨h, hl⟩
theorem cons_nullary {y : Ref sig .tc} {l : List (HloOp τ sig (Elt F))} {v hy} (h : main_arg0 ≠ y) (hl : TameLine l) :
    TameLine (StableHlo.nullary (Val := Elt F) y v hy :: l) := tame_cons (tame_nullary h ..) hl
theorem cons_unary {x y : Ref sig .tc} {l : List (HloOp τ sig (Elt F))} {f hx hy} (h : main_arg0 ≠ y) (hl : TameLine l) :
    TameLine (StableHlo.unary (Val := Elt F) x y f hx hy :: l) := tame_cons (tame_unary h ..) hl
theorem cons_binary {a b y : Ref sig .tc} {l : List (HloOp τ sig (Elt F))} {f ha hb hy} (h : main_arg0 ≠ y) (hl : TameLine l) :
    TameLine (StableHlo.binary (Val := Elt F) a b y f ha hb hy :: l) := tame_cons (tame_binary h ..) hl
theorem cons_ternary {c a b y : Ref sig .tc} {l : List (HloOp τ sig (Elt F))} {f hc ha hb hy} (h : main_arg0 ≠ y) (hl : TameLine l) :
    TameLine (StableHlo.ternary (Val := Elt F) c a b y f hc ha hb hy :: l) := tame_cons (tame_ternary h ..) hl
theorem cons_quaternary {a b c e y : Ref sig .tc} {l : List (HloOp τ sig (Elt F))} {f ha hb hc he hy} (h : main_arg0 ≠ y) (hl : TameLine l) :
    TameLine (StableHlo.quaternary (Val := Elt F) a b c e y f ha hb hc he hy :: l) := tame_cons (tame_quaternary h ..) hl
theorem cons_reshape {x y : Ref sig .tc} {l : List (HloOp τ sig (Elt F))} {he hn hx hy} (h : main_arg0 ≠ y) (hl : TameLine l) :
    TameLine (StableHlo.reshape (Val := Elt F) x y he hn hx hy :: l) := tame_cons (tame_reshape h ..) hl

/-! ## Every operation of the reference is tame -/

set_option maxHeartbeats 4000000 in
theorem argsortOps_tame : TameLine (F := F) (argsortOps (.of main_v13) main_call0) :=
  show TameLine (F := F) _ from by
    unfold argsortOps
    refine (cons_nullary ?_ <|  cons_binary ?_ <|  cons_binary ?_ <|  tame_nil)
    all_goals decide

set_option maxHeartbeats 4000000 in
theorem take_along_axisOps_tame : TameLine (F := F) (take_along_axisOps (.of main_v12) (.of main_v14) main_call1) :=
  show TameLine (F := F) _ from by
    unfold take_along_axisOps
    refine (cons_nullary ?_ <|  cons_unary ?_ <|  cons_binary ?_ <|  cons_nullary ?_ <|
      cons_unary ?_ <|  cons_binary ?_ <|  cons_ternary ?_ <|  cons_reshape ?_ <|
      cons_nullary ?_ <|  cons_nullary ?_ <|  cons_unary ?_ <|  cons_binary ?_ <|
      cons_unary ?_ <|  cons_unary ?_ <|  cons_binary ?_ <|  cons_binary ?_ <|
      cons_nullary ?_ <|  cons_binary ?_ <|  cons_binary ?_ <|  cons_unary ?_ <|
      cons_nullary ?_ <|  cons_unary ?_ <|  cons_ternary ?_ <|  tame_nil)
    all_goals decide

set_option maxHeartbeats 4000000 in
theorem cumsum_0Ops_tame : TameLine (F := F) (cumsum_0Ops (.of main_v15) main_call2.call0) :=
  show TameLine (F := F) _ from by
    unfold cumsum_0Ops
    refine (cons_nullary ?_ <|  cons_unary ?_ <|  cons_binary ?_ <|  tame_nil)
    all_goals decide

set_option maxHeartbeats 4000000 in
theorem cumsumOps_tame : TameLine (F := F) (cumsumOps (.of main_v15) main_call2) :=
  show TameLine (F := F) _ from by
    unfold cumsumOps
    refine (tame_append cumsum_0Ops_tame
    (tame_nil))
    all_goals decide

set_option maxHeartbeats 4000000 in
theorem whereOps_tame : TameLine (F := F) (whereOps (.of main_v18) (.of main_cst_4) (.of main_v15) main_call3) :=
  show TameLine (F := F) _ from by
    unfold whereOps
    refine (cons_unary ?_ <|  cons_unary ?_ <|  cons_ternary ?_ <|  tame_nil)
    all_goals decide

set_option maxHeartbeats 4000000 in
theorem clipOps_tame : TameLine (F := F) (clipOps (.of main_v21) (.of main_cst_6) main_call4) :=
  show TameLine (F := F) _ from by
    unfold clipOps
    refine (cons_unary ?_ <|  cons_unary ?_ <|  cons_binary ?_ <|  tame_nil)
    all_goals decide

set_option maxHeartbeats 4000000 in
theorem threefry2x32OpsPart0_tame : TameLine (F := F) (threefry2x32OpsPart0 main_call5.call0.v4 main_call5.call0.v6 main_call5.call0.v17 main_call5.call0.v16 main_call5.call0.call0) :=
  show TameLine (F := F) _ from by
    unfold threefry2x32OpsPart0
    refine (cons_binary ?_ <|  cons_nullary ?_ <|  cons_binary ?_ <|  cons_unary ?_ <|
      cons_binary ?_ <|  cons_unary ?_ <|  cons_binary ?_ <|  cons_binary ?_ <|
      cons_nullary ?_ <|  cons_unary ?_ <|  cons_binary ?_ <|  cons_nullary ?_ <|
      cons_unary ?_ <|  cons_binary ?_ <|  cons_binary ?_ <|  cons_binary ?_ <|
      cons_binary ?_ <|  cons_nullary ?_ <|  cons_unary ?_ <|  cons_binary ?_ <|
      cons_nullary ?_ <|  cons_unary ?_ <|  cons_binary ?_ <|  cons_binary ?_ <|
      cons_binary ?_ <|  cons_binary ?_ <|  cons_nullary ?_ <|  cons_unary ?_ <|
      cons_binary ?_ <|  cons_nullary ?_ <|  cons_unary ?_ <|  cons_binary ?_ <|
      cons_binary ?_ <|  cons_binary ?_ <|  cons_binary ?_ <|  cons_nullary ?_ <|
      cons_unary ?_ <|  cons_binary ?_ <|  cons_nullary ?_ <|  cons_unary ?_ <|
      cons_binary ?_ <|  cons_binary ?_ <|  cons_binary ?_ <|  cons_unary ?_ <|
      cons_binary ?_ <|  cons_unary ?_ <|  cons_binary ?_ <|  cons_nullary ?_ <|
      cons_unary ?_ <|  cons_binary ?_ <|  cons_binary ?_ <|  cons_nullary ?_ <|
      cons_unary ?_ <|  cons_binary ?_ <|  cons_nullary ?_ <|  cons_unary ?_ <|
      cons_binary ?_ <|  cons_binary ?_ <|  cons_binary ?_ <|  cons_binary ?_ <|
      tame_nil)
    all_goals decide

set_option maxHeartbeats 4000000 in
theorem threefry2x32OpsPart1_tame : TameLine (F := F) (threefry2x32OpsPart1 main_call5.call0.v4 main_call5.call0.v6 main_call5.call0.v17 main_call5.call0.v16 main_call5.call0.call0) :=
  show TameLine (F := F) _ from by
    unfold threefry2x32OpsPart1
    refine (cons_nullary ?_ <|  cons_unary ?_ <|  cons_binary ?_ <|  cons_nullary ?_ <|
      cons_unary ?_ <|  cons_binary ?_ <|  cons_binary ?_ <|  cons_binary ?_ <|
      cons_binary ?_ <|  cons_nullary ?_ <|  cons_unary ?_ <|  cons_binary ?_ <|
      cons_nullary ?_ <|  cons_unary ?_ <|  cons_binary ?_ <|  cons_binary ?_ <|
      cons_binary ?_ <|  cons_binary ?_ <|  cons_nullary ?_ <|  cons_unary ?_ <|
      cons_binary ?_ <|  cons_nullary ?_ <|  cons_unary ?_ <|  cons_binary ?_ <|
      cons_binary ?_ <|  cons_binary ?_ <|  cons_unary ?_ <|  cons_binary ?_ <|
      cons_unary ?_ <|  cons_binary ?_ <|  cons_nullary ?_ <|  cons_unary ?_ <|
      cons_binary ?_ <|  cons_binary ?_ <|  cons_nullary ?_ <|  cons_unary ?_ <|
      cons_binary ?_ <|  cons_nullary ?_ <|  cons_unary ?_ <|  cons_binary ?_ <|
      cons_binary ?_ <|  cons_binary ?_ <|  cons_binary ?_ <|  cons_nullary ?_ <|
      cons_unary ?_ <|  cons_binary ?_ <|  cons_nullary ?_ <|  cons_unary ?_ <|
      cons_binary ?_ <|  cons_binary ?_ <|  cons_binary ?_ <|  cons_binary ?_ <|
      cons_nullary ?_ <|  cons_unary ?_ <|  cons_binary ?_ <|  cons_nullary ?_ <|
      cons_unary ?_ <|  cons_binary ?_ <|  cons_binary ?_ <|  cons_binary ?_ <|
      tame_nil)
    all_goals decide

set_option maxHeartbeats 4000000 in
theorem threefry2x32OpsPart2_tame : TameLine (F := F) (threefry2x32OpsPart2 main_call5.call0.v4 main_call5.call0.v6 main_call5.call0.v17 main_call5.call0.v16 main_call5.call0.call0) :=
  show TameLine (F := F) _ from by
    unfold threefry2x32OpsPart2
    refine (cons_binary ?_ <|  cons_nullary ?_ <|  cons_unary ?_ <|  cons_binary ?_ <|
      cons_nullary ?_ <|  cons_unary ?_ <|  cons_binary ?_ <|  cons_binary ?_ <|
      cons_binary ?_ <|  cons_unary ?_ <|  cons_binary ?_ <|  cons_unary ?_ <|
      cons_binary ?_ <|  cons_nullary ?_ <|  cons_unary ?_ <|  cons_binary ?_ <|
      cons_binary ?_ <|  cons_nullary ?_ <|  cons_unary ?_ <|  cons_binary ?_ <|
      cons_nullary ?_ <|  cons_unary ?_ <|  cons_binary ?_ <|  cons_binary ?_ <|
      cons_binary ?_ <|  cons_binary ?_ <|  cons_nullary ?_ <|  cons_unary ?_ <|
      cons_binary ?_ <|  cons_nullary ?_ <|  cons_unary ?_ <|  cons_binary ?_ <|
      cons_binary ?_ <|  cons_binary ?_ <|  cons_binary ?_ <|  cons_nullary ?_ <|
      cons_unary ?_ <|  cons_binary ?_ <|  cons_nullary ?_ <|  cons_unary ?_ <|
      cons_binary ?_ <|  cons_binary ?_ <|  cons_binary ?_ <|  cons_binary ?_ <|
      cons_nullary ?_ <|  cons_unary ?_ <|  cons_binary ?_ <|  cons_nullary ?_ <|
      cons_unary ?_ <|  cons_binary ?_ <|  cons_binary ?_ <|  cons_binary ?_ <|
      cons_unary ?_ <|  cons_binary ?_ <|  cons_unary ?_ <|  cons_binary ?_ <|
      cons_nullary ?_ <|  cons_unary ?_ <|  cons_binary ?_ <|  cons_binary ?_ <|
      tame_nil)
    all_goals decide

set_option maxHeartbeats 4000000 in
theorem threefry2x32OpsPart3_tame : TameLine (F := F) (threefry2x32OpsPart3 main_call5.call0.v4 main_call5.call0.v6 main_call5.call0.v17 main_call5.call0.v16 main_call5.call0.call0) :=
  show TameLine (F := F) _ from by
    unfold threefry2x32OpsPart3
    refine (cons_nullary ?_ <|  cons_unary ?_ <|  cons_binary ?_ <|  cons_nullary ?_ <|
      cons_unary ?_ <|  cons_binary ?_ <|  cons_binary ?_ <|  cons_binary ?_ <|
      cons_binary ?_ <|  cons_nullary ?_ <|  cons_unary ?_ <|  cons_binary ?_ <|
      cons_nullary ?_ <|  cons_unary ?_ <|  cons_binary ?_ <|  cons_binary ?_ <|
      cons_binary ?_ <|  cons_binary ?_ <|  cons_nullary ?_ <|  cons_unary ?_ <|
      cons_binary ?_ <|  cons_nullary ?_ <|  cons_unary ?_ <|  cons_binary ?_ <|
      cons_binary ?_ <|  cons_binary ?_ <|  cons_binary ?_ <|  cons_nullary ?_ <|
      cons_unary ?_ <|  cons_binary ?_ <|  cons_nullary ?_ <|  cons_unary ?_ <|
      cons_binary ?_ <|  cons_binary ?_ <|  cons_binary ?_ <|  cons_unary ?_ <|
      cons_binary ?_ <|  cons_unary ?_ <|  cons_binary ?_ <|  cons_nullary ?_ <|
      cons_unary ?_ <|  cons_binary ?_ <|  tame_nil)
    all_goals decide

set_option maxHeartbeats 4000000 in
theorem threefry2x32Ops_tame : TameLine (F := F) (threefry2x32Ops main_call5.call0.v4 main_call5.call0.v6 main_call5.call0.v17 main_call5.call0.v16 main_call5.call0.call0) :=
  show TameLine (F := F) _ from by
    unfold threefry2x32Ops
    refine (tame_append threefry2x32OpsPart0_tame
    (tame_append threefry2x32OpsPart1_tame
    (tame_append threefry2x32OpsPart2_tame
    threefry2x32OpsPart3_tame)))
    all_goals decide

set_option maxHeartbeats 4000000 in
theorem uniformOps_tame : TameLine (F := F) (uniformOps (.of main_v31) main_call5.cst main_call5.cst_0 main_call5.call0) :=
  show TameLine (F := F) _ from by
    unfold uniformOps
    refine (tame_append (cons_unary ?_ <|  cons_unary ?_ <|  cons_unary ?_ <|  cons_unary ?_ <|
      cons_reshape ?_ <|  cons_unary ?_ <|  cons_reshape ?_ <|  cons_nullary ?_ <|
      cons_nullary ?_ <|  cons_nullary ?_ <|  cons_unary ?_ <|  cons_binary ?_ <|
      cons_nullary ?_ <|  cons_unary ?_ <|  cons_binary ?_ <|  cons_binary ?_ <|
      cons_nullary ?_ <|  cons_unary ?_ <|  cons_binary ?_ <|  cons_unary ?_ <|
      cons_unary ?_ <|  tame_nil)
    (tame_append threefry2x32Ops_tame
    (cons_binary ?_ <|  cons_nullary ?_ <|  cons_unary ?_ <|  cons_binary ?_ <|
      cons_nullary ?_ <|  cons_unary ?_ <|  cons_binary ?_ <|  cons_unary ?_ <|
      cons_nullary ?_ <|  cons_unary ?_ <|  cons_binary ?_ <|  cons_binary ?_ <|
      cons_unary ?_ <|  cons_binary ?_ <|  cons_unary ?_ <|  cons_binary ?_ <|
      cons_unary ?_ <|  cons_binary ?_ <|  tame_nil)))
    all_goals decide

set_option maxHeartbeats 4000000 in
theorem gumbelOps_tame : TameLine (F := F) (gumbelOps (.of main_v31) main_call5) :=
  show TameLine (F := F) _ from by
    unfold gumbelOps
    refine (tame_append (cons_nullary ?_ <|  cons_nullary ?_ <|  tame_nil)
    (tame_append uniformOps_tame
    (cons_unary ?_ <|  cons_unary ?_ <|  cons_unary ?_ <|  cons_unary ?_ <|
      tame_nil)))
    all_goals decide

set_option maxHeartbeats 4000000 in
theorem argmaxOps_tame : TameLine (F := F) (argmaxOps (.of main_v36) main_call6) :=
  show TameLine (F := F) _ from by
    unfold argmaxOps
    refine (cons_nullary ?_ <|  cons_nullary ?_ <|  cons_nullary ?_ <|  cons_quaternary ?_ <|
      cons_quaternary ?_ <|  tame_nil)
    all_goals decide

set_option maxHeartbeats 4000000 in
theorem take_along_axis_1Ops_tame : TameLine (F := F) (take_along_axis_1Ops (.of main_v14) (.of main_v38) main_call7) :=
  show TameLine (F := F) _ from by
    unfold take_along_axis_1Ops
    refine (cons_nullary ?_ <|  cons_unary ?_ <|  cons_binary ?_ <|  cons_nullary ?_ <|
      cons_unary ?_ <|  cons_binary ?_ <|  cons_ternary ?_ <|  cons_nullary ?_ <|
      cons_nullary ?_ <|  cons_unary ?_ <|  cons_binary ?_ <|  cons_unary ?_ <|
      cons_binary ?_ <|  cons_binary ?_ <|  cons_nullary ?_ <|  cons_binary ?_ <|
      cons_binary ?_ <|  cons_unary ?_ <|  cons_nullary ?_ <|  cons_unary ?_ <|
      cons_ternary ?_ <|  tame_nil)
    all_goals decide

set_option maxHeartbeats 4000000 in
theorem mainOps_tame : TameLine (F := F) (mainOps  ) :=
  show TameLine (F := F) _ from by
    unfold mainOps
    refine (tame_append (cons_nullary ?_ <|  cons_unary ?_ <|  cons_binary ?_ <|  cons_nullary ?_ <|
      cons_binary ?_ <|  cons_nullary ?_ <|  cons_unary ?_ <|  cons_binary ?_ <|
      cons_unary ?_ <|  cons_unary ?_ <|  cons_binary ?_ <|  cons_unary ?_ <|
      cons_nullary ?_ <|  cons_binary ?_ <|  cons_unary ?_ <|  cons_unary ?_ <|
      cons_binary ?_ <|  cons_unary ?_ <|  tame_nil)
    (tame_append argsortOps_tame
    (tame_append take_along_axisOps_tame
    (tame_append cumsumOps_tame
    (tame_append (cons_nullary ?_ <|  cons_unary ?_ <|  cons_binary ?_ <|  cons_nullary ?_ <|
      tame_nil)
    (tame_append whereOps_tame
    (tame_append (cons_nullary ?_ <|  cons_binary ?_ <|  cons_unary ?_ <|  cons_nullary ?_ <|
      tame_nil)
    (tame_append clipOps_tame
    (tame_append (cons_unary ?_ <|  cons_binary ?_ <|  cons_nullary ?_ <|  cons_nullary ?_ <|
      cons_binary ?_ <|  cons_unary ?_ <|  cons_unary ?_ <|  cons_nullary ?_ <|
      cons_binary ?_ <|  cons_unary ?_ <|  cons_unary ?_ <|  cons_binary ?_ <|
      cons_nullary ?_ <|  cons_unary ?_ <|  cons_binary ?_ <|  cons_unary ?_ <|
      tame_nil)
    (tame_append gumbelOps_tame
    (tame_append (cons_binary ?_ <|  tame_nil)
    (tame_append argmaxOps_tame
    (tame_append (cons_unary ?_ <|  tame_nil)
    (tame_append take_along_axis_1Ops_tame
    (cons_reshape ?_ <|  tame_nil)))))))))))))))
    all_goals decide

/-- The reference's arrays at the end of a run, core by core. -/
def finalRef (m : (ℓ : Loc nD τ sig) → Buf (Elt F) ℓ) (c : Dev nD) : Valuation τ sig (Elt F) :=
  StableHlo.after mainOps (StableHlo.launchContents m c)

/-- The argument stands as it was. -/
theorem finalRef_arg0 (m : (ℓ : Loc nD τ sig) → Buf (Elt F) ℓ) (c : Dev nD) :
    finalRef m c (Proc.devRef .tc main_arg0) = m ((c : Thread nD τ).loc main_arg0) :=
  StableHlo.after_of_forall_not_mem _ _ fun op h => (mainOps_tame op h).keeps

/-- The reference's run: every core's arrays at the fold, and no semaphore raised. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (c : Dev nD) (b : Ref sig .tc), r.2.mem ((c : Thread nD τ).loc b) = finalRef m c (Proc.devRef .tc b))
      ∧ r.2.sem = fun _ => 0 :=
  (θ_run _ _ _).mono (fun r h => ⟨h, sem_eq_zero_of_no_sems (by decide) r.2⟩)
    (StableHlo.run_seq (by decide) (by decide) defs main (fun _ => mainOps) main_run
      (fun _ => List.forall_iff_forall_mem.mpr fun op h => (mainOps_tame op h).bufs) m ρ
      (fun _ op h => (mainOps_tame op h).fresh))

end Cert.ReferenceIdeal.Hand

end
-- ==== Proof.KI.SoftmaxVal.lean ====
/-
  What the softmax call leaves, over the extended reals: each logit's exponential, shifted by the maximum of all, over
  the sum of all these exponentials.
-/
module

public import proofs.«01_k».proof.Proof.KI.Softmax
public import Idealize.ShloMosaic.Lib.Pipeline.ValueKit
public import Idealize.ShloMosaic.PureOps.Ideal.Laws
public import Idealize.ShloMosaic.Lib.ValueIdxCore

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic
open Idealize.ShloMosaic.Pipeline (Dat Cfg Window cellOf)

/-- The cell of the whole array at cell `y` of block `k`. -/
def cell (k : Fin 8) (y : S1024x128.Idx) : S8192x128.Idx :=
  ValueIdx.ix2 (n0 := 8192) (n1 := 128) ⟨k.val * 1024 + (y 0).val, by have := ValueIdx.idx2_lt0 y; have := k.isLt; omega⟩ (y 1)

/-- The whole array's cells are the eight blocks' cells. -/
def cellEquiv : Fin 8 × S1024x128.Idx ≃ S8192x128.Idx where
  toFun p := cell p.1 p.2
  invFun i := (⟨(i 0).val / 1024, by have := ValueIdx.idx2_lt0 i; omega⟩,
    ValueIdx.ix2 (n0 := 1024) (n1 := 128) ⟨(i 0).val % 1024, Nat.mod_lt _ (by decide)⟩ (i 1))
  left_inv p := by
    obtain ⟨k, y⟩ := p
    have h0 := ValueIdx.idx2_lt0 y
    refine Prod.ext (Fin.ext ?_) ?_
    · show (k.val * 1024 + (y 0).val) / 1024 = k.val
      omega
    · rw [ValueIdx.eq_ix2 y]
      refine congrArg₂ (ValueIdx.ix2 (n0 := 1024) (n1 := 128)) (Fin.ext ?_) rfl
      show (k.val * 1024 + (y 0).val) % 1024 = (y 0).val
      omega
  right_inv i := by
    conv_rhs => rw [ValueIdx.eq_ix2 i]
    refine congrArg₂ (ValueIdx.ix2 (n0 := 8192) (n1 := 128)) (Fin.ext ?_) rfl
    show (i 0).val / 1024 * 1024 + (i 0).val % 1024 = (i 0).val
    omega

theorem neg_inf : (FloatOps.ofBits .f32 0xFF800000#32 : Ideal .f32) = (⊥ : EReal) := by
  show Ideal.ofBits .f32 0xFF800000#32 = ⊥
  simp [Ideal.ofBits, Ideal.ieee]

theorem fold_max_bot {ι : Type} (S : Finset ι) (f : ι → Ideal .f32) :
    S.fold FloatOps.maximumf (FloatOps.ofBits .f32 0xFF800000#32 : Ideal .f32) f = S.sup (α := EReal) f := by
  rw [neg_inf]; rfl

/-- A maximum over a whole array, from −∞. -/
theorem max_total {s t : Shape} {axes : List (Fin s.rank)} (v : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t v 0xFF800000#32 h hφ hacc j = ⨆ i : s.Idx, (v i : EReal) := by
  rw [multiReduction_maximumf_eq_fold, Finset.filter_true_of_mem fun i _ => funext fun b => Fin.ext (by
    have := (h.drop i b).isLt; have := (j b).isLt; have := ht b; omega), fold_max_bot, Finset.sup_univ_eq_iSup]

theorem pay2_eq (x : Vec Ideal S1024x128 .f32) (a : Ideal .f32) :
    k1_pay2 (F := Ideal) x a = max (a : EReal) (⨆ y : S1024x128.Idx, (x y : EReal)) := by
  unfold k1_pay2
  refine congrArg (max (a : EReal)) ((max_total _ _ (by decide) (.inl rfl) rfl _).trans ?_)
  unfold k1_pay1
  exact ((Shape.reshapeEquiv shapeCasts_S1024x128_S1x1024x128).iSup_comp
    (g := fun y => (x (Shape.reshapeEquiv shapeCasts_S1024x128_S1024x128 y) : EReal))).trans
    ((Shape.reshapeEquiv shapeCasts_S1024x128_S1024x128).iSup_comp (g := fun y => (x y : EReal)))

theorem pay3_eq (x : Vec Ideal S1024x128 .f32) (s a : Ideal .f32) :
    k1_pay3 (F := Ideal) x s a = (s + ∑ y : S1024x128.Idx, Ideal.exp ((x y : EReal) - a) : EReal) := by
  unfold k1_pay3
  refine congrArg ((s : EReal) + ·) ((Ideal.multiReduction_add_total _ 0x00000000#32 _ (by decide) (.inl rfl) rfl _).trans ?_)
  unfold k1_pay1
  exact ((Shape.reshapeEquiv shapeCasts_S1024x128_S1x1024x128).sum_comp
    (fun y => Ideal.exp ((x (Shape.reshapeEquiv shapeCasts_S1024x128_S1024x128 y) : EReal) - a))).trans
    ((Shape.reshapeEquiv shapeCasts_S1024x128_S1024x128).sum_comp (fun y => Ideal.exp ((x y : EReal) - a)))

theorem cast_same (x : Vec Ideal S1024x128 .f32) : k1_pay1 x = x := by
  unfold k1_pay1
  exact shapeCast_self _ _

theorem pay4_apply (x : Vec Ideal S1024x128 .f32) (a s : Ideal .f32) (y : S1024x128.Idx) :
    k1_pay4 (F := Ideal) x a s y = Ideal.div (Ideal.exp ((x y : EReal) - a)) s := by
  unfold k1_pay4
  rw [cast_same]
  rfl

theorem maskWord_eq : (maskWord : Ideal .f32) = (⊥ : EReal) := by
  unfold maskWord; rfl
theorem zeroWord_eq : (zeroWord : Ideal .f32) = (0 : EReal) := by
  show Ideal.ofBits .f32 0x00000000#32 = 0
  simp [Ideal.ofBits, Ideal.ieee]

variable (V : (c : Dev nD) → (b : Ref sig .tc) → Buf (Elt Ideal) ((c : Thread nD τ).loc b))

/-- The padded logits. -/
def logitsIn (c : Dev nD) : S8192x128.Idx → EReal := V c main_v3

theorem map1_0 : ∀ t : Fin cfg1.N, win1_0.index t 0 = t.val % 8 ∧ win1_0.index t 1 = 0 :=
  (by decide +kernel : ∀ t : Fin grid1.N, win1_0.index t 0 = t.val % 8 ∧ win1_0.index t 1 = 0)
theorem map1_1 : ∀ t : Fin cfg1.N, 16 ≤ t.val → win1_1.index t 0 = t.val % 8 ∧ win1_1.index t 1 = 0 :=
  (by decide +kernel : ∀ t : Fin grid1.N, 16 ≤ t.val → win1_1.index t 0 = t.val % 8 ∧ win1_1.index t 1 = 0)

/-- The block a point works on. -/
def blockOf (n : ℕ) : Fin 8 := ⟨n % 8, Nat.mod_lt _ (by decide)⟩

theorem blk1_apply (c : Dev nD) (t : Fin cfg1.N) (y : S1024x128.Idx) :
    blk1 V c t y = logitsIn V c (cell (blockOf t.val) y) := by
  show logitsIn V c ((win1_0.rect t).emb y) = _
  congr 1
  funext a
  apply Fin.ext
  refine (Pipeline.Window.rect_emb_val win1_0 t y a rfl).trans ?_
  obtain ⟨h0, h1⟩ := map1_0 t
  match a with
  | ⟨0, _⟩ => exact congrArg (· * 1024 + (y 0).val) h0
  | ⟨1, _⟩ => exact (congrArg (· * 128 + (y 1).val) h1).trans (by show 0 * 128 + (y 1).val = (y 1).val; omega)

/-- The greatest logit. -/
def top (c : Dev nD) : EReal := ⨆ i, logitsIn V c i

/-- The sum of the shifted exponentials. -/
def mass (c : Dev nD) : EReal := ∑ i, Ideal.exp (logitsIn V c i - top V c)

theorem max_below (c : Dev nD) (n : ℕ) (h : n ≤ 8) :
    (st1 V c n).1 = (Finset.range n).sup fun k => ⨆ y, logitsIn V c (cell (blockOf k) y) := by
  induction n with
  | zero => exact maskWord_eq
  | succ n ih =>
    have hN : n < cfg1.N := by show n < 24; omega
    rw [st1_max V c ⟨n, hN⟩ (by show n < 8; omega)]
    show k1_pay2 (blk1 V c ⟨n, hN⟩) (st1 V c n).1 = _
    rw [pay2_eq, ih (by omega), Finset.range_add_one, Finset.sup_insert, sup_comm]
    simp only [blk1_apply]

theorem blockOf_val (k : Fin 8) : blockOf k.val = k := Fin.ext (Nat.mod_eq_of_lt k.isLt)
theorem blockOf_add (n : ℕ) : blockOf (8 + n) = blockOf n := Fin.ext (by show (8 + n) % 8 = n % 8; omega)

theorem max_at (c : Dev nD) : (st1 V c 8).1 = top V c := by
  rw [max_below V c 8 le_rfl, top, ← cellEquiv.iSup_comp, iSup_prod]
  refine le_antisymm (Finset.sup_le fun k _ => le_iSup_of_le (blockOf k) le_rfl) (iSup_le fun k => ?_)
  have := Finset.le_sup (f := fun k => ⨆ y, logitsIn V c (cell (blockOf k) y)) (Finset.mem_range.2 k.isLt)
  simp only [blockOf_val] at this
  exact this

theorem sum_below (c : Dev nD) (n : ℕ) (h : n ≤ 8) :
    st1 V c (8 + n) = (top V c, ∑ k ∈ Finset.range n, ∑ y, Ideal.exp (logitsIn V c (cell (blockOf k) y) - top V c)) := by
  induction n with
  | zero =>
    refine Prod.ext (max_at V c) ?_
    have : ∀ n, n ≤ 8 → (st1 V c n).2 = zeroWord := by
      intro n
      induction n with
      | zero => intro _; rfl
      | succ n ih =>
        intro hn
        have hN : n < cfg1.N := by show n < 24; omega
        rw [st1_max V c ⟨n, hN⟩ (by show n < 8; omega)]
        exact ih (by omega)
    exact (this 8 le_rfl).trans zeroWord_eq
  | succ n ih =>
    have hN : 8 + n < cfg1.N := by show 8 + n < 24; omega
    rw [show 8 + (n + 1) = 8 + n + 1 from rfl, st1_sum V c ⟨8 + n, hN⟩ (by show 8 ≤ 8 + n; omega) (by show 8 + n < 16; omega)]
    show ((st1 V c (8 + n)).1, k1_pay3 (blk1 V c ⟨8 + n, hN⟩) (st1 V c (8 + n)).2 (st1 V c (8 + n)).1) = _
    rw [ih (by omega), pay3_eq, Finset.sum_range_succ]
    simp only [blk1_apply, blockOf_add]

theorem sum_at (c : Dev nD) : st1 V c 16 = (top V c, mass V c) := by
  rw [sum_below V c 8 le_rfl, mass, ← cellEquiv.sum_comp, Fintype.sum_prod_type, Finset.sum_range]
  simp only [blockOf_val]
  rfl

theorem st1_last (c : Dev nD) (n : ℕ) (h : 16 ≤ n) (h' : n ≤ 24) : st1 V c n = (top V c, mass V c) := by
  induction n, h using Nat.le_induction with
  | base => exact sum_at V c
  | succ n h ih =>
    have hN : n < cfg1.N := by show n < 24; omega
    rw [st1_quo V c ⟨n, hN⟩ h]
    exact ih (by omega)

/-- The probability of a cell. -/
def prob (c : Dev nD) (i : S8192x128.Idx) : EReal := Ideal.div (Ideal.exp (logitsIn V c i - top V c)) (mass V c)

theorem flush1_1 : ∀ t : Fin cfg1.N, (cfg1.win 1).flush t = true → 16 ≤ t.val :=
  (by decide +kernel : ∀ t : Fin grid1.N, (cfg1.win 1).flush t = true → 16 ≤ t.val)

/-- The call's result. -/
theorem softmax_value (c : Dev nD) : (dat1 V c).arrAt 1 cfg1.N = fun i => prob V c i := by
  refine (dat1 V c).arrAt_eq_of_covers 1 _ (by decide +kernel) fun t hf y => ?_
  have h16 := flush1_1 t hf
  have hN : t.val < 24 := lt_of_lt_of_eq t.isLt (show cfg1.N = 24 from N_1)
  rw [after1_1]
  show out1 V c t y = prob V c ((win1_1.rect t).emb y)
  unfold out1
  rw [st1_last V c t.val h16 (by omega), pay4_apply, blk1_apply, prob]
  congr 4
  funext a
  apply Fin.ext
  refine Eq.trans ?_ (Pipeline.Window.rect_emb_val win1_1 t y a rfl).symm
  obtain ⟨h0, h1⟩ := map1_1 t h16
  match a with
  | ⟨0, _⟩ => exact (congrArg (· * 1024 + (y 0).val) h0).symm
  | ⟨1, _⟩ => exact ((congrArg (· * 128 + (y 1).val) h1).trans (by show 0 * 128 + (y 1).val = (y 1).val; omega)).symm

end Cert.KernelIdeal.Hand

end
-- ==== Proof.KI.Scan.lean ====
/-
  The running sums of a block, over the extended reals: along a row by a product with a triangle of ones, down the rows
  by ten doublings.
-/
module

public import proofs.«01_k».proof.Proof.KI.SoftmaxVal
public import proofs.«01_k».proof.Proof.KI.Sample
public import Idealize.ShloMosaic.Lib.Pointwise.Contract
public import Idealize.ShloMosaic.Lib.MatmulPlain
public import Idealize.ShloMosaic.Lib.Pipeline.Value

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic

theorem zero_bits : (Scalar.ofBits .f32 0x00000000#32 : Ideal .f32) = (0 : EReal) := Ideal.ofBits_zero_f32

/-- A column of `n` numbers. -/
abbrev Col (n : ℕ) : Shape := ⟨2, ![n, 1]⟩

/-- One doubling: where each entry is the sum of the last `s` terms, adding the column moved down `s` rows gives the sum
    of the last `2 * s`. -/
theorem double {s q : ℕ} (hs : s + q = 1024) (v : FVec Ideal (Col 1024) .f32) (z : FVec Ideal (Col s) .f32) (hz : ∀ i, z i = (0 : EReal))
    (hsl : (Col 1024).Slices ![0, 0] (Col q)) (hc : Shape.Concatenates [Col s, Col q] (Col 1024) 0) (W : ℕ → EReal)
    (hv : ∀ r : Fin 1024, (v (ValueIdx.ix2 r 0) : EReal) = ∑ k ∈ Finset.Ico (r.val + 1 - s) (r.val + 1), W k) (r : Fin 1024) :
    (addf v (concatenate (Col 1024) 0 [⟨Col s, z⟩, ⟨Col q, extractStridedSlice (Col q) ![0, 0] v hsl⟩] hc) (ValueIdx.ix2 r 0) : EReal)
      = ∑ k ∈ Finset.Ico (r.val + 1 - 2 * s) (r.val + 1), W k := by
  show (v (ValueIdx.ix2 r 0) : EReal) + concatenate (Col 1024) 0 [⟨Col s, z⟩, ⟨Col q, extractStridedSlice (Col q) ![0, 0] v hsl⟩] hc (ValueIdx.ix2 r 0) = _
  have hr := r.isLt
  by_cases h : r.val < s
  · rw [concatenate_pair_apply_left (s₁ := Col s) (s₂ := Col q) 0 z _ hc (ValueIdx.ix2 r 0) rfl (ValueIdx.ix2 (n0 := s) (n1 := 1) ⟨r.val, h⟩ 0)
      (fun b => match b with | ⟨0, _⟩ => rfl | ⟨1, _⟩ => rfl), hz, hv, add_zero]
    rw [show r.val + 1 - s = r.val + 1 - 2 * s by omega]
  · have hq : r.val - s < q := by omega
    rw [concatenate_pair_apply_right (s₁ := Col s) (s₂ := Col q) 0 z _ hc (ValueIdx.ix2 r 0) rfl rfl (ValueIdx.ix2 (n0 := q) (n1 := 1) ⟨r.val - s, hq⟩ 0)
      (fun b hb => match b, hb with | ⟨0, _⟩, hb => absurd rfl hb | ⟨1, _⟩, _ => rfl) (by show r.val - s + s = r.val; omega),
      extractStridedSlice_apply ![0, 0] v hsl _ (ValueIdx.ix2 (n0 := 1024) (n1 := 1) ⟨r.val - s, by omega⟩ 0)
      (fun b => match b with | ⟨0, _⟩ => by show r.val - s = 0 + (r.val - s); omega | ⟨1, _⟩ => rfl), hv, hv, add_comm]
    show ∑ k ∈ Finset.Ico (r.val - s + 1 - s) (r.val - s + 1), W k + _ = _
    rw [show r.val - s + 1 = r.val + 1 - s by omega, Finset.sum_Ico_consecutive _ (by omega) (by omega)]
    rw [show r.val + 1 - s - s = r.val + 1 - 2 * s by omega]

variable (B : S1024x128.Idx → EReal)

/-- The sum of a row up to a lane. -/
def lane (r : Fin 1024) (l : Fin 128) : EReal := ∑ k : Fin 128, if k ≤ l then B (ValueIdx.ix2 r k) else 0
/-- The sum of row `k`. -/
def rowOf (k : ℕ) : EReal := if h : k < 1024 then ∑ l : Fin 128, B (ValueIdx.ix2 (⟨k, h⟩ : Fin 1024) l) else 0

theorem triangle (k l : Fin 128) : (sitofp .f32 (extui 32 (cmpi .sle (iota .tc S128x128 32 [0] iota_S128x128_d0_w32) (iota .tc S128x128 32 [1] iota_S128x128_d1_w32)) natLt_1_32)
      : FVec Ideal S128x128 .f32) (ValueIdx.ix2 k l) = (if k ≤ l then 1 else 0 : EReal) := by
  show ((((IntOp.cmpi .sle (iota .tc S128x128 32 [0] iota_S128x128_d0_w32 (ValueIdx.ix2 k l)) (iota .tc S128x128 32 [1] iota_S128x128_d1_w32 (ValueIdx.ix2 k l))).setWidth 32).toInt : ℝ) : EReal) = _
  rw [iota_single_apply, iota_single_apply]
  show ((((IntOp.cmpi .sle (BitVec.ofNat 32 (k.val)) (BitVec.ofNat 32 (l.val))).setWidth 32).toInt : ℝ) : EReal) = _
  have h : ∀ k l : Fin 128, ((IntOp.cmpi .sle (BitVec.ofNat 32 (k.val)) (BitVec.ofNat 32 (l.val))).setWidth 32).toInt = if k ≤ l then 1 else 0 := by
    decide +kernel
  rw [h]
  split <;> simp

theorem product_apply (b : FVec Ideal S1024x128 .f32) (u : FVec Ideal S128x128 .f32)
    (hu : ∀ k l : Fin 128, u (ValueIdx.ix2 k l) = (if k ≤ l then 1 else 0 : EReal)) (r : Fin 1024) (l : Fin 128) :
    matmul dot_S1024x128_S128x128_S1024x128_1_0_0_1_n_n none b u (constant S1024x128 .f32 0x00000000#32) (ValueIdx.ix2 r l) = lane b r l := by
  refine (Ideal.matmul_plain_apply none b u (constant S1024x128 .f32 0x00000000#32) r l).trans ?_
  refine (congrArg₂ (· + ·) Ideal.ofBits_zero_f32 rfl).trans ((zero_add _).trans (Finset.sum_congr rfl fun k _ => ?_))
  rw [hu]
  split
  · exact mul_one _
  · exact mul_zero _

/-- The lane sums of a block. -/
theorem pay13_apply (b : Vec Ideal S1024x128 .f32) (r : Fin 1024) (l : Fin 128) : k2_pay13 b (ValueIdx.ix2 r l) = lane b r l := by
  unfold k2_pay13
  rw [shapeCast_self]
  exact product_apply b _ triangle r l

theorem row_total (r : Fin 1024) : lane B r 127 = rowOf B r.val := by
  unfold lane rowOf
  rw [dif_pos r.isLt]
  exact Finset.sum_congr rfl fun k _ => if_pos (by omega)

/-- The row sums of a block, from its lane sums. -/
theorem last_lane (v : FVec Ideal S1024x128 .f32) (hv : ∀ r l, v (ValueIdx.ix2 r l) = lane B r l) (r : Fin 1024) :
    extractStridedSlice S1024x1 ![0, 127] v slices_S1024x128_o0_127_S1024x1 (ValueIdx.ix2 r 0) = rowOf B r.val := by
  rw [extractStridedSlice_apply ![0, 127] v _ _ (ValueIdx.ix2 (n0 := 1024) (n1 := 128) r 127)
      (fun b => match b with | ⟨0, _⟩ => by show r.val = 0 + r.val; omega | ⟨1, _⟩ => rfl), hv, row_total]

theorem pay14_apply (b : Vec Ideal S1024x128 .f32) (r : Fin 1024) : k2_pay14 b (ValueIdx.ix2 r 0) = rowOf b r.val :=
  last_lane b _ (pay13_apply b) r

/-- Nine doublings: each entry is the sum of the last 512 rows. -/
theorem pay15_apply (b : Vec Ideal S1024x128 .f32) (r : Fin 1024) :
    k2_pay15 b (ValueIdx.ix2 r 0) = ∑ k ∈ Finset.Ico (r.val + 1 - 512) (r.val + 1), rowOf b k := by
  have h0 : ∀ r : Fin 1024, (k2_pay14 b (ValueIdx.ix2 r 0) : EReal) = ∑ k ∈ Finset.Ico (r.val + 1 - 1) (r.val + 1), rowOf b k := fun r => by
    rw [pay14_apply]; simp
  have z : (Scalar.ofBits .f32 0x00000000#32 : Ideal .f32) = (0 : EReal) := zero_bits
  have h1 := double (s := 1) (q := 1023) rfl _ (broadcast S1x1 (Scalar.ofBits .f32 0x00000000#32)) (fun _ => z) slices_S1024x1_o0_0_S1023x1 concatenates_S1x1_S1023x1_S1024x1_d0 _ h0
  have h2 := double (s := 2) (q := 1022) rfl _ (broadcast S2x1 (Scalar.ofBits .f32 0x00000000#32)) (fun _ => z) slices_S1024x1_o0_0_S1022x1 concatenates_S2x1_S1022x1_S1024x1_d0 _ h1
  have h3 := double (s := 4) (q := 1020) rfl _ (broadcast S4x1 (Scalar.ofBits .f32 0x00000000#32)) (fun _ => z) slices_S1024x1_o0_0_S1020x1 concatenates_S4x1_S1020x1_S1024x1_d0 _ h2
  have h4 := double (s := 8) (q := 1016) rfl _ (broadcast S8x1 (Scalar.ofBits .f32 0x00000000#32)) (fun _ => z) slices_S1024x1_o0_0_S1016x1 concatenates_S8x1_S1016x1_S1024x1_d0 _ h3
  have h5 := double (s := 16) (q := 1008) rfl _ (broadcast S16x1 (Scalar.ofBits .f32 0x00000000#32)) (fun _ => z) slices_S1024x1_o0_0_S1008x1 concatenates_S16x1_S1008x1_S1024x1_d0 _ h4
  have h6 := double (s := 32) (q := 992) rfl _ (broadcast S32x1 (Scalar.ofBits .f32 0x00000000#32)) (fun _ => z) slices_S1024x1_o0_0_S992x1 concatenates_S32x1_S992x1_S1024x1_d0 _ h5
  have h7 := double (s := 64) (q := 960) rfl _ (broadcast S64x1 (Scalar.ofBits .f32 0x00000000#32)) (fun _ => z) slices_S1024x1_o0_0_S960x1 concatenates_S64x1_S960x1_S1024x1_d0 _ h6
  have h8 := double (s := 128) (q := 896) rfl _ (broadcast S128x1 (Scalar.ofBits .f32 0x00000000#32)) (fun _ => z) slices_S1024x1_o0_0_S896x1 concatenates_S128x1_S896x1_S1024x1_d0 _ h7
  have h9 := double (s := 256) (q := 768) rfl _ (broadcast S256x1 (Scalar.ofBits .f32 0x00000000#32)) (fun _ => z) slices_S1024x1_o0_0_S768x1 concatenates_S256x1_S768x1_S1024x1_d0 _ h8
  exact h9 r

/-- The place of a cell in its block. -/
def flat (i : S1024x128.Idx) : ℕ := (i 0).val * 128 + (i 1).val

/-- What a block sums to up to a cell: the rows above, then the lanes of the cell's own row. -/
theorem upTo_eq (r : Fin 1024) (l : Fin 128) :
    (∑ i : S1024x128.Idx, if flat i ≤ r.val * 128 + l.val then B i else 0) = (∑ k ∈ Finset.range r.val, rowOf B k) + lane B r l := by
  rw [ValueIdx.sum_idx2]
  have h : ∀ k : Fin 1024, (∑ l' : Fin 128, if flat (ValueIdx.ix2 k l') ≤ r.val * 128 + l.val then B (ValueIdx.ix2 k l') else 0)
      = (if k.val < r.val then rowOf B k.val else 0) + (if k = r then lane B r l else 0) := fun k => by
    rcases lt_trichotomy k.val r.val with h | h | h
    · rw [if_pos h, if_neg (by rintro rfl; omega), add_zero, rowOf, dif_pos k.isLt]
      exact Finset.sum_congr rfl fun l' _ => if_pos (by show k.val * 128 + l'.val ≤ _; omega)
    · obtain rfl : k = r := Fin.ext h
      rw [if_neg (lt_irrefl _), if_pos rfl, zero_add, lane]
      refine Finset.sum_congr rfl fun l' _ => if_congr ?_ rfl rfl
      show k.val * 128 + l'.val ≤ _ ↔ l'.val ≤ l.val
      omega
    · rw [if_neg (by omega), if_neg (by rintro rfl; omega), add_zero]
      exact Finset.sum_eq_zero fun l' _ => if_neg (by show ¬ (k.val * 128 + l'.val ≤ _); omega)
  rw [Finset.sum_congr rfl fun k _ => h k, Finset.sum_add_distrib, Finset.sum_ite_eq' Finset.univ r, if_pos (Finset.mem_univ _)]
  congr 1
  rw [Fin.sum_univ_eq_sum_range (fun k => if k < r.val then rowOf B k else 0) 1024, ← Finset.sum_filter]
  refine Finset.sum_congr ?_ fun _ _ => rfl
  ext k
  have := r.isLt
  simp only [Finset.mem_filter, Finset.mem_range]
  omega

/-- A block all of whose numbers are finite, or all `⊥`. -/
def Tame : Prop := (∀ i, B i ≠ ⊥ ∧ B i ≠ ⊤) ∨ ∀ i, B i = ⊥

theorem sum_bot {ι : Type} [DecidableEq ι] (s : Finset ι) (f : ι → EReal) (i : ι) (hi : i ∈ s) (h : f i = ⊥) : ∑ k ∈ s, f k = ⊥ := by
  rw [← Finset.add_sum_erase s f hi, h, EReal.bot_add]

theorem sum_real {ι : Type} (s : Finset ι) (f : ι → EReal) (h : ∀ i ∈ s, f i ≠ ⊥ ∧ f i ≠ ⊤) : ∃ a : ℝ, ∑ k ∈ s, f k = (a : EReal) := by
  classical
  induction s using Finset.induction_on with
  | empty => exact ⟨0, by simp⟩
  | insert i s hi ih =>
    obtain ⟨a, ha⟩ := ih fun k hk => h k (Finset.mem_insert_of_mem hk)
    have hb := h i (Finset.mem_insert_self _ _)
    refine ⟨(f i).toReal + a, ?_⟩
    rw [Finset.sum_insert hi, ha, EReal.coe_add, EReal.coe_toReal hb.2 hb.1]

/-- One more doubling, the row's own sum taken off, the carry and the lane sums added: the carry plus the sum up to the cell. -/
theorem pay1_core (hB : Tame B) (v60 : FVec Ideal S1024x128 .f32) (v61 v97 : FVec Ideal S1024x1 .f32) (v98 v99 : FVec Ideal S512x1 .f32) (f : Ideal .f32)
    (h60 : ∀ r l, v60 (ValueIdx.ix2 r l) = lane B r l) (h61 : ∀ r : Fin 1024, v61 (ValueIdx.ix2 r 0) = rowOf B r.val)
    (h97 : ∀ r : Fin 1024, (v97 (ValueIdx.ix2 r 0) : EReal) = ∑ k ∈ Finset.Ico (r.val + 1 - 512) (r.val + 1), rowOf B k)
    (h98 : ∀ i, v98 i = (0 : EReal)) (h99 : v99 = extractStridedSlice S512x1 ![0, 0] v97 slices_S1024x1_o0_0_S512x1) (r : Fin 1024) (l : Fin 128) :
    (k2_pay1 v60 v61 v97 v98 v99 f (ValueIdx.ix2 r l) : EReal)
      = f + ∑ i : S1024x128.Idx, if flat i ≤ r.val * 128 + l.val then B i else 0 := by
  subst h99
  have h := double (s := 512) (q := 512) rfl v97 v98 h98 slices_S1024x1_o0_0_S512x1 concatenates_S512x1_S512x1_S1024x1_d0 _ h97 r
  have e : r.val + 1 - 2 * 512 = 0 := by have := r.isLt; omega
  rw [e, ← Finset.range_eq_Ico, Finset.sum_range_succ] at h
  have hl : (k2_pay1 v60 v61 v97 v98 (extractStridedSlice S512x1 ![0, 0] v97 slices_S1024x1_o0_0_S512x1) f (ValueIdx.ix2 r l) : EReal)
      = f + (((∑ k ∈ Finset.range r.val, rowOf B k) + rowOf B r.val) - rowOf B r.val) + lane B r l := by
    unfold k2_pay1
    refine congrArg₂ (· + ·) ?_ (h60 r l)
    rw [broadcastTo_apply _ _ _ (ValueIdx.ix2 (n0 := 1024) (n1 := 1) r 0) (fun b => match b with | ⟨0, _⟩ => rfl | ⟨1, _⟩ => rfl)]
    exact congrArg (f + ·) (congrArg₂ (· - ·) h (h61 r))
  rw [hl, upTo_eq, ← add_assoc]
  rcases hB with hB | hB
  · obtain ⟨a, ha⟩ : ∃ a : ℝ, rowOf B r.val = (a : EReal) := by
      rw [rowOf, dif_pos r.isLt]
      exact sum_real _ _ fun i _ => hB _
    rw [ha, EReal.add_sub_cancel_right]
  · have : lane B r l = ⊥ := sum_bot _ _ l (Finset.mem_univ _) (by rw [if_pos le_rfl, hB])
    rw [this, EReal.add_bot, EReal.add_bot]

/-- The running sum over a block of the sampling kernel's first pass. -/
theorem pay1_apply (b : Vec Ideal S1024x128 .f32) (hb : Tame b) (f : Ideal .f32) (r : Fin 1024) (l : Fin 128) :
    (k2_pay1 (k2_pay13 b) (k2_pay14 b) (k2_pay15 b) k2_pay16 (k2_pay17 b) f (ValueIdx.ix2 r l) : EReal)
      = f + ∑ i : S1024x128.Idx, if flat i ≤ r.val * 128 + l.val then b i else 0 :=
  pay1_core b hb _ _ _ _ _ f (pay13_apply b) (pay14_apply b) (pay15_apply b) (fun _ => zero_bits) rfl r l

end Cert.KernelIdeal.Hand

end
-- ==== Proof.KI.Pays.lean ====
/-
  What one point of the sampling call computes from its blocks, over the extended reals: counts, sums, maxima and least
  positions over a block.
-/
module

public import proofs.«01_k».proof.Proof.KI.Scan

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic

/-- The small number added under the logarithm. -/
def tiny : EReal := Ideal.ofBits .f32 0x2EDBE6FF#32
/-- The nucleus' threshold. -/
def theta : EReal := Ideal.ofBits .f32 0x3F2AAAAB#32
/-- The number a threshold starts at. -/
def minusOne : EReal := Ideal.ofBits .f32 0xBF800000#32

theorem fold_add {ι : Type} (s : Finset ι) (g : ι → ℕ) (f : ι → BitVec 32) (h : ∀ i, f i = BitVec.ofNat 32 (g i)) :
    s.fold (IKind.op .add) 0#32 f = BitVec.ofNat 32 (∑ i ∈ s, g i) := by
  classical
  induction s using Finset.induction_on with
  | empty => rfl
  | insert i s hi ih =>
    rw [Finset.fold_insert hi, ih, Finset.sum_insert hi, h, BitVec.ofNat_add]
    rfl

/-- A count, or any sum of whole numbers, over a block. -/
theorem count_total (v : IVec S1024x128 32) (g : S1024x128.Idx → ℕ) (h : ∀ y, v y = BitVec.ofNat 32 (g y)) :
    extractAt ![0, 0, 0] (shapeCast S1x1x1 (multiReductionI .add [1, 2] S1 (shapeCast S1x1024x128 v shapeCasts_S1024x128_S1x1024x128) 0#32
      reduces_S1x1024x128_S1 rfl) shapeCasts_S1_S1x1x1) inpos_S1x1x1_p0_0_0 = BitVec.ofNat 32 (∑ y, g y) := by
  refine (multiReductionI_eq_fold .add _ _ _ rfl _).trans ?_
  rw [Finset.filter_true_of_mem fun i _ => funext fun b => Fin.ext (by
    have hb : S1.size b = 1 := (by decide : ∀ b, S1.size b = 1) b
    have e : ∀ z : Fin (S1.size b), z.val = 0 := fun z => by have := z.isLt; omega
    exact (e _).trans (e _).symm)]
  refine (fold_add _ (fun i => g (Shape.reshapeEquiv shapeCasts_S1024x128_S1x1024x128 i)) _ fun i => h _).trans ?_
  exact congrArg (BitVec.ofNat 32) ((Shape.reshapeEquiv shapeCasts_S1024x128_S1x1024x128).sum_comp g)

theorem fold_min {ι : Type} (s : Finset ι) (f : ι → BitVec 32) (a : BitVec 32) :
    (s.fold (IKind.op .minsi) a f = a ∨ ∃ i ∈ s, s.fold (IKind.op .minsi) a f = f i)
      ∧ (∀ i ∈ s, (s.fold (IKind.op .minsi) a f).toInt ≤ (f i).toInt) ∧ (s.fold (IKind.op .minsi) a f).toInt ≤ a.toInt := by
  classical
  induction s using Finset.induction_on with
  | empty => exact ⟨.inl rfl, fun i hi => absurd hi (Finset.notMem_empty _), le_rfl⟩
  | insert i s hi ih =>
    obtain ⟨h1, h2, h3⟩ := ih
    rw [Finset.fold_insert hi]
    generalize Finset.fold (IKind.op .minsi) a f s = w at h1 h2 h3
    have hop : IKind.op .minsi (f i) w = if (f i).slt w then f i else w := rfl
    rw [hop]
    by_cases h : (f i).slt w = true
    · rw [if_pos h]
      rw [BitVec.slt_iff_toInt_lt] at h
      refine ⟨.inr ⟨i, Finset.mem_insert_self _ _, rfl⟩, fun k hk => ?_, by omega⟩
      rcases Finset.mem_insert.1 hk with rfl | hk
      · exact le_rfl
      · have := h2 k hk; omega
    · rw [if_neg h]
      rw [BitVec.slt_iff_toInt_lt] at h
      refine ⟨h1.imp id fun ⟨k, hk, e⟩ => ⟨k, Finset.mem_insert_of_mem hk, e⟩, fun k hk => ?_, h3⟩
      rcases Finset.mem_insert.1 hk with rfl | hk
      · omega
      · exact h2 k hk

/-- The least word of a block. -/
theorem least_total (v : IVec S1024x128 32) (y : S1024x128.Idx) (h : ∀ z, (v y).toInt ≤ (v z).toInt) :
    extractAt ![0, 0, 0] (shapeCast S1x1x1 (multiReductionI .minsi [1, 2] S1 (shapeCast S1x1024x128 v shapeCasts_S1024x128_S1x1024x128) 2147483647#32
      reduces_S1x1024x128_S1 rfl) shapeCasts_S1_S1x1x1) inpos_S1x1x1_p0_0_0 = v y := by
  refine (multiReductionI_eq_fold .minsi _ _ _ rfl _).trans ?_
  rw [Finset.filter_true_of_mem fun i _ => funext fun b => Fin.ext (by
    have hb : S1.size b = 1 := (by decide : ∀ b, S1.size b = 1) b
    have e : ∀ z : Fin (S1.size b), z.val = 0 := fun z => by have := z.isLt; omega
    exact (e _).trans (e _).symm)]
  obtain ⟨h1, h2, h3⟩ := fold_min (Finset.univ : Finset S1x1024x128.Idx) (shapeCast S1x1024x128 v shapeCasts_S1024x128_S1x1024x128) 2147483647#32
  have hy := h2 ((Shape.reshapeEquiv shapeCasts_S1024x128_S1x1024x128).symm y) (Finset.mem_univ _)
  have e : shapeCast S1x1024x128 v shapeCasts_S1024x128_S1x1024x128 ((Shape.reshapeEquiv shapeCasts_S1024x128_S1x1024x128).symm y) = v y :=
    congrArg v (Equiv.apply_symm_apply _ _)
  rw [e] at hy
  refine BitVec.eq_of_toInt_eq (le_antisymm hy ?_)
  rcases h1 with h1 | ⟨i, -, h1⟩
  · refine le_of_le_of_eq ?_ (congrArg BitVec.toInt h1).symm
    have h5 : (2147483647#32).toInt = 2147483647 := by decide
    have h6 := BitVec.toInt_lt (x := v y)
    rw [h5]
    generalize (v y).toInt = i at *
    clear h1 h2 h3 hy e h
    norm_num at h6
    omega
  · exact le_of_le_of_eq (h _) (congrArg BitVec.toInt h1).symm

/-- A sum over a block. -/
theorem sum_total (v : FVec Ideal S1024x128 .f32) :
    extractAt ![0, 0, 0] (shapeCast S1x1x1 (multiReduction .add [1, 2] S1 (shapeCast S1x1024x128 v shapeCasts_S1024x128_S1x1024x128) 0x00000000#32
      reduces_S1x1024x128_S1 (.inl rfl) rfl) shapeCasts_S1_S1x1x1) inpos_S1x1x1_p0_0_0 = ∑ y, (v y : EReal) := by
  refine (Ideal.multiReduction_add_total _ 0x00000000#32 reduces_S1x1024x128_S1 (by decide) (.inl rfl) rfl _).trans ?_
  exact (Shape.reshapeEquiv shapeCasts_S1024x128_S1x1024x128).sum_comp (fun y => (v y : EReal))

/-- A maximum over a block. -/
theorem greatest_total (v : FVec Ideal S1024x128 .f32) :
    extractAt ![0, 0, 0] (shapeCast S1x1x1 (multiReduction .maximumf [1, 2] S1 (shapeCast S1x1024x128 v shapeCasts_S1024x128_S1x1024x128) 0xFF800000#32
      reduces_S1x1024x128_S1 (.inl rfl) rfl) shapeCasts_S1_S1x1x1) inpos_S1x1x1_p0_0_0 = ⨆ y, (v y : EReal) := by
  refine (max_total (shapeCast S1x1024x128 v shapeCasts_S1024x128_S1x1024x128) reduces_S1x1024x128_S1 (by decide : ∀ b, S1.size b = 1) (.inl rfl) rfl
    (Shape.reshapeEquiv shapeCasts_S1_S1x1x1 (fun a => ⟨![0, 0, 0] a, inpos_S1x1x1_p0_0_0 a⟩))).trans ?_
  exact (Shape.reshapeEquiv shapeCasts_S1024x128_S1x1024x128).iSup_comp (g := fun y => (v y : EReal))

theorem bit_one (b : Bool) : BitVec.ofBool b = 1#1 ↔ b = true := by cases b <;> decide
theorem bit_word (b : Bool) : (BitVec.ofBool b).setWidth 32 = BitVec.ofNat 32 (if b = true then 1 else 0) := by cases b <;> decide
theorem bit_int (b : Bool) : ((BitVec.ofBool b).setWidth 32).toInt = if b = true then 1 else 0 := by cases b <;> decide

open Classical in
theorem equal_pick {α : Type} (s t : Ideal .f32) (u v : α) :
    Scalar.select (FloatOps.cmpf .oeq s t) u v = if (s : EReal) = t then u else v := by
  show (if BitVec.ofBool (decide ((s : EReal) = t)) = 1#1 then u else v) = _
  exact if_congr ((bit_one _).trans decide_eq_true_iff) rfl rfl

open Classical in
theorem pick_apply (s : FVec Ideal S1024x128 .f32) (t : Ideal .f32) (u : IVec S1024x128 32) (v : BitVec 32) (z : S1024x128.Idx) :
    select (cmpf .oeq s (broadcast S1024x128 t)) u (broadcast S1024x128 v) z = if (s z : EReal) = t then u z else v :=
  equal_pick (s z) t (u z) v

/-! ### The first sweep -/

variable (b : Vec Ideal S1024x128 .f32) (f a : Ideal .f32)

/-- The running sum a point of the first sweep has at a cell. -/
def running (y : S1024x128.Idx) : EReal := k2_pay1 (k2_pay13 b) (k2_pay14 b) (k2_pay15 b) k2_pay16 (k2_pay17 b) f y

theorem running_eq (hb : Tame b) (y : S1024x128.Idx) : running b f y = f + ∑ i : S1024x128.Idx, if flat i ≤ flat y then b i else 0 := by
  rw [ValueIdx.eq_ix2 y]
  exact pay1_apply b hb f _ _

theorem pay3_eq2 : extractAt ![0, 0, 0] (k2_pay3 (k2_pay13 b) (k2_pay14 b) (k2_pay15 b) (k2_pay16 (F := Ideal)) (k2_pay17 b) f) inpos_S1x1x1_p0_0_0
    = BitVec.ofNat 32 (∑ y, if running b f y ≤ theta then 1 else 0) := by
  classical
  refine count_total _ _ fun y => ?_
  refine (bit_word (decide (running b f y ≤ theta))).trans (congrArg (BitVec.ofNat 32) (if_congr decide_eq_true_iff rfl rfl))

theorem pay4_eq2 : k2_pay4 (k2_pay13 b) (k2_pay14 b) (k2_pay15 b) (k2_pay16 (F := Ideal)) (k2_pay17 b) f a
    = max (a : EReal) (⨆ y, if running b f y ≤ theta then running b f y else minusOne) := by
  classical
  refine congrArg (max (a : EReal)) ((greatest_total _).trans (iSup_congr fun y => ?_))
  show (if BitVec.ofBool (decide (running b f y ≤ theta)) = 1#1 then running b f y else minusOne) = _
  exact if_congr ((bit_one _).trans decide_eq_true_iff) rfl rfl

theorem pay5_eq2 : k2_pay5 (k2_pay14 b) f = (f + ∑ y, (b y : EReal) : EReal) := by
  refine congrArg ((f : EReal) + ·) ((Ideal.multiReduction_add_total _ 0x00000000#32 reduces_S1x1024x1_S1 (by decide) (.inl rfl) rfl _).trans ?_)
  refine ((Shape.reshapeEquiv shapeCasts_S1024x1_S1x1024x1).sum_comp (fun y => (k2_pay14 b y : EReal))).trans ?_
  rw [ValueIdx.sum_idx2, ValueIdx.sum_idx2]
  refine Finset.sum_congr rfl fun r _ => ?_
  rw [Fin.sum_univ_one]
  refine (pay14_apply b r).trans ?_
  rw [rowOf, dif_pos r.isLt]

/-! ### The second sweep -/

variable (w : IVec S1024x128 32) (x g : Vec Ideal S1024x128 .f32) (n : BitVec 32)

open Classical in
/-- The score of a cell. -/
def scoreOf (y : S1024x128.Idx) : EReal :=
  Ideal.log ((if (w y).slt n = true then Ideal.div (x y) (max (a : EReal) tiny) else 0) + tiny) + g y

theorem pay6_eq2 (y : S1024x128.Idx) : (k2_pay6 w x g a n y : EReal) = scoreOf a w x g n y := by
  unfold k2_pay6
  rw [shapeCast_self, shapeCast_self]
  show Ideal.log ((if BitVec.ofBool ((w y).slt n) = 1#1 then Ideal.div (x y) (max (a : EReal) tiny) else Ideal.ofBits .f32 0x00000000#32) + tiny) + g y = _
  rw [Ideal.ofBits_zero_f32]
  unfold scoreOf
  rw [if_congr (bit_one _) rfl rfl]

theorem pay7_eq2 : (k2_pay7 w x g a n : EReal) = ⨆ y, scoreOf a w x g n y :=
  (greatest_total _).trans (iSup_congr fun y => pay6_eq2 a w x g n y)

/-- The positions at which a block's best score is met, a large word elsewhere. -/
def metAt : IVec S1024x128 32 :=
  select (cmpf .oeq (k2_pay6 w x g a n) (broadcast S1024x128 (k2_pay7 w x g a n))) w (broadcast S1024x128 2147483647#32)

open Classical in
theorem metAt_apply (z : S1024x128.Idx) :
    metAt a w x g n z = if scoreOf a w x g n z = (⨆ z, scoreOf a w x g n z) then w z else 2147483647#32 := by
  rw [metAt, pick_apply, pay6_eq2, pay7_eq2]

theorem pay8_eq2 (y : S1024x128.Idx) (hy : scoreOf a w x g n y = ⨆ z, scoreOf a w x g n z)
    (h : ∀ z, scoreOf a w x g n z = (⨆ z, scoreOf a w x g n z) → (w y).toInt ≤ (w z).toInt) :
    extractAt ![0, 0, 0] (k2_pay8 w x g a n) inpos_S1x1x1_p0_0_0 = w y := by
  have h7 : metAt a w x g n y = w y := (metAt_apply a w x g n y).trans (if_pos hy)
  refine (least_total (metAt a w x g n) y fun z => ?_).trans h7
  rw [h7, metAt_apply]
  have h5 : (2147483647#32).toInt = 2147483647 := by decide
  have h6 := BitVec.toInt_lt (x := w y)
  split
  · exact h z (by assumption)
  · rw [h5]
    norm_num at h6
    omega

theorem pay9_eq2 (y : S1024x128.Idx) (hw : Function.Injective w) (hy : extractAt ![0, 0, 0] (k2_pay8 w x g a n) inpos_S1x1x1_p0_0_0 = w y) :
    (k2_pay9 w x g a n x : EReal) = x y := by
  classical
  unfold k2_pay9
  rw [hy, shapeCast_self]
  refine (sum_total _).trans ?_
  refine (Finset.sum_congr rfl fun z _ => ?_).trans (Finset.sum_ite_eq' Finset.univ y (fun z => (x z : EReal))) |>.trans (if_pos (Finset.mem_univ _))
  show (if BitVec.ofBool (w z == w y) = 1#1 then (x z : EReal) else Ideal.ofBits .f32 0x00000000#32) = _
  rw [Ideal.ofBits_zero_f32]
  exact if_congr ((bit_one _).trans (beq_iff_eq.trans hw.eq_iff)) rfl rfl

/-! ### The third and fourth sweeps -/

variable (p : Vec Ideal S1024x128 .f32) (v : Ideal .f32)

theorem pay10_eq2 : extractAt ![0, 0, 0] (k2_pay10 p v) inpos_S1x1x1_p0_0_0 = BitVec.ofNat 32 (∑ y, if (v : EReal) < p y then 1 else 0) := by
  classical
  unfold k2_pay10
  rw [shapeCast_self]
  refine count_total _ _ fun y => ?_
  exact (bit_word (decide ((v : EReal) < p y))).trans (congrArg (BitVec.ofNat 32) (if_congr decide_eq_true_iff rfl rfl))

open Classical in
theorem pay18_apply (y : S1024x128.Idx) : (k2_pay18 p v y : EReal) = if (p y : EReal) = v then 1 else 0 := by
  unfold k2_pay18
  rw [shapeCast_self]
  show ((((BitVec.ofBool (decide ((p y : EReal) = v))).setWidth 32).toInt : ℝ) : EReal) = _
  rw [bit_int, if_congr decide_eq_true_iff rfl rfl]
  split <;> simp

theorem tame18 : Tame (k2_pay18 p v) := .inl fun y => by
  classical
  rw [pay18_apply]
  split
  · exact ⟨EReal.coe_ne_bot 1, EReal.coe_ne_top 1⟩
  · exact ⟨EReal.coe_ne_bot 0, EReal.coe_ne_top 0⟩

theorem pay19_apply (r : Fin 1024) (l : Fin 128) : k2_pay19 p v (ValueIdx.ix2 r l) = lane (k2_pay18 p v) r l :=
  product_apply _ _ triangle r l
theorem pay20_apply (r : Fin 1024) : k2_pay20 p v (ValueIdx.ix2 r 0) = rowOf (k2_pay18 p v) r.val :=
  last_lane _ _ (pay19_apply p v) r

theorem pay21_apply (r : Fin 1024) :
    (k2_pay21 p v (ValueIdx.ix2 r 0) : EReal) = ∑ k ∈ Finset.Ico (r.val + 1 - 256) (r.val + 1), rowOf (k2_pay18 p v) k := by
  have h0 : ∀ r : Fin 1024, (k2_pay20 p v (ValueIdx.ix2 r 0) : EReal) = ∑ k ∈ Finset.Ico (r.val + 1 - 1) (r.val + 1), rowOf (k2_pay18 p v) k := fun r => by
    rw [pay20_apply]; simp
  have z : (Scalar.ofBits .f32 0x00000000#32 : Ideal .f32) = (0 : EReal) := zero_bits
  have h1 := double (s := 1) (q := 1023) rfl _ (broadcast S1x1 (Scalar.ofBits .f32 0x00000000#32)) (fun _ => z) slices_S1024x1_o0_0_S1023x1 concatenates_S1x1_S1023x1_S1024x1_d0 _ h0
  have h2 := double (s := 2) (q := 1022) rfl _ (broadcast S2x1 (Scalar.ofBits .f32 0x00000000#32)) (fun _ => z) slices_S1024x1_o0_0_S1022x1 concatenates_S2x1_S1022x1_S1024x1_d0 _ h1
  have h3 := double (s := 4) (q := 1020) rfl _ (broadcast S4x1 (Scalar.ofBits .f32 0x00000000#32)) (fun _ => z) slices_S1024x1_o0_0_S1020x1 concatenates_S4x1_S1020x1_S1024x1_d0 _ h2
  have h4 := double (s := 8) (q := 1016) rfl _ (broadcast S8x1 (Scalar.ofBits .f32 0x00000000#32)) (fun _ => z) slices_S1024x1_o0_0_S1016x1 concatenates_S8x1_S1016x1_S1024x1_d0 _ h3
  have h5 := double (s := 16) (q := 1008) rfl _ (broadcast S16x1 (Scalar.ofBits .f32 0x00000000#32)) (fun _ => z) slices_S1024x1_o0_0_S1008x1 concatenates_S16x1_S1008x1_S1024x1_d0 _ h4
  have h6 := double (s := 32) (q := 992) rfl _ (broadcast S32x1 (Scalar.ofBits .f32 0x00000000#32)) (fun _ => z) slices_S1024x1_o0_0_S992x1 concatenates_S32x1_S992x1_S1024x1_d0 _ h5
  have h7 := double (s := 64) (q := 960) rfl _ (broadcast S64x1 (Scalar.ofBits .f32 0x00000000#32)) (fun _ => z) slices_S1024x1_o0_0_S960x1 concatenates_S64x1_S960x1_S1024x1_d0 _ h6
  have h8 := double (s := 128) (q := 896) rfl _ (broadcast S128x1 (Scalar.ofBits .f32 0x00000000#32)) (fun _ => z) slices_S1024x1_o0_0_S896x1 concatenates_S128x1_S896x1_S1024x1_d0 _ h7
  exact h8 r

/-- The column the fourth sweep doubles to 512 rows. -/
def column512 : FVec Ideal S1024x1 .f32 :=
  addf (k2_pay21 p v) (concatenate S1024x1 0 [⟨S256x1, k2_pay22⟩, ⟨S768x1, extractStridedSlice S768x1 ![0, 0] (k2_pay21 p v) slices_S1024x1_o0_0_S768x1⟩] concatenates_S256x1_S768x1_S1024x1_d0)

theorem column512_apply (r : Fin 1024) :
    (column512 p v (ValueIdx.ix2 r 0) : EReal) = ∑ k ∈ Finset.Ico (r.val + 1 - 512) (r.val + 1), rowOf (k2_pay18 p v) k :=
  double (s := 256) (q := 768) rfl _ k2_pay22 (fun _ => zero_bits) slices_S1024x1_o0_0_S768x1 concatenates_S256x1_S768x1_S1024x1_d0 _ (pay21_apply p v) r

/-- How many cells of a block, up to a cell, hold `v`, after `f` cells of earlier blocks. -/
def tally (y : S1024x128.Idx) : EReal :=
  k2_pay1 (k2_pay19 p v) (k2_pay20 p v) (column512 p v) k2_pay16 (extractStridedSlice S512x1 ![0, 0] (column512 p v) slices_S1024x1_o0_0_S512x1) f y

open Classical in
theorem tally_eq (y : S1024x128.Idx) : tally f p v y = f + ∑ i : S1024x128.Idx, if flat i ≤ flat y then (if (p i : EReal) = v then 1 else 0) else 0 := by
  rw [ValueIdx.eq_ix2 y]
  refine (pay1_core _ (tame18 p v) _ _ _ _ _ f (pay19_apply p v) (pay20_apply p v) (column512_apply p v) (fun _ => zero_bits) rfl _ _).trans ?_
  refine congrArg ((f : EReal) + ·) (Finset.sum_congr rfl fun i _ => ?_)
  rw [pay18_apply]
  rfl

open Classical in
theorem pay11_eq2 (j m : BitVec 32) (q : S1024x128.Idx → ℕ) (hw : ∀ y, w y = BitVec.ofNat 32 (q y)) :
    extractAt ![0, 0, 0] (k2_pay11 w (k2_pay18 p v) (k2_pay19 p v) (k2_pay20 p v) (k2_pay21 p v) (k2_pay22 (F := Ideal)) f j m) inpos_S1x1x1_p0_0_0
      = BitVec.ofNat 32 (∑ y, if (p y : EReal) = v ∧ tally f p v y - 1 = (((j - m).toInt : ℝ) : EReal) then q y else 0) := by
  refine count_total _ _ fun y => ?_
  have e : (addf (broadcastTo S1024x128 (addf (broadcast S1024x1 f) (subf (addf (column512 p v) (concatenate S1024x1 0 [⟨S512x1, broadcast S512x1 (Scalar.ofBits .f32 0x00000000#32)⟩, ⟨S512x1, extractStridedSlice S512x1 ![0, 0] (column512 p v) slices_S1024x1_o0_0_S512x1⟩] concatenates_S512x1_S512x1_S1024x1_d0)) (k2_pay20 p v))) broadcasts_S1024x1_S1024x128) (subf (k2_pay19 p v) (k2_pay18 p v)) y : EReal)
      = tally f p v y - k2_pay18 p v y := by
    exact add_sub_assoc _ _ _ |>.symm
  show (if IntOp.andi (BitVec.ofBool (decide (Ideal.ofBits .f32 0x00000000#32 < (k2_pay18 p v y : EReal)))) (BitVec.ofBool (decide ((addf (broadcastTo S1024x128 (addf (broadcast S1024x1 f) (subf (addf (column512 p v) (concatenate S1024x1 0 [⟨S512x1, broadcast S512x1 (Scalar.ofBits .f32 0x00000000#32)⟩, ⟨S512x1, extractStridedSlice S512x1 ![0, 0] (column512 p v) slices_S1024x1_o0_0_S512x1⟩] concatenates_S512x1_S512x1_S1024x1_d0)) (k2_pay20 p v))) broadcasts_S1024x1_S1024x128) (subf (k2_pay19 p v) (k2_pay18 p v)) y : EReal) = (((j - m).toInt : ℝ) : EReal)))) = 1#1
      then w y else 0#32) = _
  rw [e, pay18_apply, Ideal.ofBits_zero_f32]
  have hand : ∀ b c : Bool, IntOp.andi (BitVec.ofBool b) (BitVec.ofBool c) = 1#1 ↔ b = true ∧ c = true := by decide
  rw [if_congr ((hand _ _).trans (and_congr decide_eq_true_iff decide_eq_true_iff)) rfl rfl]
  by_cases h : (p y : EReal) = v
  · simp only [h, if_true, true_and, zero_lt_one]
    split
    · exact hw y
    · rfl
  · simp only [h, if_false, false_and, lt_irrefl]

open Classical in
theorem pay12_eq2 : k2_pay12 (k2_pay18 p v) f = (f + ∑ y, if (p y : EReal) = v then 1 else 0 : EReal) :=
  congrArg ((f : EReal) + ·) ((sum_total _).trans (Finset.sum_congr rfl fun y _ => pay18_apply p v y))

end Cert.KernelIdeal.Hand

end
-- ==== Proof.KI.Sweep.lean ====
/-
  The four sweeps of the sampling call over the extended reals, the blocks read as stretches of three endless lists: the
  words after each sweep.
-/
module

public import proofs.«01_k».proof.Proof.KI.Pays

@[expose] public section

set_option maxRecDepth 16384

noncomputable section

namespace Cert.KernelIdeal.Hand

open Cert.KernelIdeal Cert.KernelIdeal.Gen Cert.Proof.Cells
open Idealize.ShloMosaic Idealize.ShloMosaic.TcCoe Idealize.ShloMosaic.Tactic

/-- A block's cells, in the order of the rows. -/
def flatEquiv : S1024x128.Idx ≃ Fin 131072 where
  toFun y := ⟨flat y, by have := ValueIdx.idx2_lt0 y; have := ValueIdx.idx2_lt1 y; unfold flat; omega⟩
  invFun k := ValueIdx.ix2 (n0 := 1024) (n1 := 128) ⟨k.val / 128, by have := k.isLt; omega⟩ ⟨k.val % 128, Nat.mod_lt _ (by decide)⟩
  left_inv i := by
    have := ValueIdx.idx2_lt1 i
    conv_rhs => rw [ValueIdx.eq_ix2 i]
    refine congrArg₂ (ValueIdx.ix2 (n0 := 1024) (n1 := 128)) (Fin.ext ?_) (Fin.ext ?_)
    · show ((i 0).val * 128 + (i 1).val) / 128 = (i 0).val
      omega
    · show ((i 0).val * 128 + (i 1).val) % 128 = (i 1).val
      omega
  right_inv k := Fin.ext (by show k.val / 128 * 128 + k.val % 128 = k.val; omega)

theorem flat_lt (y : S1024x128.Idx) : flat y < 131072 := (flatEquiv y).isLt
theorem flat_inj {y z : S1024x128.Idx} (h : flat y = flat z) : y = z := flatEquiv.injective (Fin.ext h)
theorem flat_onto (k : ℕ) (h : k < 131072) : ∃ y, flat y = k :=
  ⟨flatEquiv.symm ⟨k, h⟩, congrArg Fin.val (flatEquiv.apply_symm_apply ⟨k, h⟩)⟩

theorem sum_flat {M : Type} [AddCommMonoid M] (F : ℕ → M) : ∑ y, F (flat y) = ∑ k ∈ Finset.range 131072, F k := by
  rw [Finset.sum_range]; exact flatEquiv.sum_comp (fun k : Fin 131072 => F k.val)
theorem sum_next {M : Type} [AddCommMonoid M] (F : ℕ → M) (n : ℕ) :
    (∑ k ∈ Finset.range (n * 131072), F k) + ∑ y, F (n * 131072 + flat y) = ∑ k ∈ Finset.range ((n + 1) * 131072), F k := by
  rw [sum_flat (fun k => F (n * 131072 + k)), add_one_mul, Finset.sum_range_add]
theorem sum_until {M : Type} [AddCommMonoid M] (F : ℕ → M) (n : ℕ) (y : S1024x128.Idx) :
    (∑ k ∈ Finset.range (n * 131072), F k) + (∑ i, if flat i ≤ flat y then F (n * 131072 + flat i) else 0)
      = ∑ k ∈ Finset.range (n * 131072 + flat y + 1), F k := by
  rw [sum_flat (fun k => if k ≤ flat y then F (n * 131072 + k) else 0), add_assoc (n * 131072), Finset.sum_range_add, ← Finset.sum_filter]
  refine congrArg (_ + ·) (Finset.sum_congr (Finset.ext fun k => ?_) fun _ _ => rfl)
  have := flat_lt y
  rw [Finset.mem_filter, Finset.mem_range, Finset.mem_range]
  omega
theorem sup_next (F : ℕ → EReal) (n : ℕ) :
    max ((Finset.range (n * 131072)).sup F) (⨆ y, F (n * 131072 + flat y)) = (Finset.range ((n + 1) * 131072)).sup F := by
  refine le_antisymm (max_le (Finset.sup_mono (Finset.range_mono (by omega))) (iSup_le fun y => ?_)) (Finset.sup_le fun k hk => ?_)
  · have := flat_lt y
    exact Finset.le_sup (f := F) (Finset.mem_range.2 (by omega))
  · rw [Finset.mem_range] at hk
    by_cases h : k < n * 131072
    · exact le_max_of_le_left (Finset.le_sup (f := F) (Finset.mem_range.2 h))
    · obtain ⟨y, hy⟩ := flat_onto (k - n * 131072) (by omega)
      refine le_max_of_le_right (le_iSup_of_le y ?_)
      rw [hy, show n * 131072 + (k - n * 131072) = k by omega]

/-- The sum of a list's first entries, up to one and with it. -/
def cum (S : ℕ → EReal) (j : ℕ) : EReal := ∑ k ∈ Finset.range (j + 1), S k

variable (V : (c : Dev nD) → (b : Ref sig .tc) → Buf (Elt Ideal) ((c : Thread nD τ).loc b)) (c : Dev nD)
variable (S G P : ℕ → EReal)

/-- What the sampling call works on: the blocks are stretches of three lists, the first all real or all −∞. -/
structure Fed : Prop where
  s : ∀ (t : Fin cfg2.N) (y : S1024x128.Idx), t.val < 16 → (blkS V c t y : EReal) = S (t.val % 8 * 131072 + flat y)
  g : ∀ (t : Fin cfg2.N) (y : S1024x128.Idx), 8 ≤ t.val → t.val < 16 → (blkG V c t y : EReal) = G (t.val % 8 * 131072 + flat y)
  p : ∀ (t : Fin cfg2.N) (y : S1024x128.Idx), 16 ≤ t.val → (blkP V c t y : EReal) = P (t.val % 8 * 131072 + flat y)
  w : ∀ (t : Fin cfg2.N) (y : S1024x128.Idx), pos2 t y = BitVec.ofNat 32 (t.val % 8 * 131072 + flat y)
  tame : (∀ j < 1048576, S j ≠ ⊥ ∧ S j ≠ ⊤) ∨ ∀ j < 1048576, S j = ⊥

variable {V c S G P} (fed : Fed V c S G P)

theorem lt32 {n : ℕ} (h : n < 32) : n < cfg2.N := lt_of_lt_of_eq h (show 32 = cfg2.N from N_2.symm)

open Classical in
/-- The words after the first sweep's first `n` points. -/
def afterGather (S : ℕ → EReal) (n : ℕ) : Words Ideal :=
  ⟨(∑ k ∈ Finset.range (n * 131072), S k : EReal),
    (max minusOne ((Finset.range (n * 131072)).sup fun j => if cum S j ≤ theta then cum S j else minusOne) : EReal),
    (⊥ : EReal), (0 : EReal), (0 : EReal), BitVec.ofNat 32 (∑ j ∈ Finset.range (n * 131072), if cum S j ≤ theta then 1 else 0), 0#32, 0#32, 0#32⟩

include fed in
theorem gathered (n : ℕ) (h : n ≤ 8) : st2 V c n = afterGather S n := by
  classical
  induction n with
  | zero =>
    have e1 : (max minusOne ((Finset.range (0 * 131072)).sup fun j => if cum S j ≤ theta then cum S j else minusOne) : EReal) = minusOne := by
      rw [zero_mul, Finset.range_zero, Finset.sup_empty]; exact max_eq_left bot_le
    unfold afterGather
    rw [e1, zero_mul, Finset.range_zero, Finset.sum_empty, Finset.sum_empty]
    show (Words.start : Words Ideal) = _
    unfold Words.start
    rw [zeroWord_eq, maskWord_eq]
    rfl
  | succ n ih =>
    have hN := lt32 (show n < 32 by omega)
    have hm : n % 8 = n := Nat.mod_eq_of_lt (by omega)
    have hb : ∀ y, (blkS V c ⟨n, hN⟩ y : EReal) = S (n * 131072 + flat y) := fun y => by
      have := fed.s ⟨n, hN⟩ y (by show n < 16; omega)
      rwa [show (⟨n, hN⟩ : Fin cfg2.N).val = n from rfl, hm] at this
    have ht : Tame (blkS V c ⟨n, hN⟩) := fed.tame.elim
      (fun t => .inl fun y => by have := flat_lt y; rw [hb]; exact t _ (by omega))
      (fun t => .inr fun y => by have := flat_lt y; rw [hb]; exact t _ (by omega))
    have hr : ∀ y, running (blkS V c ⟨n, hN⟩) (∑ k ∈ Finset.range (n * 131072), S k : EReal) y = cum S (n * 131072 + flat y) := fun y => by
      rw [running_eq _ _ ht]
      simp only [hb]
      exact sum_until S n y
    rw [st2_gather V c ⟨n, hN⟩ (by show n < 8; omega), show st2 V c (⟨n, hN⟩ : Fin cfg2.N).val = afterGather S n from ih (by omega)]
    unfold Words.gather
    rw [show (afterGather S n).f0 = (∑ k ∈ Finset.range (n * 131072), S k : EReal) from rfl, pay3_eq2, pay4_eq2, pay5_eq2]
    simp only [hr, hb]
    rw [sum_next S n]
    have e1 := sum_next (fun j => if cum S j ≤ theta then 1 else 0) n
    have e2 := sup_next (fun j => if cum S j ≤ theta then cum S j else minusOne) n
    unfold afterGather
    rw [← e2, ← e1, BitVec.ofNat_add, ← max_assoc]
    rfl

/-! ## The second sweep -/

theorem bit_gt (a M : Ideal .f32) : Scalar.cmpi .ne (Scalar.extui (Scalar.cmpf .ogt M a)) 0#32 = 1#1 ↔ (a : EReal) < M := by
  show BitVec.ofBool ((BitVec.ofBool (decide ((a : EReal) < M))).setWidth 32 != 0#32) = 1#1 ↔ _
  rcases Classical.em ((a : EReal) < M) with h | h
  · rw [decide_eq_true h]; exact ⟨fun _ => h, fun _ => rfl⟩
  · rw [decide_eq_false h]; exact ⟨fun h' => absurd h' (by decide), fun h' => absurd h' h⟩

theorem better_iff (w : IVec S1024x128 32) (x g : Vec Ideal S1024x128 .f32) (r : Words Ideal) :
    r.better w x g ↔ (r.f2 : EReal) < k2_pay7 w x g r.f1 r.i0 := by
  unfold Words.better
  generalize (k2_pay7 w x g r.f1 r.i0 : Ideal .f32) = M
  exact bit_gt r.f2 M

/-- The score at position `j`. -/
def scoreAt (a : EReal) (n : BitVec 32) (S G : ℕ → EReal) (j : ℕ) : EReal :=
  Ideal.log ((if (BitVec.ofNat 32 j).slt n = true then Ideal.div (S j) (max a tiny) else 0) + tiny) + G j

/-- What the second sweep knows after `n` positions: nothing above −∞ yet, or the first best position. -/
def Best (sc S : ℕ → EReal) (n : ℕ) (f2 f3 : EReal) (i1 : BitVec 32) : Prop :=
  (f2 = ⊥ ∧ f3 = 0 ∧ i1 = 0#32 ∧ ∀ j < n, sc j = ⊥)
    ∨ ∃ J < n, i1 = BitVec.ofNat 32 J ∧ f3 = S J ∧ f2 = sc J ∧ sc J ≠ ⊥ ∧ ∀ j < n, sc j ≤ sc J ∧ (j < J → sc j < sc J)

theorem best_keep {sc : ℕ → EReal} {n m : ℕ} {f2 f3 : EReal} {i1 : BitVec 32} (h : Best sc S n f2 f3 i1) (hnm : n ≤ m)
    (hk : ∀ j, n ≤ j → j < m → sc j ≤ f2) : Best sc S m f2 f3 i1 := by
  rcases h with ⟨h1, h2, h3, h4⟩ | ⟨J, hJ, h1, h2, h3, h4, h5⟩
  · refine .inl ⟨h1, h2, h3, fun j hj => ?_⟩
    by_cases hjn : j < n
    · exact h4 j hjn
    · exact le_bot_iff.1 (h1 ▸ hk j (by omega) hj)
  · refine .inr ⟨J, by omega, h1, h2, h3, h4, fun j hj => ?_⟩
    by_cases hjn : j < n
    · exact h5 j hjn
    · exact ⟨h3 ▸ hk j (by omega) hj, fun h => absurd h (by omega)⟩

theorem best_new {sc : ℕ → EReal} {n m : ℕ} {f2 f3 : EReal} {i1 : BitVec 32} (h : Best sc S n f2 f3 i1) (J : ℕ) (hn : n ≤ J) (hm : J < m)
    (hlt : f2 < sc J) (hk : ∀ j, n ≤ j → j < m → sc j ≤ sc J ∧ (j < J → sc j < sc J)) : Best sc S m (sc J) (S J) (BitVec.ofNat 32 J) := by
  refine .inr ⟨J, hm, rfl, rfl, rfl, (bot_le.trans_lt hlt).ne', fun j hj => ?_⟩
  by_cases hjn : j < n
  · have : sc j < sc J := by
      rcases h with ⟨h1, h2, h3, h4⟩ | ⟨J', hJ', h1, h2, h3, h4, h5⟩
      · rw [h4 j hjn]; exact bot_le.trans_lt hlt
      · exact (h5 j hjn).1.trans_lt (h3 ▸ hlt)
    exact ⟨this.le, fun _ => this⟩
  · exact hk j (by omega) hj

theorem ofNat_toInt {n : ℕ} (h : n < 1048576) : (BitVec.ofNat 32 n).toInt = (n : ℤ) := by
  rw [BitVec.toInt_eq_toNat_of_lt] <;> rw [BitVec.toNat_ofNat, Nat.mod_eq_of_lt] <;> omega

theorem with_same (R : Words Ideal) {a b : EReal} {i : BitVec 32} (ha : R.f2 = a) (hb : R.f3 = b) (hi : R.i1 = i) :
    R = { R with f2 := a, f3 := b, i1 := i } := by
  subst ha hb hi
  rfl

include fed in
theorem chosen (n : ℕ) (h : n ≤ 8) : ∃ (f2 f3 : EReal) (i1 : BitVec 32),
    st2 V c (8 + n) = { afterGather S 8 with f2 := f2, f3 := f3, i1 := i1 }
      ∧ Best (scoreAt (afterGather S 8).f1 (afterGather S 8).i0 S G) S (n * 131072) f2 f3 i1 := by
  classical
  induction n with
  | zero =>
    refine ⟨⊥, 0, 0#32, (gathered fed 8 le_rfl).trans (with_same _ rfl rfl rfl), .inl ⟨rfl, rfl, rfl, fun j hj => absurd hj (by omega)⟩⟩
  | succ n ih =>
    obtain ⟨f2, f3, i1, hr, hB⟩ := ih (by omega)
    generalize hR : afterGather S 8 = R at hr hB ⊢
    generalize hsc : scoreAt R.f1 R.i0 S G = sc at hB ⊢
    have hN := lt32 (show 8 + n < 32 by omega)
    have hm : (8 + n) % 8 = n := by omega
    have hs : ∀ y, (blkS V c ⟨8 + n, hN⟩ y : EReal) = S (n * 131072 + flat y) := fun y => by
      have := fed.s ⟨8 + n, hN⟩ y (by show 8 + n < 16; omega)
      rwa [show (⟨8 + n, hN⟩ : Fin cfg2.N).val = 8 + n from rfl, hm] at this
    have hg : ∀ y, (blkG V c ⟨8 + n, hN⟩ y : EReal) = G (n * 131072 + flat y) := fun y => by
      have := fed.g ⟨8 + n, hN⟩ y (by show 8 ≤ 8 + n; omega) (by show 8 + n < 16; omega)
      rwa [show (⟨8 + n, hN⟩ : Fin cfg2.N).val = 8 + n from rfl, hm] at this
    have hw : ∀ y, pos2 ⟨8 + n, hN⟩ y = BitVec.ofNat 32 (n * 131072 + flat y) := fun y => by
      have := fed.w ⟨8 + n, hN⟩ y
      rwa [show (⟨8 + n, hN⟩ : Fin cfg2.N).val = 8 + n from rfl, hm] at this
    have hscore : ∀ y, scoreOf R.f1 (pos2 ⟨8 + n, hN⟩) (blkS V c ⟨8 + n, hN⟩) (blkG V c ⟨8 + n, hN⟩) R.i0 y = sc (n * 131072 + flat y) := fun y => by
      unfold scoreOf
      rw [hs, hg, hw, ← hsc]
      rfl
    have hst := st2_choose V c ⟨8 + n, hN⟩ (by show 8 ≤ 8 + n; omega) (by show 8 + n < 16; omega)
    rw [show st2 V c (⟨8 + n, hN⟩ : Fin cfg2.N).val = { R with f2 := f2, f3 := f3, i1 := i1 } from hr] at hst
    rw [show 8 + (n + 1) = (⟨8 + n, hN⟩ : Fin cfg2.N).val + 1 from rfl, hst]
    unfold Words.choose
    have h7 : (k2_pay7 (pos2 ⟨8 + n, hN⟩) (blkS V c ⟨8 + n, hN⟩) (blkG V c ⟨8 + n, hN⟩) R.f1 R.i0 : EReal) = ⨆ y, sc (n * 131072 + flat y) := by
      rw [pay7_eq2]
      exact iSup_congr hscore
    by_cases hb : f2 < ⨆ y, sc (n * 131072 + flat y)
    · rw [if_pos ((better_iff _ _ _ _).2 (hb.trans_eq h7.symm))]
      haveI : Nonempty S1024x128.Idx := ⟨flatEquiv.symm ⟨0, by decide⟩⟩
      obtain ⟨y0, hy0⟩ := exists_eq_ciSup_of_finite (f := fun y => sc (n * 131072 + flat y))
      obtain ⟨y, hy, hmin⟩ := Finset.exists_min_image (Finset.univ.filter fun y => sc (n * 131072 + flat y) = ⨆ y, sc (n * 131072 + flat y)) flat
        ⟨y0, Finset.mem_filter.2 ⟨Finset.mem_univ _, hy0⟩⟩
      have hy := (Finset.mem_filter.1 hy).2
      have hfy := flat_lt y
      have h8 : extractAt ![0, 0, 0] (k2_pay8 (pos2 ⟨8 + n, hN⟩) (blkS V c ⟨8 + n, hN⟩) (blkG V c ⟨8 + n, hN⟩) R.f1 R.i0) inpos_S1x1x1_p0_0_0 = pos2 ⟨8 + n, hN⟩ y := by
        refine pay8_eq2 _ _ _ _ _ y ?_ fun z hz => ?_
        · simp only [hscore]; exact hy
        · simp only [hscore] at hz
          have := hmin z (Finset.mem_filter.2 ⟨Finset.mem_univ _, hz⟩)
          have hfz := flat_lt z
          rw [hw, hw, ofNat_toInt (by omega), ofNat_toInt (by omega)]
          omega
      have h9 := pay9_eq2 R.f1 (pos2 ⟨8 + n, hN⟩) (blkS V c ⟨8 + n, hN⟩) (blkG V c ⟨8 + n, hN⟩) R.i0 y (fun z z' hz => flat_inj (by
        have hfz := flat_lt z
        have hfz' := flat_lt z'
        have := congrArg BitVec.toInt hz
        rw [hw, hw, ofNat_toInt (by omega), ofNat_toInt (by omega)] at this
        omega)) h8
      refine ⟨sc (n * 131072 + flat y), S (n * 131072 + flat y), BitVec.ofNat 32 (n * 131072 + flat y), ?_, best_new hB _ (by omega) (by omega) (hy ▸ hb) fun j hj hj' => ?_⟩
      · show ({ R with f2 := k2_pay7 (pos2 ⟨8 + n, hN⟩) (blkS V c ⟨8 + n, hN⟩) (blkG V c ⟨8 + n, hN⟩) R.f1 R.i0, f3 := k2_pay9 (pos2 ⟨8 + n, hN⟩) (blkS V c ⟨8 + n, hN⟩) (blkG V c ⟨8 + n, hN⟩) R.f1 R.i0 (blkS V c ⟨8 + n, hN⟩), i1 := extractAt ![0, 0, 0] (k2_pay8 (pos2 ⟨8 + n, hN⟩) (blkS V c ⟨8 + n, hN⟩) (blkG V c ⟨8 + n, hN⟩) R.f1 R.i0) inpos_S1x1x1_p0_0_0 } : Words Ideal) = _
        rw [h7.trans hy.symm, h8, h9.trans (hs y), hw]
      · obtain ⟨z, hz⟩ := flat_onto (j - n * 131072) (by omega)
        have hjz : j = n * 131072 + flat z := by omega
        have hle : sc j ≤ sc (n * 131072 + flat y) := by
          rw [hy, hjz]; exact le_iSup (fun y => sc (n * 131072 + flat y)) z
        refine ⟨hle, fun hlt => lt_of_le_of_ne hle fun he => ?_⟩
        have := hmin z (Finset.mem_filter.2 ⟨Finset.mem_univ _, by rw [← hjz, he, hy]⟩)
        omega
    · rw [if_neg fun hc => hb (lt_of_lt_of_eq (show f2 < _ from (better_iff _ _ _ _).1 hc) h7)]
      refine ⟨f2, f3, i1, rfl, best_keep hB (by omega) fun j hj hj' => ?_⟩
      obtain ⟨z, hz⟩ := flat_onto (j - n * 131072) (by omega)
      have hjz : j = n * 131072 + flat z := by omega
      rw [hjz]
      exact (le_iSup (fun y => sc (n * 131072 + flat y)) z).trans (not_lt.1 hb)

/-! ## The third and the fourth sweep -/

section
open Classical

include fed in
theorem ranked (r : Words Ideal) (hr : st2 V c 16 = r) (hi : r.i2 = 0#32) (n : ℕ) (h : n ≤ 8) :
    st2 V c (16 + n) = { r with i2 := BitVec.ofNat 32 (∑ j ∈ Finset.range (n * 131072), if (r.f3 : EReal) < P j then 1 else 0) } := by
  induction n with
  | zero =>
    rw [zero_mul, Finset.range_zero, Finset.sum_empty]
    refine hr.trans ?_
    obtain ⟨⟩ := r
    exact congrArg (fun i => Words.mk _ _ _ _ _ _ _ i _) hi
  | succ n ih =>
    have hN := lt32 (show 16 + n < 32 by omega)
    have hm : (16 + n) % 8 = n := by omega
    have hp : ∀ y, (blkP V c ⟨16 + n, hN⟩ y : EReal) = P (n * 131072 + flat y) := fun y => by
      have := fed.p ⟨16 + n, hN⟩ y (by show 16 ≤ 16 + n; omega)
      rwa [show (⟨16 + n, hN⟩ : Fin cfg2.N).val = 16 + n from rfl, hm] at this
    have hst := st2_rank V c ⟨16 + n, hN⟩ (by show 16 ≤ 16 + n; omega) (by show 16 + n < 24; omega)
    refine hst.trans ?_
    rw [show st2 V c (⟨16 + n, hN⟩ : Fin cfg2.N).val = _ from ih (by omega)]
    unfold Words.rank
    refine congrArg (fun i : BitVec 32 => ({ r with i2 := i } : Words Ideal)) ?_
    show _ + extractAt ![0, 0, 0] (k2_pay10 (blkP V c ⟨16 + n, hN⟩) r.f3) inpos_S1x1x1_p0_0_0 = _
    rw [pay10_eq2]
    simp only [hp]
    have e1 := sum_next (fun j => if (r.f3 : EReal) < P j then 1 else 0) n
    rw [← e1, BitVec.ofNat_add]

/-- The positions the last sweep picks: those holding `v` with as many before them as `d` says. -/
def Picked (P : ℕ → EReal) (v : EReal) (d : BitVec 32) (j : ℕ) : Prop :=
  P j = v ∧ (∑ i ∈ Finset.range (j + 1), if P i = v then (1 : EReal) else 0) - 1 = ((d.toInt : ℝ) : EReal)

include fed in
theorem found (r : Words Ideal) (hr : st2 V c 24 = r) (hi : r.i3 = 0#32) (hf : r.f4 = (0 : EReal)) (n : ℕ) (h : n ≤ 8) :
    st2 V c (24 + n) = { r with
      f4 := (∑ i ∈ Finset.range (n * 131072), if P i = r.f3 then (1 : EReal) else 0)
      i3 := BitVec.ofNat 32 (∑ j ∈ Finset.range (n * 131072), if Picked P r.f3 (r.i1 - r.i2) j then j else 0) } := by
  induction n with
  | zero =>
    rw [zero_mul, Finset.range_zero, Finset.sum_empty, Finset.sum_empty]
    refine hr.trans ?_
    obtain ⟨⟩ := r
    exact congrArg₂ (fun f i => Words.mk _ _ _ _ f _ _ _ i) hf hi
  | succ n ih =>
    have hN := lt32 (show 24 + n < 32 by omega)
    have hm : (24 + n) % 8 = n := by omega
    have hp : ∀ y, (blkP V c ⟨24 + n, hN⟩ y : EReal) = P (n * 131072 + flat y) := fun y => by
      have := fed.p ⟨24 + n, hN⟩ y (by show 16 ≤ 24 + n; omega)
      rwa [show (⟨24 + n, hN⟩ : Fin cfg2.N).val = 24 + n from rfl, hm] at this
    have hw : ∀ y, pos2 ⟨24 + n, hN⟩ y = BitVec.ofNat 32 (n * 131072 + flat y) := fun y => by
      have := fed.w ⟨24 + n, hN⟩ y
      rwa [show (⟨24 + n, hN⟩ : Fin cfg2.N).val = 24 + n from rfl, hm] at this
    have hst := st2_find V c ⟨24 + n, hN⟩ (by show 24 ≤ 24 + n; omega)
    refine hst.trans ?_
    rw [show st2 V c (⟨24 + n, hN⟩ : Fin cfg2.N).val = _ from ih (by omega)]
    unfold Words.find
    have e0 : ∀ y, (∑ i ∈ Finset.range (n * 131072), if P i = r.f3 then (1 : EReal) else 0)
        + (∑ i, if flat i ≤ flat y then (if P (n * 131072 + flat i) = r.f3 then (1 : EReal) else 0) else 0) = ∑ i ∈ Finset.range (n * 131072 + flat y + 1), if P i = r.f3 then (1 : EReal) else 0 :=
      fun y => sum_until (fun i => if P i = r.f3 then (1 : EReal) else 0) n y
    refine congrArg₂ (fun (f : EReal) (i : BitVec 32) => ({ r with f4 := f, i3 := i } : Words Ideal)) ?_ ?_
    · refine (pay12_eq2 _ _ _).trans ?_
      simp only [hp]
      exact sum_next (fun i => if P i = r.f3 then (1 : EReal) else 0) n
    · have e2 := pay11_eq2 (∑ i ∈ Finset.range (n * 131072), if P i = r.f3 then (1 : EReal) else 0 : EReal) (pos2 ⟨24 + n, hN⟩) (blkP V c ⟨24 + n, hN⟩) r.f3 r.i1 r.i2 (fun y => n * 131072 + flat y) hw
      refine (congrArg (fun i : BitVec 32 => BitVec.ofNat 32 (∑ j ∈ Finset.range (n * 131072), if Picked P r.f3 (r.i1 - r.i2) j then j else 0) + i) e2).trans ?_
      simp only [tally_eq, hp, e0]
      have e1 := sum_next (fun j => if Picked P r.f3 (r.i1 - r.i2) j then j else 0) n
      rw [← e1, BitVec.ofNat_add]
      refine congrArg (fun i => BitVec.ofNat 32 _ + BitVec.ofNat 32 i) (Finset.sum_congr rfl fun y _ => if_congr ?_ rfl rfl)
      unfold Picked
      exact Iff.rfl

include fed in
/-- The token the call stores. -/
theorem token : ∃ (f2 f3 : EReal) (i1 : BitVec 32),
    Best (scoreAt (afterGather S 8).f1 (afterGather S 8).i0 S G) S (8 * 131072) f2 f3 i1
      ∧ (st2 V c 32).i3 = BitVec.ofNat 32 (∑ j ∈ Finset.range (8 * 131072), if Picked P f3
          (i1 - BitVec.ofNat 32 (∑ j ∈ Finset.range (8 * 131072), if f3 < P j then 1 else 0)) j then j else 0) := by
  obtain ⟨f2, f3, i1, hr, hB⟩ := chosen fed 8 le_rfl
  refine ⟨f2, f3, i1, hB, ?_⟩
  have z2 : (afterGather S 8).i2 = 0#32 := rfl
  have z3 : (afterGather S 8).i3 = 0#32 := rfl
  have z4 : (afterGather S 8).f4 = (0 : EReal) := rfl
  generalize afterGather S 8 = R at hr z2 z3 z4
  have h3 := ranked fed { R with f2 := f2, f3 := f3, i1 := i1 } hr z2 8 le_rfl
  rw [show ({ R with f2 := f2, f3 := f3, i1 := i1 } : Words Ideal).f3 = f3 from rfl] at h3
  generalize BitVec.ofNat 32 (∑ j ∈ Finset.range (8 * 131072), if f3 < P j then 1 else 0) = I2 at h3 ⊢
  have h3 : st2 V c 24 = _ := h3
  have y1 : (st2 V c 24).i1 = i1 := (congrArg Words.i1 h3).trans rfl
  have y2 : (st2 V c 24).i2 = I2 := (congrArg Words.i2 h3).trans rfl
  have y3 : (st2 V c 24).i3 = 0#32 := (congrArg Words.i3 h3).trans z3
  have y4 : (st2 V c 24).f4 = (0 : EReal) := (congrArg Words.f4 h3).trans z4
  have y5 : (st2 V c 24).f3 = f3 := (congrArg Words.f3 h3).trans rfl
  have h4 := found fed _ rfl y3 y4 8 le_rfl
  rw [y1, y2, y5, show (24 + 8 : ℕ) = 32 from rfl] at h4
  rw [h4]

end

end Cert.KernelIdeal.Hand

end
-- ==== Proof.Probs.lean ====
/-
  The probabilities of finitely many logits over the extended reals, and the same of a list padded with −∞.
-/
module

public import Idealize.ShloMosaic.PureOps.Ideal.Laws

@[expose] public section

noncomputable section

namespace Cert.Proof.Probs

open Idealize.ShloMosaic

/-- The greatest logit. -/
def topOf {ι : Type} [Fintype ι] (x : ι → EReal) : EReal := ⨆ k, x k
/-- The sum of the exponentials, each shifted by the greatest logit. -/
def massOf {ι : Type} [Fintype ι] (x : ι → EReal) : EReal := ∑ k, Ideal.exp (x k - topOf x)
/-- A logit's probability. -/
def probOf {ι : Type} [Fintype ι] (x : ι → EReal) (k : ι) : EReal := Ideal.div (Ideal.exp (x k - topOf x)) (massOf x)

theorem exp_bot_sub (a : EReal) : Ideal.exp (⊥ - a) = 0 := by
  rw [EReal.bot_sub]; rfl

/-- `n` logits and −∞ after them, `N` in all. -/
def padded {n : ℕ} (N : ℕ) (x : Fin n → EReal) (k : Fin N) : EReal := if h : k.val < n then x ⟨k.val, h⟩ else ⊥

theorem padded_castLE {n N : ℕ} (h : n ≤ N) (x : Fin n → EReal) (k : Fin n) : padded N x (Fin.castLE h k) = x k := dif_pos k.isLt

theorem topOf_padded {n N : ℕ} (h : n ≤ N) (x : Fin n → EReal) : topOf (padded N x) = topOf x := by
  unfold topOf
  refine le_antisymm (iSup_le fun k => ?_) (iSup_le fun k => ?_)
  · unfold padded
    split
    · exact le_iSup x _
    · exact bot_le
  · rw [← padded_castLE h x k]
    exact le_iSup (padded N x) _

theorem massOf_padded {n N : ℕ} (h : n ≤ N) (x : Fin n → EReal) : massOf (padded N x) = massOf x := by
  unfold massOf
  rw [topOf_padded h]
  refine (Finset.sum_of_injOn (Fin.castLE h) ((Fin.castLE_injective h).injOn) (fun _ _ => Finset.mem_coe.2 (Finset.mem_univ _)) (fun k _ hk => ?_) (fun k _ => ?_)).symm
  · have : ¬ k.val < n := fun hn => hk ⟨⟨k.val, hn⟩, Finset.mem_coe.2 (Finset.mem_univ _), rfl⟩
    rw [padded, dif_neg this, exp_bot_sub]
  · rw [padded_castLE]

theorem probOf_padded {n N : ℕ} (h : n ≤ N) (x : Fin n → EReal) (k : Fin n) : probOf (padded N x) (Fin.castLE h k) = probOf x k := by
  unfold probOf
  rw [topOf_padded h, massOf_padded h, padded_castLE]

theorem probOf_equiv {ι κ : Type} [Fintype ι] [Fintype κ] (e : ι ≃ κ) (x : κ → EReal) (k : ι) : probOf (fun i => x (e i)) k = probOf x (e k) := by
  have ht : topOf (fun i => x (e i)) = topOf x := e.iSup_comp (g := x)
  unfold probOf massOf
  rw [ht, e.sum_comp fun k => Ideal.exp (x k - topOf x)]

end Cert.Proof.Probs

end
-- ==== Proof.KI.ProbVal.lean ====
/-
  The softmax call's result in the whole run, over the extended reals: the probabilities of the logits padded with −∞.
-/
module

public import proofs.«01_k».proof.Proof.KI.SoftmaxVal
public import proofs.«01_k».proof.Proof.KI.Run
public import proofs.«01_k».proof.Proof.Probs
public import Idealize.ShloMosaic.Lib.KernelVsHost
public import Idealize.ShloMosaic.Lib.StableHlo.RunRead
public import Idealize.ShloMosaic.Lib.Claim

@[expose] public section

set_option maxRecDepth 16384

noncomputable section

namespace Cert.KernelIdeal.Hand

open Cert.KernelIdeal Cert.KernelIdeal.Gen Cert.Proof.Cells Cert.Proof.Probs
open Idealize.ShloMosaic Idealize.ShloMosaic.TcCoe Idealize.ShloMosaic.Tactic
open Idealize.ShloMosaic.Pipeline (Dat Cfg Window cellOf)

/-- A cell's place when the rows are laid one after another. -/
def place : S8192x128.Idx ≃ Fin 1048576 where
  toFun i := ⟨(i 0).val * 128 + (i 1).val, by have := ValueIdx.idx2_lt0 i; have := ValueIdx.idx2_lt1 i; omega⟩
  invFun k := ValueIdx.ix2 (n0 := 8192) (n1 := 128) ⟨k.val / 128, by have := k.isLt; omega⟩ ⟨k.val % 128, Nat.mod_lt _ (by decide)⟩
  left_inv i := by
    have := ValueIdx.idx2_lt1 i
    conv_rhs => rw [ValueIdx.eq_ix2 i]
    refine congrArg₂ (ValueIdx.ix2 (n0 := 8192) (n1 := 128)) (Fin.ext ?_) (Fin.ext ?_)
    · show ((i 0).val * 128 + (i 1).val) / 128 = (i 0).val
      omega
    · show ((i 0).val * 128 + (i 1).val) % 128 = (i 1).val
      omega
  right_inv k := Fin.ext (by show k.val / 128 * 128 + k.val % 128 = k.val; omega)

variable (m : (ℓ : Loc nD τ sig) → Buf (Elt Ideal) ℓ)

/-- The logits as launched. -/
def logits (c : Dev nD) (k : Fin 1000000) : EReal := m ((c.tc : Thread nD τ).loc main_arg0) (ValueIdx.ix2 (n0 := 1) (n1 := 1000000) 0 k)

/-- The first call leaves the mask. -/
theorem mask_value (V : Arrays (F := Ideal)) (c : Dev nD) : (dat0 V c).arrAt 0 cfg0.N = fun _ => (⊥ : EReal) := by
  refine (dat0 V c).arrAt_eq_of_covers 0 _ (by decide +kernel) fun t hf y => ?_
  rw [after0_0]
  exact maskWord_eq

variable {outs : Outs (F := Ideal)} (hL : Leaves m outs)

theorem padded_read (c : Dev nD) : E1 m outs c main_v3
    = shapeCast S8192x128 (pad S1x1048576 ![0, 0] ![0, 48576] ![0, 0] (m ((c.tc : Thread nD τ).loc main_arg0) : S1x1000000.Idx → Ideal .f32)
        (shapeCast S_ (outs 1 main_v0 c : S1.Idx → Ideal .f32) shapeCasts_S1_S_) pads_S1x1000000_S1x1048576_000_0485760 h_S_)
        shapeCasts_S1x1048576_S8192x128 := by
  show StableHlo.after hostOps1 (Function.update (V0 m c) main_v0 (outs 1 main_v0 c)) main_v3 = _
  after_results
  rfl

include hL in
theorem logitsIn_eq (c : Dev nD) (i : S8192x128.Idx) : logitsIn (E1 m outs) c i = padded 1048576 (logits m c) (place i) := by
  have hi0 := ValueIdx.idx2_lt0 i
  have hi1 := ValueIdx.idx2_lt1 i
  unfold logitsIn
  rw [padded_read, shapeCast_apply _ shapeCasts_S1x1048576_S8192x128 i (ValueIdx.ix2 (n0 := 1) (n1 := 1048576) 0 (place i))
    (by rw [Shape.rowMajor_val_two, Shape.rowMajor_val_two]; show 0 * 1048576 + ((i 0).val * 128 + (i 1).val) = (i 0).val * 128 + (i 1).val; omega)]
  unfold padded logits
  by_cases h : (place i).val < 1000000
  · rw [dif_pos h]
    refine pad_apply_of_inside _ _ _ _ _ _ _ _ (ValueIdx.ix2 (n0 := 1) (n1 := 1000000) 0 ⟨(place i).val, h⟩) fun a => ?_
    match a with
    | ⟨0, _⟩ => rfl
    | ⟨1, _⟩ => show (place i).val = 0 + (place i).val * 1; omega
  · rw [dif_neg h]
    refine (pad_apply_of_not_inside _ _ _ _ _ _ _ _ 1 fun hc => h ?_).trans ?_
    · have := hc.2.2
      have e : ((place i).val - 0) / (0 + 1) < 1000000 := this
      omega
    · unfold shapeCast
      rw [hL.l0 c, mask_value]

include hL in
/-- The second call leaves the probabilities of the padded logits. -/
theorem prob_value (c : Dev nD) (i : S8192x128.Idx) :
    (outs 3 main_v4 c : S8192x128.Idx → EReal) i = probOf (padded 1048576 (logits m c)) (place i) := by
  rw [hL.l1 c, softmax_value]
  show prob (E1 m outs) c i = _
  have h : logitsIn (E1 m outs) c = fun i => padded 1048576 (logits m c) (place i) := funext fun i => logitsIn_eq m hL c i
  rw [← probOf_equiv place, ← h]
  rfl

end Cert.KernelIdeal.Hand

end
-- ==== Proof.Draw.Agree.lean ====
/-
  The two ways of drawing a token agree: the kernel's, which looks for the drawn probability's place among the
  probabilities, and the reference's, which keeps each sorted probability's place beside it.
-/
module

public import proofs.«01_k».proof.Proof.KI.Sweep

@[expose] public section

noncomputable section

namespace Cert.Proof.Draw

open Cert.KernelIdeal.Hand
open Idealize.ShloMosaic

open Classical

/-- A list of `n` entries, and `a` after them. -/
def ext {n : ℕ} (p : Fin n → EReal) (a : EReal) (j : ℕ) : EReal := if h : j < n then p ⟨j, h⟩ else a

theorem ext_in {n : ℕ} (p : Fin n → EReal) (a : EReal) {j : ℕ} (h : j < n) : ext p a j = p ⟨j, h⟩ := dif_pos h
theorem ext_fin {n : ℕ} (p : Fin n → EReal) (a : EReal) (j : Fin n) : ext p a j.val = p j := dif_pos j.isLt
theorem ext_out {n : ℕ} (p : Fin n → EReal) (a : EReal) {j : ℕ} (h : n ≤ j) : ext p a j = a := dif_neg (not_lt.2 h)

theorem sum_ext {n M : ℕ} {A : Type} [AddCommMonoid A] (hM : n ≤ M) (p : Fin n → EReal) (a : EReal) (F : EReal → A) (h0 : F a = 0) :
    ∑ i ∈ Finset.range M, F (ext p a i) = ∑ i : Fin n, F (p i) := by
  have : ∑ i : Fin n, F (p i) = ∑ i ∈ Finset.range n, F (ext p a i) := by
    rw [Finset.sum_range]
    exact Finset.sum_congr rfl fun i _ => by rw [ext_fin]
  rw [this]
  refine (Finset.sum_subset (Finset.range_mono hM) fun i _ hi => ?_).symm
  rw [Finset.mem_range, not_lt] at hi
  rw [ext_out p a hi, h0]

/-! ## The numbers written into the programs -/

/-- What is used of the numbers written into the programs. -/
structure Numbers : Prop where
  tiny_pos : ∃ t : ℝ, 0 < t ∧ tiny = (t : EReal)
  theta_lt : theta < 1
  start_le : minusOne ≤ 0

variable (num : Numbers)

theorem log_mono {a b : EReal} (h0 : ∃ t : ℝ, 0 < t ∧ a = (t : EReal)) (h : a ≤ b) : Ideal.log a ≤ Ideal.log b := by
  obtain ⟨t, ht, rfl⟩ := h0
  induction b using EReal.rec with
  | bot => exact absurd (le_bot_iff.1 h) (EReal.coe_ne_bot t)
  | top => exact le_top
  | coe b =>
    have hb : t ≤ b := EReal.coe_le_coe_iff.1 h
    have hb0 : 0 < b := ht.trans_le hb
    have e : ∀ x : ℝ, 0 < x → Ideal.log (x : EReal) = ((Real.log x : ℝ) : EReal) := fun x hx => if_neg (not_le.2 hx)
    rw [e t ht, e b hb0]
    exact EReal.coe_le_coe_iff.2 (Real.log_le_log ht hb)

theorem log_real {t : ℝ} (h : 0 < t) : ∃ r : ℝ, Ideal.log (t : EReal) = (r : EReal) := ⟨Real.log t, if_neg (not_le.2 h)⟩

theorem log_bot : Ideal.log ⊥ = ⊥ := rfl

theorem div_nonneg' {a b : EReal} (ha : 0 ≤ a) (hb : 0 < b) : 0 ≤ Ideal.div a b := by
  unfold Ideal.div
  rw [if_neg hb.ne']
  exact mul_nonneg ha (EReal.inv_nonneg_of_nonneg hb.le)
theorem div_zero' {b : EReal} (hb : 0 < b) : Ideal.div 0 b = 0 := by
  unfold Ideal.div
  rw [if_neg hb.ne', zero_mul]
theorem div_bot {t : ℝ} (ht : 0 < t) : Ideal.div ⊥ (t : EReal) = ⊥ := by
  unfold Ideal.div
  rw [if_neg (by exact_mod_cast ht.ne'), ← EReal.coe_inv]
  exact EReal.bot_mul_coe_of_pos (inv_pos.2 ht)

/-! ## The reference's draw -/

/-- The probabilities kept, their total, and the scores. -/
def kept (Q : ℕ → EReal) (j : ℕ) : EReal := if theta < cum Q j then 0 else Q j
def total (n : ℕ) (Q : ℕ → EReal) : EReal := max tiny (∑ j ∈ Finset.range n, kept Q j)
def refScore (n : ℕ) (Q G : ℕ → EReal) (j : ℕ) : EReal := G j + Ideal.log (Ideal.div (kept Q j) (total n Q) + tiny)

/-- The first best of the first `n`. -/
def First (n : ℕ) (sc : ℕ → EReal) (J : ℕ) : Prop := J < n ∧ ∀ j < n, sc j ≤ sc J ∧ (j < J → sc j < sc J)

theorem First.unique {n : ℕ} {sc : ℕ → EReal} {J K : ℕ} (h : First n sc J) (h' : First n sc K) : J = K := by
  rcases lt_trichotomy J K with hl | he | hl
  · exact absurd ((h.2 K h'.1).1.trans_lt ((h'.2 J h.1).2 hl)) (lt_irrefl _)
  · exact he
  · exact absurd ((h'.2 J h.1).1.trans_lt ((h.2 K h'.1).2 hl)) (lt_irrefl _)

variable {n M : ℕ} (hn : 0 < n) (hM : n ≤ M) (hM' : M ≤ 1048575 + 1)
variable (p g : Fin n → EReal) (a pn : EReal) (π : Fin n → Fin n) (hπ : Function.Injective π)
variable (ord : ∀ i j : Fin n, i < j → p (π j) ≤ p (π i) ∧ (p (π i) = p (π j) → π i < π j))

/-- The sorted list, and the kernel's first words. -/
abbrev list : ℕ → EReal := ext (fun k => p (π k)) a
def firstWord (M : ℕ) (S : ℕ → EReal) : EReal := max minusOne ((Finset.range M).sup fun j => if cum S j ≤ theta then cum S j else minusOne)
def countWord (M : ℕ) (S : ℕ → EReal) : ℕ := ∑ j ∈ Finset.range M, if cum S j ≤ theta then 1 else 0

/-- The token the kernel stores. -/
def kernelToken (M : ℕ) (P : ℕ → EReal) (v : EReal) (i1 : BitVec 32) : ℕ :=
  ∑ j ∈ Finset.range M, if Picked P v (i1 - BitVec.ofNat 32 (∑ j ∈ Finset.range M, if v < P j then 1 else 0)) j then j else 0

/-! ## No probability at all -/

include num hn hM hM' ord in
theorem agree_bot (hp : ∀ i, p i = ⊥) (ha : a = ⊥) (f2 f3 : EReal) (i1 : BitVec 32)
    (hB : Best (scoreAt (firstWord M (list p a π)) (BitVec.ofNat 32 (countWord M (list p a π))) (list p a π) (ext g pn)) (list p a π) M f2 f3 i1)
    (J : ℕ) (hJ : First n (refScore n (list p a π) (ext g pn)) J) : kernelToken M (ext p a) f3 i1 = (π ⟨J, hJ.1⟩).val := by
  obtain ⟨t, ht, et⟩ := num.tiny_pos
  have hS : ∀ j, list p a π j = ⊥ := fun j => by
    unfold list ext
    split
    · exact hp _
    · exact ha
  have hP : ∀ j, ext p a j = ⊥ := fun j => by
    unfold ext
    split
    · exact hp _
    · exact ha
  have hc : ∀ j, cum (list p a π) j = ⊥ := fun j => by
    unfold cum
    exact sum_bot _ _ 0 (Finset.mem_range.2 (by omega)) (hS 0)
  have hK : countWord M (list p a π) = M := by
    unfold countWord
    rw [Finset.sum_congr rfl fun j _ => if_pos ((hc j).trans_le bot_le)]
    simp
  have hf : max (firstWord M (list p a π)) tiny = (t : EReal) := by
    unfold firstWord
    rw [et]
    refine max_eq_right (max_le (num.start_le.trans (by exact_mod_cast ht.le)) (Finset.sup_le fun j _ => ?_))
    rw [hc, if_pos bot_le]
    exact bot_le
  have hsc : ∀ j < M, scoreAt (firstWord M (list p a π)) (BitVec.ofNat 32 (countWord M (list p a π))) (list p a π) (ext g pn) j = ⊥ := fun j hj => by
    unfold scoreAt
    have h1 : (BitVec.ofNat 32 j).slt (BitVec.ofNat 32 (countWord M (list p a π))) = true := by
      rw [hK, BitVec.slt, decide_eq_true_iff]
      have e : ∀ x : ℕ, x ≤ 1048576 → (BitVec.ofNat 32 x).toInt = (x : ℤ) := fun x hx => by
        rw [BitVec.toInt_eq_toNat_of_lt] <;> rw [BitVec.toNat_ofNat, Nat.mod_eq_of_lt] <;> omega
      rw [e j (by omega), e M (by omega)]
      exact_mod_cast hj
    rw [if_pos h1, hS, hf, div_bot ht, EReal.bot_add, log_bot, EReal.bot_add]
  rcases hB with ⟨h1, h2, h3, h4⟩ | ⟨J', hJ', h1, h2, h3, h4, h5⟩
  · have hr : ∀ j, refScore n (list p a π) (ext g pn) j = ⊥ := fun j => by
      unfold refScore
      have hk : ∀ j, kept (list p a π) j = ⊥ := fun j => by
        unfold kept
        rw [hc, if_neg not_lt_bot, hS]
      have htot : total n (list p a π) = (t : EReal) := by
        unfold total
        rw [sum_bot _ _ 0 (Finset.mem_range.2 hn) (hk 0), et]
        exact max_eq_left bot_le
      rw [hk, htot, div_bot ht, EReal.bot_add, log_bot, EReal.add_bot]
    have hJ0 : J = 0 := by
      by_contra hne
      have := (hJ.2 0 hn).2 (Nat.pos_of_ne_zero hne)
      rw [hr, hr] at this
      exact lt_irrefl _ this
    subst hJ0
    have hz : π ⟨0, hn⟩ = ⟨0, hn⟩ := by
      obtain ⟨k, hk⟩ := (Finite.injective_iff_surjective.1 (fun i j hij => by
        rcases lt_trichotomy i j with h | h | h
        · exact absurd hij ((ord i j h).2 (by rw [hp, hp])).ne
        · exact h
        · exact absurd hij.symm ((ord j i h).2 (by rw [hp, hp])).ne : Function.Injective π)) ⟨0, hn⟩
      by_cases h0 : k = ⟨0, hn⟩
      · rw [← h0]; exact h0 ▸ hk
      · have hlt : (⟨0, hn⟩ : Fin n) < k := Fin.lt_def.2 (Nat.pos_of_ne_zero fun e => h0 (Fin.ext e))
        have := (ord _ k hlt).2 (by rw [hp, hp])
        rw [hk] at this
        exact absurd this (Nat.not_lt_zero _)
    rw [hz]
    unfold kernelToken
    refine Finset.sum_eq_zero fun j _ => if_neg fun hc => ?_
    have := hc.1
    rw [hP, h2] at this
    exact EReal.bot_ne_zero this
  · exact absurd (hsc J' hJ') h4

/-! ## Probabilities -/

section real

variable (hp0 : ∀ i, 0 ≤ p i) (hpt : ∀ i, p i ≠ ⊤) (hp1 : ∑ i, p i = 1) (hg : ∀ j, pn < g j)

include hp0 in
theorem list_nonneg (j : ℕ) : 0 ≤ list p 0 π j := by
  unfold list ext
  split
  · exact hp0 _
  · exact le_rfl

include hp0 in
theorem cum_mono {i j : ℕ} (h : i ≤ j) : cum (list p 0 π) i ≤ cum (list p 0 π) j := by
  unfold cum
  exact Finset.sum_le_sum_of_subset_of_nonneg (Finset.range_mono (by omega)) fun k _ _ => list_nonneg p π hp0 k

include hπ hp1 in
theorem cum_last (hn : 0 < n) : cum (list p 0 π) (n - 1) = 1 := by
  unfold cum
  rw [show n - 1 + 1 = n by omega]
  refine (sum_ext le_rfl (fun k => p (π k)) 0 (fun x => x) rfl).trans ?_
  rw [← hp1]
  exact (Equiv.ofBijective π (Finite.injective_iff_bijective.1 hπ)).sum_comp p

include num hn hM hp0 hp1 hπ in
/-- The kept positions are the first ones. -/
theorem prefix_kept : ∃ K < n, (∀ j, cum (list p 0 π) j ≤ theta ↔ j < K) ∧ countWord M (list p 0 π) = K := by
  have hex : ∃ j, ¬ cum (list p 0 π) j ≤ theta := ⟨n - 1, by rw [cum_last p π hπ hp1 hn]; exact not_le.2 num.theta_lt⟩
  have hK : Nat.find hex < n := lt_of_le_of_lt (Nat.find_min' hex (m := n - 1) (by rw [cum_last p π hπ hp1 hn]; exact not_le.2 num.theta_lt)) (by omega)
  have hiff : ∀ j, cum (list p 0 π) j ≤ theta ↔ j < Nat.find hex := fun j =>
    ⟨fun h => not_le.1 fun hc => Nat.find_spec hex ((cum_mono p π hp0 hc).trans h), fun h => not_not.1 (Nat.find_min hex h)⟩
  refine ⟨Nat.find hex, hK, hiff, ?_⟩
  unfold countWord
  rw [Finset.sum_congr rfl fun j _ => if_congr (hiff j) rfl rfl, ← Finset.sum_filter, Finset.sum_const, smul_eq_mul, mul_one]
  have : (Finset.range M).filter (fun j => j < Nat.find hex) = Finset.range (Nat.find hex) := by
    ext j
    rw [Finset.mem_filter, Finset.mem_range, Finset.mem_range]
    omega
  rw [this, Finset.card_range]

include num hp0 in
theorem totals {K : ℕ} (hK : K < n) (hM : n ≤ M) (hiff : ∀ j, cum (list p 0 π) j ≤ theta ↔ j < K) :
    max (firstWord M (list p 0 π)) tiny = total n (list p 0 π) := by
  obtain ⟨t, ht, et⟩ := num.tiny_pos
  have htiny : (0 : EReal) ≤ tiny := by rw [et]; exact_mod_cast ht.le
  have hsum : ∑ j ∈ Finset.range n, kept (list p 0 π) j = ∑ j ∈ Finset.range K, list p 0 π j := by
    refine (Finset.sum_subset (Finset.range_mono hK.le) fun j _ hj => ?_).symm.trans (Finset.sum_congr rfl fun j hj => ?_)
    · rw [Finset.mem_range] at hj
      exact if_pos (not_le.1 fun hc => hj ((hiff j).1 hc))
    · exact if_neg (not_lt.2 ((hiff j).2 (Finset.mem_range.1 hj)))
  have h0 : 0 ≤ ∑ j ∈ Finset.range K, list p 0 π j := Finset.sum_nonneg fun j _ => list_nonneg p π hp0 j
  have hm : minusOne ≤ ∑ j ∈ Finset.range K, list p 0 π j := num.start_le.trans h0
  unfold total firstWord
  rw [hsum, max_comm tiny]
  refine le_antisymm (max_le_max_right _ (max_le hm (Finset.sup_le fun j _ => ?_))) (max_le ?_ (le_max_right _ _))
  · split
    · rename_i h
      have := (hiff j).1 h
      unfold cum
      exact Finset.sum_le_sum_of_subset_of_nonneg (Finset.range_mono (by omega)) fun k _ _ => list_nonneg p π hp0 k
    · exact hm
  · rcases K with _ | K
    · rw [Finset.range_zero, Finset.sum_empty]
      exact htiny.trans (le_max_right _ _)
    · have hk : cum (list p 0 π) K ≤ theta := (hiff K).2 (by omega)
      refine le_max_of_le_left (le_max_of_le_right ?_)
      have := Finset.le_sup (f := fun j => if cum (list p 0 π) j ≤ theta then cum (list p 0 π) j else minusOne) (Finset.mem_range.2 (show K < M by omega))
      simp only [if_pos hk] at this
      exact this

theorem word_lt {j K : ℕ} (hj : j < 1048576) (hK : K < 1048576) : (BitVec.ofNat 32 j).slt (BitVec.ofNat 32 K) = true ↔ j < K := by
  rw [BitVec.slt, decide_eq_true_iff, ofNat_toInt hj, ofNat_toInt hK]
  exact Nat.cast_lt

include num hn hM hM' hp0 hp1 hπ hg in
/-- The kernel's best position is the reference's. -/
theorem best_real (hpn : pn ≠ ⊥) (f2 f3 : EReal) (i1 : BitVec 32)
    (hB : Best (scoreAt (firstWord M (list p 0 π)) (BitVec.ofNat 32 (countWord M (list p 0 π))) (list p 0 π) (ext g pn)) (list p 0 π) M f2 f3 i1)
    (J : ℕ) (hJ : First n (refScore n (list p 0 π) (ext g pn)) J) : f3 = p (π ⟨J, hJ.1⟩) ∧ i1 = BitVec.ofNat 32 J := by
  obtain ⟨K, hK, hiff, hcount⟩ := prefix_kept num hn hM p π hπ hp0 hp1
  obtain ⟨t, ht, et⟩ := num.tiny_pos
  have htot := totals num p π hp0 hK hM hiff
  have htp : (0 : EReal) < total n (list p 0 π) := lt_of_lt_of_le (show (0 : EReal) < tiny by rw [et]; exact_mod_cast ht) (le_max_left _ _)
  have hin : ∀ j < n, scoreAt (firstWord M (list p 0 π)) (BitVec.ofNat 32 (countWord M (list p 0 π))) (list p 0 π) (ext g pn) j
      = refScore n (list p 0 π) (ext g pn) j := fun j hj => by
    unfold scoreAt refScore
    rw [hcount, htot, add_comm (ext g pn j), if_congr (word_lt (by omega) (by omega)) rfl rfl]
    unfold kept
    by_cases h : j < K
    · rw [if_pos h, if_neg (not_lt.2 ((hiff j).2 h))]
    · rw [if_neg h, if_pos (not_le.1 fun hc => h ((hiff j).1 hc)), div_zero' htp]
  have hout : ∀ j, n ≤ j → j < M → scoreAt (firstWord M (list p 0 π)) (BitVec.ofNat 32 (countWord M (list p 0 π))) (list p 0 π) (ext g pn) j
      = Ideal.log tiny + pn := fun j hj hj' => by
    unfold scoreAt
    rw [hcount, if_neg (by rw [word_lt (by omega) (by omega)]; omega), zero_add, ext_out g pn hj]
  have hlow : Ideal.log tiny + pn < refScore n (list p 0 π) (ext g pn) 0 := by
    obtain ⟨r, hr⟩ := log_real ht
    have h1 : Ideal.log tiny + pn < Ideal.log tiny + ext g pn 0 := by
      rw [et, hr, ext_in g pn hn]
      exact EReal.add_lt_add_left_coe (hg _) r
    refine h1.trans_le ?_
    unfold refScore
    rw [add_comm (ext g pn 0)]
    refine add_le_add_left ?_ _ |>.trans_eq' rfl
    refine log_mono ⟨t, ht, et⟩ ?_
    refine le_add_of_nonneg_left (div_nonneg' ?_ htp)
    unfold kept
    split
    · exact le_rfl
    · exact list_nonneg p π hp0 0
  rcases hB with ⟨h1, h2, h3, h4⟩ | ⟨J', hJ', h1, h2, h3, h4, h5⟩
  · have := h4 0 (by omega)
    rw [hin 0 hn] at this
    rw [this] at hlow
    exact absurd hlow not_lt_bot
  · have hJn : J' < n := by
      by_contra hc
      have := (h5 0 (by omega)).1
      rw [hin 0 hn, hout J' (by omega) hJ'] at this
      exact absurd (hlow.trans_le this) (lt_irrefl _)
    have hF : First n (refScore n (list p 0 π) (ext g pn)) J' := ⟨hJn, fun j hj => by
      have := h5 j (by omega)
      rwa [hin j hj, hin J' hJn] at this⟩
    have hE := hF.unique hJ
    subst hE
    exact ⟨h2.trans (ext_in _ _ hJn), h1⟩

/-- How many of the entries before `j` are `v`. -/
def before (P : ℕ → EReal) (v : EReal) (j : ℕ) : ℕ := ∑ i ∈ Finset.range j, if P i = v then 1 else 0

include hπ ord hp0 hM in
/-- A sorted place is the number of greater entries and of equal entries before. -/
theorem place_eq (k : Fin n) :
    k.val = (∑ i ∈ Finset.range M, if p (π k) < ext p 0 i then 1 else 0) + before (ext p 0) (p (π k)) (π k).val := by
  have e1 : (∑ i ∈ Finset.range M, if p (π k) < ext p 0 i then 1 else 0) = ∑ i : Fin n, if p (π k) < p i then 1 else 0 :=
    sum_ext hM p 0 (fun x => if p (π k) < x then 1 else 0) (if_neg (not_lt.2 (hp0 _)))
  have e2 : before (ext p 0) (p (π k)) (π k).val = ∑ i : Fin n, if p i = p (π k) ∧ i < π k then 1 else 0 := by
    unfold before
    have : ∑ i : Fin n, (if p i = p (π k) ∧ i < π k then 1 else 0) = ∑ i ∈ Finset.range n, if ext p 0 i = p (π k) ∧ i < (π k).val then 1 else 0 := by
      rw [Finset.sum_range]
      exact Finset.sum_congr rfl fun i _ => by rw [ext_fin]; rfl
    rw [this]
    have hk := (π k).isLt
    rw [← Finset.sum_subset (Finset.range_mono hk.le) fun i _ hi => if_neg fun hc => hi (Finset.mem_range.2 hc.2)]
    exact Finset.sum_congr rfl fun i hi => if_congr ⟨fun h => ⟨h, Finset.mem_range.1 hi⟩, fun h => h.1⟩ rfl rfl
  rw [e1, e2, ← Finset.sum_add_distrib]
  have e3 : k.val = ∑ i : Fin n, if i < k then 1 else 0 := by
    have hs : ∑ i : Fin n, (if i < k then 1 else 0) = ∑ i ∈ Finset.range n, if i < k.val then 1 else 0 := by
      rw [Finset.sum_range]; rfl
    rw [hs, ← Finset.sum_filter, Finset.sum_const, smul_eq_mul, mul_one]
    have : (Finset.range n).filter (fun i => i < k.val) = Finset.range k.val := by
      ext i
      have := k.isLt
      rw [Finset.mem_filter, Finset.mem_range, Finset.mem_range]
      omega
    rw [this, Finset.card_range]
  rw [← (Equiv.ofBijective π (Finite.injective_iff_bijective.1 hπ)).sum_comp fun i => (if p (π k) < p i then 1 else 0) + (if p i = p (π k) ∧ i < π k then 1 else 0)]
  refine e3.trans (Finset.sum_congr rfl fun i _ => ?_)
  show (if i < k then 1 else 0) = (if p (π k) < p (π i) then 1 else 0) + (if p (π i) = p (π k) ∧ π i < π k then 1 else 0)
  rcases lt_trichotomy i k with h | h | h
  · obtain ⟨h1, h2⟩ := ord i k h
    rw [if_pos h]
    rcases h1.lt_or_eq with h3 | h3
    · rw [if_pos h3, if_neg fun hc => h3.ne hc.1.symm]
    · rw [if_neg (by rw [h3]; exact lt_irrefl _), if_pos ⟨h3.symm, h2 h3.symm⟩]
  · subst h
    rw [if_neg (lt_irrefl _), if_neg (lt_irrefl _), if_neg fun hc => lt_irrefl _ hc.2]
  · obtain ⟨h1, h2⟩ := ord k i h
    rw [if_neg (not_lt.2 h.le), if_neg (not_lt.2 h1), if_neg fun hc => lt_asymm hc.2 (h2 hc.1.symm)]

theorem before_succ (P : ℕ → EReal) (v : EReal) (j : ℕ) : before P v (j + 1) = before P v j + if P j = v then 1 else 0 := Finset.sum_range_succ _ _
theorem before_mono (P : ℕ → EReal) (v : EReal) {i j : ℕ} (h : i ≤ j) : before P v i ≤ before P v j :=
  Finset.sum_le_sum_of_subset (Finset.range_mono h)

theorem picked_iff (P : ℕ → EReal) (v : EReal) (d : BitVec 32) (q : ℕ) (hd : d.toInt = (q : ℤ)) (j : ℕ) :
    Picked P v d j ↔ P j = v ∧ before P v j = q := by
  unfold Picked
  refine and_congr_right fun hj => ?_
  have e : (∑ i ∈ Finset.range (j + 1), if P i = v then (1 : EReal) else 0) = ((before P v (j + 1) : ℕ) : EReal) := by
    unfold before
    rw [Nat.cast_sum]
    exact Finset.sum_congr rfl fun i _ => by split <;> simp
  rw [e, before_succ, if_pos hj, hd, Nat.cast_add, Nat.cast_one]
  have e1 : ((before P v j : ℕ) : EReal) + 1 - 1 = ((before P v j : ℕ) : EReal) := by
    have : ((before P v j : ℕ) : EReal) = (((before P v j : ℕ) : ℝ) : EReal) := rfl
    rw [this]
    exact EReal.add_sub_cancel_right (b := 1)
  rw [e1]
  have e2 : (((q : ℤ) : ℝ) : EReal) = ((q : ℕ) : EReal) := by
    rw [Int.cast_natCast]; rfl
  rw [e2]
  exact Nat.cast_inj

include hM hM' hπ ord hp0 in
/-- The kernel's token for the position is the one the position came from. -/
theorem token_real (J : Fin n) : kernelToken M (ext p 0) (p (π J)) (BitVec.ofNat 32 J.val) = (π J).val := by
  unfold kernelToken
  have hJ := place_eq hM p π hπ ord hp0 J
  generalize hm : (∑ i ∈ Finset.range M, if p (π J) < ext p 0 i then 1 else 0) = m at hJ
  have hmJ : m ≤ J.val := by omega
  have hJl := J.isLt
  have hd : (BitVec.ofNat 32 J.val - BitVec.ofNat 32 m).toInt = ((J.val - m : ℕ) : ℤ) := by
    have : BitVec.ofNat 32 J.val - BitVec.ofNat 32 m = BitVec.ofNat 32 (J.val - m) := by
      have h1 : BitVec.ofNat 32 J.val = BitVec.ofNat 32 (J.val - m) + BitVec.ofNat 32 m := by
        rw [← BitVec.ofNat_add, Nat.sub_add_cancel hmJ]
      rw [h1, BitVec.add_sub_cancel]
    rw [this, ofNat_toInt (by omega)]
  have hiff : ∀ j ∈ Finset.range M, Picked (ext p 0) (p (π J)) (BitVec.ofNat 32 J.val - BitVec.ofNat 32 m) j ↔ j = (π J).val := fun j hj => by
    rw [picked_iff _ _ _ _ hd]
    constructor
    · rintro ⟨h1, h2⟩
      by_cases hjn : j < n
      · obtain ⟨k, hk⟩ := (Finite.injective_iff_surjective.1 hπ) ⟨j, hjn⟩
        rw [ext_in _ _ hjn, ← hk] at h1
        have h3 := place_eq hM p π hπ ord hp0 k
        rw [h1, hm, show (π k).val = j from congrArg Fin.val hk, h2] at h3
        have : k = J := Fin.ext (by omega)
        rw [← this, hk]
      · have h4 := before_mono (ext p 0) (p (π J)) (show (π J).val + 1 ≤ j by have := (π J).isLt; omega)
        rw [before_succ, ext_fin, if_pos rfl] at h4
        omega
    · rintro rfl
      exact ⟨ext_fin _ _ _, by omega⟩
  rw [Finset.sum_congr rfl fun j hj => if_congr (hiff j hj) rfl rfl, Finset.sum_ite_eq' (Finset.range M) (π J).val (fun j => j),
    if_pos (Finset.mem_range.2 (by have := (π J).isLt; omega))]

end real

end Cert.Proof.Draw

end
-- ==== Proof.KI.Feed.lean ====
/-
  What the sampling call reads, block by block, and what it leaves: the blocks as stretches of the three arrays laid out
  flat, the positions, and the token.
-/
module

public import proofs.«01_k».proof.Proof.KI.Sweep
public import proofs.«01_k».proof.Proof.KI.ProbVal
public import proofs.«01_k».proof.Proof.Draw.Agree

@[expose] public section

set_option maxRecDepth 16384

noncomputable section

namespace Cert.KernelIdeal.Hand

open Cert.KernelIdeal Cert.KernelIdeal.Gen Cert.Proof.Cells Cert.Proof.Draw
open Idealize.ShloMosaic Idealize.ShloMosaic.TcCoe Idealize.ShloMosaic.Tactic
open Idealize.ShloMosaic.Pipeline (Dat Cfg Window cellOf)

variable (V : (c : Dev nD) → (b : Ref sig .tc) → Buf (Elt Ideal) ((c : Thread nD τ).loc b))

theorem map2_0 : ∀ t : Fin cfg2.N, win2_0.index t 0 = t.val % 8 ∧ win2_0.index t 1 = 0 :=
  (by decide +kernel : ∀ t : Fin grid2.N, win2_0.index t 0 = t.val % 8 ∧ win2_0.index t 1 = 0)
theorem map2_1 : ∀ t : Fin cfg2.N, win2_1.index t 0 = t.val % 8 ∧ win2_1.index t 1 = 0 :=
  (by decide +kernel : ∀ t : Fin grid2.N, win2_1.index t 0 = t.val % 8 ∧ win2_1.index t 1 = 0)
theorem map2_2 : ∀ t : Fin cfg2.N, win2_2.index t 0 = t.val % 8 ∧ win2_2.index t 1 = 0 :=
  (by decide +kernel : ∀ t : Fin grid2.N, win2_2.index t 0 = t.val % 8 ∧ win2_2.index t 1 = 0)

theorem place_cell (n : ℕ) (y : S1024x128.Idx) : (place (cell (blockOf n) y)).val = n % 8 * 131072 + flat y := by
  show (n % 8 * 1024 + (y 0).val) * 128 + (y 1).val = n % 8 * 131072 + ((y 0).val * 128 + (y 1).val)
  omega

/-- An array laid out flat. -/
def flatten (f : S8192x128.Idx → EReal) (k : Fin 1048576) : EReal := f (place.symm k)

theorem flatten_cell (f : S8192x128.Idx → EReal) (L : ℕ → EReal) (h : ∀ k : Fin 1048576, flatten f k = L k.val) (n : ℕ) (y : S1024x128.Idx) :
    f (cell (blockOf n) y) = L (n % 8 * 131072 + flat y) := by
  rw [← place_cell, ← h, flatten, Equiv.symm_apply_apply]

theorem blkS_apply (c : Dev nD) (t : Fin cfg2.N) (y : S1024x128.Idx) :
    blkS V c t y = (V c main_v9 : S8192x128.Idx → EReal) (cell (blockOf t.val) y) := by
  show (V c main_v9 : S8192x128.Idx → EReal) ((win2_0.rect t).emb y) = _
  congr 1
  funext a
  apply Fin.ext
  refine (Pipeline.Window.rect_emb_val win2_0 t y a rfl).trans ?_
  obtain ⟨h0, h1⟩ := map2_0 t
  match a with
  | ⟨0, _⟩ => exact congrArg (· * 1024 + (y 0).val) h0
  | ⟨1, _⟩ => exact (congrArg (· * 128 + (y 1).val) h1).trans (by show 0 * 128 + (y 1).val = (y 1).val; omega)
theorem blkG_apply (c : Dev nD) (t : Fin cfg2.N) (y : S1024x128.Idx) :
    blkG V c t y = (V c main_v19 : S8192x128.Idx → EReal) (cell (blockOf t.val) y) := by
  show (V c main_v19 : S8192x128.Idx → EReal) ((win2_1.rect t).emb y) = _
  congr 1
  funext a
  apply Fin.ext
  refine (Pipeline.Window.rect_emb_val win2_1 t y a rfl).trans ?_
  obtain ⟨h0, h1⟩ := map2_1 t
  match a with
  | ⟨0, _⟩ => exact congrArg (· * 1024 + (y 0).val) h0
  | ⟨1, _⟩ => exact (congrArg (· * 128 + (y 1).val) h1).trans (by show 0 * 128 + (y 1).val = (y 1).val; omega)
theorem blkP_apply (c : Dev nD) (t : Fin cfg2.N) (y : S1024x128.Idx) :
    blkP V c t y = (V c main_v4 : S8192x128.Idx → EReal) (cell (blockOf t.val) y) := by
  show (V c main_v4 : S8192x128.Idx → EReal) ((win2_2.rect t).emb y) = _
  congr 1
  funext a
  apply Fin.ext
  refine (Pipeline.Window.rect_emb_val win2_2 t y a rfl).trans ?_
  obtain ⟨h0, h1⟩ := map2_2 t
  match a with
  | ⟨0, _⟩ => exact congrArg (· * 1024 + (y 0).val) h0
  | ⟨1, _⟩ => exact (congrArg (· * 128 + (y 1).val) h1).trans (by show 0 * 128 + (y 1).val = (y 1).val; omega)

/-- The number of a point's block, as the program computes it. -/
def blockWord (i : grid2.Coords) : BitVec 32 :=
  let arg0 : BitVec 32 := BitVec.ofNat 32 (i 0).val
  let v17 : BitVec 1 := Scalar.cmpi .eq 8#32 0#32
  let v18 : BitVec 32 := Scalar.select v17 1#32 8#32
  let v19 : BitVec 32 := Scalar.remsi arg0 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  Scalar.select v24 v25 v19

theorem blockWord_eq : ∀ t : Fin cfg2.N, blockWord (grid2.coords t) = BitVec.ofNat 32 (t.val % 8) :=
  (by decide +kernel : ∀ t : Fin grid2.N, blockWord (grid2.coords t) = BitVec.ofNat 32 (t.val % 8))

theorem pos2_apply (t : Fin cfg2.N) (y : S1024x128.Idx) : pos2 t y = BitVec.ofNat 32 (t.val % 8 * 131072 + flat y) := by
  have e : pos2 t y = blockWord (grid2.coords t) * 131072#32 + BitVec.ofNat 32 (y 0).val * 128#32 + BitVec.ofNat 32 (y 1).val := by
    unfold pos2 k2_pay23
    show blockWord (grid2.coords t) * 131072#32 + iota .tc S1024x128 32 [0] iota_S1024x128_d0_w32 y * 128#32 + iota .tc S1024x128 32 [1] iota_S1024x128_d1_w32 y = _
    rw [iota_single_apply, iota_single_apply]
  rw [e, blockWord_eq]
  show BitVec.ofNat 32 (t.val % 8) * BitVec.ofNat 32 131072 + BitVec.ofNat 32 (y 0).val * BitVec.ofNat 32 128 + BitVec.ofNat 32 (y 1).val
    = BitVec.ofNat 32 (t.val % 8 * 131072 + ((y 0).val * 128 + (y 1).val))
  rw [← BitVec.ofNat_mul, ← BitVec.ofNat_mul, ← BitVec.ofNat_add, ← BitVec.ofNat_add, add_assoc]

/-- The sampling call sweeps the three lists that the arrays laid out flat are. -/
theorem fed (c : Dev nD) (S G P : ℕ → EReal) (hS : ∀ k, flatten (V c main_v9) k = S k.val) (hG : ∀ k, flatten (V c main_v19) k = G k.val)
    (hP : ∀ k, flatten (V c main_v4) k = P k.val) (tame : (∀ j < 1048576, S j ≠ ⊥ ∧ S j ≠ ⊤) ∨ ∀ j < 1048576, S j = ⊥) :
    Fed V c S G P where
  s t y _ := (blkS_apply V c t y).trans (flatten_cell _ _ hS _ _)
  g t y _ _ := (blkG_apply V c t y).trans (flatten_cell _ _ hG _ _)
  p t y _ := (blkP_apply V c t y).trans (flatten_cell _ _ hP _ _)
  w t y := pos2_apply t y
  tame := tame

theorem token_value (c : Dev nD) : (dat2 V c).arrAt 3 cfg2.N = fun _ => (st2 V c 32).i3 := by
  refine (dat2 V c).arrAt_eq_of_covers 3 _ (by decide +kernel) fun t hf y => ?_
  have h : t.val = 31 := by
    by_contra hc
    rw [noflush2_3 t hc] at hf
    exact absurd hf (by decide)
  rw [after2_3, h]
  rfl

end Cert.KernelIdeal.Hand

end
-- ==== Proof.Draw.Sort.lean ====
/-
  A stable sort by a key puts a list in the key's order, equal keys in the order of their positions.
-/
module

public import Idealize.ShloMosaic.Lib.SortFacts
public import Mathlib.Data.EReal.Basic

@[expose] public section

namespace Cert.Proof.Draw

open Idealize.ShloMosaic

theorem stable_of_later {ι : Type} (R T : ι → ι → Bool) (l : List ι) (h : l.Pairwise fun a b => R b a = T b a) :
    stableSort R l = stableSort T l := by
  induction l with
  | nil => rfl
  | cons a l ih =>
    rw [List.pairwise_cons] at h
    unfold stableSort
    rw [ih h.2]
    exact insertBefore_congr R T a _ fun b hb => h.1 b ((perm_stableSort T l).mem_iff.mp hb)

theorem from_of_later {n : ℕ} (R T : Fin n → Fin n → Bool) (h : ∀ a b, a < b → R b a = T b a) : sortedFrom R = sortedFrom T := by
  funext k
  unfold sortedFrom
  have e : sortPositions n R = sortPositions n T :=
    stable_of_later R T _ ((List.pairwise_lt_finRange n).imp fun {a b} hab => h a b hab)
  rw [List.get_of_eq e]
  rfl

open Classical in
/-- The positions in sorted order. -/
noncomputable def order {n : ℕ} (f : Fin n → EReal) : Fin n → Fin n := sortedFrom fun a b => decide (f a < f b)

theorem order_injective {n : ℕ} (f : Fin n → EReal) : Function.Injective (order f) := sortedFrom_injective _

theorem order_spec {n : ℕ} (f : Fin n → EReal) (i j : Fin n) (hij : i < j) :
    f (order f i) ≤ f (order f j) ∧ (f (order f i) = f (order f j) → order f i < order f j) := by
  classical
  have hne : order f i ≠ order f j := fun e => absurd (order_injective f e) hij.ne
  have e : order f = sortedFrom fun a b => decide (f a < f b ∨ (f a = f b ∧ a < b)) := by
    refine from_of_later _ _ fun a b hab => ?_
    have : ¬ b < a := not_lt.2 hab.le
    simp [this]
  have key := sortedFrom_noInversion (fun a b : Fin n => decide (f a < f b ∨ (f a = f b ∧ a < b))) (fun a b => decide (f a < f b ∨ (f a = f b ∧ a < b)))
    (fun a b h => by
      rw [decide_eq_true_iff] at h
      rw [decide_eq_false_iff_not]
      rintro (h' | ⟨h', h''⟩) <;> rcases h with h | ⟨h, hh⟩
      · exact lt_asymm h h'
      · exact h'.ne h.symm
      · exact h.ne h'.symm
      · exact lt_asymm hh h'')
    (fun a b h => h)
    (fun a b c h h' => by
      rw [decide_eq_false_iff_not] at h h' ⊢
      rintro (h'' | ⟨h'', h3⟩)
      · have h1 : f b ≤ f a := not_lt.1 fun hc => h (.inl hc)
        have h2 : f c ≤ f b := not_lt.1 fun hc => h' (.inl hc)
        exact absurd (h''.trans_le (h2.trans h1)) (lt_irrefl _)
      · have h1 : f b ≤ f a := not_lt.1 fun hc => h (.inl hc)
        have h2 : f c ≤ f b := not_lt.1 fun hc => h' (.inl hc)
        have e1 : f a = f b := le_antisymm (h''.le.trans h2) h1
        have e2 : f b = f c := e1.symm.trans h''
        have h4 : ¬ a < b := fun hc => h (.inr ⟨e1, hc⟩)
        have h5 : ¬ b < c := fun hc => h' (.inr ⟨e2, hc⟩)
        exact absurd h3 (not_lt.2 ((not_lt.1 h5).trans (not_lt.1 h4))))
    i j hij
  rw [← e, decide_eq_false_iff_not] at key
  have h1 : f (order f i) ≤ f (order f j) := not_lt.1 fun hc => key (.inl hc)
  exact ⟨h1, fun he => lt_of_le_of_ne (not_lt.1 fun hc => key (.inr ⟨he.symm, hc⟩)) hne⟩

theorem decreasing_le {n : ℕ} (f : Fin n → EReal) (σ τ : Fin n → Fin n) (hσ : Function.Injective σ) (hτ : Function.Injective τ)
    (dσ : Antitone (f ∘ σ)) (dτ : Antitone (f ∘ τ)) (k : Fin n) : f (τ k) ≤ f (σ k) := by
  classical
  by_contra hc
  have hlt : f (σ k) < f (τ k) := not_le.1 hc
  have bσ : Function.Surjective σ := Finite.injective_iff_surjective.1 hσ
  have hsub : (Finset.Iic k).image τ ⊆ (Finset.Iio k).image σ := fun i hi => by
    obtain ⟨j, hj, rfl⟩ := Finset.mem_image.1 hi
    obtain ⟨l, hl⟩ := bσ (τ j)
    refine Finset.mem_image.2 ⟨l, Finset.mem_Iio.2 (not_le.1 fun hkl => ?_), hl⟩
    have h1 : f (σ l) ≤ f (σ k) := dσ hkl
    have h2 : f (τ k) ≤ f (τ j) := dτ (Finset.mem_Iic.1 hj)
    rw [hl] at h1
    exact absurd (hlt.trans_le (h2.trans h1)) (lt_irrefl _)
  have := Finset.card_le_card hsub
  rw [Finset.card_image_of_injective _ hτ, Finset.card_image_of_injective _ hσ] at this
  have hss : Finset.Iio k ⊂ Finset.Iic k := Finset.ssubset_iff_subset_ne.2 ⟨fun i hi => Finset.mem_Iic.2 (Finset.mem_Iio.1 hi).le, fun e => by
    have : k ∈ Finset.Iio k := e ▸ Finset.mem_Iic.2 le_rfl
    exact lt_irrefl _ (Finset.mem_Iio.1 this)⟩
  exact absurd (Finset.card_lt_card hss) (not_lt.2 this)

/-- Two decreasing arrangements of the same list are equal. -/
theorem decreasing_unique {n : ℕ} (f : Fin n → EReal) (σ τ : Fin n → Fin n) (hσ : Function.Injective σ) (hτ : Function.Injective τ)
    (dσ : Antitone (f ∘ σ)) (dτ : Antitone (f ∘ τ)) (k : Fin n) : f (σ k) = f (τ k) :=
  le_antisymm (decreasing_le f τ σ hτ hσ dτ dσ k) (decreasing_le f σ τ hσ hτ dσ dτ k)

end Cert.Proof.Draw

end
-- ==== Proof.Draw.Order.lean ====
/-
  Both programs sort by the same comparison over the extended reals: the smaller number first.
-/
module

public import proofs.«01_k».proof.KernelIdeal
public import proofs.«01_k».proof.ReferenceIdeal
public import Idealize.ShloMosaic.PureOps.Ideal.Laws
public import Idealize.ShloMosaic.Lib.ValueIdxCore

@[expose] public section

namespace Cert.Proof.Draw

open Idealize.ShloMosaic

theorem normal_eq (l z nan : EReal) :
    Scalar.select (Ideal.cmp .une l l) nan (Scalar.select (Ideal.cmp .oeq l z) z l) = l := by
  have h1 : Ideal.cmp .une l l = 0#1 := by simp [Ideal.cmp]
  rw [h1]
  unfold Scalar.select
  rw [if_neg (by decide)]
  split
  · rename_i h
    by_contra hc
    have : Ideal.cmp .oeq l z = 0#1 := by
      unfold Ideal.cmp
      show BitVec.ofBool (decide (l = z)) = 0#1
      rw [decide_eq_false fun e : l = z => hc e.symm]
      rfl
    rw [this] at h
    exact absurd h (by decide)
  · rfl

open Classical in
theorem less_eq (l r : EReal) : (Ideal.cmp .olt l r == 1#1) = decide (l < r) := by
  unfold Ideal.cmp
  by_cases h : l < r <;> simp [h]

open Classical in
theorem kernel_before (l r : EReal) : (Cert.KernelIdeal.comparator_f32_d0 (F := Ideal) l r == 1#1) = decide (l < r) := by
  refine Eq.trans ?_ (less_eq l r)
  refine congrArg (· == 1#1) ?_
  exact congrArg₂ (Ideal.cmp .olt) (normal_eq l _ _) (normal_eq r _ _)

open Classical in
theorem reference_before (l r : EReal × BitVec 32) : (Cert.ReferenceIdeal.comparator_f32_i32_d1 (F := Ideal) l r == 1#1) = decide (l.1 < r.1) := by
  refine Eq.trans ?_ (less_eq l.1 r.1)
  refine congrArg (· == 1#1) ?_
  exact congrArg₂ (Ideal.cmp .olt) (normal_eq l.1 _ _) (normal_eq r.1 _ _)

/-! ## A sort along the only axis, and along the second of two -/

theorem along_one {n : ℕ} (k : Fin n) :
    (fun k' : Fin n => Shape.Idx.along (s := ⟨1, ![n]⟩) (ValueIdx.ix1 k) (0 : Fin 1) k') = ValueIdx.ix1 := by
  funext k' a
  match a with
  | ⟨0, _⟩ => exact Function.update_self (0 : Fin 1) k' (ValueIdx.ix1 k : (⟨1, ![n]⟩ : Shape).Idx)

theorem sort_one {n : ℕ} {α : Type} (cmp : α → α → BitVec 1) (x : (⟨1, ![n]⟩ : Shape).Idx → α) (k : Fin n) :
    Host.sort ⟨1, ![n]⟩ 0 cmp x (ValueIdx.ix1 k)
      = x (ValueIdx.ix1 (sortedFrom (fun k₁ k₂ : Fin n => cmp (x (ValueIdx.ix1 k₁)) (x (ValueIdx.ix1 k₂)) == 1#1) k)) := by
  have : Host.sort ⟨1, ![n]⟩ 0 cmp x (ValueIdx.ix1 k)
      = (fun A : Fin n → (⟨1, ![n]⟩ : Shape).Idx =>
          x (A (sortedFrom (fun k₁ k₂ : Fin n => cmp (x (A k₁)) (x (A k₂)) == 1#1) k)))
        (fun k' : Fin n => Shape.Idx.along (s := ⟨1, ![n]⟩) (ValueIdx.ix1 k) (0 : Fin 1) k') := by
    unfold Host.sort
    exact dif_pos (show 0 < 1 by decide)
  rw [this, along_one]

theorem along_two {n : ℕ} (i : Fin 1) (k : Fin n) :
    (fun k' : Fin n => Shape.Idx.along (s := ⟨2, ![1, n]⟩) (ValueIdx.ix2 i k) (1 : Fin 2) k') = ValueIdx.ix2 i := by
  funext k' a
  match a with
  | ⟨0, _⟩ => exact Function.update_of_ne (show (0 : Fin 2) ≠ 1 by decide) k' (ValueIdx.ix2 i k : (⟨2, ![1, n]⟩ : Shape).Idx)
  | ⟨1, _⟩ => exact Function.update_self (1 : Fin 2) k' (ValueIdx.ix2 i k : (⟨2, ![1, n]⟩ : Shape).Idx)

theorem sort_two {n : ℕ} {α β : Type} (cmp : α × β → α × β → BitVec 1) (x : (⟨2, ![1, n]⟩ : Shape).Idx → α) (y : (⟨2, ![1, n]⟩ : Shape).Idx → β)
    (k : Fin n) :
    (Host.sort2 ⟨2, ![1, n]⟩ 1 cmp x y).2 (ValueIdx.ix2 0 k)
      = y (ValueIdx.ix2 0 (sortedFrom (fun k₁ k₂ : Fin n =>
        cmp (x (ValueIdx.ix2 0 k₁), y (ValueIdx.ix2 0 k₁)) (x (ValueIdx.ix2 0 k₂), y (ValueIdx.ix2 0 k₂)) == 1#1) k)) := by
  have : (Host.sort2 ⟨2, ![1, n]⟩ 1 cmp x y).2 (ValueIdx.ix2 0 k)
      = (fun A : Fin n → (⟨2, ![1, n]⟩ : Shape).Idx =>
          y (A (sortedFrom (fun k₁ k₂ : Fin n => cmp (x (A k₁), y (A k₁)) (x (A k₂), y (A k₂)) == 1#1) k)))
        (fun k' : Fin n => Shape.Idx.along (s := ⟨2, ![1, n]⟩) (ValueIdx.ix2 0 k) (1 : Fin 2) k') := by
    unfold Host.sort2
    rw [dif_pos (show 1 < (⟨2, ![1, n]⟩ : Shape).rank from (by decide : 1 < 2))]
    rfl
  rw [this, along_two]

end Cert.Proof.Draw
-- ==== Proof.Draw.Numbers.lean ====
/-
  The numbers written into the programs.
-/
module

public import proofs.«01_k».proof.Proof.Draw.Agree

@[expose] public section

noncomputable section

namespace Cert.Proof.Draw

open Cert.KernelIdeal.Hand
open Idealize.ShloMosaic

theorem tiny_real : ∃ t : ℝ, 0 < t ∧ tiny = (t : EReal) := by
  refine ⟨_, ?_, show Ideal.ofBits .f32 0x2EDBE6FF#32 = _ from by simp [Ideal.ofBits, Ideal.ieee, -EReal.coe_mul]; rfl⟩
  positivity

theorem theta_real : theta < 1 := by
  show Ideal.ofBits .f32 0x3F2AAAAB#32 < 1
  simp [Ideal.ofBits, Ideal.ieee, -EReal.coe_mul]
  rw [← EReal.coe_one, EReal.coe_lt_coe_iff]
  norm_num

theorem start_real : minusOne ≤ 0 := by
  show Ideal.ofBits .f32 0xBF800000#32 ≤ 0
  simp [Ideal.ofBits, Ideal.ieee, -EReal.coe_mul]
  try norm_num

theorem numbers : Numbers := ⟨tiny_real, theta_real, start_real⟩

/-- The least uniform number drawn, and the noise of the places past the end. -/
def least : EReal := Ideal.ofBits .f32 0x00800000#32
def never : EReal := Ideal.ofBits .f32 0xF149F2CA#32

theorem least_eq : least = (((2 : ℝ) ^ (-126 : ℤ) : ℝ) : EReal) := by
  unfold least
  simp [Ideal.ofBits, Ideal.ieee, -EReal.coe_mul]
  try norm_num

theorem never_eq : ∃ r : ℝ, r < -126 ∧ never = (r : EReal) := by
  refine ⟨_, ?_, show Ideal.ofBits .f32 0xF149F2CA#32 = _ from by simp [Ideal.ofBits, Ideal.ieee, -EReal.coe_mul]; rfl⟩
  norm_num

theorem never_ne : never ≠ ⊥ := by
  obtain ⟨r, -, h⟩ := never_eq
  rw [h]; exact EReal.coe_ne_bot r

/-- The noise of any place stands above that. -/
theorem noise_above (w : EReal) : never < -Ideal.log (-Ideal.log (max least w)) := by
  obtain ⟨r, hr, hn⟩ := never_eq
  have hpos : (0 : ℝ) < 2 ^ (-126 : ℤ) := by positivity
  have hl : Ideal.log least ≤ Ideal.log (max least w) := log_mono ⟨_, hpos, least_eq⟩ (le_max_left _ _)
  have e0 : Ideal.log least = ((-(126 * Real.log 2) : ℝ) : EReal) := by
    rw [least_eq]
    refine (if_neg (not_le.2 hpos)).trans ?_
    rw [Real.log_zpow]
    congr 1
    push_cast
    ring
  rw [e0] at hl
  have h126 : 126 * Real.log 2 ≤ 126 := by
    have := Real.log_le_sub_one_of_pos (show (0 : ℝ) < 2 by norm_num)
    linarith
  rw [hn]
  generalize Ideal.log (max least w) = y at hl
  induction y using EReal.rec with
  | bot => exact absurd (le_bot_iff.1 hl) (EReal.coe_ne_bot _)
  | top =>
    rw [EReal.neg_top, log_bot, EReal.neg_bot]
    exact EReal.coe_lt_top r
  | coe y =>
    rw [EReal.coe_le_coe_iff] at hl
    rw [← EReal.coe_neg]
    by_cases hy : -y ≤ 0
    · rw [show Ideal.log ((-y : ℝ) : EReal) = ⊥ from if_pos hy, EReal.neg_bot]
      exact EReal.coe_lt_top r
    · have hy' : 0 < -y := not_le.1 hy
      rw [show Ideal.log ((-y : ℝ) : EReal) = ((Real.log (-y) : ℝ) : EReal) from if_neg hy, ← EReal.coe_neg, EReal.coe_lt_coe_iff]
      have := Real.log_le_sub_one_of_pos hy'
      linarith

end Cert.Proof.Draw

end
-- ==== Proof.KI.Lists.lean ====
/-
  The three lists the sampling call sweeps in the whole run: the probabilities sorted from the greatest, the noise, and the
  probabilities.
-/
module

public import proofs.«01_k».proof.Proof.KI.Feed
public import proofs.«01_k».proof.Proof.Draw.Sort
public import proofs.«01_k».proof.Proof.Draw.Order
public import proofs.«01_k».proof.Proof.Draw.Numbers

@[expose] public section

set_option maxRecDepth 16384

noncomputable section

namespace Cert.KernelIdeal.Hand

open Cert.KernelIdeal Cert.KernelIdeal.Gen Cert.Proof.Cells Cert.Proof.Draw Cert.Proof.Probs
open Idealize.ShloMosaic Idealize.ShloMosaic.TcCoe Idealize.ShloMosaic.Tactic
open Idealize.ShloMosaic.Pipeline (Dat Cfg Window cellOf)

variable (m : (ℓ : Loc nD τ sig) → Buf (Elt Ideal) ℓ) {outs : Outs (F := Ideal)} (hL : Leaves m outs)

/-- The probabilities of the padded logits. -/
def probs (c : Dev nD) : Fin 1048576 → EReal := probOf (padded 1048576 (logits m c))

include hL in
theorem listP_eq (c : Dev nD) : flatten (E2 m outs c main_v4) = probs m c := by
  have e : E2 m outs c main_v4 = outs 3 main_v4 c := by
    show V10 m outs c main_v4 = _
    rw [V10_of m outs c main_v4 (by decide), V9_of m outs c main_v4 (by decide), V8_of m outs c main_v4 (by decide),
      V7_of m outs c main_v4 (by decide), V6_of m outs c main_v4 (by decide), V5_of m outs c main_v4 (by decide), V4_of m outs c main_v4 (by decide)]
    exact Function.update_self _ _ _
  rw [e]
  funext k
  unfold flatten probs
  rw [prob_value m hL c, Equiv.apply_symm_apply]

theorem read_v6 (c : Dev nD) : @Eq (FVec Ideal S1048576 .f32) (V4 m outs c main_v6)
    (Host.negf (F := Ideal) (φ := .f32) (shapeCast S1048576 (outs 3 main_v4 c : FVec Ideal S8192x128 .f32) shapeCasts_S8192x128_S1048576)) := by
  show StableHlo.after hostOps2 (Function.update (V2 m outs c) main_v4 (outs 3 main_v4 c)) main_v6 = _
  after_results
  rfl

theorem read_v7 (W : Valuation τ sig (Elt Ideal)) : @Eq (FVec Ideal S1048576 .f32) (StableHlo.after hostOps2_1 W main_v7)
    (Host.sort S1048576 0 (comparator_f32_d0 (F := Ideal)) (W main_v6 : FVec Ideal S1048576 .f32)) := by
  after_results
  rfl

theorem read_v9 (W : Valuation τ sig (Elt Ideal)) : @Eq (FVec Ideal S8192x128 .f32) (StableHlo.after hostOps2_2 W main_v9)
    (shapeCast S8192x128 (Host.negf (F := Ideal) (φ := .f32) (W main_v7 : FVec Ideal S1048576 .f32)) shapeCasts_S1048576_S8192x128) := by
  after_results
  rfl

theorem read_cst (W : Valuation τ sig (Elt Ideal)) : StableHlo.after hostOps2_4 W main_cst = constant (F := Ideal) S_ .f32 0xF149F2CA#32 := by
  after_results

theorem read_v18 (W : Valuation τ sig (Elt Ideal)) : StableHlo.after hostOps2_5 W main_v18
    = pad S1x1048576 ![0, 0] ![0, 48576] ![0, 0] (W main_v17 : S1x1000000.Idx → Ideal .f32) (W main_cst : S_.Idx → Ideal .f32) pads_S1x1000000_S1x1048576_000_0485760 h_S_ := by
  after_results
  rfl

theorem read_v19 (W : Valuation τ sig (Elt Ideal)) : StableHlo.after hostOps2_6 W main_v19
    = shapeCast S8192x128 (W main_v18 : S1x1048576.Idx → Ideal .f32) shapeCasts_S1x1048576_S8192x128 := by
  after_results
  rfl

/-- The index of a place in the flat array. -/
def flatIdx (k : Fin 1048576) : S1048576.Idx := ValueIdx.ix1 (n := 1048576) k

theorem flat_row (k : Fin 1048576) : (S1048576.rowMajor (flatIdx k)).val = k.val := (Shape.rowMajor_val_one (flatIdx k)).trans rfl
theorem place_row (k : Fin 1048576) : (S8192x128.rowMajor (place.symm k)).val = k.val := by
  rw [Shape.rowMajor_val_two]
  exact congrArg Fin.val (place.apply_symm_apply k)

include hL in
theorem negated (c : Dev nD) (k : Fin 1048576) : (V4 m outs c main_v6 : S1048576.Idx → EReal) (flatIdx k) = -probs m c k := by
  rw [read_v6]
  show -(shapeCast S1048576 (outs 3 main_v4 c : S8192x128.Idx → Ideal .f32) shapeCasts_S8192x128_S1048576 (flatIdx k) : EReal) = _
  rw [shapeCast_apply _ shapeCasts_S8192x128_S1048576 (flatIdx k) (place.symm k) (by rw [flat_row, place_row])]
  unfold probs
  rw [prob_value m hL c, Equiv.apply_symm_apply]

/-- The places of the padded probabilities from the greatest. -/
abbrev sortedPlace (c : Dev nD) : Fin 1048576 → Fin 1048576 := order fun k => -probs m c k

theorem sort_apply (x : S1048576.Idx → EReal) (f : Fin 1048576 → EReal) (h : ∀ k, x (flatIdx k) = f k) (k : Fin 1048576) :
    (Host.sort S1048576 0 (comparator_f32_d0 (F := Ideal)) x : S1048576.Idx → EReal) (flatIdx k) = f (order f k) := by
  refine (sort_one (n := 1048576) (comparator_f32_d0 (F := Ideal)) x k).trans ((h _).trans ?_)
  unfold order
  congr 2
  funext k₁ k₂
  refine (kernel_before _ _).trans ?_
  rw [show x (ValueIdx.ix1 k₁) = f k₁ from h k₁, show x (ValueIdx.ix1 k₂) = f k₂ from h k₂]

include hL in
theorem listS_eq (c : Dev nD) : flatten (E2 m outs c main_v9) = fun k => probs m c (sortedPlace m c k) := by
  have e : E2 m outs c main_v9 = V6 m outs c main_v9 := by
    show V10 m outs c main_v9 = _
    rw [V10_of m outs c main_v9 (by decide), V9_of m outs c main_v9 (by decide), V8_of m outs c main_v9 (by decide),
      V7_of m outs c main_v9 (by decide)]
  funext k
  rw [e]
  unfold flatten
  rw [show V6 m outs c main_v9 = _ from read_v9 _]
  rw [shapeCast_apply _ shapeCasts_S1048576_S8192x128 (place.symm k) (flatIdx k) (by rw [flat_row, place_row])]
  have e7 : @Eq EReal ((V5 m outs c main_v7 : FVec Ideal S1048576 .f32) (flatIdx k)) (-probs m c (sortedPlace m c k)) :=
    (congrFun (read_v7 (V4 m outs c)) (flatIdx k)).trans (sort_apply _ (fun k => -probs m c k) (negated m hL c) k)
  exact (congrArg (fun x : EReal => -x) e7).trans (neg_neg _)

/-- The noise as drawn. -/
def noiseOf (outs : Outs (F := Ideal)) (c : Dev nD) (k : Fin 1000000) : EReal :=
  (V7 m outs c main_v17 : S1x1000000.Idx → EReal) (ValueIdx.ix2 (n0 := 1) (n1 := 1000000) 0 k)

theorem listG_eq (c : Dev nD) (k : Fin 1048576) : flatten (E2 m outs c main_v19) k = ext (noiseOf m outs c) never k.val := by
  unfold flatten
  rw [show E2 m outs c main_v19 = _ from read_v19 (V9 m outs c)]
  rw [shapeCast_apply _ shapeCasts_S1x1048576_S8192x128 (place.symm k) (ValueIdx.ix2 (n0 := 1) (n1 := 1048576) 0 k)
    (by rw [place_row, Shape.rowMajor_val_two]; show 0 * 1048576 + k.val = k.val; omega)]
  rw [show V9 m outs c main_v18 = _ from read_v18 (V8 m outs c), show V8 m outs c main_cst = _ from read_cst (V7 m outs c),
    V8_of m outs c main_v17 (by decide)]
  by_cases h : k.val < 1000000
  · rw [ext_in _ _ h]
    refine pad_apply_of_inside _ _ _ _ _ _ _ _ (ValueIdx.ix2 (n0 := 1) (n1 := 1000000) 0 ⟨k.val, h⟩) fun a => ?_
    match a with
    | ⟨0, _⟩ => rfl
    | ⟨1, _⟩ => show k.val = 0 + k.val * 1; omega
  · rw [ext_out _ _ (not_lt.1 h)]
    refine (pad_apply_of_not_inside _ _ _ _ _ _ _ _ 1 fun hc => h ?_).trans ?_
    · have := hc.2.2
      have e : (k.val - 0) / (0 + 1) < 1000000 := this
      omega
    · rfl

end Cert.KernelIdeal.Hand

end
-- ==== Proof.Draw.Softmax.lean ====
/-
  What the probabilities of finitely many logits over the extended reals can be: none of them a number at all, or numbers
  from zero that add to one.
-/
module

public import proofs.«01_k».proof.Proof.Probs
public import proofs.«01_k».proof.Proof.Draw.Sort
public import proofs.«01_k».proof.Proof.Draw.Agree
public import Idealize.ShloMosaic.PureOps.Ideal.Laws

@[expose] public section

noncomputable section

namespace Cert.Proof.Draw

open Idealize.ShloMosaic Cert.Proof.Probs

/-- The probability of a logit that is −∞. -/
def padOf {n : ℕ} (x : Fin n → EReal) : EReal := Ideal.div 0 (massOf x)

/-- The probabilities of the padded logits: the logits' own, and one value after them. -/
theorem probOf_padded_ext {n N : ℕ} (h : n ≤ N) (x : Fin n → EReal) (k : Fin N) : probOf (padded N x) k = ext (probOf x) (padOf x) k.val := by
  by_cases hk : k.val < n
  · rw [ext_in _ _ hk]
    exact probOf_padded h x ⟨k.val, hk⟩
  · rw [ext_out _ _ (not_lt.1 hk)]
    unfold probOf padOf
    rw [topOf_padded h, massOf_padded h, padded, dif_neg hk, exp_bot_sub]

theorem mass_zero {n : ℕ} (x : Fin n → EReal) (h : ∀ k, Ideal.exp (x k - topOf x) = 0) : (∀ k, probOf x k = ⊥) ∧ padOf x = ⊥ := by
  have hm : massOf x = 0 := Finset.sum_eq_zero fun k _ => h k
  have h0 : Ideal.div 0 0 = ⊥ := by simp [Ideal.div]
  refine ⟨fun k => ?_, ?_⟩
  · unfold probOf; rw [h k, hm, h0]
  · unfold padOf; rw [hm, h0]

/-- No logit a number above −∞ and the greatest a number, or the greatest logit infinite: no probability is a number. -/
theorem top_infinite {n : ℕ} (x : Fin n → EReal) (h : topOf x = ⊥ ∨ topOf x = ⊤) : (∀ k, probOf x k = ⊥) ∧ padOf x = ⊥ := by
  refine mass_zero x fun k => ?_
  rcases h with h | h
  · have : x k = ⊥ := le_bot_iff.1 (h ▸ le_iSup x k)
    rw [this, exp_bot_sub]
  · rw [h, EReal.sub_top]
    rfl

theorem exp_real (t : ℝ) : Ideal.exp (t : EReal) = ((Real.exp t : ℝ) : EReal) := rfl

/-- The greatest logit a number: the probabilities are numbers from zero that add to one. -/
theorem top_real {n : ℕ} (hn : 0 < n) (x : Fin n → EReal) (hb : topOf x ≠ ⊥) (ht : topOf x ≠ ⊤) :
    (∀ k, 0 ≤ probOf x k) ∧ (∑ k, probOf x k) = 1 ∧ padOf x = 0 := by
  haveI : Nonempty (Fin n) := ⟨⟨0, hn⟩⟩
  obtain ⟨T, hT⟩ : ∃ T : ℝ, topOf x = (T : EReal) := ⟨(topOf x).toReal, (EReal.coe_toReal ht hb).symm⟩
  have hle : ∀ k, x k ≤ (T : EReal) := fun k => hT ▸ le_iSup x k
  have hex : ∀ k, ∃ e : ℝ, 0 ≤ e ∧ Ideal.exp (x k - topOf x) = (e : EReal) := fun k => by
    rw [hT]
    induction hx : x k using EReal.rec with
    | bot => exact ⟨0, le_rfl, by rw [exp_bot_sub]; rfl⟩
    | top => exact absurd (hx ▸ hle k) (not_le.2 (EReal.coe_lt_top T))
    | coe r => exact ⟨Real.exp (r - T), (Real.exp_pos _).le, by rw [← EReal.coe_sub]; rfl⟩
  choose e he0 he using hex
  obtain ⟨K, hK⟩ : ∃ K, x K = topOf x := exists_eq_ciSup_of_finite
  have heK : e K = 1 := by
    have h1 := he K
    rw [hK, hT, ← EReal.coe_sub, sub_self, exp_real, Real.exp_zero] at h1
    exact (EReal.coe_eq_coe_iff.1 h1).symm
  have hM : massOf x = ((∑ k, e k : ℝ) : EReal) := by
    unfold massOf
    rw [Finset.sum_congr rfl fun k _ => he k]
    exact (map_sum (⟨⟨fun r : ℝ => (r : EReal), EReal.coe_zero⟩, EReal.coe_add⟩ : ℝ →+ EReal) e Finset.univ).symm
  have hpos : 0 < ∑ k, e k := by
    have h1 : e K ≤ ∑ k, e k := Finset.single_le_sum (fun k _ => he0 k) (Finset.mem_univ K)
    rw [heK] at h1
    linarith
  have hp : ∀ k, probOf x k = ((e k / ∑ k, e k : ℝ) : EReal) := fun k => by
    unfold probOf
    rw [he k, hM]
    unfold Ideal.div
    rw [if_neg (by exact_mod_cast hpos.ne')]
    rw [div_eq_mul_inv, EReal.coe_mul, EReal.coe_inv]
  refine ⟨fun k => ?_, ?_, ?_⟩
  · rw [hp k]
    exact_mod_cast div_nonneg (he0 k) hpos.le
  · rw [Finset.sum_congr rfl fun k _ => hp k]
    refine (map_sum (⟨⟨fun r : ℝ => (r : EReal), EReal.coe_zero⟩, EReal.coe_add⟩ : ℝ →+ EReal) (fun k => e k / ∑ k, e k) Finset.univ).symm.trans ?_
    show ((∑ k, e k / ∑ k, e k : ℝ) : EReal) = 1
    rw [← Finset.sum_div, div_self hpos.ne']
    rfl
  · unfold padOf
    rw [hM]
    unfold Ideal.div
    rw [if_neg (by exact_mod_cast hpos.ne'), zero_mul]

/-! ## The padded list from the greatest is the list from the greatest, padded -/

variable {n N : ℕ} (h : n ≤ N) (p : Fin n → EReal) (a : EReal) (hlow : ∀ k, a ≤ p k)

/-- The order of the padded list that keeps the padding where it is. -/
def padOrder (π : Fin n → Fin n) (k : Fin N) : Fin N := if hk : k.val < n then ⟨(π ⟨k.val, hk⟩).val, lt_of_lt_of_le (π ⟨k.val, hk⟩).isLt h⟩ else k

theorem padOrder_injective (π : Fin n → Fin n) (hπ : Function.Injective π) : Function.Injective (padOrder h π) := fun i j hij => by
  have hv := congrArg Fin.val hij
  unfold padOrder at hv
  apply Fin.ext
  split at hv <;> split at hv
  · exact Fin.mk.inj_iff.1 (hπ (Fin.ext hv))
  · next h1 h2 => exact absurd (hv ▸ (π ⟨i.val, h1⟩).isLt) h2
  · next h1 h2 => exact absurd (hv ▸ (π ⟨j.val, h2⟩).isLt) h1
  · exact hv

include h hlow in
theorem sorted_padded (k : Fin N) :
    ext p a (order (fun i : Fin N => -ext p a i.val) k).val = list p a (order fun i => -p i) k.val := by
  have hneg : ∀ b c : EReal, -b ≤ -c ↔ c ≤ b := fun b c => EReal.neg_le_neg_iff
  have hπ := order_injective fun i => -p i
  have key := decreasing_unique (fun i : Fin N => ext p a i.val) (order fun i : Fin N => -ext p a i.val) (padOrder h (order fun i => -p i))
    (order_injective _) (padOrder_injective h _ hπ) (fun i j hij => ?_) (fun i j hij => ?_) k
  · refine key.trans ?_
    show ext p a (padOrder h _ k).val = ext _ a k.val
    unfold padOrder
    by_cases hk : k.val < n
    · rw [dif_pos hk, ext_in _ _ hk]
      exact ext_fin p a _
    · rw [dif_neg hk, ext_out _ _ (not_lt.1 hk), ext_out _ _ (not_lt.1 hk)]
  · rcases eq_or_lt_of_le hij with rfl | hlt
    · exact le_rfl
    · exact (hneg _ _).1 (order_spec (fun i : Fin N => -ext p a i.val) i j hlt).1
  · show ext p a (padOrder h _ j).val ≤ ext p a (padOrder h _ i).val
    unfold padOrder
    by_cases hj : j.val < n
    · have hi : i.val < n := lt_of_le_of_lt hij hj
      rw [dif_pos hj, dif_pos hi]
      refine le_of_eq_of_le (ext_fin p a _) (le_of_le_of_eq ?_ (ext_fin p a _).symm)
      rcases eq_or_lt_of_le hij with rfl | hlt
      · exact le_rfl
      · exact (hneg _ _).1 (order_spec (fun i => -p i) ⟨i.val, hi⟩ ⟨j.val, hj⟩ hlt).1
    · rw [dif_neg hj, ext_out _ _ (not_lt.1 hj)]
      by_cases hi : i.val < n
      · rw [dif_pos hi]
        exact le_of_le_of_eq (hlow _) (ext_fin p a _).symm
      · rw [dif_neg hi, ext_out _ _ (not_lt.1 hi)]

/-- From the greatest, an earlier place first where two are equal. -/
theorem order_greatest (i j : Fin n) (hij : i < j) :
    p ((order fun i => -p i) j) ≤ p ((order fun i => -p i) i)
      ∧ (p ((order fun i => -p i) i) = p ((order fun i => -p i) j) → (order fun i => -p i) i < (order fun i => -p i) j) :=
  ⟨EReal.neg_le_neg_iff.1 (order_spec (fun i => -p i) i j hij).1,
    fun e => (order_spec (fun i => -p i) i j hij).2 (congrArg (fun b : EReal => -b) e)⟩

end Cert.Proof.Draw

end
-- ==== Proof.KI.Token.lean ====
/-
  The token the idealised kernel stores: the sorted place of the first best score.
-/
module

public import proofs.«01_k».proof.Proof.KI.Lists
public import proofs.«01_k».proof.Proof.Draw.Softmax
public import proofs.«01_k».proof.Proof.Draw.Agree

@[expose] public section

noncomputable section

namespace Cert.KernelIdeal.Hand

open Cert.KernelIdeal Cert.KernelIdeal.Gen Cert.Proof.Cells Cert.Proof.Draw Cert.Proof.Probs
open Idealize.ShloMosaic Idealize.ShloMosaic.TcCoe

/-- The three lists, of one row of logits: sorted, and as they stand. -/
abbrev sortedOf {n : ℕ} (x : Fin n → EReal) : ℕ → EReal := list (probOf x) (padOf x) (order fun k => -probOf x k)

theorem low_of {n : ℕ} (hn : 0 < n) (x : Fin n → EReal) (k : Fin n) : padOf x ≤ probOf x k := by
  by_cases h : topOf x = ⊥ ∨ topOf x = ⊤
  · rw [(top_infinite x h).2]; exact bot_le
  · rw [not_or] at h
    obtain ⟨h0, _, ha⟩ := top_real hn x h.1 h.2
    rw [ha]; exact h0 k

theorem tame_of {n : ℕ} (hn : 0 < n) (x : Fin n → EReal) : (∀ j < 1048576, sortedOf x j ≠ ⊥ ∧ sortedOf x j ≠ ⊤) ∨ ∀ j < 1048576, sortedOf x j = ⊥ := by
  by_cases h : topOf x = ⊥ ∨ topOf x = ⊤
  · obtain ⟨hp, ha⟩ := top_infinite x h
    refine Or.inr fun j _ => ?_
    show ext _ _ j = ⊥
    by_cases hj : j < n
    · rw [ext_in _ _ hj]; exact hp _
    · rw [ext_out _ _ (not_lt.1 hj)]; exact ha
  · rw [not_or] at h
    obtain ⟨h0, h1, ha⟩ := top_real hn x h.1 h.2
    have hle : ∀ k, probOf x k ≤ 1 := fun k => h1 ▸ Finset.single_le_sum (fun i _ => h0 i) (Finset.mem_univ k)
    refine Or.inl fun j _ => ?_
    show ext _ _ j ≠ ⊥ ∧ ext _ _ j ≠ ⊤
    by_cases hj : j < n
    · rw [ext_in _ _ hj]
      exact ⟨(lt_of_lt_of_le EReal.bot_lt_zero (h0 _)).ne', (lt_of_le_of_lt (hle _) (EReal.coe_lt_top 1)).ne⟩
    · rw [ext_out _ _ (not_lt.1 hj), ha]
      exact ⟨EReal.zero_ne_bot, EReal.zero_ne_top⟩

/-- From the best position the sweep holds, the token. -/
theorem token_of {n M : ℕ} (hn : 0 < n) (hM : n ≤ M) (hM' : M ≤ 1048575 + 1) (x : Fin n → EReal) (g : Fin n → EReal) (hg : ∀ j, never < g j)
    (f2 f3 : EReal) (i1 : BitVec 32)
    (hB : Best (scoreAt (firstWord M (sortedOf x)) (BitVec.ofNat 32 (countWord M (sortedOf x))) (sortedOf x) (ext g never)) (sortedOf x) M f2 f3 i1)
    (J : ℕ) (hJ : First n (refScore n (sortedOf x) (ext g never)) J) :
    kernelToken M (ext (probOf x) (padOf x)) f3 i1 = ((order fun k => -probOf x k) ⟨J, hJ.1⟩).val := by
  by_cases h : topOf x = ⊥ ∨ topOf x = ⊤
  · obtain ⟨hp, ha⟩ := top_infinite x h
    exact agree_bot numbers hn hM hM' (probOf x) g (padOf x) never _ (order_greatest (probOf x)) hp ha f2 f3 i1 hB J hJ
  · rw [not_or] at h
    obtain ⟨h0, h1, ha⟩ := top_real hn x h.1 h.2
    unfold sortedOf at hB hJ
    rw [ha] at hB
    have hJ' := hJ
    rw [ha] at hJ'
    obtain ⟨e3, e1⟩ := best_real numbers hn hM hM' (probOf x) g never _ (order_injective fun k => -probOf x k) h0 h1 hg never_ne f2 f3 i1 hB J hJ'
    rw [ha, e3, e1]
    exact token_real hM hM' (probOf x) _ (order_injective fun k => -probOf x k) (order_greatest (probOf x)) h0 ⟨J, hJ'.1⟩

variable (m : (ℓ : Loc nD τ sig) → Buf (Elt Ideal) ℓ) {outs : Outs (F := Ideal)} (hL : Leaves m outs)

theorem probs_ext (c : Dev nD) : probs m c = fun k => ext (probOf (logits m c)) (padOf (logits m c)) k.val :=
  funext fun k => probOf_padded_ext (by norm_num) (logits m c) k

include hL in
theorem kernel_token (c : Dev nD) (hg : ∀ j, never < noiseOf m outs c j) (J : ℕ)
    (hJ : First 1000000 (refScore 1000000 (sortedOf (logits m c)) (ext (noiseOf m outs c) never)) J) :
    outs 11 main_v20 c = fun _ => BitVec.ofNat 32 ((order fun k => -probOf (logits m c) k) ⟨J, hJ.1⟩).val := by
  have hS : ∀ k : Fin 1048576, flatten (E2 m outs c main_v9) k = sortedOf (logits m c) k.val := fun k => by
    refine (congrFun (listS_eq m hL c) k).trans ?_
    unfold sortedPlace
    rw [probs_ext]
    exact sorted_padded (by norm_num) _ _ (low_of (by norm_num) (logits m c)) k
  have hP : ∀ k : Fin 1048576, flatten (E2 m outs c main_v4) k = ext (probOf (logits m c)) (padOf (logits m c)) k.val := fun k =>
    (congrFun (listP_eq m hL c) k).trans (congrFun (probs_ext m c) k)
  have hF := fed (E2 m outs) c (sortedOf (logits m c)) (ext (noiseOf m outs c) never) (ext (probOf (logits m c)) (padOf (logits m c))) hS
    (listG_eq m c) hP (tame_of (by norm_num) (logits m c))
  obtain ⟨f2, f3, i1, hB, ht⟩ := token hF
  rw [hL.l2 c, token_value]
  funext j
  refine ht.trans (congrArg (BitVec.ofNat 32) ?_)
  exact token_of (M := 8 * 131072) (by norm_num) (by norm_num) (by norm_num) (logits m c) (noiseOf m outs c) hg f2 f3 i1 hB J hJ

end Cert.KernelIdeal.Hand

end
-- ==== Proof.R2I.Result.lean ====
/-
  The softmax reference over the extended reals: its run, and its result, the logits' probabilities.
-/
module

public import proofs.«01_k».proof.Proof.Gen.Reference2Ideal
public import proofs.«01_k».proof.Proof.Gen.Reference2Ideal.Run
public import proofs.«01_k».proof.Proof.Gen.Reference2Ideal.Read
public import proofs.«01_k».proof.Proof.Probs
public import Idealize.ShloMosaic.Lib.ValueIdxCore
public import Idealize.ShloMosaic.Lib.IdealHost
public import Idealize.ShloMosaic.Lib.Quiescent

@[expose] public section

set_option maxRecDepth 16384

noncomputable section

namespace Cert.Reference2Ideal.Hand

open Cert.Reference2Ideal Cert.Reference2Ideal.Gen Cert.Reference2Ideal.Read Cert.Proof.Probs
open Idealize.ShloMosaic Idealize.ShloMosaic.TcCoe Idealize.SL.Sem

variable (x0 : S1x1000000.Idx → Ideal .f32)

/-- The logits. -/
def row (k : Fin 1000000) : EReal := x0 (ValueIdx.ix2 (n0 := 1) (n1 := 1000000) 0 k)

theorem one_eq : (FloatOps.ofBits .f32 0x3F800000#32 : Ideal .f32) = (1 : EReal) := Ideal.ofBits_one_f32
theorem neg_inf : (FloatOps.ofBits .f32 0xFF800000#32 : Ideal .f32) = (⊥ : EReal) := by
  show Ideal.ofBits .f32 0xFF800000#32 = ⊥
  simp [Ideal.ofBits, Ideal.ieee]
theorem div_one (a : EReal) : Ideal.div a 1 = a := by
  unfold Ideal.div; simp

theorem v1_eq (j : S1x1000000.Idx) : val_main_v1 (F := Ideal) x0 j = x0 j := by
  rw [val_main_v1_apply, val_main_v0_apply, val_main_cst_apply, one_eq]
  exact div_one _

theorem fold_max_bot {ι : Type} (S : Finset ι) (f : ι → Ideal .f32) (b : Ideal .f32) (hb : b = (⊥ : EReal)) :
    S.fold FloatOps.maximumf b f = S.sup (α := EReal) f := by
  rw [hb]; rfl

theorem eq_row (j : S1x1000000.Idx) : j = ValueIdx.ix2 (n0 := 1) (n1 := 1000000) 0 (j 1) := by
  funext a
  match a with
  | ⟨0, _⟩ => exact Fin.ext (by have := ValueIdx.idx2_lt0 j; show (j 0).val = 0; omega)
  | ⟨1, _⟩ => rfl

theorem v2_eq (i : S1.Idx) : (val_main_v2 (F := Ideal) x0 i : EReal) = topOf (row x0) := by
  unfold val_main_v2
  rw [Host.reduce_eq_fold, Finset.filter_true_of_mem fun j _ => funext fun b => Fin.ext (by
    have := (reducesTo_S1x1000000_S1_d1.drop j b).isLt; have := (i b).isLt; have : S1.size b = 1 := (by decide : ∀ b, S1.size b = 1) b
    omega), fold_max_bot _ _ (val_main_cst_0 (F := Ideal) (Shape.Idx.first h_S_)) neg_inf, Finset.sup_univ_eq_iSup]
  unfold topOf
  refine le_antisymm (iSup_le fun j => ?_) (iSup_le fun k => ?_)
  · rw [v1_eq, eq_row j]
    exact le_iSup (row x0) (j 1)
  · refine (v1_eq x0 (ValueIdx.ix2 (n0 := 1) (n1 := 1000000) 0 k)).ge.trans ?_
    exact le_iSup (fun j => (val_main_v1 (F := Ideal) x0 j : EReal)) _

theorem v4_eq (i : S1.Idx) : (val_main_v4 (F := Ideal) x0 i : EReal) = topOf (row x0) := by
  rw [val_main_v4_apply, val_main_v3_apply, val_main_cst_1_apply, v2_eq, neg_inf]
  exact max_eq_right bot_le

theorem v8_eq (j : S1x1000000.Idx) : (val_main_v8 (F := Ideal) x0 j : EReal) = Ideal.exp (x0 j - topOf (row x0)) := by
  rw [val_main_v8_apply, val_main_v7_apply, val_main_v6_apply, val_main_v5_apply, v4_eq, v1_eq]
  rfl

theorem v9_eq (i : S1.Idx) : (val_main_v9 (F := Ideal) x0 i : EReal) = massOf (row x0) := by
  rw [val_main_v9_apply]
  have h0 : (val_main_cst_2 (F := Ideal) (Shape.Idx.first h_S_) : EReal) = 0 := by
    show Ideal.ofBits .f32 0x00000000#32 = 0
    simp [Ideal.ofBits, Ideal.ieee]
  rw [h0]
  refine (zero_add _).trans (Finset.sum_congr rfl fun k _ => ?_)
  rw [v8_eq, eq_row (idx_main_v9 i k)]
  rfl

/-- The result at any index. -/
theorem result_value : val_main_v12 (F := Ideal) x0 = fun j : S1x1000000.Idx => (probOf (row x0) (j 1) : EReal) := by
  funext j
  rw [val_main_v12_apply, val_main_v11_apply, val_main_v10_apply, v8_eq, v9_eq]
  conv_lhs => rw [eq_row j]
  rfl

/-- The run: the result, the argument unchanged, no semaphore raised. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
        r.2.mem ((c.tc : Thread nD τ).loc main_v12)
          = (fun j : S1x1000000.Idx => (probOf (row (m ((c.tc : Thread nD τ).loc main_arg0))) (j 1) : EReal))
        ∧ r.2.mem ((c.tc : Thread nD τ).loc main_arg0) = m ((c.tc : Thread nD τ).loc main_arg0))
      ∧ r.2.sem = fun _ => 0 :=
  (θ_run _ _ _).mono (fun r h => ⟨fun c => ⟨(h c).1.trans ((val_main_v12_eq _).trans (result_value _)), (h c).2⟩,
    sem_eq_zero_of_no_sems (by decide) r.2⟩) (Cert.Reference2Ideal.Value.run m ρ)

end Cert.Reference2Ideal.Hand

end
-- ==== Proof.RI.Read.lean ====
/-
  The reference's arrays, stretch by stretch: what each stretch of its operations leaves, from what it found.
-/
module

public import proofs.«01_k».proof.Proof.RI.Run
public import proofs.«01_k».proof.Proof.R2I.Result

@[expose] public section

set_option maxRecDepth 65536
set_option maxHeartbeats 4000000

noncomputable section

namespace Cert.ReferenceIdeal.Hand

open Cert.ReferenceIdeal Cert.ReferenceIdeal.Gen
open Idealize.ShloMosaic Idealize.ShloMosaic.TcCoe Idealize.ShloMosaic.Tactic

/-- A core's arrays. -/
abbrev Arrays : Type := Valuation τ sig (Elt Ideal)

/-! ## The stretches -/

variable {F : FTy → Type} [FloatOps F]

def softOps : List (HloOp τ sig (Elt F)) :=
  [ StableHlo.nullary main_cst (constant S_ .f32 0x3F800000#32),
    StableHlo.unary main_cst main_v0 (broadcastInDim S1x1000000 ![] bcast_S_S1x1000000 : (⟨S_, .f32⟩ : BufTy).Contents (Elt F) → (⟨S1x1000000, .f32⟩ : BufTy).Contents (Elt F)),
    StableHlo.binary main_arg0 main_v0 main_v1 (Host.divf : (⟨S1x1000000, .f32⟩ : BufTy).Contents (Elt F) → (⟨S1x1000000, .f32⟩ : BufTy).Contents (Elt F) → (⟨S1x1000000, .f32⟩ : BufTy).Contents (Elt F)),
    StableHlo.nullary main_cst_0 (constant S_ .f32 0xFF800000#32),
    StableHlo.binary main_v1 main_cst_0 main_v2 ((fun x v => Host.reduce FloatOps.maximumf x v reducesTo_S1x1000000_S1_d1 h_S_) : (⟨S1x1000000, .f32⟩ : BufTy).Contents (Elt F) → (⟨S_, .f32⟩ : BufTy).Contents (Elt F) → (⟨S1, .f32⟩ : BufTy).Contents (Elt F)),
    StableHlo.nullary main_cst_1 (constant S_ .f32 0xFF800000#32),
    StableHlo.unary main_cst_1 main_v3 (broadcastInDim S1 ![] bcast_S_S1 : (⟨S_, .f32⟩ : BufTy).Contents (Elt F) → (⟨S1, .f32⟩ : BufTy).Contents (Elt F)),
    StableHlo.binary main_v3 main_v2 main_v4 (maximumf : (⟨S1, .f32⟩ : BufTy).Contents (Elt F) → (⟨S1, .f32⟩ : BufTy).Contents (Elt F) → (⟨S1, .f32⟩ : BufTy).Contents (Elt F)),
    StableHlo.unary main_v4 main_v5 (broadcastInDim S1x1 ![0] bcast_S1_S1x1_0 : (⟨S1, .f32⟩ : BufTy).Contents (Elt F) → (⟨S1x1, .f32⟩ : BufTy).Contents (Elt F)),
    StableHlo.unary main_v5 main_v6 (broadcastInDim S1x1000000 ![0, 1] bcast_S1x1_S1x1000000_0_1 : (⟨S1x1, .f32⟩ : BufTy).Contents (Elt F) → (⟨S1x1000000, .f32⟩ : BufTy).Contents (Elt F)),
    StableHlo.binary main_v1 main_v6 main_v7 (subf : (⟨S1x1000000, .f32⟩ : BufTy).Contents (Elt F) → (⟨S1x1000000, .f32⟩ : BufTy).Contents (Elt F) → (⟨S1x1000000, .f32⟩ : BufTy).Contents (Elt F)),
    StableHlo.unary main_v7 main_v8 (Host.exp : (⟨S1x1000000, .f32⟩ : BufTy).Contents (Elt F) → (⟨S1x1000000, .f32⟩ : BufTy).Contents (Elt F)),
    StableHlo.nullary main_cst_2 (constant S_ .f32 0x00000000#32),
    StableHlo.binary main_v8 main_cst_2 main_v9 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F)),
    StableHlo.unary main_v9 main_v10 (broadcastInDim S1x1 ![0] bcast_S1_S1x1_0 : (⟨S1, .f32⟩ : BufTy).Contents (Elt F) → (⟨S1x1, .f32⟩ : BufTy).Contents (Elt F)),
    StableHlo.unary main_v10 main_v11 (broadcastInDim S1x1000000 ![0, 1] bcast_S1x1_S1x1000000_0_1 : (⟨S1x1, .f32⟩ : BufTy).Contents (Elt F) → (⟨S1x1000000, .f32⟩ : BufTy).Contents (Elt F)),
    StableHlo.binary main_v8 main_v11 main_v12 (Host.divf : (⟨S1x1000000, .f32⟩ : BufTy).Contents (Elt F) → (⟨S1x1000000, .f32⟩ : BufTy).Contents (Elt F) → (⟨S1x1000000, .f32⟩ : BufTy).Contents (Elt F)),
    StableHlo.unary main_v12 main_v13 (Host.negf : (⟨S1x1000000, .f32⟩ : BufTy).Contents (Elt F) → (⟨S1x1000000, .f32⟩ : BufTy).Contents (Elt F)) ]
def limitOps : List (HloOp τ sig (Elt F)) :=
  [ StableHlo.nullary main_cst_3 (constant S_ .f32 0x3F2AAAAB#32),
    StableHlo.unary main_cst_3 main_v17 (broadcastInDim S1x1000000 ![] bcast_S_S1x1000000 : (⟨S_, .f32⟩ : BufTy).Contents (Elt F) → (⟨S1x1000000, .f32⟩ : BufTy).Contents (Elt F)),
    StableHlo.binary main_v16 main_v17 main_v18 (cmpf .ogt : (⟨S1x1000000, .f32⟩ : BufTy).Contents (Elt F) → (⟨S1x1000000, .f32⟩ : BufTy).Contents (Elt F) → (⟨S1x1000000, .i1⟩ : BufTy).Contents (Elt F)),
    StableHlo.nullary main_cst_4 (constant S_ .f32 0x00000000#32) ]
def sumOps : List (HloOp τ sig (Elt F)) :=
  [ StableHlo.nullary main_cst_5 (constant S_ .f32 0x00000000#32),
    StableHlo.binary main_v19 main_cst_5 main_v20 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F)),
    StableHlo.unary main_v20 main_v21 (broadcastInDim S1x1 ![0] bcast_S1_S1x1_0 : (⟨S1, .f32⟩ : BufTy).Contents (Elt F) → (⟨S1x1, .f32⟩ : BufTy).Contents (Elt F)),
    StableHlo.nullary main_cst_6 (constant S_ .f32 0x2EDBE6FF#32) ]
def logOps : List (HloOp τ sig (Elt F)) :=
  [ StableHlo.unary main_v22 main_v23 (broadcastInDim S1x1000000 ![0, 1] bcast_S1x1_S1x1000000_0_1 : (⟨S1x1, .f32⟩ : BufTy).Contents (Elt F) → (⟨S1x1000000, .f32⟩ : BufTy).Contents (Elt F)),
    StableHlo.binary main_v19 main_v23 main_v24 (Host.divf : (⟨S1x1000000, .f32⟩ : BufTy).Contents (Elt F) → (⟨S1x1000000, .f32⟩ : BufTy).Contents (Elt F) → (⟨S1x1000000, .f32⟩ : BufTy).Contents (Elt F)),
    StableHlo.nullary main_c (constantI S_ 32 42#32),
    StableHlo.nullary main_c_7 (constantI S_ 32 32#32),
    StableHlo.binary main_c main_c_7 main_v25 (Host.shrui : (⟨S_, .i32⟩ : BufTy).Contents (Elt F) → (⟨S_, .i32⟩ : BufTy).Contents (Elt F) → (⟨S_, .i32⟩ : BufTy).Contents (Elt F)),
    StableHlo.unary main_v25 main_v26 (id : (⟨S_, .i32⟩ : BufTy).Contents (Elt F) → (⟨S_, .i32⟩ : BufTy).Contents (Elt F)),
    StableHlo.unary main_v26 main_v27 (broadcastInDim S1 ![] bcast_S_S1 : (⟨S_, .i32⟩ : BufTy).Contents (Elt F) → (⟨S1, .i32⟩ : BufTy).Contents (Elt F)),
    StableHlo.nullary main_c_8 (constantI S_ 32 4294967295#32),
    StableHlo.binary main_c main_c_8 main_v28 (andi : (⟨S_, .i32⟩ : BufTy).Contents (Elt F) → (⟨S_, .i32⟩ : BufTy).Contents (Elt F) → (⟨S_, .i32⟩ : BufTy).Contents (Elt F)),
    StableHlo.unary main_v28 main_v29 (id : (⟨S_, .i32⟩ : BufTy).Contents (Elt F) → (⟨S_, .i32⟩ : BufTy).Contents (Elt F)),
    StableHlo.unary main_v29 main_v30 (broadcastInDim S1 ![] bcast_S_S1 : (⟨S_, .i32⟩ : BufTy).Contents (Elt F) → (⟨S1, .i32⟩ : BufTy).Contents (Elt F)),
    StableHlo.binary main_v27 main_v30 main_v31 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_9 (constant S_ .f32 0x2EDBE6FF#32),
    StableHlo.unary main_cst_9 main_v32 (broadcastInDim S1x1000000 ![] bcast_S_S1x1000000 : (⟨S_, .f32⟩ : BufTy).Contents (Elt F) → (⟨S1x1000000, .f32⟩ : BufTy).Contents (Elt F)),
    StableHlo.binary main_v24 main_v32 main_v33 (addf : (⟨S1x1000000, .f32⟩ : BufTy).Contents (Elt F) → (⟨S1x1000000, .f32⟩ : BufTy).Contents (Elt F) → (⟨S1x1000000, .f32⟩ : BufTy).Contents (Elt F)),
    StableHlo.unary main_v33 main_v34 (Host.log : (⟨S1x1000000, .f32⟩ : BufTy).Contents (Elt F) → (⟨S1x1000000, .f32⟩ : BufTy).Contents (Elt F)) ]
def scoreOps : List (HloOp τ sig (Elt F)) :=
  [ StableHlo.binary main_v35 main_v34 main_v36 (addf : (⟨S1x1000000, .f32⟩ : BufTy).Contents (Elt F) → (⟨S1x1000000, .f32⟩ : BufTy).Contents (Elt F) → (⟨S1x1000000, .f32⟩ : BufTy).Contents (Elt F)) ]
def placeOps : List (HloOp τ sig (Elt F)) :=
  [ StableHlo.unary main_v37 main_v38 (broadcastInDim S1x1 ![0] bcast_S1_S1x1_0 : (⟨S1, .i32⟩ : BufTy).Contents (Elt F) → (⟨S1x1, .i32⟩ : BufTy).Contents (Elt F)) ]
def resultOps : List (HloOp τ sig (Elt F)) :=
  [ StableHlo.reshape main_v39 main_v40 (rfl : (.i32 : EltTy) = .i32) shapeCasts_S1x1_S1 ]

theorem mainOps_split : mainOps (F := Ideal) = softOps ++ (argsortOps (.of main_v13) main_call0 ++ (
    take_along_axisOps (.of main_v12) (.of main_v14) main_call1 ++ (cumsumOps (.of main_v15) main_call2 ++ (limitOps ++ (
    whereOps (.of main_v18) (.of main_cst_4) (.of main_v15) main_call3 ++ (sumOps ++ (clipOps (.of main_v21) (.of main_cst_6) main_call4 ++ (
    logOps ++ (gumbelOps (.of main_v31) main_call5 ++ (scoreOps ++ (argmaxOps (.of main_v36) main_call6 ++ (placeOps ++ (
    take_along_axis_1Ops (.of main_v14) (.of main_v38) main_call7 ++ resultOps))))))))))))) := rfl

/-! ## What each leaves -/

theorem read_soft (W : Arrays) : @Eq (FVec Ideal S1x1000000 .f32) (StableHlo.after (softOps (F := Ideal)) W main_v12)
    (Cert.Reference2Ideal.Read.val_main_v12 (F := Ideal) (W main_arg0 : FVec Ideal S1x1000000 .f32)) := by
  unfold softOps
  after_results
  rfl

theorem read_negated (W : Arrays) : @Eq (FVec Ideal S1x1000000 .f32) (StableHlo.after (softOps (F := Ideal)) W main_v13)
    (Host.negf (F := Ideal) (φ := .f32) (Cert.Reference2Ideal.Read.val_main_v12 (F := Ideal) (W main_arg0 : FVec Ideal S1x1000000 .f32))) := by
  unfold softOps
  after_results
  rfl

theorem read_sort (W : Arrays) : @Eq (IVec S1x1000000 32) (StableHlo.after (argsortOps (.of main_v13) main_call0) W main_v14)
    (Host.sort2 S1x1000000 1 (comparator_f32_i32_d1 (F := Ideal)) (W main_v13 : FVec Ideal S1x1000000 .f32) (iotaInDim S1x1000000 32 1)).2 := by
  unfold argsortOps
  after_results
  rfl

/-- The places, those below zero counted from the end. -/
def wrapped (i : IVec S1x1000000 32) : IVec S1x1000000 32 :=
  select (cmpi .slt i (broadcastInDim S1x1000000 ![] bcast_S_S1x1000000 (constantI S_ 32 0#32)))
    (addi i (broadcastInDim S1x1000000 ![] bcast_S_S1x1000000 (constantI S_ 32 1000000#32))) i
/-- The same as a column. -/
def column (i : IVec S1x1000000 32) : IVec S1000000x1 32 := shapeCast S1000000x1 (wrapped i) shapeCasts_S1x1000000_S1000000x1
/-- Which places lie inside the row. -/
def inside (i : IVec S1000000x1 32) : IVec S1000000x1 1 :=
  andi (cmpi .sge i (broadcastInDim S1000000x1 ![] bcast_S_S1000000x1 (constantI S_ 32 0#32)))
    (cmpi .sle i (broadcastInDim S1000000x1 ![0, 1] bcast_S1x1_S1000000x1_0_1 (broadcastInDim S1x1 ![1] bcast_S1_S1x1_1 (constantI S1 32 999999#32))))

/-- What is taken of a row at a column of places. -/
def takenAt (x : FVec Ideal S1x1000000 .f32) (i : IVec S1000000x1 32) : FVec Ideal S1x1000000 .f32 :=
  select (broadcastInDim S1x1000000 ![1] bcast_S1000000_S1x1000000_1
        (Host.reduce IntOp.andi (inside i) (constantI S_ 1 1#1) reducesTo_S1000000x1_S1000000_d1 h_S_))
      (Host.gather gather_S1x1000000_S1000000x1_S1x1000000_0_1_n_n_1_1_11 x i)
      (broadcastInDim S1x1000000 ![] bcast_S_S1x1000000 (constant S_ .f32 0x7FC00000#32))

/-- The first operations of the taking: the column of places. -/
def takeColumnOps {F : FTy → Type} [FloatOps F] : List (HloOp τ sig (Elt F)) :=
  [ StableHlo.TRef.nullary main_call1.c (constantI S_ 32 0#32),
    StableHlo.TRef.unary main_call1.c main_call1.v0 (broadcastInDim S1x1000000 ![] bcast_S_S1x1000000),
    StableHlo.TRef.binary (.of main_v14 : StableHlo.TRef sig ⟨S1x1000000, .i32⟩) main_call1.v0 main_call1.v1 (cmpi .slt),
    StableHlo.TRef.nullary main_call1.c_0 (constantI S_ 32 1000000#32),
    StableHlo.TRef.unary main_call1.c_0 main_call1.v2 (broadcastInDim S1x1000000 ![] bcast_S_S1x1000000),
    StableHlo.TRef.binary (.of main_v14 : StableHlo.TRef sig ⟨S1x1000000, .i32⟩) main_call1.v2 main_call1.v3 addi,
    StableHlo.TRef.ternary main_call1.v1 main_call1.v3 (.of main_v14 : StableHlo.TRef sig ⟨S1x1000000, .i32⟩) main_call1.v4 select,
    StableHlo.TRef.reshape main_call1.v4 main_call1.v5 (rfl : (.i32 : EltTy) = .i32) shapeCasts_S1x1000000_S1000000x1 ]
/-- The rest of them: the taking itself. -/
def takeRestOps {F : FTy → Type} [FloatOps F] : List (HloOp τ sig (Elt F)) :=
  [ StableHlo.TRef.nullary main_call1.c_1 (constantI S1 32 999999#32),
    StableHlo.TRef.nullary main_call1.c_2 (constantI S_ 32 0#32),
    StableHlo.TRef.unary main_call1.c_2 main_call1.v6 (broadcastInDim S1000000x1 ![] bcast_S_S1000000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S1000000x1 ![0, 1] bcast_S1x1_S1000000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1000000x1_S1000000_d1 h_S_),
    StableHlo.TRef.binary (.of main_v12 : StableHlo.TRef sig ⟨S1x1000000, .f32⟩) main_call1.v5 main_call1.v13 (fun x i => Host.gather gather_S1x1000000_S1000000x1_S1x1000000_0_1_n_n_1_1_11 x i),
    StableHlo.TRef.unary main_call1.v12 main_call1.v14 (broadcastInDim S1x1000000 ![1] bcast_S1000000_S1x1000000_1),
    StableHlo.TRef.nullary main_call1.cst (constant S_ .f32 0x7FC00000#32),
    StableHlo.TRef.unary main_call1.cst main_call1.v15 (broadcastInDim S1x1000000 ![] bcast_S_S1x1000000),
    StableHlo.TRef.ternary main_call1.v14 main_call1.v13 main_call1.v15 main_call1.v16 select ]
theorem take_split {F : FTy → Type} [FloatOps F] :
    take_along_axisOps (F := F) (.of main_v12) (.of main_v14) main_call1 = takeColumnOps ++ takeRestOps := rfl

theorem read_column (W : Arrays) : @Eq (IVec S1000000x1 32) (StableHlo.after (takeColumnOps (F := Ideal)) W main_call1_v5)
    (column (W main_v14 : IVec S1x1000000 32)) := by
  unfold takeColumnOps
  after_results
  rfl
theorem column_keeps (W : Arrays) : StableHlo.after (takeColumnOps (F := Ideal)) W main_v12 = W main_v12 := by
  refine StableHlo.after_of_forall_not_mem _ _ (List.forall_iff_forall_mem.mp ?_)
  simp only [takeColumnOps, List.forall_cons]
  repeat' apply And.intro
  all_goals first | exact trivial | decide
theorem read_rest (W : Arrays) : @Eq (FVec Ideal S1x1000000 .f32) (StableHlo.after (takeRestOps (F := Ideal)) W main_v15)
    (takenAt (W main_v12 : FVec Ideal S1x1000000 .f32) (W main_call1_v5 : IVec S1000000x1 32)) := by
  unfold takeRestOps takenAt inside
  after_results
  simp only [StableHlo.TRef.ofBuf_toBuf]
  refine (cast_eq rfl _).trans ?_
  rfl

theorem read_taken (W : Arrays) : @Eq (FVec Ideal S1x1000000 .f32) (StableHlo.after (take_along_axisOps (.of main_v12) (.of main_v14) main_call1) W main_v15)
    (takenAt (W main_v12 : FVec Ideal S1x1000000 .f32) (column (W main_v14 : IVec S1x1000000 32))) := by
  rw [take_split, StableHlo.after_append]
  refine (read_rest _).trans ?_
  rw [column_keeps]
  exact congrArg (takenAt (W main_v12 : FVec Ideal S1x1000000 .f32)) (read_column W)

theorem read_running (W : Arrays) : @Eq (FVec Ideal S1x1000000 .f32) (StableHlo.after (cumsumOps (.of main_v15) main_call2) W main_v16)
    (Host.reduceWindowAdd (F := Ideal) (φ := .f32) ![1, 1000000] ![1, 1] ![0, 999999] ![0, 0] (W main_v15 : FVec Ideal S1x1000000 .f32)
      (broadcastInDim S_ ![] bcast_S_S_ (constant S_ .f32 0x00000000#32)) reduceWindows_S1x1000000_S1x1000000_w1s1p0_0_w1000000s1p999999_0 h_S_) := by
  unfold cumsumOps cumsum_0Ops
  simp only [List.append_nil]
  after_results
  rfl

theorem read_limit (W : Arrays) : @Eq (IVec S1x1000000 1) (StableHlo.after (limitOps (F := Ideal)) W main_v18)
    (cmpf (F := Ideal) (φ := .f32) .ogt (W main_v16 : FVec Ideal S1x1000000 .f32) (broadcastInDim S1x1000000 ![] bcast_S_S1x1000000 (constant S_ .f32 0x3F2AAAAB#32))) := by
  unfold limitOps
  after_results
theorem read_none (W : Arrays) : @Eq (FVec Ideal S_ .f32) (StableHlo.after (limitOps (F := Ideal)) W main_cst_4) (constant S_ .f32 0x00000000#32) := by
  unfold limitOps
  after_results

theorem read_kept (W : Arrays) : @Eq (FVec Ideal S1x1000000 .f32) (StableHlo.after (whereOps (.of main_v18) (.of main_cst_4) (.of main_v15) main_call3) W main_v19)
    (select (W main_v18 : IVec S1x1000000 1) (broadcastInDim S1x1000000 ![] bcast_S_S1x1000000 (W main_cst_4 : FVec Ideal S_ .f32)) (W main_v15 : FVec Ideal S1x1000000 .f32)) := by
  unfold whereOps
  after_results
  rfl

theorem read_sum (W : Arrays) : @Eq (FVec Ideal S1x1 .f32) (StableHlo.after (sumOps (F := Ideal)) W main_v21)
    (broadcastInDim S1x1 ![0] bcast_S1_S1x1_0 (Host.reduceAdd (F := Ideal) (φ := .f32) (W main_v19 : FVec Ideal S1x1000000 .f32) (constant S_ .f32 0x00000000#32) reducesTo_S1x1000000_S1_d1 h_S_)) := by
  unfold sumOps
  after_results
theorem read_least (W : Arrays) : @Eq (FVec Ideal S_ .f32) (StableHlo.after (sumOps (F := Ideal)) W main_cst_6) (constant S_ .f32 0x2EDBE6FF#32) := by
  unfold sumOps
  after_results

theorem read_clip (W : Arrays) : @Eq (FVec Ideal S1x1 .f32) (StableHlo.after (clipOps (.of main_v21) (.of main_cst_6) main_call4) W main_v22)
    (maximumf (F := Ideal) (φ := .f32) (broadcastInDim S1x1 ![] bcast_S_S1x1 (W main_cst_6 : FVec Ideal S_ .f32)) (W main_v21 : FVec Ideal S1x1 .f32)) := by
  unfold clipOps
  after_results
  rfl

theorem read_log (W : Arrays) : @Eq (FVec Ideal S1x1000000 .f32) (StableHlo.after (logOps (F := Ideal)) W main_v34)
    (Host.log (F := Ideal) (φ := .f32) (addf (F := Ideal) (φ := .f32) (Host.divf (F := Ideal) (φ := .f32) (W main_v19 : FVec Ideal S1x1000000 .f32)
        (broadcastInDim S1x1000000 ![0, 1] bcast_S1x1_S1x1000000_0_1 (W main_v22 : FVec Ideal S1x1 .f32)))
      (broadcastInDim S1x1000000 ![] bcast_S_S1x1000000 (constant S_ .f32 0x2EDBE6FF#32)))) := by
  unfold logOps
  after_results

/-- The key the noise is drawn with. -/
def theKey : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

theorem read_key (W : Arrays) : @Eq (IVec S2 32) (StableHlo.after (logOps (F := Ideal)) W main_v31) theKey := by
  unfold logOps theKey
  after_results
  rfl

theorem read_score (W : Arrays) : @Eq (FVec Ideal S1x1000000 .f32) (StableHlo.after (scoreOps (F := Ideal)) W main_v36)
    (addf (F := Ideal) (φ := .f32) (W main_v35 : FVec Ideal S1x1000000 .f32) (W main_v34 : FVec Ideal S1x1000000 .f32)) := by
  unfold scoreOps
  after_results

theorem read_argmax (W : Arrays) : @Eq (IVec S1 32) (StableHlo.after (argmaxOps (.of main_v36) main_call6) W main_v37)
    (fun j => (Host.argReduce (F := Ideal) (reducer_argmax_f32_i32 (F := Ideal)) (W main_v36 : FVec Ideal S1x1000000 .f32) (iotaInDim S1x1000000 32 1)
      (constant S_ .f32 0xFF800000#32) (constantI S_ 32 0#32) reducesTo_S1x1000000_S1_d1 h_S_ j).2) := by
  unfold argmaxOps
  after_results
  rfl

theorem read_place (W : Arrays) : @Eq (IVec S1x1 32) (StableHlo.after (placeOps (F := Ideal)) W main_v38) (broadcastInDim S1x1 ![0] bcast_S1_S1x1_0 (W main_v37 : IVec S1 32)) := by
  unfold placeOps
  after_results

/-- The one place, counted from the end if below zero. -/
def wrapped1 (i : IVec S1x1 32) : IVec S1x1 32 :=
  select (cmpi .slt i (broadcastInDim S1x1 ![] bcast_S_S1x1 (constantI S_ 32 0#32)))
    (addi i (broadcastInDim S1x1 ![] bcast_S_S1x1 (constantI S_ 32 1000000#32))) i
/-- Whether it lies inside the row. -/
def inside1 (i : IVec S1x1 32) : IVec S1x1 1 :=
  andi (cmpi .sge i (broadcastInDim S1x1 ![] bcast_S_S1x1 (constantI S_ 32 0#32)))
    (cmpi .sle i (broadcastInDim S1x1 ![1] bcast_S1_S1x1_1 (constantI S1 32 999999#32)))

theorem read_chosen (W : Arrays) : @Eq (IVec S1x1 32) (StableHlo.after (take_along_axis_1Ops (.of main_v14) (.of main_v38) main_call7) W main_v39)
    (select (broadcastInDim S1x1 ![1] bcast_S1_S1x1_1
        (Host.reduce IntOp.andi (inside1 (wrapped1 (W main_v38 : IVec S1x1 32))) (constantI S_ 1 1#1) reducesTo_S1x1_S1_d1 h_S_))
      (Host.gather gather_S1x1000000_S1x1_S1x1_0_1_n_n_1_1_11 (W main_v14 : IVec S1x1000000 32) (wrapped1 (W main_v38 : IVec S1x1 32)))
      (broadcastInDim S1x1 ![] bcast_S_S1x1 (constantI S_ 32 2147483648#32))) := by
  unfold take_along_axis_1Ops
  after_results
  rfl

theorem read_result (W : Arrays) : @Eq (IVec S1 32) (StableHlo.after (resultOps (F := Ideal)) W main_v40) (shapeCast S1 (W main_v39 : IVec S1x1 32) shapeCasts_S1x1_S1) := by
  unfold resultOps
  after_results
  rfl

/-! ## What each leaves alone -/

theorem sort_keeps (W : Arrays) : StableHlo.after (argsortOps (F := Ideal) (.of main_v13) main_call0) W main_v12 = W main_v12 := by
  refine StableHlo.after_of_forall_not_mem _ _ (List.forall_iff_forall_mem.mp ?_)
  simp only [argsortOps, List.forall_cons]
  repeat' apply And.intro
  all_goals first | exact trivial | decide
theorem take_keeps (W : Arrays) : StableHlo.after (take_along_axisOps (F := Ideal) (.of main_v12) (.of main_v14) main_call1) W main_v14 = W main_v14 := by
  refine StableHlo.after_of_forall_not_mem _ _ (List.forall_iff_forall_mem.mp ?_)
  simp only [take_along_axisOps, List.forall_cons]
  repeat' apply And.intro
  all_goals first | exact trivial | decide
theorem cumsum_keeps {b : Ref sig .tc} (hb : b = main_v14 ∨ b = main_v15) (W : Arrays) :
    StableHlo.after (cumsumOps (F := Ideal) (.of main_v15) main_call2) W b = W b := by
  refine StableHlo.after_of_forall_not_mem _ _ (List.forall_iff_forall_mem.mp ?_)
  simp only [cumsumOps, cumsum_0Ops, List.append_nil, List.forall_cons]
  rcases hb with rfl | rfl <;> repeat' apply And.intro
  all_goals first | exact trivial | decide
theorem limit_keeps {b : Ref sig .tc} (hb : b = main_v14 ∨ b = main_v15) (W : Arrays) : StableHlo.after (limitOps (F := Ideal)) W b = W b := by
  refine StableHlo.after_of_forall_not_mem _ _ (List.forall_iff_forall_mem.mp ?_)
  simp only [limitOps, List.forall_cons]
  rcases hb with rfl | rfl <;> repeat' apply And.intro
  all_goals first | exact trivial | decide
theorem where_keeps (W : Arrays) : StableHlo.after (whereOps (F := Ideal) (.of main_v18) (.of main_cst_4) (.of main_v15) main_call3) W main_v14 = W main_v14 := by
  refine StableHlo.after_of_forall_not_mem _ _ (List.forall_iff_forall_mem.mp ?_)
  simp only [whereOps, List.forall_cons]
  repeat' apply And.intro
  all_goals first | exact trivial | decide
theorem sum_keeps {b : Ref sig .tc} (hb : b = main_v14 ∨ b = main_v19) (W : Arrays) : StableHlo.after (sumOps (F := Ideal)) W b = W b := by
  refine StableHlo.after_of_forall_not_mem _ _ (List.forall_iff_forall_mem.mp ?_)
  simp only [sumOps, List.forall_cons]
  rcases hb with rfl | rfl <;> repeat' apply And.intro
  all_goals first | exact trivial | decide
theorem clip_keeps {b : Ref sig .tc} (hb : b = main_v14 ∨ b = main_v19) (W : Arrays) :
    StableHlo.after (clipOps (F := Ideal) (.of main_v21) (.of main_cst_6) main_call4) W b = W b := by
  refine StableHlo.after_of_forall_not_mem _ _ (List.forall_iff_forall_mem.mp ?_)
  simp only [clipOps, List.forall_cons]
  rcases hb with rfl | rfl <;> repeat' apply And.intro
  all_goals first | exact trivial | decide
theorem log_keeps (W : Arrays) : StableHlo.after (logOps (F := Ideal)) W main_v14 = W main_v14 := by
  refine StableHlo.after_of_forall_not_mem _ _ (List.forall_iff_forall_mem.mp ?_)
  simp only [logOps, List.forall_cons]
  repeat' apply And.intro
  all_goals first | exact trivial | decide
theorem noise_keeps {b : Ref sig .tc} (hb : b = main_v14 ∨ b = main_v34) (W : Arrays) :
    StableHlo.after (gumbelOps (F := Ideal) (.of main_v31) main_call5) W b = W b := by
  refine StableHlo.after_of_forall_not_mem _ _ (List.forall_iff_forall_mem.mp ?_)
  simp only [gumbelOps, uniformOps, threefry2x32Ops, threefry2x32OpsPart0, threefry2x32OpsPart1, threefry2x32OpsPart2, threefry2x32OpsPart3,
    List.cons_append, List.nil_append, List.forall_cons]
  rcases hb with rfl | rfl <;> repeat' apply And.intro
  all_goals first | exact trivial | decide
theorem score_keeps (W : Arrays) : StableHlo.after (scoreOps (F := Ideal)) W main_v14 = W main_v14 := by
  refine StableHlo.after_of_forall_not_mem _ _ (List.forall_iff_forall_mem.mp ?_)
  simp only [scoreOps, List.forall_cons]
  repeat' apply And.intro
  all_goals first | exact trivial | decide
theorem argmax_keeps (W : Arrays) : StableHlo.after (argmaxOps (F := Ideal) (.of main_v36) main_call6) W main_v14 = W main_v14 := by
  refine StableHlo.after_of_forall_not_mem _ _ (List.forall_iff_forall_mem.mp ?_)
  simp only [argmaxOps, List.forall_cons]
  repeat' apply And.intro
  all_goals first | exact trivial | decide
theorem place_keeps (W : Arrays) : StableHlo.after (placeOps (F := Ideal)) W main_v14 = W main_v14 := by
  refine StableHlo.after_of_forall_not_mem _ _ (List.forall_iff_forall_mem.mp ?_)
  simp only [placeOps, List.forall_cons]
  repeat' apply And.intro
  all_goals first | exact trivial | decide

end Cert.ReferenceIdeal.Hand

end
-- ==== Proof.Draw.Rows.lean ====
/-
  Four operations on one row, each read at an entry: the running sum, the entry at a given place, the place of the first
  greatest entry, and the conjunction of bits that are all set.
-/
module

public import proofs.«01_k».proof.ReferenceIdeal
public import proofs.«01_k».proof.Proof.Draw.Agree
public import Idealize.ShloMosaic.PureOps.Ideal.Laws
public import Idealize.ShloMosaic.Lib.ValueIdxCore

@[expose] public section

noncomputable section

namespace Cert.Proof.Draw

open Idealize.ShloMosaic
open Cert.KernelIdeal.Hand (cum)

/-! ## Folds over all places -/

theorem foldl_add {ι : Type} (g : ι → EReal) : ∀ (l : List ι) (a : EReal), l.foldl (fun r n => r + g n) a = a + (l.map g).sum
  | [], a => (add_zero a).symm
  | i :: l, a => by
    rw [List.foldl_cons, foldl_add g l, List.map_cons, List.sum_cons, add_assoc]

theorem foldl_invariant {β : Type} : ∀ (m : ℕ) (P : ℕ → β → Prop) (step : β → Fin m → β) (a : β), P 0 a →
    (∀ (k : ℕ) (h : k < m) (b : β), P k b → P (k + 1) (step b ⟨k, h⟩)) → P m ((List.finRange m).foldl step a)
  | 0, P, step, a, h0, _ => h0
  | m + 1, P, step, a, h0, hs => by
    rw [List.finRange_succ_last, List.foldl_append, List.foldl_map]
    exact hs m (Nat.lt_succ_self m) _ (foldl_invariant m P (fun r n => step r n.castSucc) a h0
      fun k h b hb => hs k (Nat.lt_succ_of_lt h) b hb)

/-- Place `n` of a row is its index `(0, n)`. -/
theorem symm_row {N : ℕ} (n : Fin (⟨2, ![1, N]⟩ : Shape).numel) (h : n.val < N) :
    (⟨2, ![1, N]⟩ : Shape).rowMajor.symm n = ValueIdx.ix2 (0 : Fin 1) ⟨n.val, h⟩ := by
  rw [Equiv.symm_apply_eq]
  apply Fin.ext
  rw [Shape.rowMajor_val_two]
  show n.val = 0 * N + n.val
  omega

theorem numel_row (N : ℕ) : (⟨2, ![1, N]⟩ : Shape).numel = N := by
  unfold Shape.numel
  exact Fin.prod_univ_two _ |>.trans (Nat.one_mul N)

/-! ## The running sum -/

theorem window_sum (S : ℕ → EReal) (r j : ℕ) (h : j ≤ r) :
    (∑ w ∈ Finset.range (r + 1), if r ≤ j + w then S (j + w - r) else 0) = cum S j := by
  have e : r + 1 = (r - j) + (j + 1) := by omega
  unfold cum
  rw [e, Finset.sum_range_add, Finset.sum_eq_zero fun w hw => if_neg (by have := Finset.mem_range.1 hw; omega), zero_add]
  refine Finset.sum_congr rfl fun w hw => ?_
  rw [if_pos (by omega)]
  congr 1
  omega

theorem running_sum {N r : ℕ} (hN : r + 1 = N) (x : (⟨2, ![1, N]⟩ : Shape).Idx → EReal) (S : ℕ → EReal)
    (hx : ∀ k : Fin N, x (ValueIdx.ix2 0 k) = S k.val) {u : Shape} (init : u.Idx → EReal) (hinit : ∀ i, init i = 0)
    (h : (⟨2, ![1, N]⟩ : Shape).ReduceWindows (![1, N] : Fin 2 → Nat) ![1, 1] ![0, r] ![0, 0] ⟨2, ![1, N]⟩) (hu : 0 < u.numel) (j : Fin N) :
    Host.reduceWindow (fun a b : EReal => a + b) ![1, N] ![1, 1] ![0, r] ![0, 0] x init h hu (ValueIdx.ix2 0 j) = cum S j.val := by
  subst hN
  have hj := j.isLt
  unfold Host.reduceWindow
  refine (foldl_add (fun n => _) _ _).trans ?_
  rw [hinit, zero_add, ← Fin.sum_univ_def]
  refine (Finset.sum_congr rfl fun n _ => (?_ : _ = (fun w : ℕ => if r ≤ j.val + w then S (j.val + w - r) else 0) n.val)).trans ?_
  · have hn : n.val < r + 1 := lt_of_lt_of_eq n.isLt (numel_row (r + 1))
    have hw0 : ((⟨2, ![1, r + 1]⟩ : Shape).rowMajor.symm n 0).val = 0 := by rw [symm_row n hn]; rfl
    have hw1 : ((⟨2, ![1, r + 1]⟩ : Shape).rowMajor.symm n 1).val = n.val := by rw [symm_row n hn]; rfl
    dsimp only
    split
    · next hin =>
      have h1 := hin 1
      change r ≤ j.val * 1 + ((⟨2, ![1, r + 1]⟩ : Shape).rowMajor.symm n 1).val
        ∧ j.val * 1 + ((⟨2, ![1, r + 1]⟩ : Shape).rowMajor.symm n 1).val - r < r + 1 at h1
      rw [hw1] at h1
      rw [if_pos (by omega)]
      refine (congrArg x (funext fun a => Fin.ext ?_)).trans (hx ⟨j.val + n.val - r, by omega⟩)
      match a with
      | ⟨0, _⟩ =>
        show 0 * 1 + ((⟨2, ![1, r + 1]⟩ : Shape).rowMajor.symm n 0).val - 0 = 0
        omega
      | ⟨1, _⟩ =>
        show j.val * 1 + ((⟨2, ![1, r + 1]⟩ : Shape).rowMajor.symm n 1).val - r = j.val + n.val - r
        rw [hw1, Nat.mul_one]
    · next hin =>
      rw [if_neg fun hle => hin fun a => by
        match a with
        | ⟨0, _⟩ =>
          show 0 ≤ 0 * 1 + ((⟨2, ![1, r + 1]⟩ : Shape).rowMajor.symm n 0).val
            ∧ 0 * 1 + ((⟨2, ![1, r + 1]⟩ : Shape).rowMajor.symm n 0).val - 0 < 1
          rw [hw0]
          omega
        | ⟨1, _⟩ =>
          show r ≤ j.val * 1 + ((⟨2, ![1, r + 1]⟩ : Shape).rowMajor.symm n 1).val
            ∧ j.val * 1 + ((⟨2, ![1, r + 1]⟩ : Shape).rowMajor.symm n 1).val - r < r + 1
          rw [hw1]
          omega]
  · refine (Fin.sum_univ_eq_sum_range (fun w : ℕ => if r ≤ j.val + w then S (j.val + w - r) else 0) _).trans ?_
    exact (congrArg (fun M => ∑ w ∈ Finset.range M, if r ≤ j.val + w then S (j.val + w - r) else 0) (numel_row (r + 1))).trans
      (window_sum S r j.val (by omega))

/-! ## The entry at a given place -/

/-- The numbers of the gather that takes, from a row, one entry for each of a column of places. -/
abbrev rowDims (N B : ℕ) (wf : GatherDims.WF ⟨2, ![1, N]⟩ ⟨2, ![B, 1]⟩ ⟨2, ![1, B]⟩ [0] [1] [] [1] [] 1 ![1, 1]) :
    GatherDims ⟨2, ![1, N]⟩ ⟨2, ![B, 1]⟩ ⟨2, ![1, B]⟩ where
  offsetDims := [0]
  collapsedSliceDims := [1]
  operandBatchingDims := []
  startIndicesBatchingDims := []
  startIndexMap := [1]
  indexVectorDim := 1
  sliceSizes := ![1, 1]
  wf := wf

theorem gather_row {α : Type} {N B w : ℕ} (hN : 0 < N)
    (wf : GatherDims.WF ⟨2, ![1, N]⟩ ⟨2, ![B, 1]⟩ ⟨2, ![1, B]⟩ [0] [1] [] [1] [] 1 ![1, 1])
    (x : (⟨2, ![1, N]⟩ : Shape).Idx → α) (idx : IVec ⟨2, ![B, 1]⟩ w) (k : Fin B) :
    Host.gather (rowDims N B wf) x idx (ValueIdx.ix2 0 k) = x (ValueIdx.ix2 0 ⟨min (idx (ValueIdx.ix2 k 0)).toInt.toNat (N - 1), by omega⟩) := by
  unfold Host.gather
  congr 1
  funext a
  refine Fin.ext ?_
  show (rowDims N B wf).start (ValueIdx.ix2 0 k) idx a + (rowDims N B wf).batchCoord (ValueIdx.ix2 0 k) a + (rowDims N B wf).offCoord (ValueIdx.ix2 0 k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · have e : ((ValueIdx.ix2 0 ⟨min (idx (ValueIdx.ix2 k 0)).toInt.toNat (N - 1), by omega⟩ : (⟨2, ![1, N]⟩ : Shape).Idx) 0).val = 0 := rfl
    rw [e]
    have := (rowDims N B wf).lt (ValueIdx.ix2 0 k) idx 0
    rw [GatherDims.batchCoord_eq_zero _ _ _ List.not_mem_nil] at this
    have s : (⟨2, ![1, N]⟩ : Shape).size 0 = 1 := rfl
    omega
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims N B wf).startIndexMap from List.mem_singleton.mpr rfl)]
    have hsi : (rowDims N B wf).siIdx (ValueIdx.ix2 0 k) ⟨List.idxOf (1 : Fin 2) (rowDims N B wf).startIndexMap,
        List.idxOf_lt_length_iff.2 (List.mem_singleton.mpr rfl)⟩ = ValueIdx.ix2 k 0 := by
      funext b; refine Fin.ext ?_
      match b with
      | ⟨0, _⟩ => rfl
      | ⟨1, _⟩ => rfl
    rw [hsi]
    rfl

/-! ## The place of the first greatest entry -/

theorem reducer_eq (a b : EReal × BitVec 32) : Cert.ReferenceIdeal.reducer_argmax_f32_i32 (F := Ideal) a b
    = (if b.1 < a.1 then a.1 else b.1, if b.1 < a.1 ∨ (a.1 = b.1 ∧ a.2.slt b.2 = true) then a.2 else b.2) := by
  have e1 : (FloatOps.cmpf (F := Ideal) (φ := .f32) .ogt a.1 b.1) = BitVec.ofBool (decide (b.1 < a.1)) := rfl
  have e2 : (FloatOps.cmpf (F := Ideal) (φ := .f32) .une a.1 a.1) = BitVec.ofBool (decide (a.1 ≠ a.1)) := rfl
  have e3 : (FloatOps.cmpf (F := Ideal) (φ := .f32) .oeq a.1 b.1) = BitVec.ofBool (decide (a.1 = b.1)) := rfl
  have e4 : IntOp.cmpi .slt a.2 b.2 = BitVec.ofBool (a.2.slt b.2) := rfl
  unfold Cert.ReferenceIdeal.reducer_argmax_f32_i32
  simp only [e1, e2, e3, e4]
  rcases Bool.eq_false_or_eq_true (a.2.slt b.2) with h4 | h4 <;> by_cases h1 : b.1 < a.1 <;> by_cases h3 : a.1 = b.1 <;>
    simp [h1, h3, h4, Scalar.select, IntOp.ori, IntOp.andi]

/-- After `k` entries the pair held: the start, or the first greatest entry so far and its place. -/
def Held (sc : ℕ → EReal) (k : ℕ) (r : EReal × BitVec 32) : Prop :=
  (k = 0 ∧ r = (⊥, 0#32)) ∨ ∃ J, First k sc J ∧ r = (sc J, BitVec.ofNat 32 J)

theorem Held.step {sc : ℕ → EReal} {k : ℕ} {r : EReal × BitVec 32} (hk : k < 2147483648) (h : Held sc k r) :
    Held sc (k + 1) (Cert.ReferenceIdeal.reducer_argmax_f32_i32 (F := Ideal) r (sc k, BitVec.ofNat 32 k)) := by
  right
  rw [reducer_eq]
  rcases h with ⟨rfl, rfl⟩ | ⟨J, ⟨hJ, hf⟩, rfl⟩
  · refine ⟨0, ⟨Nat.one_pos, fun j hj => ?_⟩, ?_⟩
    · obtain rfl : j = 0 := by omega
      exact ⟨le_rfl, fun h => absurd h (lt_irrefl _)⟩
    · rw [if_neg (not_lt.2 bot_le), if_neg]
      rintro (h | ⟨_, h⟩)
      · exact absurd h (not_lt.2 bot_le)
      · exact absurd h (by simp)
  · have hs : (BitVec.ofNat 32 J).slt (BitVec.ofNat 32 k) = true := by
      have e : ∀ m < 2147483648, (BitVec.ofNat 32 m).toInt = m := fun m hm => by
        rw [BitVec.toInt_eq_toNat_of_lt (by rw [BitVec.toNat_ofNat]; omega), BitVec.toNat_ofNat, Nat.mod_eq_of_lt (by omega)]
      rw [BitVec.slt_iff_toInt_lt, e J (by omega), e k hk]
      exact_mod_cast hJ
    by_cases hlt : sc J < sc k
    · refine ⟨k, ⟨Nat.lt_succ_self k, fun j hj => ?_⟩, ?_⟩
      · rcases Nat.lt_succ_iff_lt_or_eq.1 hj with hj | rfl
        · exact ⟨(hf j hj).1.trans hlt.le, fun _ => lt_of_le_of_lt (hf j hj).1 hlt⟩
        · exact ⟨le_rfl, fun h => absurd h (lt_irrefl _)⟩
      · rw [if_neg (not_lt.2 hlt.le), if_neg]
        rintro (h | ⟨h, _⟩)
        · exact absurd h (not_lt.2 hlt.le)
        · exact absurd h hlt.ne
    · refine ⟨J, ⟨hJ.trans (Nat.lt_succ_self k), fun j hj => ?_⟩, ?_⟩
      · rcases Nat.lt_succ_iff_lt_or_eq.1 hj with hj | rfl
        · exact hf j hj
        · exact ⟨not_lt.1 hlt, fun h => absurd h (by omega)⟩
      · rcases lt_or_eq_of_le (not_lt.1 hlt) with hg | he
        · rw [if_pos hg, if_pos (Or.inl hg)]
        · rw [if_neg (by rw [he]; exact lt_irrefl _), if_pos (Or.inr ⟨he.symm, hs⟩), he]

theorem argmax_row {n : ℕ} (h0 : 0 < n) (hn : n < 2147483648) (x : (⟨2, ![1, n]⟩ : Shape).Idx → EReal) (y : (⟨2, ![1, n]⟩ : Shape).Idx → BitVec 32)
    (sc : ℕ → EReal) (hx : ∀ k : Fin n, x (ValueIdx.ix2 0 k) = sc k.val) (hy : ∀ k : Fin n, y (ValueIdx.ix2 0 k) = BitVec.ofNat 32 k.val)
    {u : Shape} (ix : u.Idx → EReal) (iy : u.Idx → BitVec 32) (hix : ∀ i, ix i = ⊥) (hiy : ∀ i, iy i = 0#32)
    (h : (⟨2, ![1, n]⟩ : Shape).ReducesTo [1] ⟨1, ![1]⟩) (hu : 0 < u.numel) (j : (⟨1, ![1]⟩ : Shape).Idx) :
    ∃ J, First n sc J ∧ (Host.reduce2 (Cert.ReferenceIdeal.reducer_argmax_f32_i32 (F := Ideal)) x y ix iy h hu j).2 = BitVec.ofNat 32 J := by
  have hall : ((List.finRange (⟨2, ![1, n]⟩ : Shape).numel).filter fun k => h.drop ((⟨2, ![1, n]⟩ : Shape).rowMajor.symm k) = j)
      = List.finRange _ := by
    refine List.filter_eq_self.2 fun k _ => decide_eq_true (funext fun b => Fin.ext ?_)
    have h1 := (h.drop ((⟨2, ![1, n]⟩ : Shape).rowMajor.symm k) b).isLt
    have h2 := (j b).isLt
    have h3 : (⟨1, ![1]⟩ : Shape).size b = 1 := (by decide : ∀ b, (⟨1, ![1]⟩ : Shape).size b = 1) b
    omega
  have hheld : Held sc (⟨2, ![1, n]⟩ : Shape).numel (Host.reduce2 (Cert.ReferenceIdeal.reducer_argmax_f32_i32 (F := Ideal)) x y ix iy h hu j) := by
    unfold Host.reduce2
    rw [hall, hix, hiy]
    refine foldl_invariant _ (Held sc) _ _ (Or.inl ⟨rfl, rfl⟩) fun k hk r hr => ?_
    have hkn : k < n := lt_of_lt_of_eq hk (numel_row n)
    have e1 : x ((⟨2, ![1, n]⟩ : Shape).rowMajor.symm ⟨k, hk⟩) = sc k := (congrArg x (symm_row ⟨k, hk⟩ hkn)).trans (hx ⟨k, hkn⟩)
    have e2 : y ((⟨2, ![1, n]⟩ : Shape).rowMajor.symm ⟨k, hk⟩) = BitVec.ofNat 32 k := (congrArg y (symm_row ⟨k, hk⟩ hkn)).trans (hy ⟨k, hkn⟩)
    rw [e1, e2]
    exact hr.step (by omega)
  rw [numel_row] at hheld
  rcases hheld with ⟨h, _⟩ | ⟨J, hJ, e⟩
  · omega
  · exact ⟨J, hJ, by rw [e]⟩

/-! ## The conjunction of set bits -/

theorem fold_and {ι : Type} (A : Finset ι) (f : ι → BitVec 1) (hf : ∀ i ∈ A, f i = 1#1) : A.fold IntOp.andi 1#1 f = 1#1 := by
  classical
  induction A using Finset.induction_on with
  | empty => rfl
  | insert i A hi ih =>
    rw [Finset.fold_insert hi, ih fun k hk => hf k (Finset.mem_insert_of_mem hk), hf i (Finset.mem_insert_self i A)]
    rfl

end Cert.Proof.Draw

end
-- ==== Proof.RI.Cells.lean ====
/-
  The reference's stretches, read at an entry: its sorted places, what it takes at them, the running sum, the kept total,
  the score, the first best place, and what is chosen there.
-/
module

public import proofs.«01_k».proof.Proof.RI.Read
public import proofs.«01_k».proof.Proof.Draw.Order
public import proofs.«01_k».proof.Proof.Draw.Sort
public import proofs.«01_k».proof.Proof.Draw.Rows
public import Idealize.ShloMosaic.Lib.Pipeline.Value

@[expose] public section

set_option maxRecDepth 65536
set_option maxHeartbeats 1000000

noncomputable section

namespace Cert.ReferenceIdeal.Hand

open Cert.ReferenceIdeal Cert.ReferenceIdeal.Gen
open Idealize.ShloMosaic Idealize.ShloMosaic.TcCoe
open Cert.Proof.Draw
open Cert.KernelIdeal.Hand (cum tiny theta)

/-- The index of a place in a row. -/
abbrev at2 (k : Fin 1000000) : S1x1000000.Idx := ValueIdx.ix2 (n0 := 1) (n1 := 1000000) 0 k
/-- The index of a place in a column. -/
abbrev down (k : Fin 1000000) : S1000000x1.Idx := ValueIdx.ix2 (n0 := 1000000) (n1 := 1) k 0
/-- The only index of one entry in two axes. -/
abbrev only2 : S1x1.Idx := ValueIdx.ix2 (n0 := 1) (n1 := 1) 0 0

/-! ## Words -/

theorem word_toInt {m : ℕ} (h : m < 1000000) : (BitVec.ofNat 32 m).toInt = m := by
  rw [BitVec.toInt_eq_toNat_of_lt (by rw [BitVec.toNat_ofNat]; omega), BitVec.toNat_ofNat, Nat.mod_eq_of_lt (by omega)]

theorem word_not_neg {m : ℕ} (h : m < 1000000) : IntOp.cmpi .slt (BitVec.ofNat 32 m) 0#32 = 0#1 := by
  have e : (BitVec.ofNat 32 m).slt 0#32 = false := by
    rw [← Bool.not_eq_true, BitVec.slt_iff_toInt_lt, word_toInt h]
    show ¬ ((m : ℤ) < 0)
    omega
  show BitVec.ofBool ((BitVec.ofNat 32 m).slt 0#32) = 0#1
  rw [e]; rfl

theorem word_inside {m : ℕ} (h : m < 1000000) :
    IntOp.andi (IntOp.cmpi .sge (BitVec.ofNat 32 m) 0#32) (IntOp.cmpi .sle (BitVec.ofNat 32 m) 999999#32) = 1#1 := by
  have e1 : (0#32).sle (BitVec.ofNat 32 m) = true := by
    rw [BitVec.sle_iff_toInt_le, word_toInt h]
    show (0 : ℤ) ≤ m
    omega
  have e2 : (BitVec.ofNat 32 m).sle 999999#32 = true := by
    rw [BitVec.sle_iff_toInt_le, word_toInt h]
    show (m : ℤ) ≤ 999999
    omega
  show BitVec.ofBool ((0#32).sle (BitVec.ofNat 32 m)) &&& BitVec.ofBool ((BitVec.ofNat 32 m).sle 999999#32) = 1#1
  rw [e1, e2]; rfl

theorem select_zero {α : Type} (c : BitVec 1) (hc : c = 0#1) (a b : α) : Scalar.select c a b = b := by
  rw [hc]; unfold Scalar.select; rw [if_neg (by decide)]
theorem select_one {α : Type} (c : BitVec 1) (hc : c = 1#1) (a b : α) : Scalar.select c a b = a := by
  rw [hc]; unfold Scalar.select; rw [if_pos (by decide)]

/-! ## The sorted places -/

theorem sorted_place (x : FVec Ideal S1x1000000 .f32) (f : Fin 1000000 → EReal) (h : ∀ k, x (at2 k) = f k) (k : Fin 1000000) :
    (Host.sort2 S1x1000000 1 (comparator_f32_i32_d1 (F := Ideal)) x (iotaInDim S1x1000000 32 1)).2 (at2 k) = BitVec.ofNat 32 (order f k).val := by
  refine (sort_two (n := 1000000) (comparator_f32_i32_d1 (F := Ideal)) x (iotaInDim S1x1000000 32 1) k).trans ?_
  unfold order
  refine congrArg (fun q : Fin 1000000 => BitVec.ofNat 32 q.val) ?_
  refine congrArg (fun r => sortedFrom r k) ?_
  funext k₁ k₂
  refine (reference_before _ _).trans ?_
  refine decide_eq_decide.2 ?_
  show x (at2 k₁) < x (at2 k₂) ↔ f k₁ < f k₂
  rw [h, h]

/-! ## What is taken at them -/

theorem wrapped_apply (i : IVec S1x1000000 32) (j : S1x1000000.Idx) (m : ℕ) (hm : m < 1000000) (h : i j = BitVec.ofNat 32 m) :
    wrapped i j = BitVec.ofNat 32 m := by
  have e : wrapped i j = Scalar.select (IntOp.cmpi .slt (i j) 0#32) (IntOp.addi (i j) 1000000#32) (i j) := rfl
  rw [e, h, select_zero _ (word_not_neg hm)]

theorem column_apply (i : IVec S1x1000000 32) (q : Fin 1000000 → Fin 1000000) (h : ∀ k, i (at2 k) = BitVec.ofNat 32 (q k).val) (k : Fin 1000000) :
    column i (down k) = BitVec.ofNat 32 (q k).val := by
  unfold column
  refine (shapeCast_apply _ _ (down k) (at2 k) ?_).trans (wrapped_apply i _ _ (q k).isLt (h k))
  rw [Shape.rowMajor_val_two, Shape.rowMajor_val_two]
  show 0 * 1000000 + k.val = k.val * 1 + 0
  omega

theorem inside_apply (i : IVec S1000000x1 32) (j : S1000000x1.Idx) (m : ℕ) (hm : m < 1000000) (h : i j = BitVec.ofNat 32 m) : inside i j = 1#1 := by
  have e : inside i j = IntOp.andi (IntOp.cmpi .sge (i j) 0#32) (IntOp.cmpi .sle (i j) 999999#32) := rfl
  rw [e, h, word_inside hm]

theorem eq_down (j : S1000000x1.Idx) : j = down (j 0) := by
  funext a
  match a with
  | ⟨0, _⟩ => rfl
  | ⟨1, _⟩ => exact Fin.ext (by have := ValueIdx.idx2_lt1 j; show (j 1).val = 0; omega)

theorem pick (c : IVec S1000000 1) (g z : FVec Ideal S1x1000000 .f32) (j : S1x1000000.Idx) :
    ∃ r, select (broadcastInDim S1x1000000 ![1] bcast_S1000000_S1x1000000_1 c) g z j = Scalar.select (c r) (g j) (z j) := ⟨_, rfl⟩

theorem taken_apply (x : FVec Ideal S1x1000000 .f32) (i : IVec S1000000x1 32) (q : Fin 1000000 → Fin 1000000)
    (h : ∀ k, i (down k) = BitVec.ofNat 32 (q k).val) (k : Fin 1000000) : takenAt x i (at2 k) = x (at2 (q k)) := by
  unfold takenAt
  obtain ⟨r, e⟩ := pick (Host.reduce IntOp.andi (inside i) (constantI S_ 1 1#1) reducesTo_S1000000x1_S1000000_d1 h_S_)
    (Host.gather gather_S1x1000000_S1000000x1_S1x1000000_0_1_n_n_1_1_11 x i)
    (broadcastInDim S1x1000000 ![] bcast_S_S1x1000000 (constant (F := Ideal) S_ .f32 0x7FC00000#32)) (at2 k)
  rw [e, select_one]
  · refine (gather_row (N := 1000000) (B := 1000000) (by omega) gather_S1x1000000_S1000000x1_S1x1000000_0_1_n_n_1_1_11_wf x i k).trans ?_
    refine congrArg (fun m : Fin 1000000 => x (at2 m)) (Fin.ext ?_)
    show min (i (down k)).toInt.toNat (1000000 - 1) = (q k).val
    have := (q k).isLt
    rw [h k, word_toInt this]
    omega
  · rw [Host.reduce_eq_fold]
    exact fold_and _ _ fun j _ => inside_apply i j _ (q (j 0)).isLt ((congrArg i (eq_down j)).trans (h (j 0)))

/-! ## The running sum and the kept total -/

theorem running_any {N r : ℕ} (hN : r + 1 = N) (x : FVec Ideal ⟨2, ![1, N]⟩ .f32) (S : ℕ → EReal) (hx : ∀ k : Fin N, x (ValueIdx.ix2 0 k) = S k.val)
    {u : Shape} (init : u.Idx → Ideal .f32) (hu : 0 < u.numel) (hinit : init (Shape.Idx.first hu) = (0 : EReal))
    (h : (⟨2, ![1, N]⟩ : Shape).ReduceWindows (![1, N] : Fin 2 → Nat) ![1, 1] ![0, r] ![0, 0] ⟨2, ![1, N]⟩) (k : Fin N) :
    Host.reduceWindowAdd (F := Ideal) (φ := .f32) ![1, N] ![1, 1] ![0, r] ![0, 0] x init h hu (ValueIdx.ix2 0 k) = cum S k.val :=
  running_sum hN x S hx (fun _ : (⟨0, ![]⟩ : Shape).Idx => (init (Shape.Idx.first hu) : EReal)) (fun _ => hinit) h (by decide) k

theorem running_apply (x : FVec Ideal S1x1000000 .f32) (S : ℕ → EReal) (h : ∀ k, x (at2 k) = S k.val) (k : Fin 1000000) :
    Host.reduceWindowAdd (F := Ideal) (φ := .f32) ![1, 1000000] ![1, 1] ![0, 999999] ![0, 0] x
      (broadcastInDim S_ ![] bcast_S_S_ (constant S_ .f32 0x00000000#32)) reduceWindows_S1x1000000_S1x1000000_w1s1p0_0_w1000000s1p999999_0 h_S_ (at2 k)
      = cum S k.val :=
  running_any (N := 1000000) (r := 999999) (by norm_num) x S h _ h_S_ Ideal.ofBits_zero_f32
    reduceWindows_S1x1000000_S1x1000000_w1s1p0_0_w1000000s1p999999_0 k

theorem kept_apply (r x z : EReal) (hz : z = 0) : Scalar.select (Ideal.cmp .ogt r theta) z x = if theta < r then 0 else x := by
  unfold Ideal.cmp
  by_cases h : theta < r
  · rw [if_pos h, select_one _ (by show BitVec.ofBool (decide (theta < r)) = 1#1; rw [decide_eq_true h]; rfl), hz]
  · rw [if_neg h, select_zero _ (by show BitVec.ofBool (decide (theta < r)) = 0#1; rw [decide_eq_false h]; rfl)]

theorem sum_row {n : ℕ} (x : (⟨2, ![1, n]⟩ : Shape).Idx → EReal) (Q : ℕ → EReal) (h : ∀ k : Fin n, x (ValueIdx.ix2 0 k) = Q k.val) :
    ∑ i, x i = ∑ j ∈ Finset.range n, Q j := by
  rw [ValueIdx.sum_idx2, Fin.sum_univ_one, ← Fin.sum_univ_eq_sum_range]
  exact Finset.sum_congr rfl fun k _ => h k

theorem sum_apply (x : FVec Ideal S1x1000000 .f32) (Q : ℕ → EReal) (h : ∀ k, x (at2 k) = Q k.val) (j : S1.Idx) :
    (Host.reduceAdd (F := Ideal) (φ := .f32) x (constant S_ .f32 0x00000000#32) reducesTo_S1x1000000_S1_d1 h_S_ j : EReal)
      = ∑ j ∈ Finset.range 1000000, Q j := by
  refine (Ideal.hostReduceAdd_total reducesTo_S1x1000000_S1_d1 (by decide) x (Ideal.ofBits .f32 0x00000000#32) j).trans ?_
  rw [Ideal.ofBits_zero_f32, zero_add]
  exact sum_row (n := 1000000) x Q h

/-! ## The first best place -/

theorem neg_inf_bits : Ideal.ofBits .f32 0xFF800000#32 = (⊥ : EReal) := by simp [Ideal.ofBits, Ideal.ieee]

theorem best_place (x : FVec Ideal S1x1000000 .f32) (sc : ℕ → EReal) (h : ∀ k, x (at2 k) = sc k.val) (j : S1.Idx) :
    ∃ J, First 1000000 sc J ∧ (Host.argReduce (F := Ideal) (reducer_argmax_f32_i32 (F := Ideal)) x (iotaInDim S1x1000000 32 1)
      (constant S_ .f32 0xFF800000#32) (constantI S_ 32 0#32) reducesTo_S1x1000000_S1_d1 h_S_ j).2 = BitVec.ofNat 32 J := by
  rw [Ideal.argReduce_eq_reduce2]
  exact argmax_row (n := 1000000) (by omega) (by omega) x (iotaInDim S1x1000000 32 1) sc h (fun _ => rfl) _ _ (fun _ => neg_inf_bits) (fun _ => rfl)
    reducesTo_S1x1000000_S1_d1 h_S_ j

/-! ## What is chosen there -/

theorem eq_only2 (j : S1x1.Idx) : j = only2 := by
  funext a
  match a with
  | ⟨0, _⟩ => exact Fin.ext (by have := ValueIdx.idx2_lt0 j; show (j 0).val = 0; omega)
  | ⟨1, _⟩ => exact Fin.ext (by have := ValueIdx.idx2_lt1 j; show (j 1).val = 0; omega)

/-- What is chosen of the places at one place. -/
def chosenAt (y : IVec S1x1000000 32) (i : IVec S1x1 32) : IVec S1x1 32 :=
  select (broadcastInDim S1x1 ![1] bcast_S1_S1x1_1
      (Host.reduce IntOp.andi (inside1 (wrapped1 i)) (constantI S_ 1 1#1) reducesTo_S1x1_S1_d1 h_S_))
    (Host.gather gather_S1x1000000_S1x1_S1x1_0_1_n_n_1_1_11 y (wrapped1 i))
    (broadcastInDim S1x1 ![] bcast_S_S1x1 (constantI S_ 32 2147483648#32))

theorem chosen_apply (y : IVec S1x1000000 32) (i : IVec S1x1 32) (J : Fin 1000000) (h : ∀ j, i j = BitVec.ofNat 32 J.val) (j : S1x1.Idx) :
    chosenAt y i j = y (at2 J) := by
  obtain rfl := eq_only2 j
  have hw : ∀ j, wrapped1 i j = BitVec.ofNat 32 J.val := fun j => by
    have e : wrapped1 i j = Scalar.select (IntOp.cmpi .slt (i j) 0#32) (IntOp.addi (i j) 1000000#32) (i j) := rfl
    rw [e, h, select_zero _ (word_not_neg J.isLt)]
  have hin : ∀ j, inside1 (wrapped1 i) j = 1#1 := fun j => by
    have e : inside1 (wrapped1 i) j = IntOp.andi (IntOp.cmpi .sge (wrapped1 i j) 0#32) (IntOp.cmpi .sle (wrapped1 i j) 999999#32) := rfl
    rw [e, hw, word_inside J.isLt]
  have e : ∃ r : S1.Idx, chosenAt y i only2 = Scalar.select
      (Host.reduce IntOp.andi (inside1 (wrapped1 i)) (constantI S_ 1 1#1) reducesTo_S1x1_S1_d1 h_S_ r)
      (Host.gather gather_S1x1000000_S1x1_S1x1_0_1_n_n_1_1_11 y (wrapped1 i) only2)
      ((broadcastInDim S1x1 ![] bcast_S_S1x1 (constantI S_ 32 2147483648#32)) only2) := ⟨_, rfl⟩
  obtain ⟨r, e⟩ := e
  rw [e, select_one]
  · refine (gather_row (N := 1000000) (B := 1) (by omega) gather_S1x1000000_S1x1_S1x1_0_1_n_n_1_1_11_wf y (wrapped1 i) 0).trans ?_
    refine congrArg (fun m : Fin 1000000 => y (at2 m)) (Fin.ext ?_)
    show min (wrapped1 i only2).toInt.toNat (1000000 - 1) = J.val
    have := J.isLt
    rw [hw, word_toInt this]
    omega
  · rw [Host.reduce_eq_fold]
    exact fold_and _ _ fun j _ => hin j

end Cert.ReferenceIdeal.Hand

end
-- ==== Proof.RI.Value.lean ====
/-
  The reference's token: the sorted place of the first best score, the scores made of the sorted probabilities and of the
  noise drawn with the key.
-/
module

public import proofs.«01_k».proof.Proof.RI.Cells

@[expose] public section

set_option maxRecDepth 65536
set_option maxHeartbeats 1000000

noncomputable section

namespace Cert.ReferenceIdeal.Hand

open Cert.ReferenceIdeal Cert.ReferenceIdeal.Gen
open Idealize.ShloMosaic Idealize.ShloMosaic.TcCoe
open Cert.Proof.Draw Cert.Proof.Probs
open Cert.KernelIdeal.Hand (cum tiny theta)
open Cert.Reference2Ideal.Hand (row result_value)

/-- The argument's row. -/
abbrev argRow (W : Arrays) : Fin 1000000 → EReal := row (W main_arg0 : FVec Ideal S1x1000000 .f32)
/-- The probabilities, and the places in falling order of them. -/
abbrev probRow (W : Arrays) : Fin 1000000 → EReal := probOf (argRow W)
abbrev placeRow (W : Arrays) : Fin 1000000 → Fin 1000000 := order fun k => -probRow W k
/-- The noise, from arrays that hold the key. -/
def noiseRow (K : Arrays) (k : Fin 1000000) : EReal :=
  (StableHlo.after (gumbelOps (F := Ideal) (.of main_v31) main_call5) K main_v35 : FVec Ideal S1x1000000 .f32) (at2 k)

theorem result_of (W : Arrays) (a pn : EReal) : ∃ K : Arrays, @Eq (IVec S2 32) (K main_v31) theKey ∧
    ∃ J, ∃ hJ : First 1000000 (refScore 1000000 (list (probRow W) a (placeRow W)) (ext (noiseRow K) pn)) J,
      ∀ j : S1.Idx, (StableHlo.after (mainOps (F := Ideal)) W main_v40 : IVec S1 32) j = BitVec.ofNat 32 (placeRow W ⟨J, hJ.1⟩).val := by
  rw [mainOps_split]
  simp only [StableHlo.after_append]
  obtain ⟨A1, e1⟩ : ∃ A, A = StableHlo.after (softOps (F := Ideal)) W := ⟨_, rfl⟩
  have s12 : ∀ k, (A1 main_v12 : FVec Ideal S1x1000000 .f32) (at2 k) = probRow W k := fun k => by
    rw [e1]; exact congrFun ((read_soft W).trans (result_value _)) (at2 k)
  have s13 : ∀ k, (A1 main_v13 : FVec Ideal S1x1000000 .f32) (at2 k) = -probRow W k := fun k => by
    rw [e1]; exact (congrFun (read_negated W) (at2 k)).trans (congrArg (fun b : EReal => -b) (congrFun (result_value _) (at2 k)))
  rw [← e1]; clear e1
  obtain ⟨A2, e2⟩ : ∃ A, A = StableHlo.after (argsortOps (F := Ideal) (.of main_v13) main_call0) A1 := ⟨_, rfl⟩
  have t12 : ∀ k, (A2 main_v12 : FVec Ideal S1x1000000 .f32) (at2 k) = probRow W k := fun k => by rw [e2, sort_keeps]; exact s12 k
  have t14 : ∀ k, (A2 main_v14 : IVec S1x1000000 32) (at2 k) = BitVec.ofNat 32 (placeRow W k).val := fun k => by
    rw [e2, read_sort]; exact sorted_place _ _ s13 k
  rw [← e2]; clear e2
  obtain ⟨A3, e3⟩ : ∃ A, A = StableHlo.after (take_along_axisOps (F := Ideal) (.of main_v12) (.of main_v14) main_call1) A2 := ⟨_, rfl⟩
  have u14 : ∀ k, (A3 main_v14 : IVec S1x1000000 32) (at2 k) = BitVec.ofNat 32 (placeRow W k).val := fun k => by rw [e3, take_keeps]; exact t14 k
  have u15 : ∀ k, (A3 main_v15 : FVec Ideal S1x1000000 .f32) (at2 k) = list (probRow W) a (placeRow W) k.val := fun k => by
    rw [e3, read_taken, taken_apply _ _ (placeRow W) (column_apply _ _ t14), t12]
    exact (ext_fin (fun k => probRow W (placeRow W k)) a k).symm
  rw [← e3]; clear e3
  obtain ⟨Q, hQ⟩ : ∃ Q, Q = list (probRow W) a (placeRow W) := ⟨_, rfl⟩
  rw [← hQ] at u15 ⊢
  obtain ⟨A4, e4⟩ : ∃ A, A = StableHlo.after (cumsumOps (F := Ideal) (.of main_v15) main_call2) A3 := ⟨_, rfl⟩
  have v14 : ∀ k, (A4 main_v14 : IVec S1x1000000 32) (at2 k) = BitVec.ofNat 32 (placeRow W k).val := fun k => by
    rw [e4, cumsum_keeps (Or.inl rfl)]; exact u14 k
  have v15 : ∀ k, (A4 main_v15 : FVec Ideal S1x1000000 .f32) (at2 k) = Q k.val := fun k => by
    rw [e4, cumsum_keeps (Or.inr rfl)]; exact u15 k
  have v16 : ∀ k, (A4 main_v16 : FVec Ideal S1x1000000 .f32) (at2 k) = cum Q k.val := fun k => by
    rw [e4, read_running]; exact running_apply _ _ u15 k
  rw [← e4]; clear e4
  obtain ⟨A5, e5⟩ : ∃ A, A = StableHlo.after (limitOps (F := Ideal)) A4 := ⟨_, rfl⟩
  have w14 : ∀ k, (A5 main_v14 : IVec S1x1000000 32) (at2 k) = BitVec.ofNat 32 (placeRow W k).val := fun k => by
    rw [e5, limit_keeps (Or.inl rfl)]; exact v14 k
  have w15 : ∀ k, (A5 main_v15 : FVec Ideal S1x1000000 .f32) (at2 k) = Q k.val := fun k => by
    rw [e5, limit_keeps (Or.inr rfl)]; exact v15 k
  have w18 : ∀ k, (A5 main_v18 : IVec S1x1000000 1) (at2 k) = Ideal.cmp .ogt (cum Q k.val) theta := fun k => by
    rw [e5, read_limit]
    exact congrArg (fun b : EReal => Ideal.cmp .ogt b theta) (v16 k)
  have wz : @Eq (FVec Ideal S_ .f32) (A5 main_cst_4) (constant S_ .f32 0x00000000#32) := by rw [e5, read_none]
  rw [← e5]; clear e5
  obtain ⟨A6, e6⟩ : ∃ A, A = StableHlo.after (whereOps (F := Ideal) (.of main_v18) (.of main_cst_4) (.of main_v15) main_call3) A5 := ⟨_, rfl⟩
  have x14 : ∀ k, (A6 main_v14 : IVec S1x1000000 32) (at2 k) = BitVec.ofNat 32 (placeRow W k).val := fun k => by rw [e6, where_keeps]; exact w14 k
  have x19 : ∀ k, (A6 main_v19 : FVec Ideal S1x1000000 .f32) (at2 k) = kept Q k.val := fun k => by
    rw [e6, read_kept, wz]
    refine Eq.trans ?_ (kept_apply (cum Q k.val) (Q k.val) (Ideal.ofBits .f32 0x00000000#32) Ideal.ofBits_zero_f32)
    exact congrArg₂ (fun (b : BitVec 1) (y : EReal) => Scalar.select b (Ideal.ofBits .f32 0x00000000#32 : EReal) y) (w18 k) (w15 k)
  rw [← e6]; clear e6
  obtain ⟨A7, e7⟩ : ∃ A, A = StableHlo.after (sumOps (F := Ideal)) A6 := ⟨_, rfl⟩
  have y14 : ∀ k, (A7 main_v14 : IVec S1x1000000 32) (at2 k) = BitVec.ofNat 32 (placeRow W k).val := fun k => by
    rw [e7, sum_keeps (Or.inl rfl)]; exact x14 k
  have y19 : ∀ k, (A7 main_v19 : FVec Ideal S1x1000000 .f32) (at2 k) = kept Q k.val := fun k => by
    rw [e7, sum_keeps (Or.inr rfl)]; exact x19 k
  have y21 : ∀ j, (A7 main_v21 : FVec Ideal S1x1 .f32) j = (∑ j ∈ Finset.range 1000000, kept Q j : EReal) := fun j => by
    rw [e7, read_sum]
    exact sum_apply _ _ x19 _
  have yt : @Eq (FVec Ideal S_ .f32) (A7 main_cst_6) (constant S_ .f32 0x2EDBE6FF#32) := by rw [e7, read_least]
  rw [← e7]; clear e7
  obtain ⟨A8, e8⟩ : ∃ A, A = StableHlo.after (clipOps (F := Ideal) (.of main_v21) (.of main_cst_6) main_call4) A7 := ⟨_, rfl⟩
  have z14 : ∀ k, (A8 main_v14 : IVec S1x1000000 32) (at2 k) = BitVec.ofNat 32 (placeRow W k).val := fun k => by
    rw [e8, clip_keeps (Or.inl rfl)]; exact y14 k
  have z19 : ∀ k, (A8 main_v19 : FVec Ideal S1x1000000 .f32) (at2 k) = kept Q k.val := fun k => by
    rw [e8, clip_keeps (Or.inr rfl)]; exact y19 k
  have z22 : ∀ j, (A8 main_v22 : FVec Ideal S1x1 .f32) j = total 1000000 Q := fun j => by
    rw [e8, read_clip, yt]
    exact congrArg (fun b : EReal => max tiny b) (y21 j)
  rw [← e8]; clear e8
  obtain ⟨A9, e9⟩ : ∃ A, A = StableHlo.after (logOps (F := Ideal)) A8 := ⟨_, rfl⟩
  have a14 : ∀ k, (A9 main_v14 : IVec S1x1000000 32) (at2 k) = BitVec.ofNat 32 (placeRow W k).val := fun k => by rw [e9, log_keeps]; exact z14 k
  have a34 : ∀ k, (A9 main_v34 : FVec Ideal S1x1000000 .f32) (at2 k) = Ideal.log (Ideal.div (kept Q k.val) (total 1000000 Q) + tiny) := fun k => by
    rw [e9, read_log]
    exact congrArg₂ (fun b d : EReal => Ideal.log (Ideal.div b d + tiny)) (z19 k) (z22 _)
  have akey : @Eq (IVec S2 32) (A9 main_v31) theKey := by rw [e9, read_key]
  rw [← e9]; clear e9
  refine ⟨A9, akey, ?_⟩
  obtain ⟨A10, e10⟩ : ∃ A, A = StableHlo.after (gumbelOps (F := Ideal) (.of main_v31) main_call5) A9 := ⟨_, rfl⟩
  have b14 : ∀ k, (A10 main_v14 : IVec S1x1000000 32) (at2 k) = BitVec.ofNat 32 (placeRow W k).val := fun k => by
    rw [e10, noise_keeps (Or.inl rfl)]; exact a14 k
  have b34 : ∀ k, (A10 main_v34 : FVec Ideal S1x1000000 .f32) (at2 k) = Ideal.log (Ideal.div (kept Q k.val) (total 1000000 Q) + tiny) := fun k => by
    rw [e10, noise_keeps (Or.inr rfl)]; exact a34 k
  have b35 : ∀ k, (A10 main_v35 : FVec Ideal S1x1000000 .f32) (at2 k) = ext (noiseRow A9) pn k.val := fun k => by rw [e10, ext_fin]; rfl
  rw [← e10]; clear e10
  obtain ⟨A11, e11⟩ : ∃ A, A = StableHlo.after (scoreOps (F := Ideal)) A10 := ⟨_, rfl⟩
  have c14 : ∀ k, (A11 main_v14 : IVec S1x1000000 32) (at2 k) = BitVec.ofNat 32 (placeRow W k).val := fun k => by rw [e11, score_keeps]; exact b14 k
  have c36 : ∀ k, (A11 main_v36 : FVec Ideal S1x1000000 .f32) (at2 k) = refScore 1000000 Q (ext (noiseRow A9) pn) k.val := fun k => by
    rw [e11, read_score]
    exact congrArg₂ (fun b d : EReal => b + d) (b35 k) (b34 k)
  rw [← e11]; clear e11
  obtain ⟨A12, e12⟩ : ∃ A, A = StableHlo.after (argmaxOps (F := Ideal) (.of main_v36) main_call6) A11 := ⟨_, rfl⟩
  have d14 : ∀ k, (A12 main_v14 : IVec S1x1000000 32) (at2 k) = BitVec.ofNat 32 (placeRow W k).val := fun k => by rw [e12, argmax_keeps]; exact c14 k
  have d37 : ∀ j, ∃ J, First 1000000 (refScore 1000000 Q (ext (noiseRow A9) pn)) J ∧ (A12 main_v37 : IVec S1 32) j = BitVec.ofNat 32 J := fun j => by
    rw [e12, read_argmax]
    exact best_place _ _ c36 j
  rw [← e12]; clear e12
  obtain ⟨J, hJ, e37⟩ := d37 (ValueIdx.ix1 (n := 1) 0)
  have d37 : ∀ j, (A12 main_v37 : IVec S1 32) j = BitVec.ofNat 32 J := fun j => by
    obtain ⟨J', hJ', e⟩ := d37 j
    rw [e, hJ'.unique hJ]
  refine ⟨J, hJ, fun j => ?_⟩
  obtain ⟨A13, e13⟩ : ∃ A, A = StableHlo.after (placeOps (F := Ideal)) A12 := ⟨_, rfl⟩
  have f14 : ∀ k, (A13 main_v14 : IVec S1x1000000 32) (at2 k) = BitVec.ofNat 32 (placeRow W k).val := fun k => by rw [e13, place_keeps]; exact d14 k
  have f38 : ∀ j, (A13 main_v38 : IVec S1x1 32) j = BitVec.ofNat 32 J := fun j => by
    rw [e13, read_place]
    exact d37 _
  rw [← e13]; clear e13
  rw [read_result, read_chosen]
  refine (shapeCast_apply (chosenAt (A13 main_v14) (A13 main_v38)) shapeCasts_S1x1_S1 j only2 ?_).trans
    ((chosen_apply _ _ ⟨J, hJ.1⟩ f38 _).trans (f14 _))
  rw [Shape.rowMajor_val_two, Shape.rowMajor_val_one]
  have : (j 0).val < 1 := (j 0).isLt
  show 0 * 1 + 0 = (j 0).val
  omega

end Cert.ReferenceIdeal.Hand

end
-- ==== Proof.Noise.lean ====
/-
  The noise is the same in both programs: the two lists of operations that draw it agree, stretch by stretch.
-/
module

public import proofs.«01_k».proof.Proof.KI.Head
public import proofs.«01_k».proof.Proof.RI.Ops
public import Idealize.ShloMosaic.Lib.StableHlo.RunRead

@[expose] public section

set_option maxRecDepth 65536
set_option maxHeartbeats 4000000

noncomputable section

namespace Cert.Proof.Noise

open Idealize.ShloMosaic Idealize.ShloMosaic.TcCoe Idealize.ShloMosaic.Tactic
open Idealize.ShloMosaic.StableHlo (after)

/-- The operations that draw the kernel's noise, and the reference's. -/
def kernelNoise : List (HloOp Cert.KernelIdeal.τ Cert.KernelIdeal.sig (Elt Ideal)) := Cert.KernelIdeal.Gen.hostOps2_3
def referenceNoise : List (HloOp Cert.ReferenceIdeal.τ Cert.ReferenceIdeal.sig (Elt Ideal)) :=
  Cert.ReferenceIdeal.Hand.gumbelOps (.of Cert.ReferenceIdeal.main_v31) Cert.ReferenceIdeal.main_call5

abbrev ValK : Type := Valuation Cert.KernelIdeal.τ Cert.KernelIdeal.sig (Elt Ideal)
abbrev ValR : Type := Valuation Cert.ReferenceIdeal.τ Cert.ReferenceIdeal.sig (Elt Ideal)

abbrev Row : Type := Cert.KernelIdeal.S1x1000000.Idx
abbrev One : Type := Cert.KernelIdeal.S_.Idx
abbrev Two : Type := Cert.KernelIdeal.S2.Idx
abbrev Unt : Type := Cert.KernelIdeal.S1x1.Idx

/-- The stretch of 23 operations from the one numbered 0. -/
theorem part0 (VK : ValK) (VR : ValR)
    (h0 : @Eq (Two → BitVec 32) (VK (Proc.devRef .tc Cert.KernelIdeal.main_v16)) (VR (Proc.devRef .tc Cert.ReferenceIdeal.main_v31))) :
    @Eq (Unt → EReal) ((after ((kernelNoise.drop 0).take 23) VK) (Proc.devRef .tc Cert.KernelIdeal.main_call1_call0_v1)) ((after ((referenceNoise.drop 0).take 23) VR) (Proc.devRef .tc Cert.ReferenceIdeal.main_call5_call0_v1))
    ∧ @Eq (Unt → EReal) ((after ((kernelNoise.drop 0).take 23) VK) (Proc.devRef .tc Cert.KernelIdeal.main_call1_call0_v2)) ((after ((referenceNoise.drop 0).take 23) VR) (Proc.devRef .tc Cert.ReferenceIdeal.main_call5_call0_v2))
    ∧ @Eq (One → BitVec 32) ((after ((kernelNoise.drop 0).take 23) VK) (Proc.devRef .tc Cert.KernelIdeal.main_call1_call0_v4)) ((after ((referenceNoise.drop 0).take 23) VR) (Proc.devRef .tc Cert.ReferenceIdeal.main_call5_call0_v4))
    ∧ @Eq (One → BitVec 32) ((after ((kernelNoise.drop 0).take 23) VK) (Proc.devRef .tc Cert.KernelIdeal.main_call1_call0_v6)) ((after ((referenceNoise.drop 0).take 23) VR) (Proc.devRef .tc Cert.ReferenceIdeal.main_call5_call0_v6))
    ∧ @Eq (Row → BitVec 32) ((after ((kernelNoise.drop 0).take 23) VK) (Proc.devRef .tc Cert.KernelIdeal.main_call1_call0_v16)) ((after ((referenceNoise.drop 0).take 23) VR) (Proc.devRef .tc Cert.ReferenceIdeal.main_call5_call0_v16))
    ∧ @Eq (Row → BitVec 32) ((after ((kernelNoise.drop 0).take 23) VK) (Proc.devRef .tc Cert.KernelIdeal.main_call1_call0_v17)) ((after ((referenceNoise.drop 0).take 23) VR) (Proc.devRef .tc Cert.ReferenceIdeal.main_call5_call0_v17)) := by
  rw [show (kernelNoise.drop 0).take 23 = [_, _, _, _, _, _, _, _, _, _, _, _, _, _, _, _, _, _, _, _, _, _, _] from rfl,
    show (referenceNoise.drop 0).take 23 = [_, _, _, _, _, _, _, _, _, _, _, _, _, _, _, _, _, _, _, _, _, _, _] from rfl]
  after_reads_simp
  try simp only [StableHlo.TRef.ofBuf_toBuf]
  refine ⟨?_, ?_, ?_, ?_, ?_, ?_⟩
  all_goals (simp only [h0]; try rfl)

/-- The stretch of 26 operations from the one numbered 23. -/
theorem part1 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_v6)) (VR (Proc.devRef .tc Cert.ReferenceIdeal.main_call5_call0_v6)))
    (h4 : @Eq (Row → BitVec 32) (VK (Proc.devRef .tc Cert.KernelIdeal.main_call1_call0_v16)) (VR (Proc.devRef .tc Cert.ReferenceIdeal.main_call5_call0_v16)))
    (h5 : @Eq (Row → BitVec 32) (VK (Proc.devRef .tc Cert.KernelIdeal.main_call1_call0_v17)) (VR (Proc.devRef .tc Cert.ReferenceIdeal.main_call5_call0_v17))) :
    @Eq (Unt → EReal) ((after ((kernelNoise.drop 23).take 26) VK) (Proc.devRef .tc Cert.KernelIdeal.main_call1_call0_v1)) ((after ((referenceNoise.drop 23).take 26) VR) (Proc.devRef .tc Cert.ReferenceIdeal.main_call5_call0_v1))
    ∧ @Eq (Unt → EReal) ((after ((kernelNoise.drop 23).take 26) VK) (Proc.devRef .tc Cert.KernelIdeal.main_call1_call0_v2)) ((after ((referenceNoise.drop 23).take 26) VR) (Proc.devRef .tc Cert.ReferenceIdeal.main_call5_call0_v2))
    ∧ @Eq (One → BitVec 32) ((after ((kernelNoise.drop 23).take 26) VK) (Proc.devRef .tc Cert.KernelIdeal.main_call1_call0_v4)) ((after ((referenceNoise.drop 23).take 26) VR) (Proc.devRef .tc Cert.ReferenceIdeal.main_call5_call0_v4))
    ∧ @Eq (One → BitVec 32) ((after ((kernelNoise.drop 23).take 26) VK) (Proc.devRef .tc Cert.KernelIdeal.main_call1_call0_v6)) ((after ((referenceNoise.drop 23).take 26) VR) (Proc.devRef .tc Cert.ReferenceIdeal.main_call5_call0_v6))
    ∧ @Eq (One → BitVec 32) ((after ((kernelNoise.drop 23).take 26) VK) (Proc.devRef .tc Cert.KernelIdeal.main_call1_call0_call0_v1)) ((after ((referenceNoise.drop 23).take 26) VR) (Proc.devRef .tc Cert.ReferenceIdeal.main_call5_call0_call0_v1))
    ∧ @Eq (Row → BitVec 32) ((after ((kernelNoise.drop 23).take 26) VK) (Proc.devRef .tc Cert.KernelIdeal.main_call1_call0_call0_v19)) ((after ((referenceNoise.drop 23).take 26) VR) (Proc.devRef .tc Cert.ReferenceIdeal.main_call5_call0_call0_v19))
    ∧ @Eq (Row → BitVec 32) ((after ((kernelNoise.drop 23).take 26) VK) (Proc.devRef .tc Cert.KernelIdeal.main_call1_call0_call0_v20)) ((after ((referenceNoise.drop 23).take 26) VR) (Proc.devRef .tc Cert.ReferenceIdeal.main_call5_call0_call0_v20)) := by
  rw [show (kernelNoise.drop 23).take 26 = [_, _, _, _, _, _, _, _, _, _, _, _, _, _, _, _, _, _, _, _, _, _, _, _, _, _] from rfl,
    show (referenceNoise.drop 23).take 26 = [_, _, _, _, _, _, _, _, _, _, _, _, _, _, _, _, _, _, _, _, _, _, _, _, _, _] from rfl]
  after_reads_simp
  try simp only [StableHlo.TRef.ofBuf_toBuf]
  refine ⟨?_, ?_, ?_, ?_, ?_, ?_, ?_⟩
  all_goals (simp only [h0, h1, h2, h3, h4, h5]; try rfl)

/-- The stretch of 26 operations from the one numbered 49. -/
theorem part2 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_v6)) (VR (Proc.devRef .tc Cert.ReferenceIdeal.main_call5_call0_v6)))
    (h4 : @Eq (One → BitVec 32) (VK (Proc.devRef .tc Cert.KernelIdeal.main_call1_call0_call0_v1)) (VR (Proc.devRef .tc Cert.ReferenceIdeal.main_call5_call0_call0_v1)))
    (h5 : @Eq (Row → BitVec 32) (VK (Proc.devRef .tc Cert.KernelIdeal.main_call1_call0_call0_v19)) (VR (Proc.devRef .tc Cert.ReferenceIdeal.main_call5_call0_call0_v19)))
    (h6 : @Eq (Row → BitVec 32) (VK (Proc.devRef .tc Cert.KernelIdeal.main_call1_call0_call0_v20)) (VR (Proc.devRef .tc Cert.ReferenceIdeal.main_call5_call0_call0_v20))) :
    @Eq (Unt → EReal) ((after ((kernelNoise.drop 49).take 26) VK) (Proc.devRef .tc Cert.KernelIdeal.main_call1_call0_v1)) ((after ((referenceNoise.drop 49).take 26) VR) (Proc.devRef .tc Cert.ReferenceIdeal.main_call5_call0_v1))
    ∧ @Eq (Unt → EReal) ((after ((kernelNoise.drop 49).take 26) VK) (Proc.devRef .tc Cert.KernelIdeal.main_call1_call0_v2)) ((after ((referenceNoise.drop 49).take 26) VR) (Proc.devRef .tc Cert.ReferenceIdeal.main_call5_call0_v2))
    ∧ @Eq (One → BitVec 32) ((after ((kernelNoise.drop 49).take 26) VK) (Proc.devRef .tc Cert.KernelIdeal.main_call1_call0_v4)) ((after ((referenceNoise.drop 49).take 26) VR) (Proc.devRef .tc Cert.ReferenceIdeal.main_call5_call0_v4))
    ∧ @Eq (One → BitVec 32) ((after ((kernelNoise.drop 49).take 26) VK) (Proc.devRef .tc Cert.KernelIdeal.main_call1_call0_v6)) ((after ((referenceNoise.drop 49).take 26) VR) (Proc.devRef .tc Cert.ReferenceIdeal.main_call5_call0_v6))
    ∧ @Eq (One → BitVec 32) ((after ((kernelNoise.drop 49).take 26) VK) (Proc.devRef .tc Cert.KernelIdeal.main_call1_call0_call0_v1)) ((after ((referenceNoise.drop 49).take 26) VR) (Proc.devRef .tc Cert.ReferenceIdeal.main_call5_call0_call0_v1))
    ∧ @Eq (Row → BitVec 32) ((after ((kernelNoise.drop 49).take 26) VK) (Proc.devRef .tc Cert.KernelIdeal.main_call1_call0_call0_v39)) ((after ((referenceNoise.drop 49).take 26) VR) (Proc.devRef .tc Cert.ReferenceIdeal.main_call5_call0_call0_v39))
    ∧ @Eq (Row → BitVec 32) ((after ((kernelNoise.drop 49).take 26) VK) (Proc.devRef .tc Cert.KernelIdeal.main_call1_call0_call0_v40)) ((after ((referenceNoise.drop 49).take 26) VR) (Proc.devRef .tc Cert.ReferenceIdeal.main_call5_call0_call0_v40))
    ∧ @Eq (One → BitVec 32) ((after ((kernelNoise.drop 49).take 26) VK) (Proc.devRef .tc Cert.KernelIdeal.main_call1_call0_call0_c_9)) ((after ((referenceNoise.drop 49).take 26) VR) (Proc.devRef .tc Cert.ReferenceIdeal.main_call5_call0_call0_c_9)) := by
  rw [show (kernelNoise.drop 49).take 26 = [_, _, _, _, _, _, _, _, _, _, _, _, _, _, _, _, _, _, _, _, _, _, _, _, _, _] from rfl,
    show (referenceNoise.drop 49).take 26 = [_, _, _, _, _, _, _, _, _, _, _, _, _, _, _, _, _, _, _, _, _, _, _, _, _, _] from rfl]
  after_reads_simp
  try simp only [StableHlo.TRef.ofBuf_toBuf]
  refine ⟨?_, ?_, ?_, ?_, ?_, ?_, ?_, ?_⟩
  all_goals (simp only [h0, h1, h2, h3, h4, h5, h6]; try rfl)

/-- The stretch of 26 operations from the one numbered 75. -/
theorem part3 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_v6)) (VR (Proc.devRef .tc Cert.ReferenceIdeal.main_call5_call0_v6)))
    (h4 : @Eq (One → BitVec 32) (VK (Proc.devRef .tc Cert.KernelIdeal.main_call1_call0_call0_v1)) (VR (Proc.devRef .tc Cert.ReferenceIdeal.main_call5_call0_call0_v1)))
    (h5 : @Eq (Row → BitVec 32) (VK (Proc.devRef .tc Cert.KernelIdeal.main_call1_call0_call0_v39)) (VR (Proc.devRef .tc Cert.ReferenceIdeal.main_call5_call0_call0_v39)))
    (h6 : @Eq (Row → BitVec 32) (VK (Proc.devRef .tc Cert.KernelIdeal.main_call1_call0_call0_v40)) (VR (Proc.devRef .tc Cert.ReferenceIdeal.main_call5_call0_call0_v40)))
    (h7 : @Eq (One → BitVec 32) (VK (Proc.devRef .tc Cert.KernelIdeal.main_call1_call0_call0_c_9)) (VR (Proc.devRef .tc Cert.ReferenceIdeal.main_call5_call0_call0_c_9))) :
    @Eq (Unt → EReal) ((after ((kernelNoise.drop 75).take 26) VK) (Proc.devRef .tc Cert.KernelIdeal.main_call1_call0_v1)) ((after ((referenceNoise.drop 75).take 26) VR) (Proc.devRef .tc Cert.ReferenceIdeal.main_call5_call0_v1))
    ∧ @Eq (Unt → EReal) ((after ((kernelNoise.drop 75).take 26) VK) (Proc.devRef .tc Cert.KernelIdeal.main_call1_call0_v2)) ((after ((referenceNoise.drop 75).take 26) VR) (Proc.devRef .tc Cert.ReferenceIdeal.main_call5_call0_v2))
    ∧ @Eq (One → BitVec 32) ((after ((kernelNoise.drop 75).take 26) VK) (Proc.devRef .tc Cert.KernelIdeal.main_call1_call0_v4)) ((after ((referenceNoise.drop 75).take 26) VR) (Proc.devRef .tc Cert.ReferenceIdeal.main_call5_call0_v4))
    ∧ @Eq (One → BitVec 32) ((after ((kernelNoise.drop 75).take 26) VK) (Proc.devRef .tc Cert.KernelIdeal.main_call1_call0_v6)) ((after ((referenceNoise.drop 75).take 26) VR) (Proc.devRef .tc Cert.ReferenceIdeal.main_call5_call0_v6))
    ∧ @Eq (One → BitVec 32) ((after ((kernelNoise.drop 75).take 26) VK) (Proc.devRef .tc Cert.KernelIdeal.main_call1_call0_call0_v1)) ((after ((referenceNoise.drop 75).take 26) VR) (Proc.devRef .tc Cert.ReferenceIdeal.main_call5_call0_call0_v1))
    ∧ @Eq (Row → BitVec 32) ((after ((kernelNoise.drop 75).take 26) VK) (Proc.devRef .tc Cert.KernelIdeal.main_call1_call0_call0_v60)) ((after ((referenceNoise.drop 75).take 26) VR) (Proc.devRef .tc Cert.ReferenceIdeal.main_call5_call0_call0_v60))
    ∧ @Eq (Row → BitVec 32) ((after ((kernelNoise.drop 75).take 26) VK) (Proc.devRef .tc Cert.KernelIdeal.main_call1_call0_call0_v61)) ((after ((referenceNoise.drop 75).take 26) VR) (Proc.devRef .tc Cert.ReferenceIdeal.main_call5_call0_call0_v61)) := by
  rw [show (kernelNoise.drop 75).take 26 = [_, _, _, _, _, _, _, _, _, _, _, _, _, _, _, _, _, _, _, _, _, _, _, _, _, _] from rfl,
    show (referenceNoise.drop 75).take 26 = [_, _, _, _, _, _, _, _, _, _, _, _, _, _, _, _, _, _, _, _, _, _, _, _, _, _] from rfl]
  after_reads_simp
  try simp only [StableHlo.TRef.ofBuf_toBuf]
  refine ⟨?_, ?_, ?_, ?_, ?_, ?_, ?_⟩
  all_goals (simp only [h0, h1, h2, h3, h4, h5, h6, h7]; try rfl)

/-- The stretch of 26 operations from the one numbered 101. -/
theorem part4 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_v6)) (VR (Proc.devRef .tc Cert.ReferenceIdeal.main_call5_call0_v6)))
    (h4 : @Eq (One → BitVec 32) (VK (Proc.devRef .tc Cert.KernelIdeal.main_call1_call0_call0_v1)) (VR (Proc.devRef .tc Cert.ReferenceIdeal.main_call5_call0_call0_v1)))
    (h5 : @Eq (Row → BitVec 32) (VK (Proc.devRef .tc Cert.KernelIdeal.main_call1_call0_call0_v60)) (VR (Proc.devRef .tc Cert.ReferenceIdeal.main_call5_call0_call0_v60)))
    (h6 : @Eq (Row → BitVec 32) (VK (Proc.devRef .tc Cert.KernelIdeal.main_call1_call0_call0_v61)) (VR (Proc.devRef .tc Cert.ReferenceIdeal.main_call5_call0_call0_v61))) :
    @Eq (Unt → EReal) ((after ((kernelNoise.drop 101).take 26) VK) (Proc.devRef .tc Cert.KernelIdeal.main_call1_call0_v1)) ((after ((referenceNoise.drop 101).take 26) VR) (Proc.devRef .tc Cert.ReferenceIdeal.main_call5_call0_v1))
    ∧ @Eq (Unt → EReal) ((after ((kernelNoise.drop 101).take 26) VK) (Proc.devRef .tc Cert.KernelIdeal.main_call1_call0_v2)) ((after ((referenceNoise.drop 101).take 26) VR) (Proc.devRef .tc Cert.ReferenceIdeal.main_call5_call0_v2))
    ∧ @Eq (One → BitVec 32) ((after ((kernelNoise.drop 101).take 26) VK) (Proc.devRef .tc Cert.KernelIdeal.main_call1_call0_v4)) ((after ((referenceNoise.drop 101).take 26) VR) (Proc.devRef .tc Cert.ReferenceIdeal.main_call5_call0_v4))
    ∧ @Eq (One → BitVec 32) ((after ((kernelNoise.drop 101).take 26) VK) (Proc.devRef .tc Cert.KernelIdeal.main_call1_call0_v6)) ((after ((referenceNoise.drop 101).take 26) VR) (Proc.devRef .tc Cert.ReferenceIdeal.main_call5_call0_v6))
    ∧ @Eq (One → BitVec 32) ((after ((kernelNoise.drop 101).take 26) VK) (Proc.devRef .tc Cert.KernelIdeal.main_call1_call0_call0_v1)) ((after ((referenceNoise.drop 101).take 26) VR) (Proc.devRef .tc Cert.ReferenceIdeal.main_call5_call0_call0_v1))
    ∧ @Eq (Row → BitVec 32) ((after ((kernelNoise.drop 101).take 26) VK) (Proc.devRef .tc Cert.KernelIdeal.main_call1_call0_call0_v80)) ((after ((referenceNoise.drop 101).take 26) VR) (Proc.devRef .tc Cert.ReferenceIdeal.main_call5_call0_call0_v80))
    ∧ @Eq (Row → BitVec 32) ((after ((kernelNoise.drop 101).take 26) VK) (Proc.devRef .tc Cert.KernelIdeal.main_call1_call0_call0_v81)) ((after ((referenceNoise.drop 101).take 26) VR) (Proc.devRef .tc Cert.ReferenceIdeal.main_call5_call0_call0_v81))
    ∧ @Eq (One → BitVec 32) ((after ((kernelNoise.drop 101).take 26) VK) (Proc.devRef .tc Cert.KernelIdeal.main_call1_call0_call0_c_20)) ((after ((referenceNoise.drop 101).take 26) VR) (Proc.devRef .tc Cert.ReferenceIdeal.main_call5_call0_call0_c_20)) := by
  rw [show (kernelNoise.drop 101).take 26 = [_, _, _, _, _, _, _, _, _, _, _, _, _, _, _, _, _, _, _, _, _, _, _, _, _, _] from rfl,
    show (referenceNoise.drop 101).take 26 = [_, _, _, _, _, _, _, _, _, _, _, _, _, _, _, _, _, _, _, _, _, _, _, _, _, _] from rfl]
  after_reads_simp
  try simp only [StableHlo.TRef.ofBuf_toBuf]
  refine ⟨?_, ?_, ?_, ?_, ?_, ?_, ?_, ?_⟩
  all_goals (simp only [h0, h1, h2, h3, h4, h5, h6]; try rfl)

/-- The stretch of 26 operations from the one numbered 127. -/
theorem part5 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_v6)) (VR (Proc.devRef .tc Cert.ReferenceIdeal.main_call5_call0_v6)))
    (h4 : @Eq (One → BitVec 32) (VK (Proc.devRef .tc Cert.KernelIdeal.main_call1_call0_call0_v1)) (VR (Proc.devRef .tc Cert.ReferenceIdeal.main_call5_call0_call0_v1)))
    (h5 : @Eq (Row → BitVec 32) (VK (Proc.devRef .tc Cert.KernelIdeal.main_call1_call0_call0_v80)) (VR (Proc.devRef .tc Cert.ReferenceIdeal.main_call5_call0_call0_v80)))
    (h6 : @Eq (Row → BitVec 32) (VK (Proc.devRef .tc Cert.KernelIdeal.main_call1_call0_call0_v81)) (VR (Proc.devRef .tc Cert.ReferenceIdeal.main_call5_call0_call0_v81)))
    (h7 : @Eq (One → BitVec 32) (VK (Proc.devRef .tc Cert.KernelIdeal.main_call1_call0_call0_c_20)) (VR (Proc.devRef .tc Cert.ReferenceIdeal.main_call5_call0_call0_c_20))) :
    @Eq (Unt → EReal) ((after ((kernelNoise.drop 127).take 26) VK) (Proc.devRef .tc Cert.KernelIdeal.main_call1_call0_v1)) ((after ((referenceNoise.drop 127).take 26) VR) (Proc.devRef .tc Cert.ReferenceIdeal.main_call5_call0_v1))
    ∧ @Eq (Unt → EReal) ((after ((kernelNoise.drop 127).take 26) VK) (Proc.devRef .tc Cert.KernelIdeal.main_call1_call0_v2)) ((after ((referenceNoise.drop 127).take 26) VR) (Proc.devRef .tc Cert.ReferenceIdeal.main_call5_call0_v2))
    ∧ @Eq (One → BitVec 32) ((after ((kernelNoise.drop 127).take 26) VK) (Proc.devRef .tc Cert.KernelIdeal.main_call1_call0_v4)) ((after ((referenceNoise.drop 127).take 26) VR) (Proc.devRef .tc Cert.ReferenceIdeal.main_call5_call0_v4))
    ∧ @Eq (One → BitVec 32) ((after ((kernelNoise.drop 127).take 26) VK) (Proc.devRef .tc Cert.KernelIdeal.main_call1_call0_v6)) ((after ((referenceNoise.drop 127).take 26) VR) (Proc.devRef .tc Cert.ReferenceIdeal.main_call5_call0_v6))
    ∧ @Eq (One → BitVec 32) ((after ((kernelNoise.drop 127).take 26) VK) (Proc.devRef .tc Cert.KernelIdeal.main_call1_call0_call0_v1)) ((after ((referenceNoise.drop 127).take 26) VR) (Proc.devRef .tc Cert.ReferenceIdeal.main_call5_call0_call0_v1))
    ∧ @Eq (Row → BitVec 32) ((after ((kernelNoise.drop 127).take 26) VK) (Proc.devRef .tc Cert.KernelIdeal.main_call1_call0_call0_v95)) ((after ((referenceNoise.drop 127).take 26) VR) (Proc.devRef .tc Cert.ReferenceIdeal.main_call5_call0_call0_v95))
    ∧ @Eq (Row → BitVec 32) ((after ((kernelNoise.drop 127).take 26) VK) (Proc.devRef .tc Cert.KernelIdeal.main_call1_call0_call0_v101)) ((after ((referenceNoise.drop 127).take 26) VR) (Proc.devRef .tc Cert.ReferenceIdeal.main_call5_call0_call0_v101))
    ∧ @Eq (Row → BitVec 32) ((after ((kernelNoise.drop 127).take 26) VK) (Proc.devRef .tc Cert.KernelIdeal.main_call1_call0_call0_v102)) ((after ((referenceNoise.drop 127).take 26) VR) (Proc.devRef .tc Cert.ReferenceIdeal.main_call5_call0_call0_v102)) := by
  rw [show (kernelNoise.drop 127).take 26 = [_, _, _, _, _, _, _, _, _, _, _, _, _, _, _, _, _, _, _, _, _, _, _, _, _, _] from rfl,
    show (referenceNoise.drop 127).take 26 = [_, _, _, _, _, _, _, _, _, _, _, _, _, _, _, _, _, _, _, _, _, _, _, _, _, _] from rfl]
  after_reads_simp
  try simp only [StableHlo.TRef.ofBuf_toBuf]
  refine ⟨?_, ?_, ?_, ?_, ?_, ?_, ?_, ?_⟩
  all_goals (simp only [h0, h1, h2, h3, h4, h5, h6, h7]; try rfl)

/-- The stretch of 26 operations from the one numbered 153. -/
theorem part6 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_v6)) (VR (Proc.devRef .tc Cert.ReferenceIdeal.main_call5_call0_v6)))
    (h4 : @Eq (One → BitVec 32) (VK (Proc.devRef .tc Cert.KernelIdeal.main_call1_call0_call0_v1)) (VR (Proc.devRef .tc Cert.ReferenceIdeal.main_call5_call0_call0_v1)))
    (h5 : @Eq (Row → BitVec 32) (VK (Proc.devRef .tc Cert.KernelIdeal.main_call1_call0_call0_v95)) (VR (Proc.devRef .tc Cert.ReferenceIdeal.main_call5_call0_call0_v95)))
    (h6 : @Eq (Row → BitVec 32) (VK (Proc.devRef .tc Cert.KernelIdeal.main_call1_call0_call0_v101)) (VR (Proc.devRef .tc Cert.ReferenceIdeal.main_call5_call0_call0_v101)))
    (h7 : @Eq (Row → BitVec 32) (VK (Proc.devRef .tc Cert.KernelIdeal.main_call1_call0_call0_v102)) (VR (Proc.devRef .tc Cert.ReferenceIdeal.main_call5_call0_call0_v102))) :
    @Eq (Unt → EReal) ((after ((kernelNoise.drop 153).take 26) VK) (Proc.devRef .tc Cert.KernelIdeal.main_call1_call0_v1)) ((after ((referenceNoise.drop 153).take 26) VR) (Proc.devRef .tc Cert.ReferenceIdeal.main_call5_call0_v1))
    ∧ @Eq (Unt → EReal) ((after ((kernelNoise.drop 153).take 26) VK) (Proc.devRef .tc Cert.KernelIdeal.main_call1_call0_v2)) ((after ((referenceNoise.drop 153).take 26) VR) (Proc.devRef .tc Cert.ReferenceIdeal.main_call5_call0_v2))
    ∧ @Eq (One → BitVec 32) ((after ((kernelNoise.drop 153).take 26) VK) (Proc.devRef .tc Cert.KernelIdeal.main_call1_call0_v4)) ((after ((referenceNoise.drop 153).take 26) VR) (Proc.devRef .tc Cert.ReferenceIdeal.main_call5_call0_v4))
    ∧ @Eq (One → BitVec 32) ((after ((kernelNoise.drop 153).take 26) VK) (Proc.devRef .tc Cert.KernelIdeal.main_call1_call0_v6)) ((after ((referenceNoise.drop 153).take 26) VR) (Proc.devRef .tc Cert.ReferenceIdeal.main_call5_call0_v6))
    ∧ @Eq (One → BitVec 32) ((after ((kernelNoise.drop 153).take 26) VK) (Proc.devRef .tc Cert.KernelIdeal.main_call1_call0_call0_v1)) ((after ((referenceNoise.drop 153).take 26) VR) (Proc.devRef .tc Cert.ReferenceIdeal.main_call5_call0_call0_v1))
    ∧ @Eq (Row → BitVec 32) ((after ((kernelNoise.drop 153).take 26) VK) (Proc.devRef .tc Cert.KernelIdeal.main_call1_call0_call0_v121)) ((after ((referenceNoise.drop 153).take 26) VR) (Proc.devRef .tc Cert.ReferenceIdeal.main_call5_call0_call0_v121))
    ∧ @Eq (Row → BitVec 32) ((after ((kernelNoise.drop 153).take 26) VK) (Proc.devRef .tc Cert.KernelIdeal.main_call1_call0_call0_v122)) ((after ((referenceNoise.drop 153).take 26) VR) (Proc.devRef .tc Cert.ReferenceIdeal.main_call5_call0_call0_v122))
    ∧ @Eq (One → BitVec 32) ((after ((kernelNoise.drop 153).take 26) VK) (Proc.devRef .tc Cert.KernelIdeal.main_call1_call0_call0_c_31)) ((after ((referenceNoise.drop 153).take 26) VR) (Proc.devRef .tc Cert.ReferenceIdeal.main_call5_call0_call0_c_31)) := by
  rw [show (kernelNoise.drop 153).take 26 = [_, _, _, _, _, _, _, _, _, _, _, _, _, _, _, _, _, _, _, _, _, _, _, _, _, _] from rfl,
    show (referenceNoise.drop 153).take 26 = [_, _, _, _, _, _, _, _, _, _, _, _, _, _, _, _, _, _, _, _, _, _, _, _, _, _] from rfl]
  after_reads_simp
  try simp only [StableHlo.TRef.ofBuf_toBuf]
  refine ⟨?_, ?_, ?_, ?_, ?_, ?_, ?_, ?_⟩
  all_goals (simp only [h0, h1, h2, h3, h4, h5, h6, h7]; try rfl)

/-- The stretch of 26 operations from the one numbered 179. -/
theorem part7 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_v6)) (VR (Proc.devRef .tc Cert.ReferenceIdeal.main_call5_call0_v6)))
    (h4 : @Eq (One → BitVec 32) (VK (Proc.devRef .tc Cert.KernelIdeal.main_call1_call0_call0_v1)) (VR (Proc.devRef .tc Cert.ReferenceIdeal.main_call5_call0_call0_v1)))
    (h5 : @Eq (Row → BitVec 32) (VK (Proc.devRef .tc Cert.KernelIdeal.main_call1_call0_call0_v121)) (VR (Proc.devRef .tc Cert.ReferenceIdeal.main_call5_call0_call0_v121)))
    (h6 : @Eq (Row → BitVec 32) (VK (Proc.devRef .tc Cert.KernelIdeal.main_call1_call0_call0_v122)) (VR (Proc.devRef .tc Cert.ReferenceIdeal.main_call5_call0_call0_v122)))
    (h7 : @Eq (One → BitVec 32) (VK (Proc.devRef .tc Cert.KernelIdeal.main_call1_call0_call0_c_31)) (VR (Proc.devRef .tc Cert.ReferenceIdeal.main_call5_call0_call0_c_31))) :
    @Eq (Unt → EReal) ((after ((kernelNoise.drop 179).take 26) VK) (Proc.devRef .tc Cert.KernelIdeal.main_call1_call0_v1)) ((after ((referenceNoise.drop 179).take 26) VR) (Proc.devRef .tc Cert.ReferenceIdeal.main_call5_call0_v1))
    ∧ @Eq (Unt → EReal) ((after ((kernelNoise.drop 179).take 26) VK) (Proc.devRef .tc Cert.KernelIdeal.main_call1_call0_v2)) ((after ((referenceNoise.drop 179).take 26) VR) (Proc.devRef .tc Cert.ReferenceIdeal.main_call5_call0_v2))
    ∧ @Eq (One → BitVec 32) ((after ((kernelNoise.drop 179).take 26) VK) (Proc.devRef .tc Cert.KernelIdeal.main_call1_call0_v4)) ((after ((referenceNoise.drop 179).take 26) VR) (Proc.devRef .tc Cert.ReferenceIdeal.main_call5_call0_v4))
    ∧ @Eq (One → BitVec 32) ((after ((kernelNoise.drop 179).take 26) VK) (Proc.devRef .tc Cert.KernelIdeal.main_call1_call0_call0_v1)) ((after ((referenceNoise.drop 179).take 26) VR) (Proc.devRef .tc Cert.ReferenceIdeal.main_call5_call0_call0_v1))
    ∧ @Eq (Row → BitVec 32) ((after ((kernelNoise.drop 179).take 26) VK) (Proc.devRef .tc Cert.KernelIdeal.main_call1_call0_call0_v141)) ((after ((referenceNoise.drop 179).take 26) VR) (Proc.devRef .tc Cert.ReferenceIdeal.main_call5_call0_call0_v141))
    ∧ @Eq (Row → BitVec 32) ((after ((kernelNoise.drop 179).take 26) VK) (Proc.devRef .tc Cert.KernelIdeal.main_call1_call0_call0_v142)) ((after ((referenceNoise.drop 179).take 26) VR) (Proc.devRef .tc Cert.ReferenceIdeal.main_call5_call0_call0_v142))
    ∧ @Eq (Row → BitVec 32) ((after ((kernelNoise.drop 179).take 26) VK) (Proc.devRef .tc Cert.KernelIdeal.main_call1_call0_call0_v143)) ((after ((referenceNoise.drop 179).take 26) VR) (Proc.devRef .tc Cert.ReferenceIdeal.main_call5_call0_call0_v143)) := by
  rw [show (kernelNoise.drop 179).take 26 = [_, _, _, _, _, _, _, _, _, _, _, _, _, _, _, _, _, _, _, _, _, _, _, _, _, _] from rfl,
    show (referenceNoise.drop 179).take 26 = [_, _, _, _, _, _, _, _, _, _, _, _, _, _, _, _, _, _, _, _, _, _, _, _, _, _] from rfl]
  after_reads_simp
  try simp only [StableHlo.TRef.ofBuf_toBuf]
  refine ⟨?_, ?_, ?_, ?_, ?_, ?_, ?_⟩
  all_goals (simp only [h0, h1, h2, h3, h4, h5, h6, h7]; try rfl)

/-- The stretch of 26 operations from the one numbered 205. -/
theorem part8 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_call0_v1)) (VR (Proc.devRef .tc Cert.ReferenceIdeal.main_call5_call0_call0_v1)))
    (h4 : @Eq (Row → BitVec 32) (VK (Proc.devRef .tc Cert.KernelIdeal.main_call1_call0_call0_v141)) (VR (Proc.devRef .tc Cert.ReferenceIdeal.main_call5_call0_call0_v141)))
    (h5 : @Eq (Row → BitVec 32) (VK (Proc.devRef .tc Cert.KernelIdeal.main_call1_call0_call0_v142)) (VR (Proc.devRef .tc Cert.ReferenceIdeal.main_call5_call0_call0_v142)))
    (h6 : @Eq (Row → BitVec 32) (VK (Proc.devRef .tc Cert.KernelIdeal.main_call1_call0_call0_v143)) (VR (Proc.devRef .tc Cert.ReferenceIdeal.main_call5_call0_call0_v143))) :
    @Eq (Unt → EReal) ((after ((kernelNoise.drop 205).take 26) VK) (Proc.devRef .tc Cert.KernelIdeal.main_call1_call0_v1)) ((after ((referenceNoise.drop 205).take 26) VR) (Proc.devRef .tc Cert.ReferenceIdeal.main_call5_call0_v1))
    ∧ @Eq (Unt → EReal) ((after ((kernelNoise.drop 205).take 26) VK) (Proc.devRef .tc Cert.KernelIdeal.main_call1_call0_v2)) ((after ((referenceNoise.drop 205).take 26) VR) (Proc.devRef .tc Cert.ReferenceIdeal.main_call5_call0_v2))
    ∧ @Eq (One → BitVec 32) ((after ((kernelNoise.drop 205).take 26) VK) (Proc.devRef .tc Cert.KernelIdeal.main_call1_call0_v4)) ((after ((referenceNoise.drop 205).take 26) VR) (Proc.devRef .tc Cert.ReferenceIdeal.main_call5_call0_v4))
    ∧ @Eq (One → BitVec 32) ((after ((kernelNoise.drop 205).take 26) VK) (Proc.devRef .tc Cert.KernelIdeal.main_call1_call0_call0_v1)) ((after ((referenceNoise.drop 205).take 26) VR) (Proc.devRef .tc Cert.ReferenceIdeal.main_call5_call0_call0_v1))
    ∧ @Eq (Row → BitVec 32) ((after ((kernelNoise.drop 205).take 26) VK) (Proc.devRef .tc Cert.KernelIdeal.main_call1_call0_call0_v162)) ((after ((referenceNoise.drop 205).take 26) VR) (Proc.devRef .tc Cert.ReferenceIdeal.main_call5_call0_call0_v162))
    ∧ @Eq (Row → BitVec 32) ((after ((kernelNoise.drop 205).take 26) VK) (Proc.devRef .tc Cert.KernelIdeal.main_call1_call0_call0_v163)) ((after ((referenceNoise.drop 205).take 26) VR) (Proc.devRef .tc Cert.ReferenceIdeal.main_call5_call0_call0_v163))
    ∧ @Eq (One → BitVec 32) ((after ((kernelNoise.drop 205).take 26) VK) (Proc.devRef .tc Cert.KernelIdeal.main_call1_call0_call0_c_42)) ((after ((referenceNoise.drop 205).take 26) VR) (Proc.devRef .tc Cert.ReferenceIdeal.main_call5_call0_call0_c_42)) := by
  rw [show (kernelNoise.drop 205).take 26 = [_, _, _, _, _, _, _, _, _, _, _, _, _, _, _, _, _, _, _, _, _, _, _, _, _, _] from rfl,
    show (referenceNoise.drop 205).take 26 = [_, _, _, _, _, _, _, _, _, _, _, _, _, _, _, _, _, _, _, _, _, _, _, _, _, _] from rfl]
  after_reads_simp
  try simp only [StableHlo.TRef.ofBuf_toBuf]
  refine ⟨?_, ?_, ?_, ?_, ?_, ?_, ?_⟩
  all_goals (simp only [h0, h1, h2, h3, h4, h5, h6]; try rfl)

/-- The stretch of 36 operations from the one numbered 231. -/
theorem part9 (VK : ValK) (VR : ValR)
    (h0 : @Eq (Unt → EReal) (VK (Proc.devRef .tc Cert.KernelIdeal.main_call1_call0_v1)) (VR (Proc.devRef .tc Cert.ReferenceIdeal.main_call5_call0_v1)))
    (h1 : @Eq (Unt → EReal) (VK (Proc.devRef .tc Cert.KernelIdeal.main_call1_call0_v2)) (VR (Proc.devRef .tc Cert.ReferenceIdeal.main_call5_call0_v2)))
    (h2 : @Eq (One → BitVec 32) (VK (Proc.devRef .tc Cert.KernelIdeal.main_call1_call0_v4)) (VR (Proc.devRef .tc Cert.ReferenceIdeal.main_call5_call0_v4)))
    (h3 : @Eq (One → BitVec 32) (VK (Proc.devRef .tc Cert.KernelIdeal.main_call1_call0_call0_v1)) (VR (Proc.devRef .tc Cert.ReferenceIdeal.main_call5_call0_call0_v1)))
    (h4 : @Eq (Row → BitVec 32) (VK (Proc.devRef .tc Cert.KernelIdeal.main_call1_call0_call0_v162)) (VR (Proc.devRef .tc Cert.ReferenceIdeal.main_call5_call0_call0_v162)))
    (h5 : @Eq (Row → BitVec 32) (VK (Proc.devRef .tc Cert.KernelIdeal.main_call1_call0_call0_v163)) (VR (Proc.devRef .tc Cert.ReferenceIdeal.main_call5_call0_call0_v163)))
    (h6 : @Eq (One → BitVec 32) (VK (Proc.devRef .tc Cert.KernelIdeal.main_call1_call0_call0_c_42)) (VR (Proc.devRef .tc Cert.ReferenceIdeal.main_call5_call0_call0_c_42))) :
    @Eq (Row → EReal) ((after ((kernelNoise.drop 231).take 36) VK) (Proc.devRef .tc Cert.KernelIdeal.main_v17)) ((after ((referenceNoise.drop 231).take 36) VR) (Proc.devRef .tc Cert.ReferenceIdeal.main_v35)) := by
  rw [show (kernelNoise.drop 231).take 36 = [_, _, _, _, _, _, _, _, _, _, _, _, _, _, _, _, _, _, _, _, _, _, _, _, _, _, _, _, _, _, _, _, _, _, _, _] from rfl,
    show (referenceNoise.drop 231).take 36 = [_, _, _, _, _, _, _, _, _, _, _, _, _, _, _, _, _, _, _, _, _, _, _, _, _, _, _, _, _, _, _, _, _, _, _, _] from rfl]
  after_reads_simp
  try simp only [StableHlo.TRef.ofBuf_toBuf]
  simp only [h0, h1, h2, h3, h4, h5, h6]
  try rfl

/-- From equal keys the two programs draw the same noise. -/
theorem noise (VK : ValK) (VR : ValR) (h : @Eq (Two → BitVec 32) (VK (Proc.devRef .tc Cert.KernelIdeal.main_v16)) (VR (Proc.devRef .tc Cert.ReferenceIdeal.main_v31))) :
    @Eq (Row → EReal) ((after kernelNoise VK) (Proc.devRef .tc Cert.KernelIdeal.main_v17)) ((after referenceNoise VR) (Proc.devRef .tc Cert.ReferenceIdeal.main_v35)) := by
  have ek : kernelNoise = (kernelNoise.drop 0).take 23 ++ ((kernelNoise.drop 23).take 26 ++ ((kernelNoise.drop 49).take 26 ++ ((kernelNoise.drop 75).take 26 ++ ((kernelNoise.drop 101).take 26 ++ ((kernelNoise.drop 127).take 26 ++ ((kernelNoise.drop 153).take 26 ++ ((kernelNoise.drop 179).take 26 ++ ((kernelNoise.drop 205).take 26 ++ ((kernelNoise.drop 231).take 36))))))))) := rfl
  have er : referenceNoise = (referenceNoise.drop 0).take 23 ++ ((referenceNoise.drop 23).take 26 ++ ((referenceNoise.drop 49).take 26 ++ ((referenceNoise.drop 75).take 26 ++ ((referenceNoise.drop 101).take 26 ++ ((referenceNoise.drop 127).take 26 ++ ((referenceNoise.drop 153).take 26 ++ ((referenceNoise.drop 179).take 26 ++ ((referenceNoise.drop 205).take 26 ++ ((referenceNoise.drop 231).take 36))))))))) := rfl
  rw [ek, er]
  simp only [StableHlo.after_append]
  have q0 := part0 _ _ h
  obtain ⟨g0_0, g0_1, g0_2, g0_3, g0_4, g0_5⟩ := q0
  have q1 := part1 _ _ g0_0 g0_1 g0_2 g0_3 g0_4 g0_5
  obtain ⟨g1_0, g1_1, g1_2, g1_3, g1_4, g1_5, g1_6⟩ := q1
  have q2 := part2 _ _ g1_0 g1_1 g1_2 g1_3 g1_4 g1_5 g1_6
  obtain ⟨g2_0, g2_1, g2_2, g2_3, g2_4, g2_5, g2_6, g2_7⟩ := q2
  have q3 := part3 _ _ g2_0 g2_1 g2_2 g2_3 g2_4 g2_5 g2_6 g2_7
  obtain ⟨g3_0, g3_1, g3_2, g3_3, g3_4, g3_5, g3_6⟩ := q3
  have q4 := part4 _ _ g3_0 g3_1 g3_2 g3_3 g3_4 g3_5 g3_6
  obtain ⟨g4_0, g4_1, g4_2, g4_3, g4_4, g4_5, g4_6, g4_7⟩ := q4
  have q5 := part5 _ _ g4_0 g4_1 g4_2 g4_3 g4_4 g4_5 g4_6 g4_7
  obtain ⟨g5_0, g5_1, g5_2, g5_3, g5_4, g5_5, g5_6, g5_7⟩ := q5
  have q6 := part6 _ _ g5_0 g5_1 g5_2 g5_3 g5_4 g5_5 g5_6 g5_7
  obtain ⟨g6_0, g6_1, g6_2, g6_3, g6_4, g6_5, g6_6, g6_7⟩ := q6
  have q7 := part7 _ _ g6_0 g6_1 g6_2 g6_3 g6_4 g6_5 g6_6 g6_7
  obtain ⟨g7_0, g7_1, g7_2, g7_3, g7_4, g7_5, g7_6⟩ := q7
  have q8 := part8 _ _ g7_0 g7_1 g7_2 g7_3 g7_4 g7_5 g7_6
  obtain ⟨g8_0, g8_1, g8_2, g8_3, g8_4, g8_5, g8_6⟩ := q8
  exact part9 _ _ g8_0 g8_1 g8_2 g8_3 g8_4 g8_5 g8_6

end Cert.Proof.Noise

end
-- ==== Proof.NoiseLow.lean ====
/-
  Every entry of the kernel's noise is drawn from a uniform number no smaller than a given one.
-/
module

public import proofs.«01_k».proof.Proof.Noise
public import proofs.«01_k».proof.Proof.Draw.Numbers

@[expose] public section

set_option maxRecDepth 65536
set_option maxHeartbeats 4000000

noncomputable section

namespace Cert.Proof.Noise

open Idealize.ShloMosaic Idealize.ShloMosaic.TcCoe Idealize.ShloMosaic.Tactic
open Idealize.ShloMosaic.StableHlo (after)

/-- The buffer of the least uniform number. -/
abbrev leastRef : DevRef Cert.KernelIdeal.τ Cert.KernelIdeal.sig := Proc.devRef .tc Cert.KernelIdeal.main_call1_call0_v1

theorem low0 (VK : ValK) : @Eq (Unt → EReal) ((after ((kernelNoise.drop 0).take 23) VK) leastRef) (fun _ => Cert.Proof.Draw.least) := by
  rw [show (kernelNoise.drop 0).take 23 = [_, _, _, _, _, _, _, _, _, _, _, _, _, _, _, _, _, _, _, _, _, _, _] from rfl]
  after_reads_simp
  rfl

/-- The operations between the first stretch and the last leave the least number's buffer alone. -/
theorem keep (VK : ValK) : @Eq (Unt → EReal) ((after ((kernelNoise.drop 23).take 208) VK) leastRef) (VK leastRef) := by
  refine StableHlo.after_of_forall_not_mem _ _ (List.forall_iff_forall_mem.mp ?_)
  unfold kernelNoise
  simp only [Cert.KernelIdeal.Gen.hostOps2_3, List.drop_succ_cons, List.drop_zero, List.take_succ_cons, List.take_zero, List.forall_cons]
  repeat' apply And.intro
  all_goals first | exact trivial | decide

theorem low9 (VK : ValK) (h : @Eq (Unt → EReal) (VK leastRef) (fun _ => Cert.Proof.Draw.least)) (i : Row) :
    ∃ w : EReal, @Eq EReal (((after ((kernelNoise.drop 231).take 36) VK) (Proc.devRef .tc Cert.KernelIdeal.main_v17) : Row → EReal) i)
      (-Ideal.log (-Ideal.log (max Cert.Proof.Draw.least w))) := by
  rw [show (kernelNoise.drop 231).take 36 = [_, _, _, _, _, _, _, _, _, _, _, _, _, _, _, _, _, _, _, _, _, _, _, _, _, _, _, _, _, _, _, _, _, _, _, _] from rfl]
  after_reads_simp
  try simp only [StableHlo.TRef.ofBuf_toBuf]
  simp only [h]
  exact ⟨_, rfl⟩

theorem low (VK : ValK) (i : Row) :
    ∃ w : EReal, @Eq EReal (((after kernelNoise VK) (Proc.devRef .tc Cert.KernelIdeal.main_v17) : Row → EReal) i)
      (-Ideal.log (-Ideal.log (max Cert.Proof.Draw.least w))) := by
  have ek : kernelNoise = (kernelNoise.drop 0).take 23 ++ ((kernelNoise.drop 23).take 208 ++ (kernelNoise.drop 231).take 36) := rfl
  rw [ek]
  simp only [StableHlo.after_append]
  exact low9 _ ((keep _).trans (low0 _)) i

/-- The noise stands above the number written past the end. -/
theorem above (VK : ValK) (i : Row) : Cert.Proof.Draw.never < ((after kernelNoise VK) (Proc.devRef .tc Cert.KernelIdeal.main_v17) : Row → EReal) i := by
  obtain ⟨w, h⟩ := low VK i
  exact lt_of_lt_of_eq (Cert.Proof.Draw.noise_above w) h.symm

end Cert.Proof.Noise

end
-- ==== Proof.Join.lean ====
/-
  The idealised kernel and the reference end with the same token: the logits the same, the key the same, and so the noise,
  the scores and the first best place.
-/
module

public import proofs.«01_k».proof.Proof.KI.Token
public import proofs.«01_k».proof.Proof.RI.Value
public import proofs.«01_k».proof.Proof.Noise
public import proofs.«01_k».proof.Proof.NoiseLow

@[expose] public section

noncomputable section

namespace Cert.Proof.Join

open Idealize.ShloMosaic Idealize.ShloMosaic.TcCoe Idealize.ShloMosaic.Tactic
open Cert.Proof.Draw Cert.Proof.Probs

/-- The kernel draws with the reference's key. -/
theorem kernel_key (W : Valuation Cert.KernelIdeal.τ Cert.KernelIdeal.sig (Elt Ideal)) :
    @Eq (IVec Cert.KernelIdeal.S2 32) (StableHlo.after Cert.KernelIdeal.Gen.hostOps2_2 W (Proc.devRef .tc Cert.KernelIdeal.main_v16))
      Cert.ReferenceIdeal.Hand.theKey := by
  unfold Cert.ReferenceIdeal.Hand.theKey
  after_results
  rfl

variable (m : (ℓ : Loc Cert.KernelIdeal.nD Cert.KernelIdeal.τ Cert.KernelIdeal.sig) → Buf (Elt Ideal) ℓ)
  {outs : Cert.KernelIdeal.Gen.Outs (F := Ideal)} (hL : Cert.KernelIdeal.Hand.Leaves m outs)

/-- The noise of the two, from a reference's arrays that hold the key. -/
theorem noise_eq (c : Dev Cert.KernelIdeal.nD) (K : Cert.ReferenceIdeal.Hand.Arrays)
    (hK : @Eq (IVec Cert.ReferenceIdeal.S2 32) (K (Proc.devRef .tc Cert.ReferenceIdeal.main_v31)) Cert.ReferenceIdeal.Hand.theKey) :
    Cert.ReferenceIdeal.Hand.noiseRow K = Cert.KernelIdeal.Hand.noiseOf m outs c := by
  funext k
  exact (congrFun (Cert.Proof.Noise.noise (Cert.KernelIdeal.Gen.V6 m outs c) K ((kernel_key (Cert.KernelIdeal.Gen.V5 m outs c)).trans hK.symm))
    (Cert.ReferenceIdeal.Hand.at2 k)).symm

theorem noise_low (c : Dev Cert.KernelIdeal.nD) (k : Fin 1000000) : never < Cert.KernelIdeal.Hand.noiseOf m outs c k :=
  Cert.Proof.Noise.above (Cert.KernelIdeal.Gen.V6 m outs c) (Cert.ReferenceIdeal.Hand.at2 k)

include hL in
/-- Equal logits, equal tokens. -/
theorem tokens (m' : (ℓ : Loc Cert.ReferenceIdeal.nD Cert.ReferenceIdeal.τ Cert.ReferenceIdeal.sig) → Buf (Elt Ideal) ℓ)
    (c : Dev Cert.KernelIdeal.nD) (c' : Dev Cert.ReferenceIdeal.nD)
    (hx : Cert.ReferenceIdeal.Hand.argRow (StableHlo.launchContents m' c') = Cert.KernelIdeal.Hand.logits m c) :
    @Eq (IVec Cert.ReferenceIdeal.S1 32) (Cert.ReferenceIdeal.Hand.finalRef m' c' (Proc.devRef .tc Cert.ReferenceIdeal.main_v40))
      (outs 11 Cert.KernelIdeal.main_v20 c) := by
  obtain ⟨K, hK, J, hJ, e⟩ := Cert.ReferenceIdeal.Hand.result_of (StableHlo.launchContents m' c')
    (padOf (Cert.KernelIdeal.Hand.logits m c)) never
  rw [noise_eq m c K hK] at hJ
  funext j
  refine (e j).trans ?_
  unfold Cert.ReferenceIdeal.Hand.placeRow Cert.ReferenceIdeal.Hand.probRow at hJ ⊢
  rw [hx] at hJ
  rw [Cert.KernelIdeal.Hand.kernel_token m hL c (noise_low m c) J hJ]
  simp only [hx]

end Cert.Proof.Join

end
-- ==== Proof.K2.Head.lean ====
/-
  What the kernel calls share: the word the kernel masks with, and the index of a core's resources.
-/
module

public import proofs.«01_k».proof.Proof.Gen.Kernel2.Launch
public import proofs.«01_k».proof.Proof.Gen.Kernel2.Skeleton
public import proofs.«01_k».proof.Proof.Gen.Kernel2.Points
public import proofs.«01_k».proof.Proof.Gen.Kernel2.Regions
public import proofs.«01_k».proof.Proof.Cells
public import Idealize.ShloMosaic.Lib.Tactic

@[expose] public section

noncomputable section

namespace Cert.Kernel2.Hand

open Idealize.ShloMosaic

variable {F : FTy → Type} [FloatOps F]

/-- The word the kernel masks with. -/
def maskWord : F .f32 := Scalar.ofBits .f32 0xF149F2CA#32

/-- The zero word. -/
def zeroWord : F .f32 := Scalar.ofBits .f32 0x00000000#32

end Cert.Kernel2.Hand

end
-- ==== Proof.K2I.Head.lean ====
/-
  What the kernel calls share: the word the kernel masks with, and the index of a core's resources.
-/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Regions
public import proofs.«01_k».proof.Proof.Cells
public import Idealize.ShloMosaic.Lib.Tactic

@[expose] public section

noncomputable section

namespace Cert.Kernel2Ideal.Hand

open Idealize.ShloMosaic

variable {F : FTy → Type} [FloatOps F] [Named F]

/-- The word the kernel masks with. -/
def maskWord : F .f32 := Named.named κ "mask" 0xF149F2CA#32

/-- The zero word. -/
def zeroWord : F .f32 := Scalar.ofBits .f32 0x00000000#32

end Cert.Kernel2Ideal.Hand

end
-- ==== Proof.K2I.SoftmaxRun.lean ====
/-
  The softmax kernel's body at one grid point. Its two words of scratch carry the running maximum (word 0) and the
  running sum of exponentials (word 1); 24 points make three sweeps of the eight blocks: the maximum, the sum, the
  quotients. Here: what the scratch holds after a point, from what it held before and the point's block.
-/
module

public import proofs.«01_k».proof.Proof.K2I.Head
public import Idealize.ShloMosaic.Lib.VecWindow

@[expose] public section

set_option maxRecDepth 16384

noncomputable section

namespace Cert.Kernel2Ideal.Hand

open Cert.Kernel2Ideal Cert.Kernel2Ideal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The sweep a point of the softmax grid belongs to, as the body computes it. -/
abbrev sweep1 (i : grid1.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 8#32 0#32)) (Scalar.extui (Scalar.cmpi .slt 8#32 0#32)))) (Scalar.cmpi .ne (Scalar.remsi (BitVec.ofNat 32 (i 0).val) 8#32) 0#32)) (Scalar.subi (Scalar.divsi (BitVec.ofNat 32 (i 0).val) 8#32) 1#32) (Scalar.divsi (BitVec.ofNat 32 (i 0).val) 8#32)

/-- The body's four conditions. -/
abbrev first1 (i : grid1.Coords) : Prop := Scalar.cmpi .ne (Scalar.extui (Scalar.cmpi .eq (BitVec.ofNat 32 (i 0).val) 0#32)) 0#32 = 1#1
abbrev max1 (i : grid1.Coords) : Prop := Scalar.cmpi .ne (Scalar.extui (Scalar.cmpi .eq (sweep1 i) 0#32)) 0#32 = 1#1
abbrev sum1 (i : grid1.Coords) : Prop := Scalar.cmpi .ne (Scalar.extui (Scalar.cmpi .eq (sweep1 i) 1#32)) 0#32 = 1#1
abbrev quo1 (i : grid1.Coords) : Prop := k1_cond4 i = 1#1

theorem first1_iff : ∀ t : Fin cfg1.N, first1 (grid1.coords t) ↔ t.val = 0 :=
  (by decide +kernel : ∀ t : Fin grid1.N, first1 (grid1.coords t) ↔ t.val = 0)
theorem max1_iff : ∀ t : Fin cfg1.N, max1 (grid1.coords t) ↔ t.val < 8 :=
  (by decide +kernel : ∀ t : Fin grid1.N, max1 (grid1.coords t) ↔ t.val < 8)
theorem sum1_iff : ∀ t : Fin cfg1.N, sum1 (grid1.coords t) ↔ (8 ≤ t.val ∧ t.val < 16) :=
  (by decide +kernel : ∀ t : Fin grid1.N, sum1 (grid1.coords t) ↔ (8 ≤ t.val ∧ t.val < 16))
theorem quo1_iff : ∀ t : Fin cfg1.N, quo1 (grid1.coords t) ↔ 16 ≤ t.val :=
  (by decide +kernel : ∀ t : Fin grid1.N, quo1 (grid1.coords t) ↔ 16 ≤ t.val)

/-- A load of a whole block reads the block. -/
theorem load_block {κ : Kind} {sp : Space} (M : Memref sig κ sp S1024x128 .f32) (hM : M.IsWhole) (x : Vec F S1024x128 .f32)
    (inb : ∀ a, (![0, 0] : Fin 2 → ℕ) a + S1024x128.size a ≤ S1024x128.size a) :
    View.readAt (Elt F) M.view (Rect.unit (s := S1024x128) ![0, 0] S1024x128.size inb).toLoadRect (hM.unread x) = x :=
  (View.readAt_full M.view _ inb).trans (hM.read_unread x)

set_option maxHeartbeats 1000000 in
/-- The first point: the two words are initialised, then the first block's maximum is taken in. -/
theorem run1_first (c : Dev nD) (i : grid1.Coords) (arg1 : Memref sig .tc .vmem S1024x128 .f32) (harg1 : arg1.IsWhole) (arg2 : Memref sig .tc .vmem S1024x128 .f32) (harg2 : arg2.IsWhole) (arg3 : Memref sig .tc .smem S2 .f32) (harg3 : arg3.IsWhole)
    (hc0 : first1 i) (hc1 : max1 i) (hc2 : ¬sum1 i) (hc3 : ¬quo1 i)
    (x : Vec F S1024x128 .f32) (s : Vec F S2 .f32) (E : Set ℕ) (K : PUnit → sProp 𝕄) :
    iprop(owns (c : Thread nD τ) arg1 fullShare x ∗ owns (c : Thread nD τ) arg3 fullShare s
        ∗ (iprop(owns (c : Thread nD τ) arg1 fullShare x ∗ owns (c : Thread nD τ) arg3 fullShare (put (put (put s 0 maskWord) 1 zeroWord) 0 (k1_pay2 x maskWord))) -∗ K ⟨⟩))
      ⊢ wp frame (wpE (defs₀ (F := F)) Variants.none c none) E (cc1__softmax_kernel i arg1 harg1 arg2 harg2 arg3 harg3) K := by
  simp only [cc1__softmax_kernel_eq_skeleton]; unfold cc1__softmax_kernel_skel
  unfold owns
  iintro ⟨⟨%f0, %hf0, H0⟩, ⟨%fs, %hs, HS⟩, Hk⟩
  obtain rfl := harg1.eq_unread hf0; obtain rfl := harg3.eq_unread hs
  sl_exec (disch := first | sl_exact hc0 | sl_exact hc1 | sl_exact hc2 | sl_exact hc3)
  sl_step
  iapply Hk
  isplitl [H0]
  · iexists _; isplitr; · ipureintro; exact harg1.read_unread _
    iexact H0
  iexists _; isplitr
  swap; · iexact HS
  ipureintro
  rw [read_writes_put, read_writes_put, read_writes_put, View.writes_nil, hs, load_block]
  rfl

set_option maxHeartbeats 1000000 in
/-- A later point of the first sweep: the block's maximum is taken in. -/
theorem run1_max (c : Dev nD) (i : grid1.Coords) (arg1 : Memref sig .tc .vmem S1024x128 .f32) (harg1 : arg1.IsWhole) (arg2 : Memref sig .tc .vmem S1024x128 .f32) (harg2 : arg2.IsWhole) (arg3 : Memref sig .tc .smem S2 .f32) (harg3 : arg3.IsWhole)
    (hc0 : ¬first1 i) (hc1 : max1 i) (hc2 : ¬sum1 i) (hc3 : ¬quo1 i)
    (x : Vec F S1024x128 .f32) (s : Vec F S2 .f32) (E : Set ℕ) (K : PUnit → sProp 𝕄) :
    iprop(owns (c : Thread nD τ) arg1 fullShare x ∗ owns (c : Thread nD τ) arg3 fullShare s
        ∗ (iprop(owns (c : Thread nD τ) arg1 fullShare x ∗ owns (c : Thread nD τ) arg3 fullShare (put s 0 (k1_pay2 x (s (at1 0))))) -∗ K ⟨⟩))
      ⊢ wp frame (wpE (defs₀ (F := F)) Variants.none c none) E (cc1__softmax_kernel i arg1 harg1 arg2 harg2 arg3 harg3) K := by
  simp only [cc1__softmax_kernel_eq_skeleton]; unfold cc1__softmax_kernel_skel
  unfold owns
  iintro ⟨⟨%f0, %hf0, H0⟩, ⟨%fs, %hs, HS⟩, Hk⟩
  obtain rfl := harg1.eq_unread hf0; obtain rfl := harg3.eq_unread hs
  sl_exec (disch := first | sl_exact hc0 | sl_exact hc1 | sl_exact hc2 | sl_exact hc3)
  sl_step
  iapply Hk
  isplitl [H0]
  · iexists _; isplitr; · ipureintro; exact harg1.read_unread _
    iexact H0
  iexists _; isplitr
  swap; · iexact HS
  ipureintro
  have e0 : run1_max.sl.r c arg3 harg3 s = s (at1 0) := (readAt_at arg3.view _ _ (by decide) _).trans (congrFun hs _)
  rw [read_writes_put, View.writes_nil, hs, load_block, e0]
  rfl

set_option maxHeartbeats 1000000 in
/-- A point of the second sweep: the block's sum of exponentials is taken in. -/
theorem run1_sum (c : Dev nD) (i : grid1.Coords) (arg1 : Memref sig .tc .vmem S1024x128 .f32) (harg1 : arg1.IsWhole) (arg2 : Memref sig .tc .vmem S1024x128 .f32) (harg2 : arg2.IsWhole) (arg3 : Memref sig .tc .smem S2 .f32) (harg3 : arg3.IsWhole)
    (hc0 : ¬first1 i) (hc1 : ¬max1 i) (hc2 : sum1 i) (hc3 : ¬quo1 i)
    (x : Vec F S1024x128 .f32) (s : Vec F S2 .f32) (E : Set ℕ) (K : PUnit → sProp 𝕄) :
    iprop(owns (c : Thread nD τ) arg1 fullShare x ∗ owns (c : Thread nD τ) arg3 fullShare s
        ∗ (iprop(owns (c : Thread nD τ) arg1 fullShare x ∗ owns (c : Thread nD τ) arg3 fullShare (put s 1 (k1_pay3 x (s (at1 1)) (s (at1 0))))) -∗ K ⟨⟩))
      ⊢ wp frame (wpE (defs₀ (F := F)) Variants.none c none) E (cc1__softmax_kernel i arg1 harg1 arg2 harg2 arg3 harg3) K := by
  simp only [cc1__softmax_kernel_eq_skeleton]; unfold cc1__softmax_kernel_skel
  unfold owns
  iintro ⟨⟨%f0, %hf0, H0⟩, ⟨%fs, %hs, HS⟩, Hk⟩
  obtain rfl := harg1.eq_unread hf0; obtain rfl := harg3.eq_unread hs
  sl_exec (disch := first | sl_exact hc0 | sl_exact hc1 | sl_exact hc2 | sl_exact hc3)
  sl_step
  iapply Hk
  isplitl [H0]
  · iexists _; isplitr; · ipureintro; exact harg1.read_unread _
    iexact H0
  iexists _; isplitr
  swap; · iexact HS
  ipureintro
  have e0 : run1_sum.sl.r c arg3 harg3 s = s (at1 1) := (readAt_at arg3.view _ _ (by decide) _).trans (congrFun hs _)
  have e1 : run1_sum.sl.r_1 c arg3 harg3 s = s (at1 0) := (readAt_at arg3.view _ _ (by decide) _).trans (congrFun hs _)
  rw [read_writes_put, View.writes_nil, hs, load_block, e0, e1]
  rfl

set_option maxHeartbeats 1000000 in
/-- A point of the third sweep: the block's quotients are stored. -/
theorem run1_quo (c : Dev nD) (i : grid1.Coords) (arg1 : Memref sig .tc .vmem S1024x128 .f32) (harg1 : arg1.IsWhole) (arg2 : Memref sig .tc .vmem S1024x128 .f32) (harg2 : arg2.IsWhole) (arg3 : Memref sig .tc .smem S2 .f32) (harg3 : arg3.IsWhole)
    (hc0 : ¬first1 i) (hc1 : ¬max1 i) (hc2 : ¬sum1 i) (hc3 : quo1 i)
    (x : Vec F S1024x128 .f32) (s : Vec F S2 .f32) (E : Set ℕ) (K : PUnit → sProp 𝕄) :
    iprop(owns (c : Thread nD τ) arg1 fullShare x ∗ (∃ d, owns (c : Thread nD τ) arg2 fullShare d) ∗ owns (c : Thread nD τ) arg3 fullShare s
        ∗ (iprop(owns (c : Thread nD τ) arg1 fullShare x ∗ owns (c : Thread nD τ) arg2 fullShare (k1_pay4 x (s (at1 0)) (s (at1 1))) ∗ owns (c : Thread nD τ) arg3 fullShare s) -∗ K ⟨⟩))
      ⊢ wp frame (wpE (defs₀ (F := F)) Variants.none c none) E (cc1__softmax_kernel i arg1 harg1 arg2 harg2 arg3 harg3) K := by
  simp only [cc1__softmax_kernel_eq_skeleton]; unfold cc1__softmax_kernel_skel
  unfold owns
  iintro ⟨⟨%f0, %hf0, H0⟩, ⟨%d1, %f1, -, H1⟩, ⟨%fs, %hs, HS⟩, Hk⟩
  obtain rfl := harg1.eq_unread hf0; obtain rfl := harg3.eq_unread hs
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; swap; · iexact H1
    ipureintro
    have e0 : run1_quo.sl.r c arg3 harg3 s = s (at1 0) := (readAt_at arg3.view _ _ (by decide) _).trans (congrFun hs _)
    have e1 : run1_quo.sl.r_1 c arg3 harg3 s = s (at1 1) := (readAt_at arg3.view _ _ (by decide) _).trans (congrFun hs _)
    rw [View.read_writes_full, load_block, e0, e1]
  iexists _; isplitr; · ipureintro; exact harg3.read_unread _
  iexact HS

end Cert.Kernel2Ideal.Hand

end
-- ==== Proof.K2I.Softmax.lean ====
/-
  The softmax call, point by point: the two words its scratch carries, the blocks it writes, and the proof data of the
  whole call entered from any contents of the arrays.
-/
module

public import proofs.«01_k».proof.Proof.K2I.SoftmaxRun

@[expose] public section

set_option maxRecDepth 16384

noncomputable section

namespace Cert.Kernel2Ideal.Hand

open Cert.Kernel2Ideal Cert.Kernel2Ideal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of the padded logits point `t` works on. -/
def blk1 (c : Dev nD) (t : Fin cfg1.N) : Vec F S1024x128 .f32 :=
  ((cfg1.win 0).blk t).view.read (Elt F) (V c (Pipeline.arrRef spec1 0))

/-- The running maximum and the running sum before point `n`. -/
def st1 (c : Dev nD) : ℕ → F .f32 × F .f32
  | 0 => (maskWord, zeroWord)
  | n + 1 =>
    if h : n < cfg1.N then
      if n < 8 then (k1_pay2 (blk1 V c ⟨n, h⟩) (st1 c n).1, (st1 c n).2)
      else if n < 16 then ((st1 c n).1, k1_pay3 (blk1 V c ⟨n, h⟩) (st1 c n).2 (st1 c n).1)
      else st1 c n
    else st1 c n

theorem st1_max (c : Dev nD) (t : Fin cfg1.N) (h : t.val < 8) :
    st1 V c (t.val + 1) = (k1_pay2 (blk1 V c t) (st1 V c t.val).1, (st1 V c t.val).2) := by
  rw [st1, dif_pos t.isLt, if_pos h]
theorem st1_sum (c : Dev nD) (t : Fin cfg1.N) (h : 8 ≤ t.val) (h' : t.val < 16) :
    st1 V c (t.val + 1) = ((st1 V c t.val).1, k1_pay3 (blk1 V c t) (st1 V c t.val).2 (st1 V c t.val).1) := by
  rw [st1, dif_pos t.isLt, if_neg (Nat.not_lt.2 h), if_pos h']
theorem st1_quo (c : Dev nD) (t : Fin cfg1.N) (h : 16 ≤ t.val) : st1 V c (t.val + 1) = st1 V c t.val := by
  rw [st1, dif_pos t.isLt, if_neg (by omega), if_neg (by omega)]

/-- What the scratch holds before point `n`: anything at the first, the two running words after it. -/
def holds1 (c : Dev nD) (n : ℕ) (s : Vec F S2 .f32) : Prop := 0 < n → (s (at1 0), s (at1 1)) = st1 V c n

/-- The quotients point `t` leaves in the result's block. -/
def out1 (c : Dev nD) (t : Fin cfg1.N) : Vec F S1024x128 .f32 := k1_pay4 (blk1 V c t) (st1 V c t.val).1 (st1 V c t.val).2

/-- What rides through the call beside the windows: the scratch, and the buffers of the other calls. -/
def inv1 (c : Dev nD) (n : ℕ) : sProp 𝕄 :=
  iprop((∃ s : Vec F S2 .f32, ⌜holds1 V c n s⌝ ∗ owns (c : Thread nD τ) (Memref.whole cc1_scratch0) fullShare s)
    ∗ Pipeline.scopedRestBut (Ix := Unit) (Name := ℕ) (U := UR sig nD τ) (Lvl := ℕ) (Val := Elt F) spec1 c [cc1_scratch0])

/-- The proof data of the call. -/
def dat1 (c : Dev nD) : Dat τ (Elt F) Unit ℕ (UR sig nD τ) ℕ cfg1 c where
  A w := V c (Pipeline.arrRef spec1 w)
  after w t := match w with
    | ⟨0, _⟩ => blk1 V c t
    | ⟨1, _⟩ => out1 V c t
  Φ t := inv1 V c t.val
  q _ := fullShare
  owed _ := 0

theorem after1_0 (c : Dev nD) (t : Fin cfg1.N) : (dat1 V c).after 0 t = blk1 V c t := by dsimp only [dat1]
theorem after1_1 (c : Dev nD) (t : Fin cfg1.N) : (dat1 V c).after 1 t = out1 V c t := by dsimp only [dat1]

/-- The input window holds its block when the body runs. -/
theorem before1_0 (c : Dev nD) (t : Fin cfg1.N) (d) : (dat1 V c).before 0 t d = blk1 V c t :=
  ((dat1 V c).before_in_eq_fetched 0 rfl (fun _ => rfl) (fun _ _ _ => rfl) (fun t => by rw [after1_0]; rfl) t d).trans rfl

theorem live1_0 (t : Fin cfg1.N) : cfg1.idle 0 (grid1.coords t) = false := rfl
theorem idle1_1 : ∀ t : Fin cfg1.N, t.val < 16 → cfg1.idle 1 (grid1.coords t) = true :=
  (by decide +kernel : ∀ t : Fin grid1.N, t.val < 16 → cfg1.idle 1 (grid1.coords t) = true)
theorem noflush1_1 : ∀ t : Fin cfg1.N, t.val < 16 → (cfg1.win 1).flush t = false :=
  (by decide +kernel : ∀ t : Fin grid1.N, t.val < 16 → (cfg1.win 1).flush t = false)
theorem live1_1 : ∀ t : Fin cfg1.N, 16 ≤ t.val → cfg1.idle 1 (grid1.coords t) = false :=
  (by decide +kernel : ∀ t : Fin grid1.N, 16 ≤ t.val → cfg1.idle 1 (grid1.coords t) = false)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 3200000 in
/-- The body at any point, one of four kinds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = inv1 V c (t.val + 1) from rfl, show (dat1 V c).Φ t.castSucc = inv1 V c t.val from rfl]
  unfold inv1
  rw [show (dat1 V c).leavesExact 0 t = owns (c : Thread nD τ) (st1_0 t) fullShare ((dat1 V c).after 0 t) from by
      unfold Dat.leavesExact; rw [live1_0 t], after1_0]
  have hN : t.val < 24 := lt_of_lt_of_eq t.isLt (show cfg1.N = 24 from N_1)
  by_cases h16 : t.val < 16
  · rw [Dat.leavesExact_idle (dat1 V c) 1 t (idle1_1 t h16) (noflush1_1 t h16)]
    have hq : ¬ quo1 (grid1.coords t) := fun h => absurd ((quo1_iff t).mp h) (by omega)
    by_cases h8 : t.val < 8
    · have hm : max1 (grid1.coords t) := (max1_iff t).mpr h8
      have hs : ¬ sum1 (grid1.coords t) := fun h => absurd ((sum1_iff t).mp h) (by omega)
      by_cases h0 : t.val = 0
      · iintro ⟨⟨⟨%s, %hh, HS⟩, HR⟩, Ho, ⟨%d0, H0⟩, ⟨%d1, H1⟩⟩
        iapply (run1_first c (grid1.coords t) _ _ _ _ _ _ ((first1_iff t).mpr h0) hm hs hq (blk1 V c t) s Set.univ _)
        isplitl [H0]; · iexact H0
        isplitl [HS]; · iexact HS
        iintro ⟨H0, HS⟩
        isplitl [HS HR]
        · isplitl [HS]
          · iexists _; isplitr; swap; · iexact HS
            ipureintro; intro _
            rw [st1_max V c t h8, h0]; rfl
          iexact HR
        isplitl [Ho]; · iexact Ho
        isplitl [H0]; · iexact H0
        iexists _; iexact H1
      · have hf : ¬ first1 (grid1.coords t) := fun h => h0 ((first1_iff t).mp h)
        iintro ⟨⟨⟨%s, %hh, HS⟩, HR⟩, Ho, ⟨%d0, H0⟩, ⟨%d1, H1⟩⟩
        iapply (run1_max c (grid1.coords t) _ _ _ _ _ _ hf hm hs hq (blk1 V c t) s Set.univ _)
        isplitl [H0]; · iexact H0
        isplitl [HS]; · iexact HS
        iintro ⟨H0, HS⟩
        isplitl [HS HR]
        · isplitl [HS]
          · iexists _; isplitr; swap; · iexact HS
            ipureintro; intro _
            rw [st1_max V c t h8, ← hh (by omega)]; rfl
          iexact HR
        isplitl [Ho]; · iexact Ho
        isplitl [H0]; · iexact H0
        iexists _; iexact H1
    · have hf : ¬ first1 (grid1.coords t) := fun h => absurd ((first1_iff t).mp h) (by omega)
      have hm : ¬ max1 (grid1.coords t) := fun h => h8 ((max1_iff t).mp h)
      have hs : sum1 (grid1.coords t) := (sum1_iff t).mpr ⟨by omega, h16⟩
      iintro ⟨⟨⟨%s, %hh, HS⟩, HR⟩, Ho, ⟨%d0, H0⟩, ⟨%d1, H1⟩⟩
      iapply (run1_sum c (grid1.coords t) _ _ _ _ _ _ hf hm hs hq (blk1 V c t) s Set.univ _)
      isplitl [H0]; · iexact H0
      isplitl [HS]; · iexact HS
      iintro ⟨H0, HS⟩
      isplitl [HS HR]
      · isplitl [HS]
        · iexists _; isplitr; swap; · iexact HS
          ipureintro; intro _
          rw [st1_sum V c t (by omega) h16, ← hh (by omega)]; rfl
        iexact HR
      isplitl [Ho]; · iexact Ho
      isplitl [H0]; · iexact H0
      iexists _; iexact H1
  · rw [show (dat1 V c).leavesExact 1 t = owns (c : Thread nD τ) (st1_1 t) fullShare ((dat1 V c).after 1 t) from by
      unfold Dat.leavesExact; rw [live1_1 t (by omega)], after1_1]
    have hf : ¬ first1 (grid1.coords t) := fun h => absurd ((first1_iff t).mp h) (by omega)
    have hm : ¬ max1 (grid1.coords t) := fun h => absurd ((max1_iff t).mp h) (by omega)
    have hs : ¬ sum1 (grid1.coords t) := fun h => absurd ((sum1_iff t).mp h) (by omega)
    have hq : quo1 (grid1.coords t) := (quo1_iff t).mpr (by omega)
    iintro ⟨⟨⟨%s, %hh, HS⟩, HR⟩, Ho, ⟨%d0, H0⟩, ⟨%d1, H1⟩⟩
    iapply (run1_quo c (grid1.coords t) _ _ _ _ _ _ hf hm hs hq (blk1 V c t) s Set.univ _)
    isplitl [H0]; · iexact H0
    isplitl [H1]; · iexists _; iexact H1
    isplitl [HS]; · iexact HS
    iintro ⟨H0, H1, HS⟩
    have e := hh (by omega)
    rw [show out1 V c t = k1_pay4 (blk1 V c t) (s (at1 0)) (s (at1 1)) from by unfold out1; rw [← e]]
    isplitl [HS HR]
    · isplitl [HS]
      · iexists _; isplitr; swap; · iexact HS
        ipureintro; intro _
        rw [st1_quo V c t (by omega), ← e]
      iexact HR
    isplitl [Ho]; · iexact Ho
    isplitl [H0]; · iexact H0
    iexact H1

theorem defs₀_row1 (t : Fin cfg1.N) : defs₀ (F := F) .tc cfg1.body (cfg1.bodyArgs t (cfg1.slots t)) = bodyAt1 t := by
  unfold defs₀; rw [Defs.onTc_tc]

/-- The body at every point, as the call asks for it. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-- The scoped buffers beside the windows: the scratch, and the rest. -/
theorem scoped1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide), bigSepL_singleton]; rfl

/-- The invariant before the first point, from the scoped buffers; -/
theorem inv1_in (c : Dev nD) :
    (Pipeline.scopedRest (Ix := Unit) (Name := ℕ) (U := UR sig nD τ) (Lvl := ℕ) (Val := Elt F) spec1 c : sProp 𝕄) ⊢ inv1 V c 0 := by
  rw [scoped1]
  unfold inv1; simp only [owns_whole]
  iintro ⟨HS, HR⟩
  isplitl [HS]
  · icases HS with ⟨%f, HS⟩
    iexists f; isplitr; · ipureintro; exact fun h => absurd h (lt_irrefl _)
    iexact HS
  iexact HR

/-- and the scoped buffers back from the invariant at any point. -/
theorem inv1_out (c : Dev nD) (n : ℕ) :
    inv1 V c n ⊢ (Pipeline.scopedRest (Ix := Unit) (Name := ℕ) (U := UR sig nD τ) (Lvl := ℕ) (Val := Elt F) spec1 c : sProp 𝕄) := by
  rw [scoped1]
  unfold inv1; simp only [owns_whole]
  iintro ⟨⟨%s, -, HS⟩, HR⟩
  isplitl [HS]
  · iexists s; iexact HS
  iexact HR

end Cert.Kernel2Ideal.Hand

end
-- ==== Proof.K2I.SoftmaxVal.lean ====
/-
  What the softmax call leaves, over the extended reals: each logit's exponential, shifted by the maximum of all, over
  the sum of all these exponentials.
-/
module

public import proofs.«01_k».proof.Proof.K2I.Softmax
public import Idealize.ShloMosaic.Lib.Pipeline.ValueKit
public import Idealize.ShloMosaic.PureOps.Ideal.Laws
public import Idealize.ShloMosaic.Lib.ValueIdxCore

@[expose] public section

set_option maxRecDepth 16384

noncomputable section

namespace Cert.Kernel2Ideal.Hand

open Cert.Kernel2Ideal Cert.Kernel2Ideal.Gen Cert.Proof.Cells
open Idealize.ShloMosaic Idealize.ShloMosaic.TcCoe Idealize.ShloMosaic.Tactic
open Idealize.ShloMosaic.Pipeline (Dat Cfg Window cellOf)

/-- The cell of the whole array at cell `y` of block `k`. -/
def cell (k : Fin 8) (y : S1024x128.Idx) : S8192x128.Idx :=
  ValueIdx.ix2 (n0 := 8192) (n1 := 128) ⟨k.val * 1024 + (y 0).val, by have := ValueIdx.idx2_lt0 y; have := k.isLt; omega⟩ (y 1)

/-- The whole array's cells are the eight blocks' cells. -/
def cellEquiv : Fin 8 × S1024x128.Idx ≃ S8192x128.Idx where
  toFun p := cell p.1 p.2
  invFun i := (⟨(i 0).val / 1024, by have := ValueIdx.idx2_lt0 i; omega⟩,
    ValueIdx.ix2 (n0 := 1024) (n1 := 128) ⟨(i 0).val % 1024, Nat.mod_lt _ (by decide)⟩ (i 1))
  left_inv p := by
    obtain ⟨k, y⟩ := p
    have h0 := ValueIdx.idx2_lt0 y
    refine Prod.ext (Fin.ext ?_) ?_
    · show (k.val * 1024 + (y 0).val) / 1024 = k.val
      omega
    · rw [ValueIdx.eq_ix2 y]
      refine congrArg₂ (ValueIdx.ix2 (n0 := 1024) (n1 := 128)) (Fin.ext ?_) rfl
      show (k.val * 1024 + (y 0).val) % 1024 = (y 0).val
      omega
  right_inv i := by
    conv_rhs => rw [ValueIdx.eq_ix2 i]
    refine congrArg₂ (ValueIdx.ix2 (n0 := 8192) (n1 := 128)) (Fin.ext ?_) rfl
    show (i 0).val / 1024 * 1024 + (i 0).val % 1024 = (i 0).val
    omega

theorem neg_inf : (FloatOps.ofBits .f32 0xFF800000#32 : Ideal .f32) = (⊥ : EReal) := by
  show Ideal.ofBits .f32 0xFF800000#32 = ⊥
  simp [Ideal.ofBits, Ideal.ieee]

theorem fold_max_bot {ι : Type} (S : Finset ι) (f : ι → Ideal .f32) :
    S.fold FloatOps.maximumf (FloatOps.ofBits .f32 0xFF800000#32 : Ideal .f32) f = S.sup (α := EReal) f := by
  rw [neg_inf]; rfl

/-- A maximum over a whole array, from −∞. -/
theorem max_total {s t : Shape} {axes : List (Fin s.rank)} (v : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t v 0xFF800000#32 h hφ hacc j = ⨆ i : s.Idx, (v i : EReal) := by
  rw [multiReduction_maximumf_eq_fold, Finset.filter_true_of_mem fun i _ => funext fun b => Fin.ext (by
    have := (h.drop i b).isLt; have := (j b).isLt; have := ht b; omega), fold_max_bot, Finset.sup_univ_eq_iSup]

theorem pay2_eq (x : Vec Ideal S1024x128 .f32) (a : Ideal .f32) :
    k1_pay2 (F := Ideal) x a = max (a : EReal) (⨆ y : S1024x128.Idx, (x y : EReal)) := by
  unfold k1_pay2
  refine congrArg (max (a : EReal)) ((max_total _ _ (by decide) (.inl rfl) rfl _).trans ?_)
  unfold k1_pay1
  exact ((Shape.reshapeEquiv shapeCasts_S1024x128_S1x1024x128).iSup_comp
    (g := fun y => (x (Shape.reshapeEquiv shapeCasts_S1024x128_S1024x128 y) : EReal))).trans
    ((Shape.reshapeEquiv shapeCasts_S1024x128_S1024x128).iSup_comp (g := fun y => (x y : EReal)))

theorem pay3_eq (x : Vec Ideal S1024x128 .f32) (s a : Ideal .f32) :
    k1_pay3 (F := Ideal) x s a = (s + ∑ y : S1024x128.Idx, Ideal.exp ((x y : EReal) - a) : EReal) := by
  unfold k1_pay3
  refine congrArg ((s : EReal) + ·) ((Ideal.multiReduction_add_total _ 0x00000000#32 _ (by decide) (.inl rfl) rfl _).trans ?_)
  unfold k1_pay1
  exact ((Shape.reshapeEquiv shapeCasts_S1024x128_S1x1024x128).sum_comp
    (fun y => Ideal.exp ((x (Shape.reshapeEquiv shapeCasts_S1024x128_S1024x128 y) : EReal) - a))).trans
    ((Shape.reshapeEquiv shapeCasts_S1024x128_S1024x128).sum_comp (fun y => Ideal.exp ((x y : EReal) - a)))

theorem cast_same (x : Vec Ideal S1024x128 .f32) : k1_pay1 x = x := by
  unfold k1_pay1
  exact shapeCast_self _ _

theorem pay4_apply (x : Vec Ideal S1024x128 .f32) (a s : Ideal .f32) (y : S1024x128.Idx) :
    k1_pay4 (F := Ideal) x a s y = Ideal.div (Ideal.exp ((x y : EReal) - a)) s := by
  unfold k1_pay4
  rw [cast_same]
  rfl

theorem maskWord_eq : (maskWord : Ideal .f32) = (⊥ : EReal) := by
  unfold maskWord; rfl
theorem zeroWord_eq : (zeroWord : Ideal .f32) = (0 : EReal) := by
  show Ideal.ofBits .f32 0x00000000#32 = 0
  simp [Ideal.ofBits, Ideal.ieee]

variable (V : (c : Dev nD) → (b : Ref sig .tc) → Buf (Elt Ideal) ((c : Thread nD τ).loc b))

/-- The padded logits. -/
def logitsIn (c : Dev nD) : S8192x128.Idx → EReal := V c main_v3

theorem map1_0 : ∀ t : Fin cfg1.N, win1_0.index t 0 = t.val % 8 ∧ win1_0.index t 1 = 0 :=
  (by decide +kernel : ∀ t : Fin grid1.N, win1_0.index t 0 = t.val % 8 ∧ win1_0.index t 1 = 0)
theorem map1_1 : ∀ t : Fin cfg1.N, 16 ≤ t.val → win1_1.index t 0 = t.val % 8 ∧ win1_1.index t 1 = 0 :=
  (by decide +kernel : ∀ t : Fin grid1.N, 16 ≤ t.val → win1_1.index t 0 = t.val % 8 ∧ win1_1.index t 1 = 0)

/-- The block a point works on. -/
def blockOf (n : ℕ) : Fin 8 := ⟨n % 8, Nat.mod_lt _ (by decide)⟩

theorem blk1_apply (c : Dev nD) (t : Fin cfg1.N) (y : S1024x128.Idx) :
    blk1 V c t y = logitsIn V c (cell (blockOf t.val) y) := by
  show logitsIn V c ((win1_0.rect t).emb y) = _
  congr 1
  funext a
  apply Fin.ext
  refine (Pipeline.Window.rect_emb_val win1_0 t y a rfl).trans ?_
  obtain ⟨h0, h1⟩ := map1_0 t
  match a with
  | ⟨0, _⟩ => exact congrArg (· * 1024 + (y 0).val) h0
  | ⟨1, _⟩ => exact (congrArg (· * 128 + (y 1).val) h1).trans (by show 0 * 128 + (y 1).val = (y 1).val; omega)

/-- The greatest logit. -/
def top (c : Dev nD) : EReal := ⨆ i, logitsIn V c i

/-- The sum of the shifted exponentials. -/
def mass (c : Dev nD) : EReal := ∑ i, Ideal.exp (logitsIn V c i - top V c)

theorem max_below (c : Dev nD) (n : ℕ) (h : n ≤ 8) :
    (st1 V c n).1 = (Finset.range n).sup fun k => ⨆ y, logitsIn V c (cell (blockOf k) y) := by
  induction n with
  | zero => exact maskWord_eq
  | succ n ih =>
    have hN : n < cfg1.N := by show n < 24; omega
    rw [st1_max V c ⟨n, hN⟩ (by show n < 8; omega)]
    show k1_pay2 (blk1 V c ⟨n, hN⟩) (st1 V c n).1 = _
    rw [pay2_eq, ih (by omega), Finset.range_add_one, Finset.sup_insert, sup_comm]
    simp only [blk1_apply]

theorem blockOf_val (k : Fin 8) : blockOf k.val = k := Fin.ext (Nat.mod_eq_of_lt k.isLt)
theorem blockOf_add (n : ℕ) : blockOf (8 + n) = blockOf n := Fin.ext (by show (8 + n) % 8 = n % 8; omega)

theorem max_at (c : Dev nD) : (st1 V c 8).1 = top V c := by
  rw [max_below V c 8 le_rfl, top, ← cellEquiv.iSup_comp, iSup_prod]
  refine le_antisymm (Finset.sup_le fun k _ => le_iSup_of_le (blockOf k) le_rfl) (iSup_le fun k => ?_)
  have := Finset.le_sup (f := fun k => ⨆ y, logitsIn V c (cell (blockOf k) y)) (Finset.mem_range.2 k.isLt)
  simp only [blockOf_val] at this
  exact this

theorem sum_below (c : Dev nD) (n : ℕ) (h : n ≤ 8) :
    st1 V c (8 + n) = (top V c, ∑ k ∈ Finset.range n, ∑ y, Ideal.exp (logitsIn V c (cell (blockOf k) y) - top V c)) := by
  induction n with
  | zero =>
    refine Prod.ext (max_at V c) ?_
    have : ∀ n, n ≤ 8 → (st1 V c n).2 = zeroWord := by
      intro n
      induction n with
      | zero => intro _; rfl
      | succ n ih =>
        intro hn
        have hN : n < cfg1.N := by show n < 24; omega
        rw [st1_max V c ⟨n, hN⟩ (by show n < 8; omega)]
        exact ih (by omega)
    exact (this 8 le_rfl).trans zeroWord_eq
  | succ n ih =>
    have hN : 8 + n < cfg1.N := by show 8 + n < 24; omega
    rw [show 8 + (n + 1) = 8 + n + 1 from rfl, st1_sum V c ⟨8 + n, hN⟩ (by show 8 ≤ 8 + n; omega) (by show 8 + n < 16; omega)]
    show ((st1 V c (8 + n)).1, k1_pay3 (blk1 V c ⟨8 + n, hN⟩) (st1 V c (8 + n)).2 (st1 V c (8 + n)).1) = _
    rw [ih (by omega), pay3_eq, Finset.sum_range_succ]
    simp only [blk1_apply, blockOf_add]

theorem sum_at (c : Dev nD) : st1 V c 16 = (top V c, mass V c) := by
  rw [sum_below V c 8 le_rfl, mass, ← cellEquiv.sum_comp, Fintype.sum_prod_type, Finset.sum_range]
  simp only [blockOf_val]
  rfl

theorem st1_last (c : Dev nD) (n : ℕ) (h : 16 ≤ n) (h' : n ≤ 24) : st1 V c n = (top V c, mass V c) := by
  induction n, h using Nat.le_induction with
  | base => exact sum_at V c
  | succ n h ih =>
    have hN : n < cfg1.N := by show n < 24; omega
    rw [st1_quo V c ⟨n, hN⟩ h]
    exact ih (by omega)

/-- The probability of a cell. -/
def prob (c : Dev nD) (i : S8192x128.Idx) : EReal := Ideal.div (Ideal.exp (logitsIn V c i - top V c)) (mass V c)

theorem flush1_1 : ∀ t : Fin cfg1.N, (cfg1.win 1).flush t = true → 16 ≤ t.val :=
  (by decide +kernel : ∀ t : Fin grid1.N, (cfg1.win 1).flush t = true → 16 ≤ t.val)

/-- The call's result. -/
theorem softmax_value (c : Dev nD) : (dat1 V c).arrAt 1 cfg1.N = fun i => prob V c i := by
  refine (dat1 V c).arrAt_eq_of_covers 1 _ (by decide +kernel) fun t hf y => ?_
  have h16 := flush1_1 t hf
  have hN : t.val < 24 := lt_of_lt_of_eq t.isLt (show cfg1.N = 24 from N_1)
  rw [after1_1]
  show out1 V c t y = prob V c ((win1_1.rect t).emb y)
  unfold out1
  rw [st1_last V c t.val h16 (by omega), pay4_apply, blk1_apply, prob]
  congr 4
  funext a
  apply Fin.ext
  refine Eq.trans ?_ (Pipeline.Window.rect_emb_val win1_1 t y a rfl).symm
  obtain ⟨h0, h1⟩ := map1_1 t h16
  match a with
  | ⟨0, _⟩ => exact (congrArg (· * 1024 + (y 0).val) h0).symm
  | ⟨1, _⟩ => exact ((congrArg (· * 128 + (y 1).val) h1).trans (by show 0 * 128 + (y 1).val = (y 1).val; omega)).symm

end Cert.Kernel2Ideal.Hand

end
-- ==== Proof.K2I.Mask.lean ====
/-
  The one-word call that produces the mask the logits are padded with: its body, and the proof data of the call.
-/
module

public import proofs.«01_k».proof.Proof.K2I.SoftmaxRun

@[expose] public section

set_option maxRecDepth 16384

noncomputable section

namespace Cert.Kernel2Ideal.Hand

open Cert.Kernel2Ideal Cert.Kernel2Ideal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body stores the mask. -/
theorem run0 (c : Dev nD) (arg0 : Memref sig .tc .smem S1 .f32) (harg0 : arg0.IsWhole) (E : Set ℕ) (K : PUnit → sProp 𝕄) :
    iprop((∃ d, owns (c : Thread nD τ) arg0 fullShare d)
        ∗ (iprop(owns (c : Thread nD τ) arg0 fullShare (fun _ => maskWord)) -∗ K ⟨⟩))
      ⊢ wp frame (wpE (defs₀ (F := F)) Variants.none c none) E (cc0__mask_kernel arg0 harg0) K := by
  simp only [cc0__mask_kernel_eq_skeleton]; unfold cc0__mask_kernel_skel
  unfold owns
  iintro ⟨⟨%d0, %f0, -, H0⟩, Hk⟩
  sl_exec
  sl_step
  iapply Hk
  iexists _; isplitr
  swap; · iexact H0
  ipureintro
  rw [read_writes_put]
  funext y; exact if_pos (by have h : (y 0).val < 1 := (y 0).isLt; show (y 0).val = 0; omega)

variable (V : (c : Dev nD) → (b : Ref sig .tc) → Buf (Elt F) ((c : Thread nD τ).loc b))

/-- The proof data of the call. -/
def dat0 (c : Dev nD) : Dat τ (Elt F) Unit ℕ (UR sig nD τ) ℕ cfg0 c where
  A w := V c (Pipeline.arrRef spec0 w)
  after w t := match w with
    | ⟨0, _⟩ => fun _ => maskWord
  Φ _ := Pipeline.scopedRest (Ix := Unit) (Name := ℕ) (U := UR sig nD τ) (Lvl := ℕ) (Val := Elt F) spec0 c
  q _ := fullShare
  owed _ := 0

theorem after0_0 (c : Dev nD) (t : Fin cfg0.N) : (dat0 V c).after 0 t = fun _ => maskWord := by dsimp only [dat0]
theorem live0_0 (t : Fin cfg0.N) : cfg0.idle 0 (grid0.coords t) = false := rfl

theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d)))
      ⊢ wp frame (wpE (defs₀ (F := F)) Variants.none c none) Set.univ (bodyAt0 t)
        (fun _ => iprop((dat0 V c).Φ t.succ ∗ (dat0 V c).owesAt () t.succ ∗ (dat0 V c).leavesExact 0 t)) := by
  unfold bodyAt0
  rw [show (dat0 V c).owesAt () t.succ = (dat0 V c).owesAt () t.castSucc from rfl,
    show (dat0 V c).Φ t.succ = (dat0 V c).Φ t.castSucc from rfl]
  rw [show (dat0 V c).leavesExact 0 t = owns (c : Thread nD τ) (st0_0 t) fullShare ((dat0 V c).after 0 t) from by
      unfold Dat.leavesExact; rw [live0_0 t], after0_0]
  iintro ⟨HR, Ho, ⟨%d0, H0⟩⟩
  iapply (run0 c _ _ Set.univ _)
  isplitl [H0]; · iexists _; iexact H0
  iintro H0
  isplitl [HR]; · iexact HR
  isplitl [Ho]; · iexact Ho
  iexact H0

theorem defs₀_row0 (t : Fin cfg0.N) : defs₀ (F := F) .tc cfg0.body (cfg0.bodyArgs t (cfg0.slots t)) = bodyAt0 t := by
  unfold defs₀; rw [Defs.onTc_tc]

/-- The body at its point, as the call asks for it. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.Kernel2Ideal.Hand

end
-- ==== Proof.K2I.Run.lean ====
/-
  The whole program: the two calls as segments between the host's stretches, and what a run ends with — the argument
  unchanged, every semaphore at zero, and the result's buffer as the last host stretch leaves it.
-/
module

public import proofs.«01_k».proof.Proof.K2I.Mask
public import proofs.«01_k».proof.Proof.K2I.Softmax
public import Idealize.ShloMosaic.Lib.Pipeline.RegionsLoop

@[expose] public section

set_option maxRecDepth 16384

noncomputable section

namespace Cert.Kernel2Ideal.Hand

open Cert.Kernel2Ideal Cert.Kernel2Ideal.Gen Cert.Proof.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg cellOf)

variable {F : FTy → Type} [FloatOps F] [Named F]

abbrev U : Type := UR sig nD τ
local notation "𝕄" => MT nD τ sig Unit (Elt F) ℕ U ℕ

/-- The contents of a core's arrays. -/
abbrev Arrays : Type := (c : Dev nD) → (b : Ref sig .tc) → Buf (Elt F) ((c : Thread nD τ).loc b)

/-- The proof data of the two calls, entered with the arrays holding `e0` and `e1`. -/
def pdats (e0 e1 : Arrays (F := F)) : (p : Fin 2) → (c : Dev nD) → Dat τ (Elt F) Unit ℕ U ℕ (Pipeline.pin (pcfgs (F := F)) adm p) c
  | ⟨0, _⟩, c => dat0 e0 c
  | ⟨1, _⟩, c => dat1 e1 c

abbrev L : GSem nD τ sig → Finset Unit := fun _ => ∅
abbrev lv : GSem nD τ sig → Unit → ℕ := fun _ _ => 0

/-- The rest of a thread's state between two items: nothing owed. -/
abbrev idleRest (c : Dev nD) : sProp 𝕄 := iprop(∃ W, owes (c : Thread nD τ) (0 : CellTallies nD τ sig Unit) W)

variable (e0 e1 x : Arrays (F := F))

set_option backward.isDefEq.respectTransparency.types false in
/-- Call 0 as a segment. -/
def reg0 (hout : ∀ c, x c main_v0 = (dat0 e0 c).arrAt 0 cfg0.N) (hne : ∀ (c : Dev nD) (b : Ref sig .tc), b ≠ main_v0 → x c b = e0 c b) : RegionSeg (pcfgs (F := F)) adm (pdats e0 e1) () defs₀ Variants.none L lv 0 where
  win := launch0.win.to₀
  block_pos := launch0.block_pos
  stage_whole := launch0.stage_whole
  K := PEmpty
  osem k := k.elim
  ho := Pipeline.OwnSemFacts.none _
  hbody c := (body_obligation0 (e0) c).loose
  hwaits := Pipeline.hwaits_of_owed_zero _ _ _ _ L lv 0 fun _ _ => rfl
  pre c := iprop(unscopedBufs c (e0 c) ∗ idleRest c)
  post c := iprop(unscopedBufs c (x c) ∗ idleRest c)
  X _ := BI.emp
  Y _ := BI.emp
  Z c := Pipeline.unscopedRest (Ix := Unit) (Name := ℕ) (U := U) (Lvl := ℕ) spec0 c (e0 c)
  hentry c := by
    rw [Pipeline.ownSems0_none]
    have hsplit := Pipeline.arrays_of_unscopedBufs (p := 0) (pcfgs (F := F)) adm (pdats e0 e1) launch0.win launch0.arr_whole c
      ((pdats e0 e1 0 c).share_full fun _ => rfl) (e0 c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W; isplitr; · ipureintro; exact fun _ _ => Or.inl trivial
      iexact HO
    isplitr; · iempintro
    iexact Hrest
  hin c := by
    rw [show (pdats e0 e1 0 c).Φ 0 = Pipeline.scopedRest (Ix := Unit) (Name := ℕ) (U := U) (Lvl := ℕ) (Val := Elt F) spec0 c from rfl]
    iintro ⟨-, -, Hr⟩
    iexact Hr
  hout c := by
    rw [Pipeline.ownSems0_none, show (pdats e0 e1 0 c).Φ (Fin.last _) = Pipeline.scopedRest (Ix := Unit) (Name := ℕ) (U := U) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := U) (Lvl := ℕ)
      launch0.win launch0.arr_whole c (pdats e0 e1) ((pdats e0 e1 0 c).share_full fun _ => rfl) (e0 c) (x c)
      ((pdats e0 e1 0 c).arrAt · cfg0.N) (fun w => by
        fin_cases w
        · exact (hout c).symm)
      (fun b hb => hne c b fun h => hb (h ▸ Finset.mem_image.mpr ⟨0, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

set_option backward.isDefEq.respectTransparency.types false in
/-- Call 1 as a segment. -/
def reg1 (hout : ∀ c, x c main_v4 = (dat1 e1 c).arrAt 1 cfg1.N) (hne : ∀ (c : Dev nD) (b : Ref sig .tc), b ≠ main_v4 → x c b = e1 c b) : RegionSeg (pcfgs (F := F)) adm (pdats e0 e1) () defs₀ Variants.none L lv 1 where
  win := launch1.win.to₀
  block_pos := launch1.block_pos
  stage_whole := launch1.stage_whole
  K := PEmpty
  osem k := k.elim
  ho := Pipeline.OwnSemFacts.none _
  hbody c := (body_obligation1 (e1) c).loose
  hwaits := Pipeline.hwaits_of_owed_zero _ _ _ _ L lv 1 fun _ _ => rfl
  pre c := iprop(unscopedBufs c (e1 c) ∗ idleRest c)
  post c := iprop(unscopedBufs c (x c) ∗ idleRest c)
  X _ := BI.emp
  Y _ := BI.emp
  Z c := Pipeline.unscopedRest (Ix := Unit) (Name := ℕ) (U := U) (Lvl := ℕ) spec1 c (e1 c)
  hentry c := by
    rw [Pipeline.ownSems0_none]
    have hsplit := Pipeline.arrays_of_unscopedBufs (p := 1) (pcfgs (F := F)) adm (pdats e0 e1) launch1.win launch1.arr_whole c
      ((pdats e0 e1 1 c).share_full fun _ => rfl) (e1 c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W; isplitr; · ipureintro; exact fun _ _ => Or.inl trivial
      iexact HO
    isplitr; · iempintro
    iexact Hrest
  hin c := by
    rw [show (pdats e0 e1 1 c).Φ 0 = inv1 (e1) c 0 from rfl]
    iintro ⟨-, -, Hr⟩
    iapply (inv1_in e1 c); iexact Hr
  hout c := by
    rw [Pipeline.ownSems0_none, show (pdats e0 e1 1 c).Φ (Fin.last _) = inv1 (e1) c cfg1.N from rfl]
    iintro Hr
    isplitr; · iempintro
    isplitr; · iempintro
    iapply (inv1_out e1 c cfg1.N); iexact Hr
  hexit c := by
    have hjoin := Pipeline.unscopedBufs_of_arrays (p := 1) (pcfgs (F := F)) adm (Ix := Unit) (Name := ℕ) (U := U) (Lvl := ℕ)
      launch1.win launch1.arr_whole c (pdats e0 e1) ((pdats e0 e1 1 c).share_full fun _ => rfl) (e1 c) (x c)
      ((pdats e0 e1 1 c).arrAt · cfg1.N) (fun w => by
        fin_cases w
        · exact ((pdats e0 e1 1 c).arrAt_in 0 rfl _).trans (hne c main_v3 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

section
variable (m : (ℓ : Loc nD τ sig) → Buf (Elt F) ℓ)

/-- The contents of the arrays as the first and the second call are entered. -/
abbrev E0 : Arrays (F := F) := fun c b => V0 m c b
abbrev E1 (outs : Outs (F := F)) : Arrays (F := F) := fun c b => V2 m outs c b

/-- `outs` holds what each call leaves. -/
structure Leaves (outs : Outs (F := F)) : Prop where
  l0 : ∀ c, outs 1 main_v0 c = (dat0 (E0 m) c).arrAt 0 cfg0.N
  l1 : ∀ c, outs 3 main_v4 c = (dat1 (E1 m outs) c).arrAt 1 cfg1.N

/-- One buffer's entry replaced. -/
def setOut (o : Outs (F := F)) (r : Ref sig .tc) (x : (c : Dev nD) → Buf (Elt F) ((c : Thread nD τ).loc r)) : Outs (F := F) :=
  fun J r' c => if h : r' = r then h ▸ x c else o J r' c

theorem setOut_self (o : Outs (F := F)) (r : Ref sig .tc) (x) (J : ℕ) (c : Dev nD) : setOut o r x J r c = x c := by
  unfold setOut; rw [dif_pos rfl]
theorem setOut_ne (o : Outs (F := F)) (r r' : Ref sig .tc) (x) (J : ℕ) (c : Dev nD) (h : r' ≠ r) : setOut o r x J r' c = o J r' c := by
  unfold setOut; rw [dif_neg h]

theorem V2_congr {o o' : Outs (F := F)} (h : ∀ c, o 1 main_v0 c = o' 1 main_v0 c) (c : Dev nD) : V2 m o c = V2 m o' c := by
  show StableHlo.after hostOps1 (Function.update (V0 m c) _ (o 1 main_v0 c)) = StableHlo.after hostOps1 (Function.update (V0 m c) _ (o' 1 main_v0 c))
  rw [h]

/-- The calls one after another leave something. -/
theorem exists_leaves : ∃ outs : Outs (F := F), Leaves m outs := by
  let oA : Outs (F := F) := setOut (fun _ r c => m ((c : Thread nD τ).loc r)) main_v0 fun c => (dat0 (E0 m) c).arrAt 0 cfg0.N
  let oB : Outs (F := F) := setOut oA main_v4 fun c => (dat1 (E1 m oA) c).arrAt 1 cfg1.N
  have hB : ∀ J c, oB J main_v0 c = oA J main_v0 c := fun J c => setOut_ne _ _ _ _ _ _ (by decide)
  have e1 : E1 m oB = E1 m oA := funext fun c => funext fun b => congrFun (V2_congr m (fun c => hB 1 c) c) _
  refine ⟨oB, ⟨fun c => ?_, fun c => ?_⟩⟩
  · rw [hB]; exact setOut_self _ _ _ _ _
  · rw [e1]; exact setOut_self _ _ _ _ _

variable (ρ : Dev nD → PrngReg) {outs : Outs (F := F)} (hL : Leaves m outs)

/-- The two calls as segments of the run from `m`. -/
abbrev R0 := reg0 (E0 m) (E1 m outs) (fun c b => V1 m outs c b) (fun c => (Function.update_self _ _ _).trans (hL.l0 c))
  fun c b hb => V1_of m outs c b (by simpa using hb)
abbrev R1 := reg1 (E0 m) (E1 m outs) (fun c b => V3 m outs c b) (fun c => (Function.update_self _ _ _).trans (hL.l1 c))
  fun c b hb => V3_of m outs c b (by simpa using hb)

theorem held_in (c : Dev nD) (W : Valuation τ sig (Elt F)) (Q : sProp 𝕄) :
    iprop(StableHlo.held (c : Thread nD τ) (Pipeline.ucRefs τ sig) W ∗ Q) ⊢ (iprop(unscopedBufs c (fun b => W b) ∗ Q) : sProp 𝕄) := by
  rw [Pipeline.unscopedBufs_held (Ix := Unit) (Name := ℕ) (U := U) (Lvl := ℕ) c W]
theorem held_out (c : Dev nD) (W : Valuation τ sig (Elt F)) (Q : sProp 𝕄) :
    iprop(unscopedBufs c (fun b => W b) ∗ Q) ⊢ (iprop(StableHlo.held (c : Thread nD τ) (Pipeline.ucRefs τ sig) W ∗ Q) : sProp 𝕄) := by
  rw [Pipeline.unscopedBufs_held (Ix := Unit) (Name := ℕ) (U := U) (Lvl := ℕ) c W]

theorem launch_in (c : Dev nD) :
    iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp)
      ⊢ (iprop(StableHlo.held (c : Thread nD τ) (Pipeline.ucRefs τ sig) (V0 m c) ∗ idleRest c) : sProp 𝕄) := by
  iintro ⟨Hb, -, HO, -, -, -⟩
  iapply (held_out c (V0 m c) (idleRest c))
  isplitl [Hb]; · iexact Hb
  iexists ∅; iexact HO

include hL in
/-- A run's end: the result's buffer as the last host stretch leaves it, the argument as launched, the semaphores at zero. -/
theorem run_main :
    θ_run defs (onTc (τ := τ) (main (F := F))) ⟨m, fun _ => 0, ρ⟩ (fun r => (∀ c : Dev nD,
      r.2.mem ((c.tc : Thread nD τ).loc main_v6) = V4 m outs c main_v6
        ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats (E0 m) (E1 m outs)) () cellOf_inj emb₁ defs₀ Variants.none L lv m ρ main
    (segs m outs Variants.none L lv (fun _ => idleRest) () (pdats (E0 m) (E1 m outs)) (R0 m hL) (R1 m hL))
    (fun c Q => by
      rewrite [main_chain c, Seg.run_eq_chain,
        show (segs m outs Variants.none L lv (fun _ => idleRest) () (pdats (E0 m) (E1 m outs)) (R0 m hL) (R1 m hL) c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => BI.emp)
    (initOf (Pipeline.cells cfgs cellOf_inj) (Pipeline.launchToks cfgs cellOf_inj)) ?hu
    (T₀ := fun c => iprop(StableHlo.held (c : Thread nD τ) (Pipeline.ucRefs τ sig) (V0 m c) ∗ idleRest c))
    (Tₙ := fun c => StableHlo.held (c : Thread nD τ) (Pipeline.ucRefs τ sig) (V4 m outs c))
    (hch := fun c => ⟨held_in c _ _, held_out c _ _, held_in c _ _, held_out c _ _, .rfl⟩)
    (hinit := ?_) (QY := fun c s => s.mem ((c.tc : Thread nD τ).loc main_v6) = V4 m outs c main_v6
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ idleRest c) : sProp 𝕄) :=
      bigSep_mono fun c _ => launch_in m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v6) (Finset.mem_filter.mpr ⟨StableHlo.devRef_mem_tcRefs main_v6, by decide⟩)),
        (h (Proc.devRef .tc main_arg0) (Finset.mem_filter.mpr ⟨StableHlo.devRef_mem_tcRefs main_arg0, by decide⟩)).trans (V4_main_arg0 m outs c)⟩
    · iexact HSI

end

end Cert.Kernel2Ideal.Hand

end
-- ==== Proof.K2I.ProbVal.lean ====
/-
  The softmax call's result in the whole run, over the extended reals: the probabilities of the logits padded with −∞.
-/
module

public import proofs.«01_k».proof.Proof.K2I.SoftmaxVal
public import proofs.«01_k».proof.Proof.K2I.Run
public import proofs.«01_k».proof.Proof.Probs
public import Idealize.ShloMosaic.Lib.KernelVsHost
public import Idealize.ShloMosaic.Lib.StableHlo.RunRead
public import Idealize.ShloMosaic.Lib.Claim

@[expose] public section

set_option maxRecDepth 16384

noncomputable section

namespace Cert.Kernel2Ideal.Hand

open Cert.Kernel2Ideal Cert.Kernel2Ideal.Gen Cert.Proof.Cells Cert.Proof.Probs
open Idealize.ShloMosaic Idealize.ShloMosaic.TcCoe Idealize.ShloMosaic.Tactic
open Idealize.ShloMosaic.Pipeline (Dat Cfg Window cellOf)

/-- A cell's place when the rows are laid one after another. -/
def place : S8192x128.Idx ≃ Fin 1048576 where
  toFun i := ⟨(i 0).val * 128 + (i 1).val, by have := ValueIdx.idx2_lt0 i; have := ValueIdx.idx2_lt1 i; omega⟩
  invFun k := ValueIdx.ix2 (n0 := 8192) (n1 := 128) ⟨k.val / 128, by have := k.isLt; omega⟩ ⟨k.val % 128, Nat.mod_lt _ (by decide)⟩
  left_inv i := by
    have := ValueIdx.idx2_lt1 i
    conv_rhs => rw [ValueIdx.eq_ix2 i]
    refine congrArg₂ (ValueIdx.ix2 (n0 := 8192) (n1 := 128)) (Fin.ext ?_) (Fin.ext ?_)
    · show ((i 0).val * 128 + (i 1).val) / 128 = (i 0).val
      omega
    · show ((i 0).val * 128 + (i 1).val) % 128 = (i 1).val
      omega
  right_inv k := Fin.ext (by show k.val / 128 * 128 + k.val % 128 = k.val; omega)

variable (m : (ℓ : Loc nD τ sig) → Buf (Elt Ideal) ℓ)

/-- The logits as launched. -/
def logits (c : Dev nD) (k : Fin 1000000) : EReal := m ((c.tc : Thread nD τ).loc main_arg0) (ValueIdx.ix2 (n0 := 1) (n1 := 1000000) 0 k)

/-- The first call leaves the mask. -/
theorem mask_value (V : Arrays (F := Ideal)) (c : Dev nD) : (dat0 V c).arrAt 0 cfg0.N = fun _ => (⊥ : EReal) := by
  refine (dat0 V c).arrAt_eq_of_covers 0 _ (by decide +kernel) fun t hf y => ?_
  rw [after0_0]
  exact maskWord_eq

variable {outs : Outs (F := Ideal)} (hL : Leaves m outs)

theorem padded_read (c : Dev nD) : E1 m outs c main_v3
    = shapeCast S8192x128 (pad S1x1048576 ![0, 0] ![0, 48576] ![0, 0] (m ((c.tc : Thread nD τ).loc main_arg0) : S1x1000000.Idx → Ideal .f32)
        (shapeCast S_ (outs 1 main_v0 c : S1.Idx → Ideal .f32) shapeCasts_S1_S_) pads_S1x1000000_S1x1048576_000_0485760 h_S_)
        shapeCasts_S1x1048576_S8192x128 := by
  show StableHlo.after hostOps1 (Function.update (V0 m c) main_v0 (outs 1 main_v0 c)) main_v3 = _
  after_results
  rfl

include hL in
theorem logitsIn_eq (c : Dev nD) (i : S8192x128.Idx) : logitsIn (E1 m outs) c i = padded 1048576 (logits m c) (place i) := by
  have hi0 := ValueIdx.idx2_lt0 i
  have hi1 := ValueIdx.idx2_lt1 i
  unfold logitsIn
  rw [padded_read, shapeCast_apply _ shapeCasts_S1x1048576_S8192x128 i (ValueIdx.ix2 (n0 := 1) (n1 := 1048576) 0 (place i))
    (by rw [Shape.rowMajor_val_two, Shape.rowMajor_val_two]; show 0 * 1048576 + ((i 0).val * 128 + (i 1).val) = (i 0).val * 128 + (i 1).val; omega)]
  unfold padded logits
  by_cases h : (place i).val < 1000000
  · rw [dif_pos h]
    refine pad_apply_of_inside _ _ _ _ _ _ _ _ (ValueIdx.ix2 (n0 := 1) (n1 := 1000000) 0 ⟨(place i).val, h⟩) fun a => ?_
    match a with
    | ⟨0, _⟩ => rfl
    | ⟨1, _⟩ => show (place i).val = 0 + (place i).val * 1; omega
  · rw [dif_neg h]
    refine (pad_apply_of_not_inside _ _ _ _ _ _ _ _ 1 fun hc => h ?_).trans ?_
    · have := hc.2.2
      have e : ((place i).val - 0) / (0 + 1) < 1000000 := this
      omega
    · unfold shapeCast
      rw [hL.l0 c, mask_value]

include hL in
/-- The second call leaves the probabilities of the padded logits. -/
theorem prob_value (c : Dev nD) (i : S8192x128.Idx) :
    (outs 3 main_v4 c : S8192x128.Idx → EReal) i = probOf (padded 1048576 (logits m c)) (place i) := by
  rw [hL.l1 c, softmax_value]
  show prob (E1 m outs) c i = _
  have h : logitsIn (E1 m outs) c = fun i => padded 1048576 (logits m c) (place i) := funext fun i => logitsIn_eq m hL c i
  rw [← probOf_equiv place, ← h]
  rfl

end Cert.Kernel2Ideal.Hand

end
-- ==== Proof.K2I.Result.lean ====
/-
  The softmax program's result over the extended reals: the logits' probabilities.
-/
module

public import proofs.«01_k».proof.Proof.K2I.ProbVal

@[expose] public section

set_option maxRecDepth 16384

noncomputable section

namespace Cert.Kernel2Ideal.Hand

open Cert.Kernel2Ideal Cert.Kernel2Ideal.Gen Cert.Proof.Probs
open Idealize.ShloMosaic Idealize.ShloMosaic.TcCoe Idealize.ShloMosaic.Tactic

variable (m : (ℓ : Loc nD τ sig) → Buf (Elt Ideal) ℓ) {outs : Outs (F := Ideal)} (hL : Leaves m outs)

theorem result_read (c : Dev nD) : V4 m outs c main_v6
    = extractStridedSlice S1x1000000 ![0, 0] (shapeCast S1x1048576 (outs 3 main_v4 c : S8192x128.Idx → Ideal .f32) shapeCasts_S8192x128_S1x1048576)
        slices_S1x1048576_S1x1000000_0_0 := by
  show StableHlo.after hostOps2 (Function.update (V2 m outs c) main_v4 (outs 3 main_v4 c)) main_v6 = _
  after_results
  rfl

include hL in
/-- The result at any index. -/
theorem result_value (c : Dev nD) : V4 m outs c main_v6 = fun j : S1x1000000.Idx => (probOf (logits m c) (j 1) : EReal) := by
  rw [result_read]
  funext j
  have h0 := ValueIdx.idx2_lt0 j
  have h1 := ValueIdx.idx2_lt1 j
  let k : Fin 1048576 := Fin.castLE (by decide : 1000000 ≤ 1048576) (j 1)
  have hk : place (place.symm k) = k := place.apply_symm_apply k
  have hv : (place (place.symm k)).val = (j 1).val := congrArg Fin.val hk
  show shapeCast S1x1048576 (outs 3 main_v4 c : S8192x128.Idx → Ideal .f32) shapeCasts_S8192x128_S1x1048576 _ = _
  rw [shapeCast_apply _ shapeCasts_S8192x128_S1x1048576 _ (place.symm k) (by
    rw [Shape.rowMajor_val_two, Shape.rowMajor_val_two]
    show (place (place.symm k)).val = (0 + (j 0).val) * 1048576 + (0 + (j 1).val)
    omega)]
  exact (prob_value m hL c (place.symm k)).trans ((congrArg _ hk).trans (probOf_padded (by decide) (logits m c) (j 1)))

end Cert.Kernel2Ideal.Hand

end
-- ==== Proof.lean ====
/-
  The claims, assembled: the two kernel programs and the reference run and leave their argument and their semaphores as
  they found them; the idealised kernel is the kernel with its mask named, and ends with the reference's token; and the same
  of the kernel's softmax, run by itself, which ends with its reference's probabilities.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.K.Run
public import proofs.«01_k».proof.Proof.KI.Run
public import proofs.«01_k».proof.Proof.RI.Run
public import proofs.«01_k».proof.Proof.Join
public import proofs.«01_k».proof.Proof.K2.Run
public import proofs.«01_k».proof.Proof.K2I.Result
public import proofs.«01_k».proof.Proof.R2I.Result
public import Idealize.ShloMosaic.Adequacy
public import Idealize.ShloMosaic.Init

@[expose] public section

noncomputable section

namespace Cert.Proof

open Idealize.ShloMosaic Idealize.SL.Sem

/-- The kernel's frame: a run ends, the argument stands and every semaphore is at zero. -/
theorem frame_kernel : Cert.quiescent_Kernel := fun m g _ => by
  obtain ⟨outs, hL⟩ := Cert.Kernel.Hand.exists_leaves (F := Bits) m
  exact (θ_run _ _ _).mono (fun r h => ⟨fun c => (h.1 c).2, h.2⟩) (Cert.Kernel.Hand.run_main m g hL)

/-- The same of the kernel over the extended reals. -/
theorem frame_ideal : Cert.quiescent_KernelIdeal := fun m g _ => by
  obtain ⟨outs, hL⟩ := Cert.KernelIdeal.Hand.exists_leaves (F := Ideal) m
  exact (θ_run _ _ _).mono (fun r h => ⟨fun c => (h.1 c).2, h.2⟩) (Cert.KernelIdeal.Hand.run_main m g hL)

/-- The same of the reference. -/
theorem frame_reference : Cert.quiescent_ReferenceIdeal := fun m g _ =>
  (θ_run _ _ _).mono
    (fun r h => ⟨fun c => (h.1 c Cert.ReferenceIdeal.main_arg0).trans (Cert.ReferenceIdeal.Hand.finalRef_arg0 m c), h.2⟩)
    (Cert.ReferenceIdeal.Hand.run_main m g)

/-- The mask's word stands for −∞. -/
theorem mask_named : Cert.preserves_Kernel_KernelIdeal :=
  IdealRules.named_const.statement Cert.KernelIdeal.κ "mask" .f32 0xF149F2CA#32 ⊥ rfl

/-- The idealised kernel and the reference end with the same token. -/
theorem token : Cert.algebraic_KernelIdeal_ReferenceIdeal := fun m g m' g' _ hargs => by
  obtain ⟨outs, hL⟩ := Cert.KernelIdeal.Hand.exists_leaves (F := Ideal) m
  refine ⟨fun c => outs 11 Cert.KernelIdeal.main_v20 c,
    (θ_run _ _ _).mono (fun r h c => h.1 c) (Cert.KernelIdeal.Hand.run_main m g hL),
    (θ_run _ _ _).mono (fun r h c => ⟨(h.1 c Cert.ReferenceIdeal.main_v40).trans (Join.tokens m hL m' c c ?_),
      (h.1 c Cert.ReferenceIdeal.main_arg0).trans (Cert.ReferenceIdeal.Hand.finalRef_arg0 m' c)⟩) (Cert.ReferenceIdeal.Hand.run_main m' g')⟩
  funext k
  exact congrFun (hargs c) (Cert.ReferenceIdeal.Hand.at2 k)

/-- The frames of the softmax programs. -/
theorem frame_kernel2 : Cert.quiescent_Kernel2 := fun m g _ => by
  obtain ⟨outs, hL⟩ := Cert.Kernel2.Hand.exists_leaves (F := Bits) m
  exact (θ_run _ _ _).mono (fun r h => ⟨fun c => (h.1 c).2, h.2⟩) (Cert.Kernel2.Hand.run_main m g hL)
theorem frame_ideal2 : Cert.quiescent_Kernel2Ideal := fun m g _ => by
  obtain ⟨outs, hL⟩ := Cert.Kernel2Ideal.Hand.exists_leaves (F := Ideal) m
  exact (θ_run _ _ _).mono (fun r h => ⟨fun c => (h.1 c).2, h.2⟩) (Cert.Kernel2Ideal.Hand.run_main m g hL)
theorem frame_reference2 : Cert.quiescent_Reference2Ideal := fun m g _ =>
  (θ_run _ _ _).mono (fun r h => ⟨fun c => (h.1 c).2, h.2⟩) (Cert.Reference2Ideal.Hand.run_main m g)

/-- The softmax program's mask stands for −∞ likewise. -/
theorem mask_named2 : Cert.preserves_Kernel2_Kernel2Ideal :=
  IdealRules.named_const.statement Cert.Kernel2Ideal.κ "mask" .f32 0xF149F2CA#32 ⊥ rfl

/-- The softmax program and its reference end with the same probabilities. -/
theorem softmax : Cert.algebraic_Kernel2Ideal_Reference2Ideal := fun m g m' g' _ hargs => by
  obtain ⟨outs, hL⟩ := Cert.Kernel2Ideal.Hand.exists_leaves (F := Ideal) m
  refine ⟨fun c => Cert.Kernel2Ideal.Gen.V4 m outs c (Proc.devRef .tc Cert.Kernel2Ideal.main_v6),
    (θ_run _ _ _).mono (fun r h c => h.1 c) (Cert.Kernel2Ideal.Hand.run_main m g hL),
    (θ_run _ _ _).mono (fun r h c => ⟨(h.1 c).1.trans ?_, (h.1 c).2⟩) (Cert.Reference2Ideal.Hand.run_main m' g')⟩
  refine Eq.trans ?_ (Cert.Kernel2Ideal.Hand.result_value m hL c).symm
  rw [hargs c]
  rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    frame_kernel, frame_ideal, frame_reference, frame_kernel2, frame_ideal2, frame_reference2,
    mask_named, token, mask_named2, softmax⟩

end Cert.Proof

end
